-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)) (v4 : (c : Dev Cert.KernelIdeal.nD) → Buf (Elt Ideal) ((c.tc : Thread Cert.KernelIdeal.nD Cert.KernelIdeal.τ).loc Cert.KernelIdeal.main_v5_4)) (v5 : (c : Dev Cert.KernelIdeal.nD) → Buf (Elt Ideal) ((c.tc : Thread Cert.KernelIdeal.nD Cert.KernelIdeal.τ).loc Cert.KernelIdeal.main_v5_5)) (v6 : (c : Dev Cert.KernelIdeal.nD) → Buf (Elt Ideal) ((c.tc : Thread Cert.KernelIdeal.nD Cert.KernelIdeal.τ).loc Cert.KernelIdeal.main_v5_6)) (v7 : (c : Dev Cert.KernelIdeal.nD) → Buf (Elt Ideal) ((c.tc : Thread Cert.KernelIdeal.nD Cert.KernelIdeal.τ).loc Cert.KernelIdeal.main_v5_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_v5_4) = v4 c
          ∧ r.2.mem ((c.tc : Thread Cert.KernelIdeal.nD Cert.KernelIdeal.τ).loc Cert.KernelIdeal.main_v5_5) = v5 c
          ∧ r.2.mem ((c.tc : Thread Cert.KernelIdeal.nD Cert.KernelIdeal.τ).loc Cert.KernelIdeal.main_v5_6) = v6 c
          ∧ r.2.mem ((c.tc : Thread Cert.KernelIdeal.nD Cert.KernelIdeal.τ).loc Cert.KernelIdeal.main_v5_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_0) = v0 c
          ∧ r.2.mem ((c.tc : Thread Cert.ReferenceIdeal.nD Cert.ReferenceIdeal.τ).loc Cert.ReferenceIdeal.main_v5_1) = v1 c
          ∧ r.2.mem ((c.tc : Thread Cert.ReferenceIdeal.nD Cert.ReferenceIdeal.τ).loc Cert.ReferenceIdeal.main_v5_2) = v2 c
          ∧ r.2.mem ((c.tc : Thread Cert.ReferenceIdeal.nD Cert.ReferenceIdeal.τ).loc Cert.ReferenceIdeal.main_v5_3) = v3 c
          ∧ r.2.mem ((c.tc : Thread Cert.ReferenceIdeal.nD Cert.ReferenceIdeal.τ).loc Cert.ReferenceIdeal.main_v5_4) = v4 c
          ∧ r.2.mem ((c.tc : Thread Cert.ReferenceIdeal.nD Cert.ReferenceIdeal.τ).loc Cert.ReferenceIdeal.main_v5_5) = v5 c
          ∧ r.2.mem ((c.tc : Thread Cert.ReferenceIdeal.nD Cert.ReferenceIdeal.τ).loc Cert.ReferenceIdeal.main_v5_6) = v6 c
          ∧ r.2.mem ((c.tc : Thread Cert.ReferenceIdeal.nD Cert.ReferenceIdeal.τ).loc Cert.ReferenceIdeal.main_v5_7) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x1024x2048 : Shape := ⟨3, ![24, 1024, 2048]⟩
abbrev S3x2048x2048 : Shape := ⟨3, ![3, 2048, 2048]⟩
abbrev S3x2048 : Shape := ⟨2, ![3, 2048]⟩
abbrev S2048 : Shape := ⟨1, ![2048]⟩
abbrev S24576x2048 : Shape := ⟨2, ![24576, 2048]⟩
abbrev S3x1x2048 : Shape := ⟨3, ![3, 1, 2048]⟩
abbrev S1x2048 : Shape := ⟨2, ![1, 2048]⟩
abbrev S24576x32 : Shape := ⟨2, ![24576, 32]⟩
abbrev S24x1024 : Shape := ⟨2, ![24, 1024]⟩
abbrev S512x2048 : Shape := ⟨2, ![512, 2048]⟩
abbrev S512x32 : Shape := ⟨2, ![512, 32]⟩
abbrev S512x128 : Shape := ⟨2, ![512, 128]⟩
abbrev S256x128 : Shape := ⟨2, ![256, 128]⟩
abbrev S32x128 : Shape := ⟨2, ![32, 128]⟩
abbrev S32 : Shape := ⟨1, ![32]⟩
abbrev S32x1 : Shape := ⟨2, ![32, 1]⟩
abbrev S1x128 : Shape := ⟨2, ![1, 128]⟩
abbrev S128x128 : Shape := ⟨2, ![128, 128]⟩
abbrev S8x128 : Shape := ⟨2, ![8, 128]⟩
abbrev S256x2048 : Shape := ⟨2, ![256, 2048]⟩
abbrev S1x2048x512 : Shape := ⟨3, ![1, 2048, 512]⟩
abbrev S2048x512 : Shape := ⟨2, ![2048, 512]⟩
abbrev S256x512 : Shape := ⟨2, ![256, 512]⟩
abbrev S1x1x128 : Shape := ⟨3, ![1, 1, 128]⟩
abbrev S64x128 : Shape := ⟨2, ![64, 128]⟩
abbrev S128x32 : Shape := ⟨2, ![128, 32]⟩
abbrev S8x128x1 : Shape := ⟨3, ![8, 128, 1]⟩

abbrev nBuf : Space → Nat
  | .hbm => 19
  | .vmem => 25
  | .smem => 0
  | _ => 0

abbrev bufTy : (tb : Table) → Fin (tcTables nBuf tb) → BufTy
  | .hbm, ⟨0, _⟩ => ⟨S24x1024x2048, .bf16⟩
  | .hbm, ⟨1, _⟩ => ⟨S3x2048x2048, .fp8e4m3⟩
  | .hbm, ⟨2, _⟩ => ⟨S3x2048, .f32⟩
  | .hbm, ⟨3, _⟩ => ⟨S3x2048, .f32⟩
  | .hbm, ⟨4, _⟩ => ⟨S2048, .f32⟩
  | .hbm, ⟨5, _⟩ => ⟨S2048, .f32⟩
  | .hbm, ⟨6, _⟩ => ⟨S24576x2048, .bf16⟩
  | .hbm, ⟨7, _⟩ => ⟨S3x1x2048, .f32⟩
  | .hbm, ⟨8, _⟩ => ⟨S3x1x2048, .f32⟩
  | .hbm, ⟨9, _⟩ => ⟨S1x2048, .f32⟩
  | .hbm, ⟨10, _⟩ => ⟨S1x2048, .f32⟩
  | .hbm, ⟨11, _⟩ => ⟨S24576x2048, .fp8e4m3⟩
  | .hbm, ⟨12, _⟩ => ⟨S24576x32, .f32⟩
  | .hbm, ⟨13, _⟩ => ⟨S24576x2048, .fp8e4m3⟩
  | .hbm, ⟨14, _⟩ => ⟨S24x1024, .f32⟩
  | .hbm, ⟨15, _⟩ => ⟨S24576x2048, .fp8e4m3⟩
  | .hbm, ⟨16, _⟩ => ⟨S24x1024, .f32⟩
  | .hbm, ⟨17, _⟩ => ⟨S24576x2048, .fp8e4m3⟩
  | .hbm, ⟨18, _⟩ => ⟨S24x1024, .f32⟩
  | .local _ .vmem, ⟨0, _⟩ => ⟨S512x2048, .bf16⟩
  | .local _ .vmem, ⟨1, _⟩ => ⟨S512x2048, .bf16⟩
  | .local _ .vmem, ⟨2, _⟩ => ⟨S3x2048x2048, .fp8e4m3⟩
  | .local _ .vmem, ⟨3, _⟩ => ⟨S3x1x2048, .f32⟩
  | .local _ .vmem, ⟨4, _⟩ => ⟨S3x1x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .fp8e4m3⟩
  | .local _ .vmem, ⟨8, _⟩ => ⟨S512x2048, .fp8e4m3⟩
  | .local _ .vmem, ⟨9, _⟩ => ⟨S512x32, .f32⟩
  | .local _ .vmem, ⟨10, _⟩ => ⟨S512x32, .f32⟩
  | .local _ .vmem, ⟨11, _⟩ => ⟨S512x2048, .fp8e4m3⟩
  | .local _ .vmem, ⟨12, _⟩ => ⟨S512x2048, .fp8e4m3⟩
  | .local _ .vmem, ⟨13, _⟩ => ⟨S24x1024, .f32⟩
  | .local _ .vmem, ⟨14, _⟩ => ⟨S512x2048, .fp8e4m3⟩
  | .local _ .vmem, ⟨15, _⟩ => ⟨S512x2048, .fp8e4m3⟩
  | .local _ .vmem, ⟨16, _⟩ => ⟨S24x1024, .f32⟩
  | .local _ .vmem, ⟨17, _⟩ => ⟨S512x2048, .fp8e4m3⟩
  | .local _ .vmem, ⟨18, _⟩ => ⟨S512x2048, .fp8e4m3⟩
  | .local _ .vmem, ⟨19, _⟩ => ⟨S24x1024, .f32⟩
  | .local _ .vmem, ⟨20, _⟩ => ⟨S512x2048, .f32⟩
  | .local _ .vmem, ⟨21, _⟩ => ⟨S512x2048, .f32⟩
  | .local _ .vmem, ⟨22, _⟩ => ⟨S512x128, .f32⟩
  | .local _ .vmem, ⟨23, _⟩ => ⟨S512x128, .f32⟩
  | .local _ .vmem, ⟨24, _⟩ => ⟨S256x128, .f32⟩
  | _, _ => ⟨S24x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev main_v5_5 : Ref sig .tc := ⟨.hbm, 16, rfl⟩
abbrev main_v5_6 : Ref sig .tc := ⟨.hbm, 17, rfl⟩
abbrev main_v5_7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem12_0 : DmaSem sig := 17
abbrev cc0_sem12_1 : DmaSem sig := 18
abbrev cc0_sem13_0 : DmaSem sig := 19

abbrev nD : Nat := 1
abbrev τ : Topo := Topo.v7x

variable {F : FTy → Type} [FloatOps F]

abbrev grid0 : Pipeline.Grid := ⟨1, ![48], ![false]⟩

@[reducible] def k0_t1_loop : Scf.Loop 32 :=
  let c0_i32_10 : BitVec 32 := 0#32
  let c2_i32_11 : BitVec 32 := 2#32
  let v28 : BitVec 32 := Scalar.addi c0_i32_10 c2_i32_11
  let c1_i32_12 : BitVec 32 := 1#32
  ⟨c0_i32_10, v28, c1_i32_12⟩
def k0_mult1 (k0_t1 : Fin k0_t1_loop.trips) : BitVec 32 :=
  let c0_i32_10 : BitVec 32 := 0#32
  let c1_i32_12 : BitVec 32 := 1#32
  let arg20 : BitVec 32 := Scf.iv c0_i32_10 c1_i32_12 k0_t1
  let c256_i32 : BitVec 32 := 256#32
  let v32 : BitVec 32 := Scalar.muli arg20 c256_i32
  v32
@[reducible] def k0_t2_loop : Scf.Loop 32 :=
  let c0_i32_26 : BitVec 32 := 0#32
  let c8_i32 : BitVec 32 := 8#32
  let v34 : BitVec 32 := Scalar.addi c0_i32_26 c8_i32
  let c1_i32_27 : BitVec 32 := 1#32
  ⟨c0_i32_26, v34, c1_i32_27⟩
def k0_mult2 (k0_t2 : Fin k0_t2_loop.trips) : BitVec 32 :=
  let c0_i32_26 : BitVec 32 := 0#32
  let c1_i32_27 : BitVec 32 := 1#32
  let arg21 : BitVec 32 := Scf.iv c0_i32_26 c1_i32_27 k0_t2
  let c32_i32 : BitVec 32 := 32#32
  let v128 : BitVec 32 := Scalar.muli arg21 c32_i32
  v128
def k0_mult3 (k0_t1 : Fin k0_t1_loop.trips) (k0_t2 : Fin k0_t2_loop.trips) : BitVec 32 :=
  let c0_i32_10 : BitVec 32 := 0#32
  let c1_i32_12 : BitVec 32 := 1#32
  let arg20 : BitVec 32 := Scf.iv c0_i32_10 c1_i32_12 k0_t1
  let c256_i32 : BitVec 32 := 256#32
  let v32 : BitVec 32 := Scalar.muli arg20 c256_i32
  let v33 : BitVec 32 := v32
  let c0_i32_26 : BitVec 32 := 0#32
  let c1_i32_27 : BitVec 32 := 1#32
  let arg21 : BitVec 32 := Scf.iv c0_i32_26 c1_i32_27 k0_t2
  let c32_i32 : BitVec 32 := 32#32
  let v128 : BitVec 32 := Scalar.muli arg21 c32_i32
  let v129 : BitVec 32 := v128
  let v130 : BitVec 32 := Scalar.addi v33 v129
  v130
def k0_off1 (k0_t1 : Fin k0_t1_loop.trips) (k0_t2 : Fin k0_t2_loop.trips) : Fin 2 → Nat :=
  let c0_i32_10 : BitVec 32 := 0#32
  let c1_i32_12 : BitVec 32 := 1#32
  let arg20 : BitVec 32 := Scf.iv c0_i32_10 c1_i32_12 k0_t1
  let c256_i32 : BitVec 32 := 256#32
  let v32 : BitVec 32 := Scalar.muli arg20 c256_i32
  let v33 : BitVec 32 := v32
  let c0_i32_26 : BitVec 32 := 0#32
  let c1_i32_27 : BitVec 32 := 1#32
  let arg21 : BitVec 32 := Scf.iv c0_i32_26 c1_i32_27 k0_t2
  let c32_i32 : BitVec 32 := 32#32
  let v128 : BitVec 32 := Scalar.muli arg21 c32_i32
  let v129 : BitVec 32 := v128
  let v130 : BitVec 32 := Scalar.addi v33 v129
  let v131 : BitVec 32 := v130
  let v132 : Index := Scalar.indexCast v131
  let c0_63 : Index := 0#32
  ![v132.toNat, 0]
def k0_off2 (k0_t1 : Fin k0_t1_loop.trips) (k0_t2 : Fin k0_t2_loop.trips) : Fin 2 → Nat :=
  let c0_i32_10 : BitVec 32 := 0#32
  let c1_i32_12 : BitVec 32 := 1#32
  let arg20 : BitVec 32 := Scf.iv c0_i32_10 c1_i32_12 k0_t1
  let c256_i32 : BitVec 32 := 256#32
  let v32 : BitVec 32 := Scalar.muli arg20 c256_i32
  let v33 : BitVec 32 := v32
  let c0_i32_26 : BitVec 32 := 0#32
  let c1_i32_27 : BitVec 32 := 1#32
  let arg21 : BitVec 32 := Scf.iv c0_i32_26 c1_i32_27 k0_t2
  let c32_i32 : BitVec 32 := 32#32
  let v128 : BitVec 32 := Scalar.muli arg21 c32_i32
  let v129 : BitVec 32 := v128
  let v130 : BitVec 32 := Scalar.addi v33 v129
  let v131 : BitVec 32 := v130
  let v136 : Index := Scalar.indexCast v131
  let c128 : Index := 128#32
  ![v136.toNat, 128]
def k0_off3 (k0_t1 : Fin k0_t1_loop.trips) (k0_t2 : Fin k0_t2_loop.trips) : Fin 2 → Nat :=
  let c0_i32_10 : BitVec 32 := 0#32
  let c1_i32_12 : BitVec 32 := 1#32
  let arg20 : BitVec 32 := Scf.iv c0_i32_10 c1_i32_12 k0_t1
  let c256_i32 : BitVec 32 := 256#32
  let v32 : BitVec 32 := Scalar.muli arg20 c256_i32
  let v33 : BitVec 32 := v32
  let c0_i32_26 : BitVec 32 := 0#32
  let c1_i32_27 : BitVec 32 := 1#32
  let arg21 : BitVec 32 := Scf.iv c0_i32_26 c1_i32_27 k0_t2
  let c32_i32 : BitVec 32 := 32#32
  let v128 : BitVec 32 := Scalar.muli arg21 c32_i32
  let v129 : BitVec 32 := v128
  let v130 : BitVec 32 := Scalar.addi v33 v129
  let v131 : BitVec 32 := v130
  let v141 : Index := Scalar.indexCast v131
  let c256 : Index := 256#32
  ![v141.toNat, 256]
def k0_off4 (k0_t1 : Fin k0_t1_loop.trips) (k0_t2 : Fin k0_t2_loop.trips) : Fin 2 → Nat :=
  let c0_i32_10 : BitVec 32 := 0#32
  let c1_i32_12 : BitVec 32 := 1#32
  let arg20 : BitVec 32 := Scf.iv c0_i32_10 c1_i32_12 k0_t1
  let c256_i32 : BitVec 32 := 256#32
  let v32 : BitVec 32 := Scalar.muli arg20 c256_i32
  let v33 : BitVec 32 := v32
  let c0_i32_26 : BitVec 32 := 0#32
  let c1_i32_27 : BitVec 32 := 1#32
  let arg21 : BitVec 32 := Scf.iv c0_i32_26 c1_i32_27 k0_t2
  let c32_i32 : BitVec 32 := 32#32
  let v128 : BitVec 32 := Scalar.muli arg21 c32_i32
  let v129 : BitVec 32 := v128
  let v130 : BitVec 32 := Scalar.addi v33 v129
  let v131 : BitVec 32 := v130
  let v146 : Index := Scalar.indexCast v131
  let c384 : Index := 384#32
  ![v146.toNat, 384]
def k0_off5 (k0_t1 : Fin k0_t1_loop.trips) (k0_t2 : Fin k0_t2_loop.trips) : Fin 2 → Nat :=
  let c0_i32_10 : BitVec 32 := 0#32
  let c1_i32_12 : BitVec 32 := 1#32
  let arg20 : BitVec 32 := Scf.iv c0_i32_10 c1_i32_12 k0_t1
  let c256_i32 : BitVec 32 := 256#32
  let v32 : BitVec 32 := Scalar.muli arg20 c256_i32
  let v33 : BitVec 32 := v32
  let c0_i32_26 : BitVec 32 := 0#32
  let c1_i32_27 : BitVec 32 := 1#32
  let arg21 : BitVec 32 := Scf.iv c0_i32_26 c1_i32_27 k0_t2
  let c32_i32 : BitVec 32 := 32#32
  let v128 : BitVec 32 := Scalar.muli arg21 c32_i32
  let v129 : BitVec 32 := v128
  let v130 : BitVec 32 := Scalar.addi v33 v129
  let v131 : BitVec 32 := v130
  let v151 : Index := Scalar.indexCast v131
  let c512 : Index := 512#32
  ![v151.toNat, 512]
def k0_off6 (k0_t1 : Fin k0_t1_loop.trips) (k0_t2 : Fin k0_t2_loop.trips) : Fin 2 → Nat :=
  let c0_i32_10 : BitVec 32 := 0#32
  let c1_i32_12 : BitVec 32 := 1#32
  let arg20 : BitVec 32 := Scf.iv c0_i32_10 c1_i32_12 k0_t1
  let c256_i32 : BitVec 32 := 256#32
  let v32 : BitVec 32 := Scalar.muli arg20 c256_i32
  let v33 : BitVec 32 := v32
  let c0_i32_26 : BitVec 32 := 0#32
  let c1_i32_27 : BitVec 32 := 1#32
  let arg21 : BitVec 32 := Scf.iv c0_i32_26 c1_i32_27 k0_t2
  let c32_i32 : BitVec 32 := 32#32
  let v128 : BitVec 32 := Scalar.muli arg21 c32_i32
  let v129 : BitVec 32 := v128
  let v130 : BitVec 32 := Scalar.addi v33 v129
  let v131 : BitVec 32 := v130
  let v156 : Index := Scalar.indexCast v131
  let c640 : Index := 640#32
  ![v156.toNat, 640]
def k0_off7 (k0_t1 : Fin k0_t1_loop.trips) (k0_t2 : Fin k0_t2_loop.trips) : Fin 2 → Nat :=
  let c0_i32_10 : BitVec 32 := 0#32
  let c1_i32_12 : BitVec 32 := 1#32
  let arg20 : BitVec 32 := Scf.iv c0_i32_10 c1_i32_12 k0_t1
  let c256_i32 : BitVec 32 := 256#32
  let v32 : BitVec 32 := Scalar.muli arg20 c256_i32
  let v33 : BitVec 32 := v32
  let c0_i32_26 : BitVec 32 := 0#32
  let c1_i32_27 : BitVec 32 := 1#32
  let arg21 : BitVec 32 := Scf.iv c0_i32_26 c1_i32_27 k0_t2
  let c32_i32 : BitVec 32 := 32#32
  let v128 : BitVec 32 := Scalar.muli arg21 c32_i32
  let v129 : BitVec 32 := v128
  let v130 : BitVec 32 := Scalar.addi v33 v129
  let v131 : BitVec 32 := v130
  let v161 : Index := Scalar.indexCast v131
  let c768 : Index := 768#32
  ![v161.toNat, 768]
def k0_off8 (k0_t1 : Fin k0_t1_loop.trips) (k0_t2 : Fin k0_t2_loop.trips) : Fin 2 → Nat :=
  let c0_i32_10 : BitVec 32 := 0#32
  let c1_i32_12 : BitVec 32 := 1#32
  let arg20 : BitVec 32 := Scf.iv c0_i32_10 c1_i32_12 k0_t1
  let c256_i32 : BitVec 32 := 256#32
  let v32 : BitVec 32 := Scalar.muli arg20 c256_i32
  let v33 : BitVec 32 := v32
  let c0_i32_26 : BitVec 32 := 0#32
  let c1_i32_27 : BitVec 32 := 1#32
  let arg21 : BitVec 32 := Scf.iv c0_i32_26 c1_i32_27 k0_t2
  let c32_i32 : BitVec 32 := 32#32
  let v128 : BitVec 32 := Scalar.muli arg21 c32_i32
  let v129 : BitVec 32 := v128
  let v130 : BitVec 32 := Scalar.addi v33 v129
  let v131 : BitVec 32 := v130
  let v166 : Index := Scalar.indexCast v131
  let c896 : Index := 896#32
  ![v166.toNat, 896]
def k0_off9 (k0_t1 : Fin k0_t1_loop.trips) (k0_t2 : Fin k0_t2_loop.trips) : Fin 2 → Nat :=
  let c0_i32_10 : BitVec 32 := 0#32
  let c1_i32_12 : BitVec 32 := 1#32
  let arg20 : BitVec 32 := Scf.iv c0_i32_10 c1_i32_12 k0_t1
  let c256_i32 : BitVec 32 := 256#32
  let v32 : BitVec 32 := Scalar.muli arg20 c256_i32
  let v33 : BitVec 32 := v32
  let c0_i32_26 : BitVec 32 := 0#32
  let c1_i32_27 : BitVec 32 := 1#32
  let arg21 : BitVec 32 := Scf.iv c0_i32_26 c1_i32_27 k0_t2
  let c32_i32 : BitVec 32 := 32#32
  let v128 : BitVec 32 := Scalar.muli arg21 c32_i32
  let v129 : BitVec 32 := v128
  let v130 : BitVec 32 := Scalar.addi v33 v129
  let v131 : BitVec 32 := v130
  let v171 : Index := Scalar.indexCast v131
  let c1024 : Index := 1024#32
  ![v171.toNat, 1024]
def k0_off10 (k0_t1 : Fin k0_t1_loop.trips) (k0_t2 : Fin k0_t2_loop.trips) : Fin 2 → Nat :=
  let c0_i32_10 : BitVec 32 := 0#32
  let c1_i32_12 : BitVec 32 := 1#32
  let arg20 : BitVec 32 := Scf.iv c0_i32_10 c1_i32_12 k0_t1
  let c256_i32 : BitVec 32 := 256#32
  let v32 : BitVec 32 := Scalar.muli arg20 c256_i32
  let v33 : BitVec 32 := v32
  let c0_i32_26 : BitVec 32 := 0#32
  let c1_i32_27 : BitVec 32 := 1#32
  let arg21 : BitVec 32 := Scf.iv c0_i32_26 c1_i32_27 k0_t2
  let c32_i32 : BitVec 32 := 32#32
  let v128 : BitVec 32 := Scalar.muli arg21 c32_i32
  let v129 : BitVec 32 := v128
  let v130 : BitVec 32 := Scalar.addi v33 v129
  let v131 : BitVec 32 := v130
  let v176 : Index := Scalar.indexCast v131
  let c1152 : Index := 1152#32
  ![v176.toNat, 1152]
def k0_off11 (k0_t1 : Fin k0_t1_loop.trips) (k0_t2 : Fin k0_t2_loop.trips) : Fin 2 → Nat :=
  let c0_i32_10 : BitVec 32 := 0#32
  let c1_i32_12 : BitVec 32 := 1#32
  let arg20 : BitVec 32 := Scf.iv c0_i32_10 c1_i32_12 k0_t1
  let c256_i32 : BitVec 32 := 256#32
  let v32 : BitVec 32 := Scalar.muli arg20 c256_i32
  let v33 : BitVec 32 := v32
  let c0_i32_26 : BitVec 32 := 0#32
  let c1_i32_27 : BitVec 32 := 1#32
  let arg21 : BitVec 32 := Scf.iv c0_i32_26 c1_i32_27 k0_t2
  let c32_i32 : BitVec 32 := 32#32
  let v128 : BitVec 32 := Scalar.muli arg21 c32_i32
  let v129 : BitVec 32 := v128
  let v130 : BitVec 32 := Scalar.addi v33 v129
  let v131 : BitVec 32 := v130
  let v181 : Index := Scalar.indexCast v131
  let c1280 : Index := 1280#32
  ![v181.toNat, 1280]
def k0_off12 (k0_t1 : Fin k0_t1_loop.trips) (k0_t2 : Fin k0_t2_loop.trips) : Fin 2 → Nat :=
  let c0_i32_10 : BitVec 32 := 0#32
  let c1_i32_12 : BitVec 32 := 1#32
  let arg20 : BitVec 32 := Scf.iv c0_i32_10 c1_i32_12 k0_t1
  let c256_i32 : BitVec 32 := 256#32
  let v32 : BitVec 32 := Scalar.muli arg20 c256_i32
  let v33 : BitVec 32 := v32
  let c0_i32_26 : BitVec 32 := 0#32
  let c1_i32_27 : BitVec 32 := 1#32
  let arg21 : BitVec 32 := Scf.iv c0_i32_26 c1_i32_27 k0_t2
  let c32_i32 : BitVec 32 := 32#32
  let v128 : BitVec 32 := Scalar.muli arg21 c32_i32
  let v129 : BitVec 32 := v128
  let v130 : BitVec 32 := Scalar.addi v33 v129
  let v131 : BitVec 32 := v130
  let v186 : Index := Scalar.indexCast v131
  let c1408 : Index := 1408#32
  ![v186.toNat, 1408]
def k0_off13 (k0_t1 : Fin k0_t1_loop.trips) (k0_t2 : Fin k0_t2_loop.trips) : Fin 2 → Nat :=
  let c0_i32_10 : BitVec 32 := 0#32
  let c1_i32_12 : BitVec 32 := 1#32
  let arg20 : BitVec 32 := Scf.iv c0_i32_10 c1_i32_12 k0_t1
  let c256_i32 : BitVec 32 := 256#32
  let v32 : BitVec 32 := Scalar.muli arg20 c256_i32
  let v33 : BitVec 32 := v32
  let c0_i32_26 : BitVec 32 := 0#32
  let c1_i32_27 : BitVec 32 := 1#32
  let arg21 : BitVec 32 := Scf.iv c0_i32_26 c1_i32_27 k0_t2
  let c32_i32 : BitVec 32 := 32#32
  let v128 : BitVec 32 := Scalar.muli arg21 c32_i32
  let v129 : BitVec 32 := v128
  let v130 : BitVec 32 := Scalar.addi v33 v129
  let v131 : BitVec 32 := v130
  let v191 : Index := Scalar.indexCast v131
  let c1536 : Index := 1536#32
  ![v191.toNat, 1536]
def k0_off14 (k0_t1 : Fin k0_t1_loop.trips) (k0_t2 : Fin k0_t2_loop.trips) : Fin 2 → Nat :=
  let c0_i32_10 : BitVec 32 := 0#32
  let c1_i32_12 : BitVec 32 := 1#32
  let arg20 : BitVec 32 := Scf.iv c0_i32_10 c1_i32_12 k0_t1
  let c256_i32 : BitVec 32 := 256#32
  let v32 : BitVec 32 := Scalar.muli arg20 c256_i32
  let v33 : BitVec 32 := v32
  let c0_i32_26 : BitVec 32 := 0#32
  let c1_i32_27 : BitVec 32 := 1#32
  let arg21 : BitVec 32 := Scf.iv c0_i32_26 c1_i32_27 k0_t2
  let c32_i32 : BitVec 32 := 32#32
  let v128 : BitVec 32 := Scalar.muli arg21 c32_i32
  let v129 : BitVec 32 := v128
  let v130 : BitVec 32 := Scalar.addi v33 v129
  let v131 : BitVec 32 := v130
  let v196 : Index := Scalar.indexCast v131
  let c1664 : Index := 1664#32
  ![v196.toNat, 1664]
def k0_off15 (k0_t1 : Fin k0_t1_loop.trips) (k0_t2 : Fin k0_t2_loop.trips) : Fin 2 → Nat :=
  let c0_i32_10 : BitVec 32 := 0#32
  let c1_i32_12 : BitVec 32 := 1#32
  let arg20 : BitVec 32 := Scf.iv c0_i32_10 c1_i32_12 k0_t1
  let c256_i32 : BitVec 32 := 256#32
  let v32 : BitVec 32 := Scalar.muli arg20 c256_i32
  let v33 : BitVec 32 := v32
  let c0_i32_26 : BitVec 32 := 0#32
  let c1_i32_27 : BitVec 32 := 1#32
  let arg21 : BitVec 32 := Scf.iv c0_i32_26 c1_i32_27 k0_t2
  let c32_i32 : BitVec 32 := 32#32
  let v128 : BitVec 32 := Scalar.muli arg21 c32_i32
  let v129 : BitVec 32 := v128
  let v130 : BitVec 32 := Scalar.addi v33 v129
  let v131 : BitVec 32 := v130
  let v201 : Index := Scalar.indexCast v131
  let c1792 : Index := 1792#32
  ![v201.toNat, 1792]
def k0_off16 (k0_t1 : Fin k0_t1_loop.trips) (k0_t2 : Fin k0_t2_loop.trips) : Fin 2 → Nat :=
  let c0_i32_10 : BitVec 32 := 0#32
  let c1_i32_12 : BitVec 32 := 1#32
  let arg20 : BitVec 32 := Scf.iv c0_i32_10 c1_i32_12 k0_t1
  let c256_i32 : BitVec 32 := 256#32
  let v32 : BitVec 32 := Scalar.muli arg20 c256_i32
  let v33 : BitVec 32 := v32
  let c0_i32_26 : BitVec 32 := 0#32
  let c1_i32_27 : BitVec 32 := 1#32
  let arg21 : BitVec 32 := Scf.iv c0_i32_26 c1_i32_27 k0_t2
  let c32_i32 : BitVec 32 := 32#32
  let v128 : BitVec 32 := Scalar.muli arg21 c32_i32
  let v129 : BitVec 32 := v128
  let v130 : BitVec 32 := Scalar.addi v33 v129
  let v131 : BitVec 32 := v130
  let v206 : Index := Scalar.indexCast v131
  let c1920 : Index := 1920#32
  ![v206.toNat, 1920]
def k0_off17 (k0_t1 : Fin k0_t1_loop.trips) (k0_t2 : Fin k0_t2_loop.trips) : Fin 2 → Nat :=
  let c0_i32_10 : BitVec 32 := 0#32
  let c1_i32_12 : BitVec 32 := 1#32
  let arg20 : BitVec 32 := Scf.iv c0_i32_10 c1_i32_12 k0_t1
  let c256_i32 : BitVec 32 := 256#32
  let v32 : BitVec 32 := Scalar.muli arg20 c256_i32
  let v33 : BitVec 32 := v32
  let c0_i32_26 : BitVec 32 := 0#32
  let c1_i32_27 : BitVec 32 := 1#32
  let arg21 : BitVec 32 := Scf.iv c0_i32_26 c1_i32_27 k0_t2
  let c32_i32 : BitVec 32 := 32#32
  let v128 : BitVec 32 := Scalar.muli arg21 c32_i32
  let v129 : BitVec 32 := v128
  let v130 : BitVec 32 := Scalar.addi v33 v129
  let v131 : BitVec 32 := v130
  let v700 : Index := Scalar.indexCast v131
  let c0_196 : Index := 0#32
  ![v700.toNat, 0]
@[reducible] def k0_t3_loop : Scf.Loop 32 :=
  let c0_i32_29 : BitVec 32 := 0#32
  let c8_i32_30 : BitVec 32 := 8#32
  let v35 : BitVec 32 := Scalar.addi c0_i32_29 c8_i32_30
  let c1_i32_31 : BitVec 32 := 1#32
  ⟨c0_i32_29, v35, c1_i32_31⟩
def k0_mult4 (k0_t3 : Fin k0_t3_loop.trips) : BitVec 32 :=
  let c0_i32_29 : BitVec 32 := 0#32
  let c1_i32_31 : BitVec 32 := 1#32
  let arg21 : BitVec 32 := Scf.iv c0_i32_29 c1_i32_31 k0_t3
  let c32_i32 : BitVec 32 := 32#32
  let v128 : BitVec 32 := Scalar.muli arg21 c32_i32
  v128
def k0_mult5 (k0_t1 : Fin k0_t1_loop.trips) (k0_t3 : Fin k0_t3_loop.trips) : BitVec 32 :=
  let c0_i32_10 : BitVec 32 := 0#32
  let c1_i32_12 : BitVec 32 := 1#32
  let arg20 : BitVec 32 := Scf.iv c0_i32_10 c1_i32_12 k0_t1
  let c256_i32 : BitVec 32 := 256#32
  let v32 : BitVec 32 := Scalar.muli arg20 c256_i32
  let v33 : BitVec 32 := v32
  let c0_i32_29 : BitVec 32 := 0#32
  let c1_i32_31 : BitVec 32 := 1#32
  let arg21 : BitVec 32 := Scf.iv c0_i32_29 c1_i32_31 k0_t3
  let c32_i32 : BitVec 32 := 32#32
  let v128 : BitVec 32 := Scalar.muli arg21 c32_i32
  let v129 : BitVec 32 := v128
  let v130 : BitVec 32 := Scalar.addi v33 v129
  v130
def k0_off18 (k0_t1 : Fin k0_t1_loop.trips) (k0_t3 : Fin k0_t3_loop.trips) : Fin 2 → Nat :=
  let c0_i32_10 : BitVec 32 := 0#32
  let c1_i32_12 : BitVec 32 := 1#32
  let arg20 : BitVec 32 := Scf.iv c0_i32_10 c1_i32_12 k0_t1
  let c256_i32 : BitVec 32 := 256#32
  let v32 : BitVec 32 := Scalar.muli arg20 c256_i32
  let v33 : BitVec 32 := v32
  let c0_i32_29 : BitVec 32 := 0#32
  let c1_i32_31 : BitVec 32 := 1#32
  let arg21 : BitVec 32 := Scf.iv c0_i32_29 c1_i32_31 k0_t3
  let c32_i32 : BitVec 32 := 32#32
  let v128 : BitVec 32 := Scalar.muli arg21 c32_i32
  let v129 : BitVec 32 := v128
  let v130 : BitVec 32 := Scalar.addi v33 v129
  let v131 : BitVec 32 := v130
  let v132 : Index := Scalar.indexCast v131
  let c0_63 : Index := 0#32
  ![v132.toNat, 0]
def k0_off19 (k0_t1 : Fin k0_t1_loop.trips) (k0_t3 : Fin k0_t3_loop.trips) : Fin 2 → Nat :=
  let c0_i32_10 : BitVec 32 := 0#32
  let c1_i32_12 : BitVec 32 := 1#32
  let arg20 : BitVec 32 := Scf.iv c0_i32_10 c1_i32_12 k0_t1
  let c256_i32 : BitVec 32 := 256#32
  let v32 : BitVec 32 := Scalar.muli arg20 c256_i32
  let v33 : BitVec 32 := v32
  let c0_i32_29 : BitVec 32 := 0#32
  let c1_i32_31 : BitVec 32 := 1#32
  let arg21 : BitVec 32 := Scf.iv c0_i32_29 c1_i32_31 k0_t3
  let c32_i32 : BitVec 32 := 32#32
  let v128 : BitVec 32 := Scalar.muli arg21 c32_i32
  let v129 : BitVec 32 := v128
  let v130 : BitVec 32 := Scalar.addi v33 v129
  let v131 : BitVec 32 := v130
  let v197 : Index := Scalar.indexCast v131
  let c0_69 : Index := 0#32
  ![v197.toNat, 0]
def k0_off20 (k0_t1 : Fin k0_t1_loop.trips) (k0_t3 : Fin k0_t3_loop.trips) : Fin 2 → Nat :=
  let c0_i32_10 : BitVec 32 := 0#32
  let c1_i32_12 : BitVec 32 := 1#32
  let arg20 : BitVec 32 := Scf.iv c0_i32_10 c1_i32_12 k0_t1
  let c256_i32 : BitVec 32 := 256#32
  let v32 : BitVec 32 := Scalar.muli arg20 c256_i32
  let v33 : BitVec 32 := v32
  let c0_i32_29 : BitVec 32 := 0#32
  let c1_i32_31 : BitVec 32 := 1#32
  let arg21 : BitVec 32 := Scf.iv c0_i32_29 c1_i32_31 k0_t3
  let c32_i32 : BitVec 32 := 32#32
  let v128 : BitVec 32 := Scalar.muli arg21 c32_i32
  let v129 : BitVec 32 := v128
  let v130 : BitVec 32 := Scalar.addi v33 v129
  let v131 : BitVec 32 := v130
  let v207 : Index := Scalar.indexCast v131
  let c128 : Index := 128#32
  ![v207.toNat, 128]
def k0_off21 (k0_t1 : Fin k0_t1_loop.trips) (k0_t3 : Fin k0_t3_loop.trips) : Fin 2 → Nat :=
  let c0_i32_10 : BitVec 32 := 0#32
  let c1_i32_12 : BitVec 32 := 1#32
  let arg20 : BitVec 32 := Scf.iv c0_i32_10 c1_i32_12 k0_t1
  let c256_i32 : BitVec 32 := 256#32
  let v32 : BitVec 32 := Scalar.muli arg20 c256_i32
  let v33 : BitVec 32 := v32
  let c0_i32_29 : BitVec 32 := 0#32
  let c1_i32_31 : BitVec 32 := 1#32
  let arg21 : BitVec 32 := Scf.iv c0_i32_29 c1_i32_31 k0_t3
  let c32_i32 : BitVec 32 := 32#32
  let v128 : BitVec 32 := Scalar.muli arg21 c32_i32
  let v129 : BitVec 32 := v128
  let v130 : BitVec 32 := Scalar.addi v33 v129
  let v131 : BitVec 32 := v130
  let v217 : Index := Scalar.indexCast v131
  let c256 : Index := 256#32
  ![v217.toNat, 256]
def k0_off22 (k0_t1 : Fin k0_t1_loop.trips) (k0_t3 : Fin k0_t3_loop.trips) : Fin 2 → Nat :=
  let c0_i32_10 : BitVec 32 := 0#32
  let c1_i32_12 : BitVec 32 := 1#32
  let arg20 : BitVec 32 := Scf.iv c0_i32_10 c1_i32_12 k0_t1
  let c256_i32 : BitVec 32 := 256#32
  let v32 : BitVec 32 := Scalar.muli arg20 c256_i32
  let v33 : BitVec 32 := v32
  let c0_i32_29 : BitVec 32 := 0#32
  let c1_i32_31 : BitVec 32 := 1#32
  let arg21 : BitVec 32 := Scf.iv c0_i32_29 c1_i32_31 k0_t3
  let c32_i32 : BitVec 32 := 32#32
  let v128 : BitVec 32 := Scalar.muli arg21 c32_i32
  let v129 : BitVec 32 := v128
  let v130 : BitVec 32 := Scalar.addi v33 v129
  let v131 : BitVec 32 := v130
  let v227 : Index := Scalar.indexCast v131
  let c384 : Index := 384#32
  ![v227.toNat, 384]
def k0_off23 (k0_t1 : Fin k0_t1_loop.trips) (k0_t3 : Fin k0_t3_loop.trips) : Fin 2 → Nat :=
  let c0_i32_10 : BitVec 32 := 0#32
  let c1_i32_12 : BitVec 32 := 1#32
  let arg20 : BitVec 32 := Scf.iv c0_i32_10 c1_i32_12 k0_t1
  let c256_i32 : BitVec 32 := 256#32
  let v32 : BitVec 32 := Scalar.muli arg20 c256_i32
  let v33 : BitVec 32 := v32
  let c0_i32_29 : BitVec 32 := 0#32
  let c1_i32_31 : BitVec 32 := 1#32
  let arg21 : BitVec 32 := Scf.iv c0_i32_29 c1_i32_31 k0_t3
  let c32_i32 : BitVec 32 := 32#32
  let v128 : BitVec 32 := Scalar.muli arg21 c32_i32
  let v129 : BitVec 32 := v128
  let v130 : BitVec 32 := Scalar.addi v33 v129
  let v131 : BitVec 32 := v130
  let v237 : Index := Scalar.indexCast v131
  let c512 : Index := 512#32
  ![v237.toNat, 512]
def k0_off24 (k0_t1 : Fin k0_t1_loop.trips) (k0_t3 : Fin k0_t3_loop.trips) : Fin 2 → Nat :=
  let c0_i32_10 : BitVec 32 := 0#32
  let c1_i32_12 : BitVec 32 := 1#32
  let arg20 : BitVec 32 := Scf.iv c0_i32_10 c1_i32_12 k0_t1
  let c256_i32 : BitVec 32 := 256#32
  let v32 : BitVec 32 := Scalar.muli arg20 c256_i32
  let v33 : BitVec 32 := v32
  let c0_i32_29 : BitVec 32 := 0#32
  let c1_i32_31 : BitVec 32 := 1#32
  let arg21 : BitVec 32 := Scf.iv c0_i32_29 c1_i32_31 k0_t3
  let c32_i32 : BitVec 32 := 32#32
  let v128 : BitVec 32 := Scalar.muli arg21 c32_i32
  let v129 : BitVec 32 := v128
  let v130 : BitVec 32 := Scalar.addi v33 v129
  let v131 : BitVec 32 := v130
  let v247 : Index := Scalar.indexCast v131
  let c640 : Index := 640#32
  ![v247.toNat, 640]
def k0_off25 (k0_t1 : Fin k0_t1_loop.trips) (k0_t3 : Fin k0_t3_loop.trips) : Fin 2 → Nat :=
  let c0_i32_10 : BitVec 32 := 0#32
  let c1_i32_12 : BitVec 32 := 1#32
  let arg20 : BitVec 32 := Scf.iv c0_i32_10 c1_i32_12 k0_t1
  let c256_i32 : BitVec 32 := 256#32
  let v32 : BitVec 32 := Scalar.muli arg20 c256_i32
  let v33 : BitVec 32 := v32
  let c0_i32_29 : BitVec 32 := 0#32
  let c1_i32_31 : BitVec 32 := 1#32
  let arg21 : BitVec 32 := Scf.iv c0_i32_29 c1_i32_31 k0_t3
  let c32_i32 : BitVec 32 := 32#32
  let v128 : BitVec 32 := Scalar.muli arg21 c32_i32
  let v129 : BitVec 32 := v128
  let v130 : BitVec 32 := Scalar.addi v33 v129
  let v131 : BitVec 32 := v130
  let v257 : Index := Scalar.indexCast v131
  let c768 : Index := 768#32
  ![v257.toNat, 768]
def k0_off26 (k0_t1 : Fin k0_t1_loop.trips) (k0_t3 : Fin k0_t3_loop.trips) : Fin 2 → Nat :=
  let c0_i32_10 : BitVec 32 := 0#32
  let c1_i32_12 : BitVec 32 := 1#32
  let arg20 : BitVec 32 := Scf.iv c0_i32_10 c1_i32_12 k0_t1
  let c256_i32 : BitVec 32 := 256#32
  let v32 : BitVec 32 := Scalar.muli arg20 c256_i32
  let v33 : BitVec 32 := v32
  let c0_i32_29 : BitVec 32 := 0#32
  let c1_i32_31 : BitVec 32 := 1#32
  let arg21 : BitVec 32 := Scf.iv c0_i32_29 c1_i32_31 k0_t3
  let c32_i32 : BitVec 32 := 32#32
  let v128 : BitVec 32 := Scalar.muli arg21 c32_i32
  let v129 : BitVec 32 := v128
  let v130 : BitVec 32 := Scalar.addi v33 v129
  let v131 : BitVec 32 := v130
  let v267 : Index := Scalar.indexCast v131
  let c896 : Index := 896#32
  ![v267.toNat, 896]
def k0_off27 (k0_t1 : Fin k0_t1_loop.trips) (k0_t3 : Fin k0_t3_loop.trips) : Fin 2 → Nat :=
  let c0_i32_10 : BitVec 32 := 0#32
  let c1_i32_12 : BitVec 32 := 1#32
  let arg20 : BitVec 32 := Scf.iv c0_i32_10 c1_i32_12 k0_t1
  let c256_i32 : BitVec 32 := 256#32
  let v32 : BitVec 32 := Scalar.muli arg20 c256_i32
  let v33 : BitVec 32 := v32
  let c0_i32_29 : BitVec 32 := 0#32
  let c1_i32_31 : BitVec 32 := 1#32
  let arg21 : BitVec 32 := Scf.iv c0_i32_29 c1_i32_31 k0_t3
  let c32_i32 : BitVec 32 := 32#32
  let v128 : BitVec 32 := Scalar.muli arg21 c32_i32
  let v129 : BitVec 32 := v128
  let v130 : BitVec 32 := Scalar.addi v33 v129
  let v131 : BitVec 32 := v130
  let v277 : Index := Scalar.indexCast v131
  let c1024 : Index := 1024#32
  ![v277.toNat, 1024]
def k0_off28 (k0_t1 : Fin k0_t1_loop.trips) (k0_t3 : Fin k0_t3_loop.trips) : Fin 2 → Nat :=
  let c0_i32_10 : BitVec 32 := 0#32
  let c1_i32_12 : BitVec 32 := 1#32
  let arg20 : BitVec 32 := Scf.iv c0_i32_10 c1_i32_12 k0_t1
  let c256_i32 : BitVec 32 := 256#32
  let v32 : BitVec 32 := Scalar.muli arg20 c256_i32
  let v33 : BitVec 32 := v32
  let c0_i32_29 : BitVec 32 := 0#32
  let c1_i32_31 : BitVec 32 := 1#32
  let arg21 : BitVec 32 := Scf.iv c0_i32_29 c1_i32_31 k0_t3
  let c32_i32 : BitVec 32 := 32#32
  let v128 : BitVec 32 := Scalar.muli arg21 c32_i32
  let v129 : BitVec 32 := v128
  let v130 : BitVec 32 := Scalar.addi v33 v129
  let v131 : BitVec 32 := v130
  let v287 : Index := Scalar.indexCast v131
  let c1152 : Index := 1152#32
  ![v287.toNat, 1152]
def k0_off29 (k0_t1 : Fin k0_t1_loop.trips) (k0_t3 : Fin k0_t3_loop.trips) : Fin 2 → Nat :=
  let c0_i32_10 : BitVec 32 := 0#32
  let c1_i32_12 : BitVec 32 := 1#32
  let arg20 : BitVec 32 := Scf.iv c0_i32_10 c1_i32_12 k0_t1
  let c256_i32 : BitVec 32 := 256#32
  let v32 : BitVec 32 := Scalar.muli arg20 c256_i32
  let v33 : BitVec 32 := v32
  let c0_i32_29 : BitVec 32 := 0#32
  let c1_i32_31 : BitVec 32 := 1#32
  let arg21 : BitVec 32 := Scf.iv c0_i32_29 c1_i32_31 k0_t3
  let c32_i32 : BitVec 32 := 32#32
  let v128 : BitVec 32 := Scalar.muli arg21 c32_i32
  let v129 : BitVec 32 := v128
  let v130 : BitVec 32 := Scalar.addi v33 v129
  let v131 : BitVec 32 := v130
  let v297 : Index := Scalar.indexCast v131
  let c1280 : Index := 1280#32
  ![v297.toNat, 1280]
def k0_off30 (k0_t1 : Fin k0_t1_loop.trips) (k0_t3 : Fin k0_t3_loop.trips) : Fin 2 → Nat :=
  let c0_i32_10 : BitVec 32 := 0#32
  let c1_i32_12 : BitVec 32 := 1#32
  let arg20 : BitVec 32 := Scf.iv c0_i32_10 c1_i32_12 k0_t1
  let c256_i32 : BitVec 32 := 256#32
  let v32 : BitVec 32 := Scalar.muli arg20 c256_i32
  let v33 : BitVec 32 := v32
  let c0_i32_29 : BitVec 32 := 0#32
  let c1_i32_31 : BitVec 32 := 1#32
  let arg21 : BitVec 32 := Scf.iv c0_i32_29 c1_i32_31 k0_t3
  let c32_i32 : BitVec 32 := 32#32
  let v128 : BitVec 32 := Scalar.muli arg21 c32_i32
  let v129 : BitVec 32 := v128
  let v130 : BitVec 32 := Scalar.addi v33 v129
  let v131 : BitVec 32 := v130
  let v307 : Index := Scalar.indexCast v131
  let c1408 : Index := 1408#32
  ![v307.toNat, 1408]
def k0_off31 (k0_t1 : Fin k0_t1_loop.trips) (k0_t3 : Fin k0_t3_loop.trips) : Fin 2 → Nat :=
  let c0_i32_10 : BitVec 32 := 0#32
  let c1_i32_12 : BitVec 32 := 1#32
  let arg20 : BitVec 32 := Scf.iv c0_i32_10 c1_i32_12 k0_t1
  let c256_i32 : BitVec 32 := 256#32
  let v32 : BitVec 32 := Scalar.muli arg20 c256_i32
  let v33 : BitVec 32 := v32
  let c0_i32_29 : BitVec 32 := 0#32
  let c1_i32_31 : BitVec 32 := 1#32
  let arg21 : BitVec 32 := Scf.iv c0_i32_29 c1_i32_31 k0_t3
  let c32_i32 : BitVec 32 := 32#32
  let v128 : BitVec 32 := Scalar.muli arg21 c32_i32
  let v129 : BitVec 32 := v128
  let v130 : BitVec 32 := Scalar.addi v33 v129
  let v131 : BitVec 32 := v130
  let v317 : Index := Scalar.indexCast v131
  let c1536 : Index := 1536#32
  ![v317.toNat, 1536]
def k0_off32 (k0_t1 : Fin k0_t1_loop.trips) (k0_t3 : Fin k0_t3_loop.trips) : Fin 2 → Nat :=
  let c0_i32_10 : BitVec 32 := 0#32
  let c1_i32_12 : BitVec 32 := 1#32
  let arg20 : BitVec 32 := Scf.iv c0_i32_10 c1_i32_12 k0_t1
  let c256_i32 : BitVec 32 := 256#32
  let v32 : BitVec 32 := Scalar.muli arg20 c256_i32
  let v33 : BitVec 32 := v32
  let c0_i32_29 : BitVec 32 := 0#32
  let c1_i32_31 : BitVec 32 := 1#32
  let arg21 : BitVec 32 := Scf.iv c0_i32_29 c1_i32_31 k0_t3
  let c32_i32 : BitVec 32 := 32#32
  let v128 : BitVec 32 := Scalar.muli arg21 c32_i32
  let v129 : BitVec 32 := v128
  let v130 : BitVec 32 := Scalar.addi v33 v129
  let v131 : BitVec 32 := v130
  let v327 : Index := Scalar.indexCast v131
  let c1664 : Index := 1664#32
  ![v327.toNat, 1664]
def k0_off33 (k0_t1 : Fin k0_t1_loop.trips) (k0_t3 : Fin k0_t3_loop.trips) : Fin 2 → Nat :=
  let c0_i32_10 : BitVec 32 := 0#32
  let c1_i32_12 : BitVec 32 := 1#32
  let arg20 : BitVec 32 := Scf.iv c0_i32_10 c1_i32_12 k0_t1
  let c256_i32 : BitVec 32 := 256#32
  let v32 : BitVec 32 := Scalar.muli arg20 c256_i32
  let v33 : BitVec 32 := v32
  let c0_i32_29 : BitVec 32 := 0#32
  let c1_i32_31 : BitVec 32 := 1#32
  let arg21 : BitVec 32 := Scf.iv c0_i32_29 c1_i32_31 k0_t3
  let c32_i32 : BitVec 32 := 32#32
  let v128 : BitVec 32 := Scalar.muli arg21 c32_i32
  let v129 : BitVec 32 := v128
  let v130 : BitVec 32 := Scalar.addi v33 v129
  let v131 : BitVec 32 := v130
  let v337 : Index := Scalar.indexCast v131
  let c1792 : Index := 1792#32
  ![v337.toNat, 1792]
def k0_off34 (k0_t1 : Fin k0_t1_loop.trips) (k0_t3 : Fin k0_t3_loop.trips) : Fin 2 → Nat :=
  let c0_i32_10 : BitVec 32 := 0#32
  let c1_i32_12 : BitVec 32 := 1#32
  let arg20 : BitVec 32 := Scf.iv c0_i32_10 c1_i32_12 k0_t1
  let c256_i32 : BitVec 32 := 256#32
  let v32 : BitVec 32 := Scalar.muli arg20 c256_i32
  let v33 : BitVec 32 := v32
  let c0_i32_29 : BitVec 32 := 0#32
  let c1_i32_31 : BitVec 32 := 1#32
  let arg21 : BitVec 32 := Scf.iv c0_i32_29 c1_i32_31 k0_t3
  let c32_i32 : BitVec 32 := 32#32
  let v128 : BitVec 32 := Scalar.muli arg21 c32_i32
  let v129 : BitVec 32 := v128
  let v130 : BitVec 32 := Scalar.addi v33 v129
  let v131 : BitVec 32 := v130
  let v347 : Index := Scalar.indexCast v131
  let c1920 : Index := 1920#32
  ![v347.toNat, 1920]
def k0_mult6 (k0_t1 : Fin k0_t1_loop.trips) : BitVec 32 :=
  let c0_i32_10 : BitVec 32 := 0#32
  let c1_i32_12 : BitVec 32 := 1#32
  let arg20 : BitVec 32 := Scf.iv c0_i32_10 c1_i32_12 k0_t1
  let c256_i32 : BitVec 32 := 256#32
  let v32 : BitVec 32 := Scalar.muli arg20 c256_i32
  let v33 : BitVec 32 := v32
  let c0_i32_33 : BitVec 32 := 0#32
  let v36 : BitVec 32 := Scalar.addi v33 c0_i32_33
  v36
def k0_off35 (k0_t1 : Fin k0_t1_loop.trips) (c0_i32_33 : BitVec 32) : Fin 2 → Nat :=
  let c0_i32_10 : BitVec 32 := 0#32
  let c1_i32_12 : BitVec 32 := 1#32
  let arg20 : BitVec 32 := Scf.iv c0_i32_10 c1_i32_12 k0_t1
  let c256_i32 : BitVec 32 := 256#32
  let v32 : BitVec 32 := Scalar.muli arg20 c256_i32
  let v33 : BitVec 32 := v32
  let v36 : BitVec 32 := Scalar.addi v33 c0_i32_33
  let v37 : BitVec 32 := v36
  let v38 : Index := Scalar.indexCast v37
  let c0 : Index := 0#32
  ![v38.toNat, 0]
def k0_mult7 (i : grid0.Coords) : BitVec 32 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c0_i32_35 : BitVec 32 := 0#32
  let v42 : BitVec 1 := Scalar.cmpi .sgt v16 c0_i32_35
  let v43 : BitVec 32 := Scalar.extui v42
  let c0_i32_36 : BitVec 32 := 0#32
  let v44 : BitVec 1 := Scalar.cmpi .slt v16 c0_i32_36
  let v45 : BitVec 32 := Scalar.extui v44
  let v46 : BitVec 32 := Scalar.subi v43 v45
  let c8_i32_34 : BitVec 32 := 8#32
  let c0_i32_37 : BitVec 32 := 0#32
  let v47 : BitVec 1 := Scalar.cmpi .sgt c8_i32_34 c0_i32_37
  let v48 : BitVec 32 := Scalar.extui v47
  let c0_i32_38 : BitVec 32 := 0#32
  let v49 : BitVec 1 := Scalar.cmpi .slt c8_i32_34 c0_i32_38
  let v50 : BitVec 32 := Scalar.extui v49
  let v51 : BitVec 32 := Scalar.subi v48 v50
  let v52 : BitVec 1 := Scalar.cmpi .ne v46 v51
  let v53 : BitVec 32 := Scalar.remsi v16 c8_i32_34
  let c0_i32_39 : BitVec 32 := 0#32
  let v54 : BitVec 1 := Scalar.cmpi .ne v53 c0_i32_39
  let v55 : BitVec 1 := Scalar.andi v52 v54
  let v41 : BitVec 32 := Scalar.divsi v16 c8_i32_34
  let c1_i32_40 : BitVec 32 := 1#32
  let v56 : BitVec 32 := Scalar.subi v41 c1_i32_40
  let v57 : BitVec 32 := Scalar.select v55 v56 v41
  let c8_i32_41 : BitVec 32 := 8#32
  let v58 : BitVec 32 := Scalar.muli v57 c8_i32_41
  v58
def k0_mult8 (i : grid0.Coords) (k0_t1 : Fin k0_t1_loop.trips) : BitVec 32 :=
  let arg0 : BitVec 32 := BitVec.ofNat 32 (i 0).val
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c512_i32 : BitVec 32 := 512#32
  let v27 : BitVec 32 := Scalar.muli v26 c512_i32
  let c0_i32_10 : BitVec 32 := 0#32
  let c1_i32_12 : BitVec 32 := 1#32
  let arg20 : BitVec 32 := Scf.iv c0_i32_10 c1_i32_12 k0_t1
  let c256_i32 : BitVec 32 := 256#32
  let v32 : BitVec 32 := Scalar.muli arg20 c256_i32
  let v33 : BitVec 32 := v32
  let c0_i32_33 : BitVec 32 := 0#32
  let v36 : BitVec 32 := Scalar.addi v33 c0_i32_33
  let v60 : BitVec 32 := Scalar.addi v27 v36
  v60
def k0_off36 (i : grid0.Coords) (k0_t1 : Fin k0_t1_loop.trips) (c0_i32_33 : BitVec 32) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c0_i32_35 : BitVec 32 := 0#32
  let v42 : BitVec 1 := Scalar.cmpi .sgt v16 c0_i32_35
  let v43 : BitVec 32 := Scalar.extui v42
  let c0_i32_36 : BitVec 32 := 0#32
  let v44 : BitVec 1 := Scalar.cmpi .slt v16 c0_i32_36
  let v45 : BitVec 32 := Scalar.extui v44
  let v46 : BitVec 32 := Scalar.subi v43 v45
  let c8_i32_34 : BitVec 32 := 8#32
  let c0_i32_37 : BitVec 32 := 0#32
  let v47 : BitVec 1 := Scalar.cmpi .sgt c8_i32_34 c0_i32_37
  let v48 : BitVec 32 := Scalar.extui v47
  let c0_i32_38 : BitVec 32 := 0#32
  let v49 : BitVec 1 := Scalar.cmpi .slt c8_i32_34 c0_i32_38
  let v50 : BitVec 32 := Scalar.extui v49
  let v51 : BitVec 32 := Scalar.subi v48 v50
  let v52 : BitVec 1 := Scalar.cmpi .ne v46 v51
  let v53 : BitVec 32 := Scalar.remsi v16 c8_i32_34
  let c0_i32_39 : BitVec 32 := 0#32
  let v54 : BitVec 1 := Scalar.cmpi .ne v53 c0_i32_39
  let v55 : BitVec 1 := Scalar.andi v52 v54
  let v41 : BitVec 32 := Scalar.divsi v16 c8_i32_34
  let c1_i32_40 : BitVec 32 := 1#32
  let v56 : BitVec 32 := Scalar.subi v41 c1_i32_40
  let v57 : BitVec 32 := Scalar.select v55 v56 v41
  let c8_i32_41 : BitVec 32 := 8#32
  let v58 : BitVec 32 := Scalar.muli v57 c8_i32_41
  let v59 : BitVec 32 := v58
  let v76 : Index := Scalar.indexCast v59
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c512_i32 : BitVec 32 := 512#32
  let v27 : BitVec 32 := Scalar.muli v26 c512_i32
  let c0_i32_10 : BitVec 32 := 0#32
  let c1_i32_12 : BitVec 32 := 1#32
  let arg20 : BitVec 32 := Scf.iv c0_i32_10 c1_i32_12 k0_t1
  let c256_i32 : BitVec 32 := 256#32
  let v32 : BitVec 32 := Scalar.muli arg20 c256_i32
  let v33 : BitVec 32 := v32
  let v36 : BitVec 32 := Scalar.addi v33 c0_i32_33
  let v60 : BitVec 32 := Scalar.addi v27 v36
  let v61 : BitVec 32 := v60
  let v77 : Index := Scalar.indexCast v61
  ![v76.toNat, v77.toNat]
def k0_mult9 (k0_t1 : Fin k0_t1_loop.trips) : BitVec 32 :=
  let c0_i32_10 : BitVec 32 := 0#32
  let c1_i32_12 : BitVec 32 := 1#32
  let arg20 : BitVec 32 := Scf.iv c0_i32_10 c1_i32_12 k0_t1
  let c256_i32 : BitVec 32 := 256#32
  let v32 : BitVec 32 := Scalar.muli arg20 c256_i32
  let v33 : BitVec 32 := v32
  let c128_i32 : BitVec 32 := 128#32
  let v82 : BitVec 32 := Scalar.addi v33 c128_i32
  v82
def k0_mult10 (i : grid0.Coords) : BitVec 32 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c0_i32_50 : BitVec 32 := 0#32
  let v88 : BitVec 1 := Scalar.cmpi .sgt v16 c0_i32_50
  let v89 : BitVec 32 := Scalar.extui v88
  let c0_i32_51 : BitVec 32 := 0#32
  let v90 : BitVec 1 := Scalar.cmpi .slt v16 c0_i32_51
  let v91 : BitVec 32 := Scalar.extui v90
  let v92 : BitVec 32 := Scalar.subi v89 v91
  let c8_i32_49 : BitVec 32 := 8#32
  let c0_i32_52 : BitVec 32 := 0#32
  let v93 : BitVec 1 := Scalar.cmpi .sgt c8_i32_49 c0_i32_52
  let v94 : BitVec 32 := Scalar.extui v93
  let c0_i32_53 : BitVec 32 := 0#32
  let v95 : BitVec 1 := Scalar.cmpi .slt c8_i32_49 c0_i32_53
  let v96 : BitVec 32 := Scalar.extui v95
  let v97 : BitVec 32 := Scalar.subi v94 v96
  let v98 : BitVec 1 := Scalar.cmpi .ne v92 v97
  let v99 : BitVec 32 := Scalar.remsi v16 c8_i32_49
  let c0_i32_54 : BitVec 32 := 0#32
  let v100 : BitVec 1 := Scalar.cmpi .ne v99 c0_i32_54
  let v101 : BitVec 1 := Scalar.andi v98 v100
  let v87 : BitVec 32 := Scalar.divsi v16 c8_i32_49
  let c1_i32_55 : BitVec 32 := 1#32
  let v102 : BitVec 32 := Scalar.subi v87 c1_i32_55
  let v103 : BitVec 32 := Scalar.select v101 v102 v87
  let c8_i32_56 : BitVec 32 := 8#32
  let v104 : BitVec 32 := Scalar.muli v103 c8_i32_56
  v104
def k0_mult11 (i : grid0.Coords) (k0_t1 : Fin k0_t1_loop.trips) : BitVec 32 :=
  let arg0 : BitVec 32 := BitVec.ofNat 32 (i 0).val
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c512_i32 : BitVec 32 := 512#32
  let v27 : BitVec 32 := Scalar.muli v26 c512_i32
  let c0_i32_10 : BitVec 32 := 0#32
  let c1_i32_12 : BitVec 32 := 1#32
  let arg20 : BitVec 32 := Scf.iv c0_i32_10 c1_i32_12 k0_t1
  let c256_i32 : BitVec 32 := 256#32
  let v32 : BitVec 32 := Scalar.muli arg20 c256_i32
  let v33 : BitVec 32 := v32
  let c128_i32 : BitVec 32 := 128#32
  let v82 : BitVec 32 := Scalar.addi v33 c128_i32
  let v106 : BitVec 32 := Scalar.addi v27 v82
  v106
@[reducible] def k0_t4_loop : Scf.Loop 32 :=
  let c0_i32_14 : BitVec 32 := 0#32
  let c2_i32_15 : BitVec 32 := 2#32
  let v29 : BitVec 32 := Scalar.addi c0_i32_14 c2_i32_15
  let c1_i32_16 : BitVec 32 := 1#32
  ⟨c0_i32_14, v29, c1_i32_16⟩
def k0_mult12 (k0_t4 : Fin k0_t4_loop.trips) : BitVec 32 :=
  let c0_i32_14 : BitVec 32 := 0#32
  let c1_i32_16 : BitVec 32 := 1#32
  let arg20 : BitVec 32 := Scf.iv c0_i32_14 c1_i32_16 k0_t4
  let c256_i32 : BitVec 32 := 256#32
  let v32 : BitVec 32 := Scalar.muli arg20 c256_i32
  v32
@[reducible] def k0_t5_loop : Scf.Loop 32 :=
  let c0_i32_26 : BitVec 32 := 0#32
  let c4_i32 : BitVec 32 := 4#32
  let v34 : BitVec 32 := Scalar.addi c0_i32_26 c4_i32
  let c1_i32_27 : BitVec 32 := 1#32
  ⟨c0_i32_26, v34, c1_i32_27⟩
def k0_mult13 (k0_t5 : Fin k0_t5_loop.trips) : BitVec 32 :=
  let c0_i32_26 : BitVec 32 := 0#32
  let c1_i32_27 : BitVec 32 := 1#32
  let arg21 : BitVec 32 := Scf.iv c0_i32_26 c1_i32_27 k0_t5
  let c512_i32_62 : BitVec 32 := 512#32
  let v128 : BitVec 32 := Scalar.muli arg21 c512_i32_62
  v128
def k0_off37 (k0_t4 : Fin k0_t4_loop.trips) : Fin 2 → Nat :=
  let c0_i32_14 : BitVec 32 := 0#32
  let c1_i32_16 : BitVec 32 := 1#32
  let arg20 : BitVec 32 := Scf.iv c0_i32_14 c1_i32_16 k0_t4
  let c256_i32 : BitVec 32 := 256#32
  let v32 : BitVec 32 := Scalar.muli arg20 c256_i32
  let v33 : BitVec 32 := v32
  let v130 : Index := Scalar.indexCast v33
  let c0_63 : Index := 0#32
  ![v130.toNat, 0]
def k0_off38 (k0_t5 : Fin k0_t5_loop.trips) : Fin 3 → Nat :=
  let c0_64 : Index := 0#32
  let c0_65 : Index := 0#32
  let c0_i32_26 : BitVec 32 := 0#32
  let c1_i32_27 : BitVec 32 := 1#32
  let arg21 : BitVec 32 := Scf.iv c0_i32_26 c1_i32_27 k0_t5
  let c512_i32_62 : BitVec 32 := 512#32
  let v128 : BitVec 32 := Scalar.muli arg21 c512_i32_62
  let v129 : BitVec 32 := v128
  let v133 : Index := Scalar.indexCast v129
  ![0, 0, v133.toNat]
def k0_mult14 (k0_t4 : Fin k0_t4_loop.trips) : BitVec 32 :=
  let c0_i32_14 : BitVec 32 := 0#32
  let c1_i32_16 : BitVec 32 := 1#32
  let arg20 : BitVec 32 := Scf.iv c0_i32_14 c1_i32_16 k0_t4
  let c256_i32 : BitVec 32 := 256#32
  let v32 : BitVec 32 := Scalar.muli arg20 c256_i32
  let v33 : BitVec 32 := v32
  let c0_i32_66 : BitVec 32 := 0#32
  let v137 : BitVec 32 := Scalar.addi v33 c0_i32_66
  v137
def k0_off39 (k0_t4 : Fin k0_t4_loop.trips) (c0_i32_66 : BitVec 32) : Fin 2 → Nat :=
  let c0_i32_14 : BitVec 32 := 0#32
  let c1_i32_16 : BitVec 32 := 1#32
  let arg20 : BitVec 32 := Scf.iv c0_i32_14 c1_i32_16 k0_t4
  let c256_i32 : BitVec 32 := 256#32
  let v32 : BitVec 32 := Scalar.muli arg20 c256_i32
  let v33 : BitVec 32 := v32
  let v137 : BitVec 32 := Scalar.addi v33 c0_i32_66
  let v138 : BitVec 32 := v137
  let v139 : Index := Scalar.indexCast v138
  let c0_67 : Index := 0#32
  ![v139.toNat, 0]
def k0_mult15 (k0_t5 : Fin k0_t5_loop.trips) : BitVec 32 :=
  let c0_i32_26 : BitVec 32 := 0#32
  let c1_i32_27 : BitVec 32 := 1#32
  let arg21 : BitVec 32 := Scf.iv c0_i32_26 c1_i32_27 k0_t5
  let c512_i32_62 : BitVec 32 := 512#32
  let v128 : BitVec 32 := Scalar.muli arg21 c512_i32_62
  let v129 : BitVec 32 := v128
  let c0_i32_68 : BitVec 32 := 0#32
  let v141 : BitVec 32 := Scalar.addi v129 c0_i32_68
  v141
def k0_off40 (k0_t5 : Fin k0_t5_loop.trips) (c0_i32_68 : BitVec 32) : Fin 3 → Nat :=
  let c0_69 : Index := 0#32
  let c0_70 : Index := 0#32
  let c0_i32_26 : BitVec 32 := 0#32
  let c1_i32_27 : BitVec 32 := 1#32
  let arg21 : BitVec 32 := Scf.iv c0_i32_26 c1_i32_27 k0_t5
  let c512_i32_62 : BitVec 32 := 512#32
  let v128 : BitVec 32 := Scalar.muli arg21 c512_i32_62
  let v129 : BitVec 32 := v128
  let v141 : BitVec 32 := Scalar.addi v129 c0_i32_68
  let v142 : BitVec 32 := v141
  let v145 : Index := Scalar.indexCast v142
  ![0, 0, v145.toNat]
def k0_off41 (k0_t4 : Fin k0_t4_loop.trips) (k0_t5 : Fin k0_t5_loop.trips) (c0_i32_66 : BitVec 32) (c0_i32_68 : BitVec 32) : Fin 2 → Nat :=
  let c0_i32_14 : BitVec 32 := 0#32
  let c1_i32_16 : BitVec 32 := 1#32
  let arg20 : BitVec 32 := Scf.iv c0_i32_14 c1_i32_16 k0_t4
  let c256_i32 : BitVec 32 := 256#32
  let v32 : BitVec 32 := Scalar.muli arg20 c256_i32
  let v33 : BitVec 32 := v32
  let v137 : BitVec 32 := Scalar.addi v33 c0_i32_66
  let v138 : BitVec 32 := v137
  let v155 : Index := Scalar.indexCast v138
  let c0_i32_26 : BitVec 32 := 0#32
  let c1_i32_27 : BitVec 32 := 1#32
  let arg21 : BitVec 32 := Scf.iv c0_i32_26 c1_i32_27 k0_t5
  let c512_i32_62 : BitVec 32 := 512#32
  let v128 : BitVec 32 := Scalar.muli arg21 c512_i32_62
  let v129 : BitVec 32 := v128
  let v141 : BitVec 32 := Scalar.addi v129 c0_i32_68
  let v142 : BitVec 32 := v141
  let v156 : Index := Scalar.indexCast v142
  ![v155.toNat, v156.toNat]
def k0_mult16 (k0_t5 : Fin k0_t5_loop.trips) : BitVec 32 :=
  let c0_i32_26 : BitVec 32 := 0#32
  let c1_i32_27 : BitVec 32 := 1#32
  let arg21 : BitVec 32 := Scf.iv c0_i32_26 c1_i32_27 k0_t5
  let c512_i32_62 : BitVec 32 := 512#32
  let v128 : BitVec 32 := Scalar.muli arg21 c512_i32_62
  let v129 : BitVec 32 := v128
  let c128_i32_73 : BitVec 32 := 128#32
  let v169 : BitVec 32 := Scalar.addi v129 c128_i32_73
  v169
def k0_mult17 (k0_t5 : Fin k0_t5_loop.trips) : BitVec 32 :=
  let c0_i32_26 : BitVec 32 := 0#32
  let c1_i32_27 : BitVec 32 := 1#32
  let arg21 : BitVec 32 := Scf.iv c0_i32_26 c1_i32_27 k0_t5
  let c512_i32_62 : BitVec 32 := 512#32
  let v128 : BitVec 32 := Scalar.muli arg21 c512_i32_62
  let v129 : BitVec 32 := v128
  let c256_i32_78 : BitVec 32 := 256#32
  let v198 : BitVec 32 := Scalar.addi v129 c256_i32_78
  v198
def k0_mult18 (k0_t5 : Fin k0_t5_loop.trips) : BitVec 32 :=
  let c0_i32_26 : BitVec 32 := 0#32
  let c1_i32_27 : BitVec 32 := 1#32
  let arg21 : BitVec 32 := Scf.iv c0_i32_26 c1_i32_27 k0_t5
  let c512_i32_62 : BitVec 32 := 512#32
  let v128 : BitVec 32 := Scalar.muli arg21 c512_i32_62
  let v129 : BitVec 32 := v128
  let c384_i32 : BitVec 32 := 384#32
  let v227 : BitVec 32 := Scalar.addi v129 c384_i32
  v227
def k0_mult19 (k0_t4 : Fin k0_t4_loop.trips) : BitVec 32 :=
  let c0_i32_14 : BitVec 32 := 0#32
  let c1_i32_16 : BitVec 32 := 1#32
  let arg20 : BitVec 32 := Scf.iv c0_i32_14 c1_i32_16 k0_t4
  let c256_i32 : BitVec 32 := 256#32
  let v32 : BitVec 32 := Scalar.muli arg20 c256_i32
  let v33 : BitVec 32 := v32
  let c32_i32 : BitVec 32 := 32#32
  let v265 : BitVec 32 := Scalar.addi v33 c32_i32
  v265
def k0_mult20 (k0_t5 : Fin k0_t5_loop.trips) : BitVec 32 :=
  let c0_i32_26 : BitVec 32 := 0#32
  let c1_i32_27 : BitVec 32 := 1#32
  let arg21 : BitVec 32 := Scf.iv c0_i32_26 c1_i32_27 k0_t5
  let c512_i32_62 : BitVec 32 := 512#32
  let v128 : BitVec 32 := Scalar.muli arg21 c512_i32_62
  let v129 : BitVec 32 := v128
  let c0_i32_91 : BitVec 32 := 0#32
  let v269 : BitVec 32 := Scalar.addi v129 c0_i32_91
  v269
def k0_mult21 (k0_t5 : Fin k0_t5_loop.trips) : BitVec 32 :=
  let c0_i32_26 : BitVec 32 := 0#32
  let c1_i32_27 : BitVec 32 := 1#32
  let arg21 : BitVec 32 := Scf.iv c0_i32_26 c1_i32_27 k0_t5
  let c512_i32_62 : BitVec 32 := 512#32
  let v128 : BitVec 32 := Scalar.muli arg21 c512_i32_62
  let v129 : BitVec 32 := v128
  let c128_i32_96 : BitVec 32 := 128#32
  let v297 : BitVec 32 := Scalar.addi v129 c128_i32_96
  v297
def k0_mult22 (k0_t5 : Fin k0_t5_loop.trips) : BitVec 32 :=
  let c0_i32_26 : BitVec 32 := 0#32
  let c1_i32_27 : BitVec 32 := 1#32
  let arg21 : BitVec 32 := Scf.iv c0_i32_26 c1_i32_27 k0_t5
  let c512_i32_62 : BitVec 32 := 512#32
  let v128 : BitVec 32 := Scalar.muli arg21 c512_i32_62
  let v129 : BitVec 32 := v128
  let c256_i32_101 : BitVec 32 := 256#32
  let v326 : BitVec 32 := Scalar.addi v129 c256_i32_101
  v326
def k0_mult23 (k0_t5 : Fin k0_t5_loop.trips) : BitVec 32 :=
  let c0_i32_26 : BitVec 32 := 0#32
  let c1_i32_27 : BitVec 32 := 1#32
  let arg21 : BitVec 32 := Scf.iv c0_i32_26 c1_i32_27 k0_t5
  let c512_i32_62 : BitVec 32 := 512#32
  let v128 : BitVec 32 := Scalar.muli arg21 c512_i32_62
  let v129 : BitVec 32 := v128
  let c384_i32_106 : BitVec 32 := 384#32
  let v355 : BitVec 32 := Scalar.addi v129 c384_i32_106
  v355
def k0_mult24 (k0_t4 : Fin k0_t4_loop.trips) : BitVec 32 :=
  let c0_i32_14 : BitVec 32 := 0#32
  let c1_i32_16 : BitVec 32 := 1#32
  let arg20 : BitVec 32 := Scf.iv c0_i32_14 c1_i32_16 k0_t4
  let c256_i32 : BitVec 32 := 256#32
  let v32 : BitVec 32 := Scalar.muli arg20 c256_i32
  let v33 : BitVec 32 := v32
  let c64_i32 : BitVec 32 := 64#32
  let v393 : BitVec 32 := Scalar.addi v33 c64_i32
  v393
def k0_mult25 (k0_t5 : Fin k0_t5_loop.trips) : BitVec 32 :=
  let c0_i32_26 : BitVec 32 := 0#32
  let c1_i32_27 : BitVec 32 := 1#32
  let arg21 : BitVec 32 := Scf.iv c0_i32_26 c1_i32_27 k0_t5
  let c512_i32_62 : BitVec 32 := 512#32
  let v128 : BitVec 32 := Scalar.muli arg21 c512_i32_62
  let v129 : BitVec 32 := v128
  let c0_i32_115 : BitVec 32 := 0#32
  let v397 : BitVec 32 := Scalar.addi v129 c0_i32_115
  v397
def k0_mult26 (k0_t5 : Fin k0_t5_loop.trips) : BitVec 32 :=
  let c0_i32_26 : BitVec 32 := 0#32
  let c1_i32_27 : BitVec 32 := 1#32
  let arg21 : BitVec 32 := Scf.iv c0_i32_26 c1_i32_27 k0_t5
  let c512_i32_62 : BitVec 32 := 512#32
  let v128 : BitVec 32 := Scalar.muli arg21 c512_i32_62
  let v129 : BitVec 32 := v128
  let c128_i32_120 : BitVec 32 := 128#32
  let v425 : BitVec 32 := Scalar.addi v129 c128_i32_120
  v425
def k0_mult27 (k0_t5 : Fin k0_t5_loop.trips) : BitVec 32 :=
  let c0_i32_26 : BitVec 32 := 0#32
  let c1_i32_27 : BitVec 32 := 1#32
  let arg21 : BitVec 32 := Scf.iv c0_i32_26 c1_i32_27 k0_t5
  let c512_i32_62 : BitVec 32 := 512#32
  let v128 : BitVec 32 := Scalar.muli arg21 c512_i32_62
  let v129 : BitVec 32 := v128
  let c256_i32_125 : BitVec 32 := 256#32
  let v454 : BitVec 32 := Scalar.addi v129 c256_i32_125
  v454
def k0_mult28 (k0_t5 : Fin k0_t5_loop.trips) : BitVec 32 :=
  let c0_i32_26 : BitVec 32 := 0#32
  let c1_i32_27 : BitVec 32 := 1#32
  let arg21 : BitVec 32 := Scf.iv c0_i32_26 c1_i32_27 k0_t5
  let c512_i32_62 : BitVec 32 := 512#32
  let v128 : BitVec 32 := Scalar.muli arg21 c512_i32_62
  let v129 : BitVec 32 := v128
  let c384_i32_130 : BitVec 32 := 384#32
  let v483 : BitVec 32 := Scalar.addi v129 c384_i32_130
  v483
def k0_mult29 (k0_t4 : Fin k0_t4_loop.trips) : BitVec 32 :=
  let c0_i32_14 : BitVec 32 := 0#32
  let c1_i32_16 : BitVec 32 := 1#32
  let arg20 : BitVec 32 := Scf.iv c0_i32_14 c1_i32_16 k0_t4
  let c256_i32 : BitVec 32 := 256#32
  let v32 : BitVec 32 := Scalar.muli arg20 c256_i32
  let v33 : BitVec 32 := v32
  let c96_i32 : BitVec 32 := 96#32
  let v521 : BitVec 32 := Scalar.addi v33 c96_i32
  v521
def k0_mult30 (k0_t5 : Fin k0_t5_loop.trips) : BitVec 32 :=
  let c0_i32_26 : BitVec 32 := 0#32
  let c1_i32_27 : BitVec 32 := 1#32
  let arg21 : BitVec 32 := Scf.iv c0_i32_26 c1_i32_27 k0_t5
  let c512_i32_62 : BitVec 32 := 512#32
  let v128 : BitVec 32 := Scalar.muli arg21 c512_i32_62
  let v129 : BitVec 32 := v128
  let c0_i32_139 : BitVec 32 := 0#32
  let v525 : BitVec 32 := Scalar.addi v129 c0_i32_139
  v525
def k0_mult31 (k0_t5 : Fin k0_t5_loop.trips) : BitVec 32 :=
  let c0_i32_26 : BitVec 32 := 0#32
  let c1_i32_27 : BitVec 32 := 1#32
  let arg21 : BitVec 32 := Scf.iv c0_i32_26 c1_i32_27 k0_t5
  let c512_i32_62 : BitVec 32 := 512#32
  let v128 : BitVec 32 := Scalar.muli arg21 c512_i32_62
  let v129 : BitVec 32 := v128
  let c128_i32_144 : BitVec 32 := 128#32
  let v553 : BitVec 32 := Scalar.addi v129 c128_i32_144
  v553
def k0_mult32 (k0_t5 : Fin k0_t5_loop.trips) : BitVec 32 :=
  let c0_i32_26 : BitVec 32 := 0#32
  let c1_i32_27 : BitVec 32 := 1#32
  let arg21 : BitVec 32 := Scf.iv c0_i32_26 c1_i32_27 k0_t5
  let c512_i32_62 : BitVec 32 := 512#32
  let v128 : BitVec 32 := Scalar.muli arg21 c512_i32_62
  let v129 : BitVec 32 := v128
  let c256_i32_149 : BitVec 32 := 256#32
  let v582 : BitVec 32 := Scalar.addi v129 c256_i32_149
  v582
def k0_mult33 (k0_t5 : Fin k0_t5_loop.trips) : BitVec 32 :=
  let c0_i32_26 : BitVec 32 := 0#32
  let c1_i32_27 : BitVec 32 := 1#32
  let arg21 : BitVec 32 := Scf.iv c0_i32_26 c1_i32_27 k0_t5
  let c512_i32_62 : BitVec 32 := 512#32
  let v128 : BitVec 32 := Scalar.muli arg21 c512_i32_62
  let v129 : BitVec 32 := v128
  let c384_i32_154 : BitVec 32 := 384#32
  let v611 : BitVec 32 := Scalar.addi v129 c384_i32_154
  v611
def k0_mult34 (k0_t4 : Fin k0_t4_loop.trips) : BitVec 32 :=
  let c0_i32_14 : BitVec 32 := 0#32
  let c1_i32_16 : BitVec 32 := 1#32
  let arg20 : BitVec 32 := Scf.iv c0_i32_14 c1_i32_16 k0_t4
  let c256_i32 : BitVec 32 := 256#32
  let v32 : BitVec 32 := Scalar.muli arg20 c256_i32
  let v33 : BitVec 32 := v32
  let c128_i32_162 : BitVec 32 := 128#32
  let v649 : BitVec 32 := Scalar.addi v33 c128_i32_162
  v649
def k0_mult35 (k0_t5 : Fin k0_t5_loop.trips) : BitVec 32 :=
  let c0_i32_26 : BitVec 32 := 0#32
  let c1_i32_27 : BitVec 32 := 1#32
  let arg21 : BitVec 32 := Scf.iv c0_i32_26 c1_i32_27 k0_t5
  let c512_i32_62 : BitVec 32 := 512#32
  let v128 : BitVec 32 := Scalar.muli arg21 c512_i32_62
  let v129 : BitVec 32 := v128
  let c0_i32_164 : BitVec 32 := 0#32
  let v653 : BitVec 32 := Scalar.addi v129 c0_i32_164
  v653
def k0_mult36 (k0_t5 : Fin k0_t5_loop.trips) : BitVec 32 :=
  let c0_i32_26 : BitVec 32 := 0#32
  let c1_i32_27 : BitVec 32 := 1#32
  let arg21 : BitVec 32 := Scf.iv c0_i32_26 c1_i32_27 k0_t5
  let c512_i32_62 : BitVec 32 := 512#32
  let v128 : BitVec 32 := Scalar.muli arg21 c512_i32_62
  let v129 : BitVec 32 := v128
  let c128_i32_169 : BitVec 32 := 128#32
  let v681 : BitVec 32 := Scalar.addi v129 c128_i32_169
  v681
def k0_mult37 (k0_t5 : Fin k0_t5_loop.trips) : BitVec 32 :=
  let c0_i32_26 : BitVec 32 := 0#32
  let c1_i32_27 : BitVec 32 := 1#32
  let arg21 : BitVec 32 := Scf.iv c0_i32_26 c1_i32_27 k0_t5
  let c512_i32_62 : BitVec 32 := 512#32
  let v128 : BitVec 32 := Scalar.muli arg21 c512_i32_62
  let v129 : BitVec 32 := v128
  let c256_i32_174 : BitVec 32 := 256#32
  let v710 : BitVec 32 := Scalar.addi v129 c256_i32_174
  v710
def k0_mult38 (k0_t5 : Fin k0_t5_loop.trips) : BitVec 32 :=
  let c0_i32_26 : BitVec 32 := 0#32
  let c1_i32_27 : BitVec 32 := 1#32
  let arg21 : BitVec 32 := Scf.iv c0_i32_26 c1_i32_27 k0_t5
  let c512_i32_62 : BitVec 32 := 512#32
  let v128 : BitVec 32 := Scalar.muli arg21 c512_i32_62
  let v129 : BitVec 32 := v128
  let c384_i32_179 : BitVec 32 := 384#32
  let v739 : BitVec 32 := Scalar.addi v129 c384_i32_179
  v739
def k0_mult39 (k0_t4 : Fin k0_t4_loop.trips) : BitVec 32 :=
  let c0_i32_14 : BitVec 32 := 0#32
  let c1_i32_16 : BitVec 32 := 1#32
  let arg20 : BitVec 32 := Scf.iv c0_i32_14 c1_i32_16 k0_t4
  let c256_i32 : BitVec 32 := 256#32
  let v32 : BitVec 32 := Scalar.muli arg20 c256_i32
  let v33 : BitVec 32 := v32
  let c160_i32 : BitVec 32 := 160#32
  let v777 : BitVec 32 := Scalar.addi v33 c160_i32
  v777
def k0_mult40 (k0_t5 : Fin k0_t5_loop.trips) : BitVec 32 :=
  let c0_i32_26 : BitVec 32 := 0#32
  let c1_i32_27 : BitVec 32 := 1#32
  let arg21 : BitVec 32 := Scf.iv c0_i32_26 c1_i32_27 k0_t5
  let c512_i32_62 : BitVec 32 := 512#32
  let v128 : BitVec 32 := Scalar.muli arg21 c512_i32_62
  let v129 : BitVec 32 := v128
  let c0_i32_188 : BitVec 32 := 0#32
  let v781 : BitVec 32 := Scalar.addi v129 c0_i32_188
  v781
def k0_mult41 (k0_t5 : Fin k0_t5_loop.trips) : BitVec 32 :=
  let c0_i32_26 : BitVec 32 := 0#32
  let c1_i32_27 : BitVec 32 := 1#32
  let arg21 : BitVec 32 := Scf.iv c0_i32_26 c1_i32_27 k0_t5
  let c512_i32_62 : BitVec 32 := 512#32
  let v128 : BitVec 32 := Scalar.muli arg21 c512_i32_62
  let v129 : BitVec 32 := v128
  let c128_i32_193 : BitVec 32 := 128#32
  let v809 : BitVec 32 := Scalar.addi v129 c128_i32_193
  v809
def k0_mult42 (k0_t5 : Fin k0_t5_loop.trips) : BitVec 32 :=
  let c0_i32_26 : BitVec 32 := 0#32
  let c1_i32_27 : BitVec 32 := 1#32
  let arg21 : BitVec 32 := Scf.iv c0_i32_26 c1_i32_27 k0_t5
  let c512_i32_62 : BitVec 32 := 512#32
  let v128 : BitVec 32 := Scalar.muli arg21 c512_i32_62
  let v129 : BitVec 32 := v128
  let c256_i32_198 : BitVec 32 := 256#32
  let v838 : BitVec 32 := Scalar.addi v129 c256_i32_198
  v838
def k0_mult43 (k0_t5 : Fin k0_t5_loop.trips) : BitVec 32 :=
  let c0_i32_26 : BitVec 32 := 0#32
  let c1_i32_27 : BitVec 32 := 1#32
  let arg21 : BitVec 32 := Scf.iv c0_i32_26 c1_i32_27 k0_t5
  let c512_i32_62 : BitVec 32 := 512#32
  let v128 : BitVec 32 := Scalar.muli arg21 c512_i32_62
  let v129 : BitVec 32 := v128
  let c384_i32_203 : BitVec 32 := 384#32
  let v867 : BitVec 32 := Scalar.addi v129 c384_i32_203
  v867
def k0_mult44 (k0_t4 : Fin k0_t4_loop.trips) : BitVec 32 :=
  let c0_i32_14 : BitVec 32 := 0#32
  let c1_i32_16 : BitVec 32 := 1#32
  let arg20 : BitVec 32 := Scf.iv c0_i32_14 c1_i32_16 k0_t4
  let c256_i32 : BitVec 32 := 256#32
  let v32 : BitVec 32 := Scalar.muli arg20 c256_i32
  let v33 : BitVec 32 := v32
  let c192_i32 : BitVec 32 := 192#32
  let v905 : BitVec 32 := Scalar.addi v33 c192_i32
  v905
def k0_mult45 (k0_t5 : Fin k0_t5_loop.trips) : BitVec 32 :=
  let c0_i32_26 : BitVec 32 := 0#32
  let c1_i32_27 : BitVec 32 := 1#32
  let arg21 : BitVec 32 := Scf.iv c0_i32_26 c1_i32_27 k0_t5
  let c512_i32_62 : BitVec 32 := 512#32
  let v128 : BitVec 32 := Scalar.muli arg21 c512_i32_62
  let v129 : BitVec 32 := v128
  let c0_i32_212 : BitVec 32 := 0#32
  let v909 : BitVec 32 := Scalar.addi v129 c0_i32_212
  v909
def k0_mult46 (k0_t5 : Fin k0_t5_loop.trips) : BitVec 32 :=
  let c0_i32_26 : BitVec 32 := 0#32
  let c1_i32_27 : BitVec 32 := 1#32
  let arg21 : BitVec 32 := Scf.iv c0_i32_26 c1_i32_27 k0_t5
  let c512_i32_62 : BitVec 32 := 512#32
  let v128 : BitVec 32 := Scalar.muli arg21 c512_i32_62
  let v129 : BitVec 32 := v128
  let c128_i32_217 : BitVec 32 := 128#32
  let v937 : BitVec 32 := Scalar.addi v129 c128_i32_217
  v937
def k0_mult47 (k0_t5 : Fin k0_t5_loop.trips) : BitVec 32 :=
  let c0_i32_26 : BitVec 32 := 0#32
  let c1_i32_27 : BitVec 32 := 1#32
  let arg21 : BitVec 32 := Scf.iv c0_i32_26 c1_i32_27 k0_t5
  let c512_i32_62 : BitVec 32 := 512#32
  let v128 : BitVec 32 := Scalar.muli arg21 c512_i32_62
  let v129 : BitVec 32 := v128
  let c256_i32_222 : BitVec 32 := 256#32
  let v966 : BitVec 32 := Scalar.addi v129 c256_i32_222
  v966
def k0_mult48 (k0_t5 : Fin k0_t5_loop.trips) : BitVec 32 :=
  let c0_i32_26 : BitVec 32 := 0#32
  let c1_i32_27 : BitVec 32 := 1#32
  let arg21 : BitVec 32 := Scf.iv c0_i32_26 c1_i32_27 k0_t5
  let c512_i32_62 : BitVec 32 := 512#32
  let v128 : BitVec 32 := Scalar.muli arg21 c512_i32_62
  let v129 : BitVec 32 := v128
  let c384_i32_227 : BitVec 32 := 384#32
  let v995 : BitVec 32 := Scalar.addi v129 c384_i32_227
  v995
def k0_mult49 (k0_t4 : Fin k0_t4_loop.trips) : BitVec 32 :=
  let c0_i32_14 : BitVec 32 := 0#32
  let c1_i32_16 : BitVec 32 := 1#32
  let arg20 : BitVec 32 := Scf.iv c0_i32_14 c1_i32_16 k0_t4
  let c256_i32 : BitVec 32 := 256#32
  let v32 : BitVec 32 := Scalar.muli arg20 c256_i32
  let v33 : BitVec 32 := v32
  let c224_i32 : BitVec 32 := 224#32
  let v1033 : BitVec 32 := Scalar.addi v33 c224_i32
  v1033
def k0_mult50 (k0_t5 : Fin k0_t5_loop.trips) : BitVec 32 :=
  let c0_i32_26 : BitVec 32 := 0#32
  let c1_i32_27 : BitVec 32 := 1#32
  let arg21 : BitVec 32 := Scf.iv c0_i32_26 c1_i32_27 k0_t5
  let c512_i32_62 : BitVec 32 := 512#32
  let v128 : BitVec 32 := Scalar.muli arg21 c512_i32_62
  let v129 : BitVec 32 := v128
  let c0_i32_236 : BitVec 32 := 0#32
  let v1037 : BitVec 32 := Scalar.addi v129 c0_i32_236
  v1037
def k0_mult51 (k0_t5 : Fin k0_t5_loop.trips) : BitVec 32 :=
  let c0_i32_26 : BitVec 32 := 0#32
  let c1_i32_27 : BitVec 32 := 1#32
  let arg21 : BitVec 32 := Scf.iv c0_i32_26 c1_i32_27 k0_t5
  let c512_i32_62 : BitVec 32 := 512#32
  let v128 : BitVec 32 := Scalar.muli arg21 c512_i32_62
  let v129 : BitVec 32 := v128
  let c128_i32_241 : BitVec 32 := 128#32
  let v1065 : BitVec 32 := Scalar.addi v129 c128_i32_241
  v1065
def k0_mult52 (k0_t5 : Fin k0_t5_loop.trips) : BitVec 32 :=
  let c0_i32_26 : BitVec 32 := 0#32
  let c1_i32_27 : BitVec 32 := 1#32
  let arg21 : BitVec 32 := Scf.iv c0_i32_26 c1_i32_27 k0_t5
  let c512_i32_62 : BitVec 32 := 512#32
  let v128 : BitVec 32 := Scalar.muli arg21 c512_i32_62
  let v129 : BitVec 32 := v128
  let c256_i32_246 : BitVec 32 := 256#32
  let v1094 : BitVec 32 := Scalar.addi v129 c256_i32_246
  v1094
def k0_mult53 (k0_t5 : Fin k0_t5_loop.trips) : BitVec 32 :=
  let c0_i32_26 : BitVec 32 := 0#32
  let c1_i32_27 : BitVec 32 := 1#32
  let arg21 : BitVec 32 := Scf.iv c0_i32_26 c1_i32_27 k0_t5
  let c512_i32_62 : BitVec 32 := 512#32
  let v128 : BitVec 32 := Scalar.muli arg21 c512_i32_62
  let v129 : BitVec 32 := v128
  let c384_i32_251 : BitVec 32 := 384#32
  let v1123 : BitVec 32 := Scalar.addi v129 c384_i32_251
  v1123
@[reducible] def k0_t6_loop : Scf.Loop 32 :=
  let c0_i32_29 : BitVec 32 := 0#32
  let c8_i32 : BitVec 32 := 8#32
  let v35 : BitVec 32 := Scalar.addi c0_i32_29 c8_i32
  let c1_i32_30 : BitVec 32 := 1#32
  ⟨c0_i32_29, v35, c1_i32_30⟩
def k0_mult54 (k0_t6 : Fin k0_t6_loop.trips) : BitVec 32 :=
  let c0_i32_29 : BitVec 32 := 0#32
  let c1_i32_30 : BitVec 32 := 1#32
  let arg21 : BitVec 32 := Scf.iv c0_i32_29 c1_i32_30 k0_t6
  let c32_i32 : BitVec 32 := 32#32
  let v128 : BitVec 32 := Scalar.muli arg21 c32_i32
  v128
def k0_mult55 (k0_t4 : Fin k0_t4_loop.trips) (k0_t6 : Fin k0_t6_loop.trips) : BitVec 32 :=
  let c0_i32_14 : BitVec 32 := 0#32
  let c1_i32_16 : BitVec 32 := 1#32
  let arg20 : BitVec 32 := Scf.iv c0_i32_14 c1_i32_16 k0_t4
  let c256_i32 : BitVec 32 := 256#32
  let v32 : BitVec 32 := Scalar.muli arg20 c256_i32
  let v33 : BitVec 32 := v32
  let c0_i32_29 : BitVec 32 := 0#32
  let c1_i32_30 : BitVec 32 := 1#32
  let arg21 : BitVec 32 := Scf.iv c0_i32_29 c1_i32_30 k0_t6
  let c32_i32 : BitVec 32 := 32#32
  let v128 : BitVec 32 := Scalar.muli arg21 c32_i32
  let v129 : BitVec 32 := v128
  let v130 : BitVec 32 := Scalar.addi v33 v129
  v130
def k0_off42 (k0_t4 : Fin k0_t4_loop.trips) (k0_t6 : Fin k0_t6_loop.trips) : Fin 2 → Nat :=
  let c0_i32_14 : BitVec 32 := 0#32
  let c1_i32_16 : BitVec 32 := 1#32
  let arg20 : BitVec 32 := Scf.iv c0_i32_14 c1_i32_16 k0_t4
  let c256_i32 : BitVec 32 := 256#32
  let v32 : BitVec 32 := Scalar.muli arg20 c256_i32
  let v33 : BitVec 32 := v32
  let c0_i32_29 : BitVec 32 := 0#32
  let c1_i32_30 : BitVec 32 := 1#32
  let arg21 : BitVec 32 := Scf.iv c0_i32_29 c1_i32_30 k0_t6
  let c32_i32 : BitVec 32 := 32#32
  let v128 : BitVec 32 := Scalar.muli arg21 c32_i32
  let v129 : BitVec 32 := v128
  let v130 : BitVec 32 := Scalar.addi v33 v129
  let v131 : BitVec 32 := v130
  let v132 : Index := Scalar.indexCast v131
  let c0_62 : Index := 0#32
  ![v132.toNat, 0]
def k0_off43 (k0_t4 : Fin k0_t4_loop.trips) (k0_t6 : Fin k0_t6_loop.trips) : Fin 2 → Nat :=
  let c0_i32_14 : BitVec 32 := 0#32
  let c1_i32_16 : BitVec 32 := 1#32
  let arg20 : BitVec 32 := Scf.iv c0_i32_14 c1_i32_16 k0_t4
  let c256_i32 : BitVec 32 := 256#32
  let v32 : BitVec 32 := Scalar.muli arg20 c256_i32
  let v33 : BitVec 32 := v32
  let c0_i32_29 : BitVec 32 := 0#32
  let c1_i32_30 : BitVec 32 := 1#32
  let arg21 : BitVec 32 := Scf.iv c0_i32_29 c1_i32_30 k0_t6
  let c32_i32 : BitVec 32 := 32#32
  let v128 : BitVec 32 := Scalar.muli arg21 c32_i32
  let v129 : BitVec 32 := v128
  let v130 : BitVec 32 := Scalar.addi v33 v129
  let v131 : BitVec 32 := v130
  let v197 : Index := Scalar.indexCast v131
  let c0_68 : Index := 0#32
  ![v197.toNat, 0]
def k0_off44 (k0_t4 : Fin k0_t4_loop.trips) (k0_t6 : Fin k0_t6_loop.trips) : Fin 2 → Nat :=
  let c0_i32_14 : BitVec 32 := 0#32
  let c1_i32_16 : BitVec 32 := 1#32
  let arg20 : BitVec 32 := Scf.iv c0_i32_14 c1_i32_16 k0_t4
  let c256_i32 : BitVec 32 := 256#32
  let v32 : BitVec 32 := Scalar.muli arg20 c256_i32
  let v33 : BitVec 32 := v32
  let c0_i32_29 : BitVec 32 := 0#32
  let c1_i32_30 : BitVec 32 := 1#32
  let arg21 : BitVec 32 := Scf.iv c0_i32_29 c1_i32_30 k0_t6
  let c32_i32 : BitVec 32 := 32#32
  let v128 : BitVec 32 := Scalar.muli arg21 c32_i32
  let v129 : BitVec 32 := v128
  let v130 : BitVec 32 := Scalar.addi v33 v129
  let v131 : BitVec 32 := v130
  let v207 : Index := Scalar.indexCast v131
  let c128 : Index := 128#32
  ![v207.toNat, 128]
def k0_off45 (k0_t4 : Fin k0_t4_loop.trips) (k0_t6 : Fin k0_t6_loop.trips) : Fin 2 → Nat :=
  let c0_i32_14 : BitVec 32 := 0#32
  let c1_i32_16 : BitVec 32 := 1#32
  let arg20 : BitVec 32 := Scf.iv c0_i32_14 c1_i32_16 k0_t4
  let c256_i32 : BitVec 32 := 256#32
  let v32 : BitVec 32 := Scalar.muli arg20 c256_i32
  let v33 : BitVec 32 := v32
  let c0_i32_29 : BitVec 32 := 0#32
  let c1_i32_30 : BitVec 32 := 1#32
  let arg21 : BitVec 32 := Scf.iv c0_i32_29 c1_i32_30 k0_t6
  let c32_i32 : BitVec 32 := 32#32
  let v128 : BitVec 32 := Scalar.muli arg21 c32_i32
  let v129 : BitVec 32 := v128
  let v130 : BitVec 32 := Scalar.addi v33 v129
  let v131 : BitVec 32 := v130
  let v217 : Index := Scalar.indexCast v131
  let c256 : Index := 256#32
  ![v217.toNat, 256]
def k0_off46 (k0_t4 : Fin k0_t4_loop.trips) (k0_t6 : Fin k0_t6_loop.trips) : Fin 2 → Nat :=
  let c0_i32_14 : BitVec 32 := 0#32
  let c1_i32_16 : BitVec 32 := 1#32
  let arg20 : BitVec 32 := Scf.iv c0_i32_14 c1_i32_16 k0_t4
  let c256_i32 : BitVec 32 := 256#32
  let v32 : BitVec 32 := Scalar.muli arg20 c256_i32
  let v33 : BitVec 32 := v32
  let c0_i32_29 : BitVec 32 := 0#32
  let c1_i32_30 : BitVec 32 := 1#32
  let arg21 : BitVec 32 := Scf.iv c0_i32_29 c1_i32_30 k0_t6
  let c32_i32 : BitVec 32 := 32#32
  let v128 : BitVec 32 := Scalar.muli arg21 c32_i32
  let v129 : BitVec 32 := v128
  let v130 : BitVec 32 := Scalar.addi v33 v129
  let v131 : BitVec 32 := v130
  let v227 : Index := Scalar.indexCast v131
  let c384 : Index := 384#32
  ![v227.toNat, 384]
def k0_off47 (k0_t4 : Fin k0_t4_loop.trips) (k0_t6 : Fin k0_t6_loop.trips) : Fin 2 → Nat :=
  let c0_i32_14 : BitVec 32 := 0#32
  let c1_i32_16 : BitVec 32 := 1#32
  let arg20 : BitVec 32 := Scf.iv c0_i32_14 c1_i32_16 k0_t4
  let c256_i32 : BitVec 32 := 256#32
  let v32 : BitVec 32 := Scalar.muli arg20 c256_i32
  let v33 : BitVec 32 := v32
  let c0_i32_29 : BitVec 32 := 0#32
  let c1_i32_30 : BitVec 32 := 1#32
  let arg21 : BitVec 32 := Scf.iv c0_i32_29 c1_i32_30 k0_t6
  let c32_i32 : BitVec 32 := 32#32
  let v128 : BitVec 32 := Scalar.muli arg21 c32_i32
  let v129 : BitVec 32 := v128
  let v130 : BitVec 32 := Scalar.addi v33 v129
  let v131 : BitVec 32 := v130
  let v237 : Index := Scalar.indexCast v131
  let c512 : Index := 512#32
  ![v237.toNat, 512]
def k0_off48 (k0_t4 : Fin k0_t4_loop.trips) (k0_t6 : Fin k0_t6_loop.trips) : Fin 2 → Nat :=
  let c0_i32_14 : BitVec 32 := 0#32
  let c1_i32_16 : BitVec 32 := 1#32
  let arg20 : BitVec 32 := Scf.iv c0_i32_14 c1_i32_16 k0_t4
  let c256_i32 : BitVec 32 := 256#32
  let v32 : BitVec 32 := Scalar.muli arg20 c256_i32
  let v33 : BitVec 32 := v32
  let c0_i32_29 : BitVec 32 := 0#32
  let c1_i32_30 : BitVec 32 := 1#32
  let arg21 : BitVec 32 := Scf.iv c0_i32_29 c1_i32_30 k0_t6
  let c32_i32 : BitVec 32 := 32#32
  let v128 : BitVec 32 := Scalar.muli arg21 c32_i32
  let v129 : BitVec 32 := v128
  let v130 : BitVec 32 := Scalar.addi v33 v129
  let v131 : BitVec 32 := v130
  let v247 : Index := Scalar.indexCast v131
  let c640 : Index := 640#32
  ![v247.toNat, 640]
def k0_off49 (k0_t4 : Fin k0_t4_loop.trips) (k0_t6 : Fin k0_t6_loop.trips) : Fin 2 → Nat :=
  let c0_i32_14 : BitVec 32 := 0#32
  let c1_i32_16 : BitVec 32 := 1#32
  let arg20 : BitVec 32 := Scf.iv c0_i32_14 c1_i32_16 k0_t4
  let c256_i32 : BitVec 32 := 256#32
  let v32 : BitVec 32 := Scalar.muli arg20 c256_i32
  let v33 : BitVec 32 := v32
  let c0_i32_29 : BitVec 32 := 0#32
  let c1_i32_30 : BitVec 32 := 1#32
  let arg21 : BitVec 32 := Scf.iv c0_i32_29 c1_i32_30 k0_t6
  let c32_i32 : BitVec 32 := 32#32
  let v128 : BitVec 32 := Scalar.muli arg21 c32_i32
  let v129 : BitVec 32 := v128
  let v130 : BitVec 32 := Scalar.addi v33 v129
  let v131 : BitVec 32 := v130
  let v257 : Index := Scalar.indexCast v131
  let c768 : Index := 768#32
  ![v257.toNat, 768]
def k0_off50 (k0_t4 : Fin k0_t4_loop.trips) (k0_t6 : Fin k0_t6_loop.trips) : Fin 2 → Nat :=
  let c0_i32_14 : BitVec 32 := 0#32
  let c1_i32_16 : BitVec 32 := 1#32
  let arg20 : BitVec 32 := Scf.iv c0_i32_14 c1_i32_16 k0_t4
  let c256_i32 : BitVec 32 := 256#32
  let v32 : BitVec 32 := Scalar.muli arg20 c256_i32
  let v33 : BitVec 32 := v32
  let c0_i32_29 : BitVec 32 := 0#32
  let c1_i32_30 : BitVec 32 := 1#32
  let arg21 : BitVec 32 := Scf.iv c0_i32_29 c1_i32_30 k0_t6
  let c32_i32 : BitVec 32 := 32#32
  let v128 : BitVec 32 := Scalar.muli arg21 c32_i32
  let v129 : BitVec 32 := v128
  let v130 : BitVec 32 := Scalar.addi v33 v129
  let v131 : BitVec 32 := v130
  let v267 : Index := Scalar.indexCast v131
  let c896 : Index := 896#32
  ![v267.toNat, 896]
def k0_off51 (k0_t4 : Fin k0_t4_loop.trips) (k0_t6 : Fin k0_t6_loop.trips) : Fin 2 → Nat :=
  let c0_i32_14 : BitVec 32 := 0#32
  let c1_i32_16 : BitVec 32 := 1#32
  let arg20 : BitVec 32 := Scf.iv c0_i32_14 c1_i32_16 k0_t4
  let c256_i32 : BitVec 32 := 256#32
  let v32 : BitVec 32 := Scalar.muli arg20 c256_i32
  let v33 : BitVec 32 := v32
  let c0_i32_29 : BitVec 32 := 0#32
  let c1_i32_30 : BitVec 32 := 1#32
  let arg21 : BitVec 32 := Scf.iv c0_i32_29 c1_i32_30 k0_t6
  let c32_i32 : BitVec 32 := 32#32
  let v128 : BitVec 32 := Scalar.muli arg21 c32_i32
  let v129 : BitVec 32 := v128
  let v130 : BitVec 32 := Scalar.addi v33 v129
  let v131 : BitVec 32 := v130
  let v277 : Index := Scalar.indexCast v131
  let c1024 : Index := 1024#32
  ![v277.toNat, 1024]
def k0_off52 (k0_t4 : Fin k0_t4_loop.trips) (k0_t6 : Fin k0_t6_loop.trips) : Fin 2 → Nat :=
  let c0_i32_14 : BitVec 32 := 0#32
  let c1_i32_16 : BitVec 32 := 1#32
  let arg20 : BitVec 32 := Scf.iv c0_i32_14 c1_i32_16 k0_t4
  let c256_i32 : BitVec 32 := 256#32
  let v32 : BitVec 32 := Scalar.muli arg20 c256_i32
  let v33 : BitVec 32 := v32
  let c0_i32_29 : BitVec 32 := 0#32
  let c1_i32_30 : BitVec 32 := 1#32
  let arg21 : BitVec 32 := Scf.iv c0_i32_29 c1_i32_30 k0_t6
  let c32_i32 : BitVec 32 := 32#32
  let v128 : BitVec 32 := Scalar.muli arg21 c32_i32
  let v129 : BitVec 32 := v128
  let v130 : BitVec 32 := Scalar.addi v33 v129
  let v131 : BitVec 32 := v130
  let v287 : Index := Scalar.indexCast v131
  let c1152 : Index := 1152#32
  ![v287.toNat, 1152]
def k0_off53 (k0_t4 : Fin k0_t4_loop.trips) (k0_t6 : Fin k0_t6_loop.trips) : Fin 2 → Nat :=
  let c0_i32_14 : BitVec 32 := 0#32
  let c1_i32_16 : BitVec 32 := 1#32
  let arg20 : BitVec 32 := Scf.iv c0_i32_14 c1_i32_16 k0_t4
  let c256_i32 : BitVec 32 := 256#32
  let v32 : BitVec 32 := Scalar.muli arg20 c256_i32
  let v33 : BitVec 32 := v32
  let c0_i32_29 : BitVec 32 := 0#32
  let c1_i32_30 : BitVec 32 := 1#32
  let arg21 : BitVec 32 := Scf.iv c0_i32_29 c1_i32_30 k0_t6
  let c32_i32 : BitVec 32 := 32#32
  let v128 : BitVec 32 := Scalar.muli arg21 c32_i32
  let v129 : BitVec 32 := v128
  let v130 : BitVec 32 := Scalar.addi v33 v129
  let v131 : BitVec 32 := v130
  let v297 : Index := Scalar.indexCast v131
  let c1280 : Index := 1280#32
  ![v297.toNat, 1280]
def k0_off54 (k0_t4 : Fin k0_t4_loop.trips) (k0_t6 : Fin k0_t6_loop.trips) : Fin 2 → Nat :=
  let c0_i32_14 : BitVec 32 := 0#32
  let c1_i32_16 : BitVec 32 := 1#32
  let arg20 : BitVec 32 := Scf.iv c0_i32_14 c1_i32_16 k0_t4
  let c256_i32 : BitVec 32 := 256#32
  let v32 : BitVec 32 := Scalar.muli arg20 c256_i32
  let v33 : BitVec 32 := v32
  let c0_i32_29 : BitVec 32 := 0#32
  let c1_i32_30 : BitVec 32 := 1#32
  let arg21 : BitVec 32 := Scf.iv c0_i32_29 c1_i32_30 k0_t6
  let c32_i32 : BitVec 32 := 32#32
  let v128 : BitVec 32 := Scalar.muli arg21 c32_i32
  let v129 : BitVec 32 := v128
  let v130 : BitVec 32 := Scalar.addi v33 v129
  let v131 : BitVec 32 := v130
  let v307 : Index := Scalar.indexCast v131
  let c1408 : Index := 1408#32
  ![v307.toNat, 1408]
def k0_off55 (k0_t4 : Fin k0_t4_loop.trips) (k0_t6 : Fin k0_t6_loop.trips) : Fin 2 → Nat :=
  let c0_i32_14 : BitVec 32 := 0#32
  let c1_i32_16 : BitVec 32 := 1#32
  let arg20 : BitVec 32 := Scf.iv c0_i32_14 c1_i32_16 k0_t4
  let c256_i32 : BitVec 32 := 256#32
  let v32 : BitVec 32 := Scalar.muli arg20 c256_i32
  let v33 : BitVec 32 := v32
  let c0_i32_29 : BitVec 32 := 0#32
  let c1_i32_30 : BitVec 32 := 1#32
  let arg21 : BitVec 32 := Scf.iv c0_i32_29 c1_i32_30 k0_t6
  let c32_i32 : BitVec 32 := 32#32
  let v128 : BitVec 32 := Scalar.muli arg21 c32_i32
  let v129 : BitVec 32 := v128
  let v130 : BitVec 32 := Scalar.addi v33 v129
  let v131 : BitVec 32 := v130
  let v317 : Index := Scalar.indexCast v131
  let c1536 : Index := 1536#32
  ![v317.toNat, 1536]
def k0_off56 (k0_t4 : Fin k0_t4_loop.trips) (k0_t6 : Fin k0_t6_loop.trips) : Fin 2 → Nat :=
  let c0_i32_14 : BitVec 32 := 0#32
  let c1_i32_16 : BitVec 32 := 1#32
  let arg20 : BitVec 32 := Scf.iv c0_i32_14 c1_i32_16 k0_t4
  let c256_i32 : BitVec 32 := 256#32
  let v32 : BitVec 32 := Scalar.muli arg20 c256_i32
  let v33 : BitVec 32 := v32
  let c0_i32_29 : BitVec 32 := 0#32
  let c1_i32_30 : BitVec 32 := 1#32
  let arg21 : BitVec 32 := Scf.iv c0_i32_29 c1_i32_30 k0_t6
  let c32_i32 : BitVec 32 := 32#32
  let v128 : BitVec 32 := Scalar.muli arg21 c32_i32
  let v129 : BitVec 32 := v128
  let v130 : BitVec 32 := Scalar.addi v33 v129
  let v131 : BitVec 32 := v130
  let v327 : Index := Scalar.indexCast v131
  let c1664 : Index := 1664#32
  ![v327.toNat, 1664]
def k0_off57 (k0_t4 : Fin k0_t4_loop.trips) (k0_t6 : Fin k0_t6_loop.trips) : Fin 2 → Nat :=
  let c0_i32_14 : BitVec 32 := 0#32
  let c1_i32_16 : BitVec 32 := 1#32
  let arg20 : BitVec 32 := Scf.iv c0_i32_14 c1_i32_16 k0_t4
  let c256_i32 : BitVec 32 := 256#32
  let v32 : BitVec 32 := Scalar.muli arg20 c256_i32
  let v33 : BitVec 32 := v32
  let c0_i32_29 : BitVec 32 := 0#32
  let c1_i32_30 : BitVec 32 := 1#32
  let arg21 : BitVec 32 := Scf.iv c0_i32_29 c1_i32_30 k0_t6
  let c32_i32 : BitVec 32 := 32#32
  let v128 : BitVec 32 := Scalar.muli arg21 c32_i32
  let v129 : BitVec 32 := v128
  let v130 : BitVec 32 := Scalar.addi v33 v129
  let v131 : BitVec 32 := v130
  let v337 : Index := Scalar.indexCast v131
  let c1792 : Index := 1792#32
  ![v337.toNat, 1792]
def k0_off58 (k0_t4 : Fin k0_t4_loop.trips) (k0_t6 : Fin k0_t6_loop.trips) : Fin 2 → Nat :=
  let c0_i32_14 : BitVec 32 := 0#32
  let c1_i32_16 : BitVec 32 := 1#32
  let arg20 : BitVec 32 := Scf.iv c0_i32_14 c1_i32_16 k0_t4
  let c256_i32 : BitVec 32 := 256#32
  let v32 : BitVec 32 := Scalar.muli arg20 c256_i32
  let v33 : BitVec 32 := v32
  let c0_i32_29 : BitVec 32 := 0#32
  let c1_i32_30 : BitVec 32 := 1#32
  let arg21 : BitVec 32 := Scf.iv c0_i32_29 c1_i32_30 k0_t6
  let c32_i32 : BitVec 32 := 32#32
  let v128 : BitVec 32 := Scalar.muli arg21 c32_i32
  let v129 : BitVec 32 := v128
  let v130 : BitVec 32 := Scalar.addi v33 v129
  let v131 : BitVec 32 := v130
  let v347 : Index := Scalar.indexCast v131
  let c1920 : Index := 1920#32
  ![v347.toNat, 1920]
def k0_mult56 (k0_t4 : Fin k0_t4_loop.trips) : BitVec 32 :=
  let c0_i32_14 : BitVec 32 := 0#32
  let c1_i32_16 : BitVec 32 := 1#32
  let arg20 : BitVec 32 := Scf.iv c0_i32_14 c1_i32_16 k0_t4
  let c256_i32 : BitVec 32 := 256#32
  let v32 : BitVec 32 := Scalar.muli arg20 c256_i32
  let v33 : BitVec 32 := v32
  let c0_i32_32 : BitVec 32 := 0#32
  let v36 : BitVec 32 := Scalar.addi v33 c0_i32_32
  v36
def k0_off59 (k0_t4 : Fin k0_t4_loop.trips) (c0_i32_32 : BitVec 32) : Fin 2 → Nat :=
  let c0_i32_14 : BitVec 32 := 0#32
  let c1_i32_16 : BitVec 32 := 1#32
  let arg20 : BitVec 32 := Scf.iv c0_i32_14 c1_i32_16 k0_t4
  let c256_i32 : BitVec 32 := 256#32
  let v32 : BitVec 32 := Scalar.muli arg20 c256_i32
  let v33 : BitVec 32 := v32
  let v36 : BitVec 32 := Scalar.addi v33 c0_i32_32
  let v37 : BitVec 32 := v36
  let v38 : Index := Scalar.indexCast v37
  let c0 : Index := 0#32
  ![v38.toNat, 0]
def k0_mult57 (i : grid0.Coords) : BitVec 32 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c0_i32_34 : BitVec 32 := 0#32
  let v42 : BitVec 1 := Scalar.cmpi .sgt v16 c0_i32_34
  let v43 : BitVec 32 := Scalar.extui v42
  let c0_i32_35 : BitVec 32 := 0#32
  let v44 : BitVec 1 := Scalar.cmpi .slt v16 c0_i32_35
  let v45 : BitVec 32 := Scalar.extui v44
  let v46 : BitVec 32 := Scalar.subi v43 v45
  let c8_i32_33 : BitVec 32 := 8#32
  let c0_i32_36 : BitVec 32 := 0#32
  let v47 : BitVec 1 := Scalar.cmpi .sgt c8_i32_33 c0_i32_36
  let v48 : BitVec 32 := Scalar.extui v47
  let c0_i32_37 : BitVec 32 := 0#32
  let v49 : BitVec 1 := Scalar.cmpi .slt c8_i32_33 c0_i32_37
  let v50 : BitVec 32 := Scalar.extui v49
  let v51 : BitVec 32 := Scalar.subi v48 v50
  let v52 : BitVec 1 := Scalar.cmpi .ne v46 v51
  let v53 : BitVec 32 := Scalar.remsi v16 c8_i32_33
  let c0_i32_38 : BitVec 32 := 0#32
  let v54 : BitVec 1 := Scalar.cmpi .ne v53 c0_i32_38
  let v55 : BitVec 1 := Scalar.andi v52 v54
  let v41 : BitVec 32 := Scalar.divsi v16 c8_i32_33
  let c1_i32_39 : BitVec 32 := 1#32
  let v56 : BitVec 32 := Scalar.subi v41 c1_i32_39
  let v57 : BitVec 32 := Scalar.select v55 v56 v41
  let c8_i32_40 : BitVec 32 := 8#32
  let v58 : BitVec 32 := Scalar.muli v57 c8_i32_40
  v58
def k0_mult58 (i : grid0.Coords) (k0_t4 : Fin k0_t4_loop.trips) : BitVec 32 :=
  let arg0 : BitVec 32 := BitVec.ofNat 32 (i 0).val
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c512_i32 : BitVec 32 := 512#32
  let v27 : BitVec 32 := Scalar.muli v26 c512_i32
  let c0_i32_14 : BitVec 32 := 0#32
  let c1_i32_16 : BitVec 32 := 1#32
  let arg20 : BitVec 32 := Scf.iv c0_i32_14 c1_i32_16 k0_t4
  let c256_i32 : BitVec 32 := 256#32
  let v32 : BitVec 32 := Scalar.muli arg20 c256_i32
  let v33 : BitVec 32 := v32
  let c0_i32_32 : BitVec 32 := 0#32
  let v36 : BitVec 32 := Scalar.addi v33 c0_i32_32
  let v60 : BitVec 32 := Scalar.addi v27 v36
  v60
def k0_off60 (i : grid0.Coords) (k0_t4 : Fin k0_t4_loop.trips) (c0_i32_32 : BitVec 32) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c0_i32_34 : BitVec 32 := 0#32
  let v42 : BitVec 1 := Scalar.cmpi .sgt v16 c0_i32_34
  let v43 : BitVec 32 := Scalar.extui v42
  let c0_i32_35 : BitVec 32 := 0#32
  let v44 : BitVec 1 := Scalar.cmpi .slt v16 c0_i32_35
  let v45 : BitVec 32 := Scalar.extui v44
  let v46 : BitVec 32 := Scalar.subi v43 v45
  let c8_i32_33 : BitVec 32 := 8#32
  let c0_i32_36 : BitVec 32 := 0#32
  let v47 : BitVec 1 := Scalar.cmpi .sgt c8_i32_33 c0_i32_36
  let v48 : BitVec 32 := Scalar.extui v47
  let c0_i32_37 : BitVec 32 := 0#32
  let v49 : BitVec 1 := Scalar.cmpi .slt c8_i32_33 c0_i32_37
  let v50 : BitVec 32 := Scalar.extui v49
  let v51 : BitVec 32 := Scalar.subi v48 v50
  let v52 : BitVec 1 := Scalar.cmpi .ne v46 v51
  let v53 : BitVec 32 := Scalar.remsi v16 c8_i32_33
  let c0_i32_38 : BitVec 32 := 0#32
  let v54 : BitVec 1 := Scalar.cmpi .ne v53 c0_i32_38
  let v55 : BitVec 1 := Scalar.andi v52 v54
  let v41 : BitVec 32 := Scalar.divsi v16 c8_i32_33
  let c1_i32_39 : BitVec 32 := 1#32
  let v56 : BitVec 32 := Scalar.subi v41 c1_i32_39
  let v57 : BitVec 32 := Scalar.select v55 v56 v41
  let c8_i32_40 : BitVec 32 := 8#32
  let v58 : BitVec 32 := Scalar.muli v57 c8_i32_40
  let v59 : BitVec 32 := v58
  let v76 : Index := Scalar.indexCast v59
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c512_i32 : BitVec 32 := 512#32
  let v27 : BitVec 32 := Scalar.muli v26 c512_i32
  let c0_i32_14 : BitVec 32 := 0#32
  let c1_i32_16 : BitVec 32 := 1#32
  let arg20 : BitVec 32 := Scf.iv c0_i32_14 c1_i32_16 k0_t4
  let c256_i32 : BitVec 32 := 256#32
  let v32 : BitVec 32 := Scalar.muli arg20 c256_i32
  let v33 : BitVec 32 := v32
  let v36 : BitVec 32 := Scalar.addi v33 c0_i32_32
  let v60 : BitVec 32 := Scalar.addi v27 v36
  let v61 : BitVec 32 := v60
  let v77 : Index := Scalar.indexCast v61
  ![v76.toNat, v77.toNat]
def k0_mult59 (k0_t4 : Fin k0_t4_loop.trips) : BitVec 32 :=
  let c0_i32_14 : BitVec 32 := 0#32
  let c1_i32_16 : BitVec 32 := 1#32
  let arg20 : BitVec 32 := Scf.iv c0_i32_14 c1_i32_16 k0_t4
  let c256_i32 : BitVec 32 := 256#32
  let v32 : BitVec 32 := Scalar.muli arg20 c256_i32
  let v33 : BitVec 32 := v32
  let c128_i32 : BitVec 32 := 128#32
  let v82 : BitVec 32 := Scalar.addi v33 c128_i32
  v82
def k0_mult60 (i : grid0.Coords) : BitVec 32 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c0_i32_49 : BitVec 32 := 0#32
  let v88 : BitVec 1 := Scalar.cmpi .sgt v16 c0_i32_49
  let v89 : BitVec 32 := Scalar.extui v88
  let c0_i32_50 : BitVec 32 := 0#32
  let v90 : BitVec 1 := Scalar.cmpi .slt v16 c0_i32_50
  let v91 : BitVec 32 := Scalar.extui v90
  let v92 : BitVec 32 := Scalar.subi v89 v91
  let c8_i32_48 : BitVec 32 := 8#32
  let c0_i32_51 : BitVec 32 := 0#32
  let v93 : BitVec 1 := Scalar.cmpi .sgt c8_i32_48 c0_i32_51
  let v94 : BitVec 32 := Scalar.extui v93
  let c0_i32_52 : BitVec 32 := 0#32
  let v95 : BitVec 1 := Scalar.cmpi .slt c8_i32_48 c0_i32_52
  let v96 : BitVec 32 := Scalar.extui v95
  let v97 : BitVec 32 := Scalar.subi v94 v96
  let v98 : BitVec 1 := Scalar.cmpi .ne v92 v97
  let v99 : BitVec 32 := Scalar.remsi v16 c8_i32_48
  let c0_i32_53 : BitVec 32 := 0#32
  let v100 : BitVec 1 := Scalar.cmpi .ne v99 c0_i32_53
  let v101 : BitVec 1 := Scalar.andi v98 v100
  let v87 : BitVec 32 := Scalar.divsi v16 c8_i32_48
  let c1_i32_54 : BitVec 32 := 1#32
  let v102 : BitVec 32 := Scalar.subi v87 c1_i32_54
  let v103 : BitVec 32 := Scalar.select v101 v102 v87
  let c8_i32_55 : BitVec 32 := 8#32
  let v104 : BitVec 32 := Scalar.muli v103 c8_i32_55
  v104
def k0_mult61 (i : grid0.Coords) (k0_t4 : Fin k0_t4_loop.trips) : BitVec 32 :=
  let arg0 : BitVec 32 := BitVec.ofNat 32 (i 0).val
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c512_i32 : BitVec 32 := 512#32
  let v27 : BitVec 32 := Scalar.muli v26 c512_i32
  let c0_i32_14 : BitVec 32 := 0#32
  let c1_i32_16 : BitVec 32 := 1#32
  let arg20 : BitVec 32 := Scf.iv c0_i32_14 c1_i32_16 k0_t4
  let c256_i32 : BitVec 32 := 256#32
  let v32 : BitVec 32 := Scalar.muli arg20 c256_i32
  let v33 : BitVec 32 := v32
  let c128_i32 : BitVec 32 := 128#32
  let v82 : BitVec 32 := Scalar.addi v33 c128_i32
  let v106 : BitVec 32 := Scalar.addi v27 v82
  v106
@[reducible] def k0_t7_loop : Scf.Loop 32 :=
  let c0_i32_18 : BitVec 32 := 0#32
  let c2_i32_19 : BitVec 32 := 2#32
  let v30 : BitVec 32 := Scalar.addi c0_i32_18 c2_i32_19
  let c1_i32_20 : BitVec 32 := 1#32
  ⟨c0_i32_18, v30, c1_i32_20⟩
def k0_mult62 (k0_t7 : Fin k0_t7_loop.trips) : BitVec 32 :=
  let c0_i32_18 : BitVec 32 := 0#32
  let c1_i32_20 : BitVec 32 := 1#32
  let arg20 : BitVec 32 := Scf.iv c0_i32_18 c1_i32_20 k0_t7
  let c256_i32 : BitVec 32 := 256#32
  let v32 : BitVec 32 := Scalar.muli arg20 c256_i32
  v32
@[reducible] def k0_t8_loop : Scf.Loop 32 :=
  let c0_i32_26 : BitVec 32 := 0#32
  let c4_i32 : BitVec 32 := 4#32
  let v34 : BitVec 32 := Scalar.addi c0_i32_26 c4_i32
  let c1_i32_27 : BitVec 32 := 1#32
  ⟨c0_i32_26, v34, c1_i32_27⟩
def k0_mult63 (k0_t8 : Fin k0_t8_loop.trips) : BitVec 32 :=
  let c0_i32_26 : BitVec 32 := 0#32
  let c1_i32_27 : BitVec 32 := 1#32
  let arg21 : BitVec 32 := Scf.iv c0_i32_26 c1_i32_27 k0_t8
  let c512_i32_62 : BitVec 32 := 512#32
  let v128 : BitVec 32 := Scalar.muli arg21 c512_i32_62
  v128
def k0_off61 (k0_t7 : Fin k0_t7_loop.trips) : Fin 2 → Nat :=
  let c0_i32_18 : BitVec 32 := 0#32
  let c1_i32_20 : BitVec 32 := 1#32
  let arg20 : BitVec 32 := Scf.iv c0_i32_18 c1_i32_20 k0_t7
  let c256_i32 : BitVec 32 := 256#32
  let v32 : BitVec 32 := Scalar.muli arg20 c256_i32
  let v33 : BitVec 32 := v32
  let v130 : Index := Scalar.indexCast v33
  let c0_63 : Index := 0#32
  ![v130.toNat, 0]
def k0_off62 (k0_t8 : Fin k0_t8_loop.trips) : Fin 3 → Nat :=
  let c1 : Index := 1#32
  let c0_64 : Index := 0#32
  let c0_i32_26 : BitVec 32 := 0#32
  let c1_i32_27 : BitVec 32 := 1#32
  let arg21 : BitVec 32 := Scf.iv c0_i32_26 c1_i32_27 k0_t8
  let c512_i32_62 : BitVec 32 := 512#32
  let v128 : BitVec 32 := Scalar.muli arg21 c512_i32_62
  let v129 : BitVec 32 := v128
  let v133 : Index := Scalar.indexCast v129
  ![1, 0, v133.toNat]
def k0_mult64 (k0_t7 : Fin k0_t7_loop.trips) : BitVec 32 :=
  let c0_i32_18 : BitVec 32 := 0#32
  let c1_i32_20 : BitVec 32 := 1#32
  let arg20 : BitVec 32 := Scf.iv c0_i32_18 c1_i32_20 k0_t7
  let c256_i32 : BitVec 32 := 256#32
  let v32 : BitVec 32 := Scalar.muli arg20 c256_i32
  let v33 : BitVec 32 := v32
  let c0_i32_65 : BitVec 32 := 0#32
  let v137 : BitVec 32 := Scalar.addi v33 c0_i32_65
  v137
def k0_off63 (k0_t7 : Fin k0_t7_loop.trips) (c0_i32_65 : BitVec 32) : Fin 2 → Nat :=
  let c0_i32_18 : BitVec 32 := 0#32
  let c1_i32_20 : BitVec 32 := 1#32
  let arg20 : BitVec 32 := Scf.iv c0_i32_18 c1_i32_20 k0_t7
  let c256_i32 : BitVec 32 := 256#32
  let v32 : BitVec 32 := Scalar.muli arg20 c256_i32
  let v33 : BitVec 32 := v32
  let v137 : BitVec 32 := Scalar.addi v33 c0_i32_65
  let v138 : BitVec 32 := v137
  let v139 : Index := Scalar.indexCast v138
  let c0_66 : Index := 0#32
  ![v139.toNat, 0]
def k0_mult65 (k0_t8 : Fin k0_t8_loop.trips) : BitVec 32 :=
  let c0_i32_26 : BitVec 32 := 0#32
  let c1_i32_27 : BitVec 32 := 1#32
  let arg21 : BitVec 32 := Scf.iv c0_i32_26 c1_i32_27 k0_t8
  let c512_i32_62 : BitVec 32 := 512#32
  let v128 : BitVec 32 := Scalar.muli arg21 c512_i32_62
  let v129 : BitVec 32 := v128
  let c0_i32_67 : BitVec 32 := 0#32
  let v141 : BitVec 32 := Scalar.addi v129 c0_i32_67
  v141
def k0_off64 (k0_t8 : Fin k0_t8_loop.trips) (c0_i32_67 : BitVec 32) : Fin 3 → Nat :=
  let c1_68 : Index := 1#32
  let c0_69 : Index := 0#32
  let c0_i32_26 : BitVec 32 := 0#32
  let c1_i32_27 : BitVec 32 := 1#32
  let arg21 : BitVec 32 := Scf.iv c0_i32_26 c1_i32_27 k0_t8
  let c512_i32_62 : BitVec 32 := 512#32
  let v128 : BitVec 32 := Scalar.muli arg21 c512_i32_62
  let v129 : BitVec 32 := v128
  let v141 : BitVec 32 := Scalar.addi v129 c0_i32_67
  let v142 : BitVec 32 := v141
  let v145 : Index := Scalar.indexCast v142
  ![1, 0, v145.toNat]
def k0_off65 (k0_t7 : Fin k0_t7_loop.trips) (k0_t8 : Fin k0_t8_loop.trips) (c0_i32_65 : BitVec 32) (c0_i32_67 : BitVec 32) : Fin 2 → Nat :=
  let c0_i32_18 : BitVec 32 := 0#32
  let c1_i32_20 : BitVec 32 := 1#32
  let arg20 : BitVec 32 := Scf.iv c0_i32_18 c1_i32_20 k0_t7
  let c256_i32 : BitVec 32 := 256#32
  let v32 : BitVec 32 := Scalar.muli arg20 c256_i32
  let v33 : BitVec 32 := v32
  let v137 : BitVec 32 := Scalar.addi v33 c0_i32_65
  let v138 : BitVec 32 := v137
  let v155 : Index := Scalar.indexCast v138
  let c0_i32_26 : BitVec 32 := 0#32
  let c1_i32_27 : BitVec 32 := 1#32
  let arg21 : BitVec 32 := Scf.iv c0_i32_26 c1_i32_27 k0_t8
  let c512_i32_62 : BitVec 32 := 512#32
  let v128 : BitVec 32 := Scalar.muli arg21 c512_i32_62
  let v129 : BitVec 32 := v128
  let v141 : BitVec 32 := Scalar.addi v129 c0_i32_67
  let v142 : BitVec 32 := v141
  let v156 : Index := Scalar.indexCast v142
  ![v155.toNat, v156.toNat]
def k0_mult66 (k0_t8 : Fin k0_t8_loop.trips) : BitVec 32 :=
  let c0_i32_26 : BitVec 32 := 0#32
  let c1_i32_27 : BitVec 32 := 1#32
  let arg21 : BitVec 32 := Scf.iv c0_i32_26 c1_i32_27 k0_t8
  let c512_i32_62 : BitVec 32 := 512#32
  let v128 : BitVec 32 := Scalar.muli arg21 c512_i32_62
  let v129 : BitVec 32 := v128
  let c128_i32_72 : BitVec 32 := 128#32
  let v169 : BitVec 32 := Scalar.addi v129 c128_i32_72
  v169
def k0_mult67 (k0_t8 : Fin k0_t8_loop.trips) : BitVec 32 :=
  let c0_i32_26 : BitVec 32 := 0#32
  let c1_i32_27 : BitVec 32 := 1#32
  let arg21 : BitVec 32 := Scf.iv c0_i32_26 c1_i32_27 k0_t8
  let c512_i32_62 : BitVec 32 := 512#32
  let v128 : BitVec 32 := Scalar.muli arg21 c512_i32_62
  let v129 : BitVec 32 := v128
  let c256_i32_77 : BitVec 32 := 256#32
  let v198 : BitVec 32 := Scalar.addi v129 c256_i32_77
  v198
def k0_mult68 (k0_t8 : Fin k0_t8_loop.trips) : BitVec 32 :=
  let c0_i32_26 : BitVec 32 := 0#32
  let c1_i32_27 : BitVec 32 := 1#32
  let arg21 : BitVec 32 := Scf.iv c0_i32_26 c1_i32_27 k0_t8
  let c512_i32_62 : BitVec 32 := 512#32
  let v128 : BitVec 32 := Scalar.muli arg21 c512_i32_62
  let v129 : BitVec 32 := v128
  let c384_i32 : BitVec 32 := 384#32
  let v227 : BitVec 32 := Scalar.addi v129 c384_i32
  v227
def k0_mult69 (k0_t7 : Fin k0_t7_loop.trips) : BitVec 32 :=
  let c0_i32_18 : BitVec 32 := 0#32
  let c1_i32_20 : BitVec 32 := 1#32
  let arg20 : BitVec 32 := Scf.iv c0_i32_18 c1_i32_20 k0_t7
  let c256_i32 : BitVec 32 := 256#32
  let v32 : BitVec 32 := Scalar.muli arg20 c256_i32
  let v33 : BitVec 32 := v32
  let c32_i32 : BitVec 32 := 32#32
  let v265 : BitVec 32 := Scalar.addi v33 c32_i32
  v265
def k0_mult70 (k0_t8 : Fin k0_t8_loop.trips) : BitVec 32 :=
  let c0_i32_26 : BitVec 32 := 0#32
  let c1_i32_27 : BitVec 32 := 1#32
  let arg21 : BitVec 32 := Scf.iv c0_i32_26 c1_i32_27 k0_t8
  let c512_i32_62 : BitVec 32 := 512#32
  let v128 : BitVec 32 := Scalar.muli arg21 c512_i32_62
  let v129 : BitVec 32 := v128
  let c0_i32_90 : BitVec 32 := 0#32
  let v269 : BitVec 32 := Scalar.addi v129 c0_i32_90
  v269
def k0_mult71 (k0_t8 : Fin k0_t8_loop.trips) : BitVec 32 :=
  let c0_i32_26 : BitVec 32 := 0#32
  let c1_i32_27 : BitVec 32 := 1#32
  let arg21 : BitVec 32 := Scf.iv c0_i32_26 c1_i32_27 k0_t8
  let c512_i32_62 : BitVec 32 := 512#32
  let v128 : BitVec 32 := Scalar.muli arg21 c512_i32_62
  let v129 : BitVec 32 := v128
  let c128_i32_95 : BitVec 32 := 128#32
  let v297 : BitVec 32 := Scalar.addi v129 c128_i32_95
  v297
def k0_mult72 (k0_t8 : Fin k0_t8_loop.trips) : BitVec 32 :=
  let c0_i32_26 : BitVec 32 := 0#32
  let c1_i32_27 : BitVec 32 := 1#32
  let arg21 : BitVec 32 := Scf.iv c0_i32_26 c1_i32_27 k0_t8
  let c512_i32_62 : BitVec 32 := 512#32
  let v128 : BitVec 32 := Scalar.muli arg21 c512_i32_62
  let v129 : BitVec 32 := v128
  let c256_i32_100 : BitVec 32 := 256#32
  let v326 : BitVec 32 := Scalar.addi v129 c256_i32_100
  v326
def k0_mult73 (k0_t8 : Fin k0_t8_loop.trips) : BitVec 32 :=
  let c0_i32_26 : BitVec 32 := 0#32
  let c1_i32_27 : BitVec 32 := 1#32
  let arg21 : BitVec 32 := Scf.iv c0_i32_26 c1_i32_27 k0_t8
  let c512_i32_62 : BitVec 32 := 512#32
  let v128 : BitVec 32 := Scalar.muli arg21 c512_i32_62
  let v129 : BitVec 32 := v128
  let c384_i32_105 : BitVec 32 := 384#32
  let v355 : BitVec 32 := Scalar.addi v129 c384_i32_105
  v355
def k0_mult74 (k0_t7 : Fin k0_t7_loop.trips) : BitVec 32 :=
  let c0_i32_18 : BitVec 32 := 0#32
  let c1_i32_20 : BitVec 32 := 1#32
  let arg20 : BitVec 32 := Scf.iv c0_i32_18 c1_i32_20 k0_t7
  let c256_i32 : BitVec 32 := 256#32
  let v32 : BitVec 32 := Scalar.muli arg20 c256_i32
  let v33 : BitVec 32 := v32
  let c64_i32 : BitVec 32 := 64#32
  let v393 : BitVec 32 := Scalar.addi v33 c64_i32
  v393
def k0_mult75 (k0_t8 : Fin k0_t8_loop.trips) : BitVec 32 :=
  let c0_i32_26 : BitVec 32 := 0#32
  let c1_i32_27 : BitVec 32 := 1#32
  let arg21 : BitVec 32 := Scf.iv c0_i32_26 c1_i32_27 k0_t8
  let c512_i32_62 : BitVec 32 := 512#32
  let v128 : BitVec 32 := Scalar.muli arg21 c512_i32_62
  let v129 : BitVec 32 := v128
  let c0_i32_114 : BitVec 32 := 0#32
  let v397 : BitVec 32 := Scalar.addi v129 c0_i32_114
  v397
def k0_mult76 (k0_t8 : Fin k0_t8_loop.trips) : BitVec 32 :=
  let c0_i32_26 : BitVec 32 := 0#32
  let c1_i32_27 : BitVec 32 := 1#32
  let arg21 : BitVec 32 := Scf.iv c0_i32_26 c1_i32_27 k0_t8
  let c512_i32_62 : BitVec 32 := 512#32
  let v128 : BitVec 32 := Scalar.muli arg21 c512_i32_62
  let v129 : BitVec 32 := v128
  let c128_i32_119 : BitVec 32 := 128#32
  let v425 : BitVec 32 := Scalar.addi v129 c128_i32_119
  v425
def k0_mult77 (k0_t8 : Fin k0_t8_loop.trips) : BitVec 32 :=
  let c0_i32_26 : BitVec 32 := 0#32
  let c1_i32_27 : BitVec 32 := 1#32
  let arg21 : BitVec 32 := Scf.iv c0_i32_26 c1_i32_27 k0_t8
  let c512_i32_62 : BitVec 32 := 512#32
  let v128 : BitVec 32 := Scalar.muli arg21 c512_i32_62
  let v129 : BitVec 32 := v128
  let c256_i32_124 : BitVec 32 := 256#32
  let v454 : BitVec 32 := Scalar.addi v129 c256_i32_124
  v454
def k0_mult78 (k0_t8 : Fin k0_t8_loop.trips) : BitVec 32 :=
  let c0_i32_26 : BitVec 32 := 0#32
  let c1_i32_27 : BitVec 32 := 1#32
  let arg21 : BitVec 32 := Scf.iv c0_i32_26 c1_i32_27 k0_t8
  let c512_i32_62 : BitVec 32 := 512#32
  let v128 : BitVec 32 := Scalar.muli arg21 c512_i32_62
  let v129 : BitVec 32 := v128
  let c384_i32_129 : BitVec 32 := 384#32
  let v483 : BitVec 32 := Scalar.addi v129 c384_i32_129
  v483
def k0_mult79 (k0_t7 : Fin k0_t7_loop.trips) : BitVec 32 :=
  let c0_i32_18 : BitVec 32 := 0#32
  let c1_i32_20 : BitVec 32 := 1#32
  let arg20 : BitVec 32 := Scf.iv c0_i32_18 c1_i32_20 k0_t7
  let c256_i32 : BitVec 32 := 256#32
  let v32 : BitVec 32 := Scalar.muli arg20 c256_i32
  let v33 : BitVec 32 := v32
  let c96_i32 : BitVec 32 := 96#32
  let v521 : BitVec 32 := Scalar.addi v33 c96_i32
  v521
def k0_mult80 (k0_t8 : Fin k0_t8_loop.trips) : BitVec 32 :=
  let c0_i32_26 : BitVec 32 := 0#32
  let c1_i32_27 : BitVec 32 := 1#32
  let arg21 : BitVec 32 := Scf.iv c0_i32_26 c1_i32_27 k0_t8
  let c512_i32_62 : BitVec 32 := 512#32
  let v128 : BitVec 32 := Scalar.muli arg21 c512_i32_62
  let v129 : BitVec 32 := v128
  let c0_i32_138 : BitVec 32 := 0#32
  let v525 : BitVec 32 := Scalar.addi v129 c0_i32_138
  v525
def k0_mult81 (k0_t8 : Fin k0_t8_loop.trips) : BitVec 32 :=
  let c0_i32_26 : BitVec 32 := 0#32
  let c1_i32_27 : BitVec 32 := 1#32
  let arg21 : BitVec 32 := Scf.iv c0_i32_26 c1_i32_27 k0_t8
  let c512_i32_62 : BitVec 32 := 512#32
  let v128 : BitVec 32 := Scalar.muli arg21 c512_i32_62
  let v129 : BitVec 32 := v128
  let c128_i32_143 : BitVec 32 := 128#32
  let v553 : BitVec 32 := Scalar.addi v129 c128_i32_143
  v553
def k0_mult82 (k0_t8 : Fin k0_t8_loop.trips) : BitVec 32 :=
  let c0_i32_26 : BitVec 32 := 0#32
  let c1_i32_27 : BitVec 32 := 1#32
  let arg21 : BitVec 32 := Scf.iv c0_i32_26 c1_i32_27 k0_t8
  let c512_i32_62 : BitVec 32 := 512#32
  let v128 : BitVec 32 := Scalar.muli arg21 c512_i32_62
  let v129 : BitVec 32 := v128
  let c256_i32_148 : BitVec 32 := 256#32
  let v582 : BitVec 32 := Scalar.addi v129 c256_i32_148
  v582
def k0_mult83 (k0_t8 : Fin k0_t8_loop.trips) : BitVec 32 :=
  let c0_i32_26 : BitVec 32 := 0#32
  let c1_i32_27 : BitVec 32 := 1#32
  let arg21 : BitVec 32 := Scf.iv c0_i32_26 c1_i32_27 k0_t8
  let c512_i32_62 : BitVec 32 := 512#32
  let v128 : BitVec 32 := Scalar.muli arg21 c512_i32_62
  let v129 : BitVec 32 := v128
  let c384_i32_153 : BitVec 32 := 384#32
  let v611 : BitVec 32 := Scalar.addi v129 c384_i32_153
  v611
def k0_mult84 (k0_t7 : Fin k0_t7_loop.trips) : BitVec 32 :=
  let c0_i32_18 : BitVec 32 := 0#32
  let c1_i32_20 : BitVec 32 := 1#32
  let arg20 : BitVec 32 := Scf.iv c0_i32_18 c1_i32_20 k0_t7
  let c256_i32 : BitVec 32 := 256#32
  let v32 : BitVec 32 := Scalar.muli arg20 c256_i32
  let v33 : BitVec 32 := v32
  let c128_i32_161 : BitVec 32 := 128#32
  let v649 : BitVec 32 := Scalar.addi v33 c128_i32_161
  v649
def k0_mult85 (k0_t8 : Fin k0_t8_loop.trips) : BitVec 32 :=
  let c0_i32_26 : BitVec 32 := 0#32
  let c1_i32_27 : BitVec 32 := 1#32
  let arg21 : BitVec 32 := Scf.iv c0_i32_26 c1_i32_27 k0_t8
  let c512_i32_62 : BitVec 32 := 512#32
  let v128 : BitVec 32 := Scalar.muli arg21 c512_i32_62
  let v129 : BitVec 32 := v128
  let c0_i32_163 : BitVec 32 := 0#32
  let v653 : BitVec 32 := Scalar.addi v129 c0_i32_163
  v653
def k0_mult86 (k0_t8 : Fin k0_t8_loop.trips) : BitVec 32 :=
  let c0_i32_26 : BitVec 32 := 0#32
  let c1_i32_27 : BitVec 32 := 1#32
  let arg21 : BitVec 32 := Scf.iv c0_i32_26 c1_i32_27 k0_t8
  let c512_i32_62 : BitVec 32 := 512#32
  let v128 : BitVec 32 := Scalar.muli arg21 c512_i32_62
  let v129 : BitVec 32 := v128
  let c128_i32_168 : BitVec 32 := 128#32
  let v681 : BitVec 32 := Scalar.addi v129 c128_i32_168
  v681
def k0_mult87 (k0_t8 : Fin k0_t8_loop.trips) : BitVec 32 :=
  let c0_i32_26 : BitVec 32 := 0#32
  let c1_i32_27 : BitVec 32 := 1#32
  let arg21 : BitVec 32 := Scf.iv c0_i32_26 c1_i32_27 k0_t8
  let c512_i32_62 : BitVec 32 := 512#32
  let v128 : BitVec 32 := Scalar.muli arg21 c512_i32_62
  let v129 : BitVec 32 := v128
  let c256_i32_173 : BitVec 32 := 256#32
  let v710 : BitVec 32 := Scalar.addi v129 c256_i32_173
  v710
def k0_mult88 (k0_t8 : Fin k0_t8_loop.trips) : BitVec 32 :=
  let c0_i32_26 : BitVec 32 := 0#32
  let c1_i32_27 : BitVec 32 := 1#32
  let arg21 : BitVec 32 := Scf.iv c0_i32_26 c1_i32_27 k0_t8
  let c512_i32_62 : BitVec 32 := 512#32
  let v128 : BitVec 32 := Scalar.muli arg21 c512_i32_62
  let v129 : BitVec 32 := v128
  let c384_i32_178 : BitVec 32 := 384#32
  let v739 : BitVec 32 := Scalar.addi v129 c384_i32_178
  v739
def k0_mult89 (k0_t7 : Fin k0_t7_loop.trips) : BitVec 32 :=
  let c0_i32_18 : BitVec 32 := 0#32
  let c1_i32_20 : BitVec 32 := 1#32
  let arg20 : BitVec 32 := Scf.iv c0_i32_18 c1_i32_20 k0_t7
  let c256_i32 : BitVec 32 := 256#32
  let v32 : BitVec 32 := Scalar.muli arg20 c256_i32
  let v33 : BitVec 32 := v32
  let c160_i32 : BitVec 32 := 160#32
  let v777 : BitVec 32 := Scalar.addi v33 c160_i32
  v777
def k0_mult90 (k0_t8 : Fin k0_t8_loop.trips) : BitVec 32 :=
  let c0_i32_26 : BitVec 32 := 0#32
  let c1_i32_27 : BitVec 32 := 1#32
  let arg21 : BitVec 32 := Scf.iv c0_i32_26 c1_i32_27 k0_t8
  let c512_i32_62 : BitVec 32 := 512#32
  let v128 : BitVec 32 := Scalar.muli arg21 c512_i32_62
  let v129 : BitVec 32 := v128
  let c0_i32_187 : BitVec 32 := 0#32
  let v781 : BitVec 32 := Scalar.addi v129 c0_i32_187
  v781
def k0_mult91 (k0_t8 : Fin k0_t8_loop.trips) : BitVec 32 :=
  let c0_i32_26 : BitVec 32 := 0#32
  let c1_i32_27 : BitVec 32 := 1#32
  let arg21 : BitVec 32 := Scf.iv c0_i32_26 c1_i32_27 k0_t8
  let c512_i32_62 : BitVec 32 := 512#32
  let v128 : BitVec 32 := Scalar.muli arg21 c512_i32_62
  let v129 : BitVec 32 := v128
  let c128_i32_192 : BitVec 32 := 128#32
  let v809 : BitVec 32 := Scalar.addi v129 c128_i32_192
  v809
def k0_mult92 (k0_t8 : Fin k0_t8_loop.trips) : BitVec 32 :=
  let c0_i32_26 : BitVec 32 := 0#32
  let c1_i32_27 : BitVec 32 := 1#32
  let arg21 : BitVec 32 := Scf.iv c0_i32_26 c1_i32_27 k0_t8
  let c512_i32_62 : BitVec 32 := 512#32
  let v128 : BitVec 32 := Scalar.muli arg21 c512_i32_62
  let v129 : BitVec 32 := v128
  let c256_i32_197 : BitVec 32 := 256#32
  let v838 : BitVec 32 := Scalar.addi v129 c256_i32_197
  v838
def k0_mult93 (k0_t8 : Fin k0_t8_loop.trips) : BitVec 32 :=
  let c0_i32_26 : BitVec 32 := 0#32
  let c1_i32_27 : BitVec 32 := 1#32
  let arg21 : BitVec 32 := Scf.iv c0_i32_26 c1_i32_27 k0_t8
  let c512_i32_62 : BitVec 32 := 512#32
  let v128 : BitVec 32 := Scalar.muli arg21 c512_i32_62
  let v129 : BitVec 32 := v128
  let c384_i32_202 : BitVec 32 := 384#32
  let v867 : BitVec 32 := Scalar.addi v129 c384_i32_202
  v867
def k0_mult94 (k0_t7 : Fin k0_t7_loop.trips) : BitVec 32 :=
  let c0_i32_18 : BitVec 32 := 0#32
  let c1_i32_20 : BitVec 32 := 1#32
  let arg20 : BitVec 32 := Scf.iv c0_i32_18 c1_i32_20 k0_t7
  let c256_i32 : BitVec 32 := 256#32
  let v32 : BitVec 32 := Scalar.muli arg20 c256_i32
  let v33 : BitVec 32 := v32
  let c192_i32 : BitVec 32 := 192#32
  let v905 : BitVec 32 := Scalar.addi v33 c192_i32
  v905
def k0_mult95 (k0_t8 : Fin k0_t8_loop.trips) : BitVec 32 :=
  let c0_i32_26 : BitVec 32 := 0#32
  let c1_i32_27 : BitVec 32 := 1#32
  let arg21 : BitVec 32 := Scf.iv c0_i32_26 c1_i32_27 k0_t8
  let c512_i32_62 : BitVec 32 := 512#32
  let v128 : BitVec 32 := Scalar.muli arg21 c512_i32_62
  let v129 : BitVec 32 := v128
  let c0_i32_211 : BitVec 32 := 0#32
  let v909 : BitVec 32 := Scalar.addi v129 c0_i32_211
  v909
def k0_mult96 (k0_t8 : Fin k0_t8_loop.trips) : BitVec 32 :=
  let c0_i32_26 : BitVec 32 := 0#32
  let c1_i32_27 : BitVec 32 := 1#32
  let arg21 : BitVec 32 := Scf.iv c0_i32_26 c1_i32_27 k0_t8
  let c512_i32_62 : BitVec 32 := 512#32
  let v128 : BitVec 32 := Scalar.muli arg21 c512_i32_62
  let v129 : BitVec 32 := v128
  let c128_i32_216 : BitVec 32 := 128#32
  let v937 : BitVec 32 := Scalar.addi v129 c128_i32_216
  v937
def k0_mult97 (k0_t8 : Fin k0_t8_loop.trips) : BitVec 32 :=
  let c0_i32_26 : BitVec 32 := 0#32
  let c1_i32_27 : BitVec 32 := 1#32
  let arg21 : BitVec 32 := Scf.iv c0_i32_26 c1_i32_27 k0_t8
  let c512_i32_62 : BitVec 32 := 512#32
  let v128 : BitVec 32 := Scalar.muli arg21 c512_i32_62
  let v129 : BitVec 32 := v128
  let c256_i32_221 : BitVec 32 := 256#32
  let v966 : BitVec 32 := Scalar.addi v129 c256_i32_221
  v966
def k0_mult98 (k0_t8 : Fin k0_t8_loop.trips) : BitVec 32 :=
  let c0_i32_26 : BitVec 32 := 0#32
  let c1_i32_27 : BitVec 32 := 1#32
  let arg21 : BitVec 32 := Scf.iv c0_i32_26 c1_i32_27 k0_t8
  let c512_i32_62 : BitVec 32 := 512#32
  let v128 : BitVec 32 := Scalar.muli arg21 c512_i32_62
  let v129 : BitVec 32 := v128
  let c384_i32_226 : BitVec 32 := 384#32
  let v995 : BitVec 32 := Scalar.addi v129 c384_i32_226
  v995
def k0_mult99 (k0_t7 : Fin k0_t7_loop.trips) : BitVec 32 :=
  let c0_i32_18 : BitVec 32 := 0#32
  let c1_i32_20 : BitVec 32 := 1#32
  let arg20 : BitVec 32 := Scf.iv c0_i32_18 c1_i32_20 k0_t7
  let c256_i32 : BitVec 32 := 256#32
  let v32 : BitVec 32 := Scalar.muli arg20 c256_i32
  let v33 : BitVec 32 := v32
  let c224_i32 : BitVec 32 := 224#32
  let v1033 : BitVec 32 := Scalar.addi v33 c224_i32
  v1033
def k0_mult100 (k0_t8 : Fin k0_t8_loop.trips) : BitVec 32 :=
  let c0_i32_26 : BitVec 32 := 0#32
  let c1_i32_27 : BitVec 32 := 1#32
  let arg21 : BitVec 32 := Scf.iv c0_i32_26 c1_i32_27 k0_t8
  let c512_i32_62 : BitVec 32 := 512#32
  let v128 : BitVec 32 := Scalar.muli arg21 c512_i32_62
  let v129 : BitVec 32 := v128
  let c0_i32_235 : BitVec 32 := 0#32
  let v1037 : BitVec 32 := Scalar.addi v129 c0_i32_235
  v1037
def k0_mult101 (k0_t8 : Fin k0_t8_loop.trips) : BitVec 32 :=
  let c0_i32_26 : BitVec 32 := 0#32
  let c1_i32_27 : BitVec 32 := 1#32
  let arg21 : BitVec 32 := Scf.iv c0_i32_26 c1_i32_27 k0_t8
  let c512_i32_62 : BitVec 32 := 512#32
  let v128 : BitVec 32 := Scalar.muli arg21 c512_i32_62
  let v129 : BitVec 32 := v128
  let c128_i32_240 : BitVec 32 := 128#32
  let v1065 : BitVec 32 := Scalar.addi v129 c128_i32_240
  v1065
def k0_mult102 (k0_t8 : Fin k0_t8_loop.trips) : BitVec 32 :=
  let c0_i32_26 : BitVec 32 := 0#32
  let c1_i32_27 : BitVec 32 := 1#32
  let arg21 : BitVec 32 := Scf.iv c0_i32_26 c1_i32_27 k0_t8
  let c512_i32_62 : BitVec 32 := 512#32
  let v128 : BitVec 32 := Scalar.muli arg21 c512_i32_62
  let v129 : BitVec 32 := v128
  let c256_i32_245 : BitVec 32 := 256#32
  let v1094 : BitVec 32 := Scalar.addi v129 c256_i32_245
  v1094
def k0_mult103 (k0_t8 : Fin k0_t8_loop.trips) : BitVec 32 :=
  let c0_i32_26 : BitVec 32 := 0#32
  let c1_i32_27 : BitVec 32 := 1#32
  let arg21 : BitVec 32 := Scf.iv c0_i32_26 c1_i32_27 k0_t8
  let c512_i32_62 : BitVec 32 := 512#32
  let v128 : BitVec 32 := Scalar.muli arg21 c512_i32_62
  let v129 : BitVec 32 := v128
  let c384_i32_250 : BitVec 32 := 384#32
  let v1123 : BitVec 32 := Scalar.addi v129 c384_i32_250
  v1123
@[reducible] def k0_t9_loop : Scf.Loop 32 :=
  let c0_i32_29 : BitVec 32 := 0#32
  let c8_i32 : BitVec 32 := 8#32
  let v35 : BitVec 32 := Scalar.addi c0_i32_29 c8_i32
  let c1_i32_30 : BitVec 32 := 1#32
  ⟨c0_i32_29, v35, c1_i32_30⟩
def k0_mult104 (k0_t9 : Fin k0_t9_loop.trips) : BitVec 32 :=
  let c0_i32_29 : BitVec 32 := 0#32
  let c1_i32_30 : BitVec 32 := 1#32
  let arg21 : BitVec 32 := Scf.iv c0_i32_29 c1_i32_30 k0_t9
  let c32_i32 : BitVec 32 := 32#32
  let v128 : BitVec 32 := Scalar.muli arg21 c32_i32
  v128
def k0_mult105 (k0_t7 : Fin k0_t7_loop.trips) (k0_t9 : Fin k0_t9_loop.trips) : BitVec 32 :=
  let c0_i32_18 : BitVec 32 := 0#32
  let c1_i32_20 : BitVec 32 := 1#32
  let arg20 : BitVec 32 := Scf.iv c0_i32_18 c1_i32_20 k0_t7
  let c256_i32 : BitVec 32 := 256#32
  let v32 : BitVec 32 := Scalar.muli arg20 c256_i32
  let v33 : BitVec 32 := v32
  let c0_i32_29 : BitVec 32 := 0#32
  let c1_i32_30 : BitVec 32 := 1#32
  let arg21 : BitVec 32 := Scf.iv c0_i32_29 c1_i32_30 k0_t9
  let c32_i32 : BitVec 32 := 32#32
  let v128 : BitVec 32 := Scalar.muli arg21 c32_i32
  let v129 : BitVec 32 := v128
  let v130 : BitVec 32 := Scalar.addi v33 v129
  v130
def k0_off66 (k0_t7 : Fin k0_t7_loop.trips) (k0_t9 : Fin k0_t9_loop.trips) : Fin 2 → Nat :=
  let c0_i32_18 : BitVec 32 := 0#32
  let c1_i32_20 : BitVec 32 := 1#32
  let arg20 : BitVec 32 := Scf.iv c0_i32_18 c1_i32_20 k0_t7
  let c256_i32 : BitVec 32 := 256#32
  let v32 : BitVec 32 := Scalar.muli arg20 c256_i32
  let v33 : BitVec 32 := v32
  let c0_i32_29 : BitVec 32 := 0#32
  let c1_i32_30 : BitVec 32 := 1#32
  let arg21 : BitVec 32 := Scf.iv c0_i32_29 c1_i32_30 k0_t9
  let c32_i32 : BitVec 32 := 32#32
  let v128 : BitVec 32 := Scalar.muli arg21 c32_i32
  let v129 : BitVec 32 := v128
  let v130 : BitVec 32 := Scalar.addi v33 v129
  let v131 : BitVec 32 := v130
  let v132 : Index := Scalar.indexCast v131
  let c0_62 : Index := 0#32
  ![v132.toNat, 0]
def k0_off67 (k0_t7 : Fin k0_t7_loop.trips) (k0_t9 : Fin k0_t9_loop.trips) : Fin 2 → Nat :=
  let c0_i32_18 : BitVec 32 := 0#32
  let c1_i32_20 : BitVec 32 := 1#32
  let arg20 : BitVec 32 := Scf.iv c0_i32_18 c1_i32_20 k0_t7
  let c256_i32 : BitVec 32 := 256#32
  let v32 : BitVec 32 := Scalar.muli arg20 c256_i32
  let v33 : BitVec 32 := v32
  let c0_i32_29 : BitVec 32 := 0#32
  let c1_i32_30 : BitVec 32 := 1#32
  let arg21 : BitVec 32 := Scf.iv c0_i32_29 c1_i32_30 k0_t9
  let c32_i32 : BitVec 32 := 32#32
  let v128 : BitVec 32 := Scalar.muli arg21 c32_i32
  let v129 : BitVec 32 := v128
  let v130 : BitVec 32 := Scalar.addi v33 v129
  let v131 : BitVec 32 := v130
  let v197 : Index := Scalar.indexCast v131
  let c0_68 : Index := 0#32
  ![v197.toNat, 0]
def k0_off68 (k0_t7 : Fin k0_t7_loop.trips) (k0_t9 : Fin k0_t9_loop.trips) : Fin 2 → Nat :=
  let c0_i32_18 : BitVec 32 := 0#32
  let c1_i32_20 : BitVec 32 := 1#32
  let arg20 : BitVec 32 := Scf.iv c0_i32_18 c1_i32_20 k0_t7
  let c256_i32 : BitVec 32 := 256#32
  let v32 : BitVec 32 := Scalar.muli arg20 c256_i32
  let v33 : BitVec 32 := v32
  let c0_i32_29 : BitVec 32 := 0#32
  let c1_i32_30 : BitVec 32 := 1#32
  let arg21 : BitVec 32 := Scf.iv c0_i32_29 c1_i32_30 k0_t9
  let c32_i32 : BitVec 32 := 32#32
  let v128 : BitVec 32 := Scalar.muli arg21 c32_i32
  let v129 : BitVec 32 := v128
  let v130 : BitVec 32 := Scalar.addi v33 v129
  let v131 : BitVec 32 := v130
  let v207 : Index := Scalar.indexCast v131
  let c128 : Index := 128#32
  ![v207.toNat, 128]
def k0_off69 (k0_t7 : Fin k0_t7_loop.trips) (k0_t9 : Fin k0_t9_loop.trips) : Fin 2 → Nat :=
  let c0_i32_18 : BitVec 32 := 0#32
  let c1_i32_20 : BitVec 32 := 1#32
  let arg20 : BitVec 32 := Scf.iv c0_i32_18 c1_i32_20 k0_t7
  let c256_i32 : BitVec 32 := 256#32
  let v32 : BitVec 32 := Scalar.muli arg20 c256_i32
  let v33 : BitVec 32 := v32
  let c0_i32_29 : BitVec 32 := 0#32
  let c1_i32_30 : BitVec 32 := 1#32
  let arg21 : BitVec 32 := Scf.iv c0_i32_29 c1_i32_30 k0_t9
  let c32_i32 : BitVec 32 := 32#32
  let v128 : BitVec 32 := Scalar.muli arg21 c32_i32
  let v129 : BitVec 32 := v128
  let v130 : BitVec 32 := Scalar.addi v33 v129
  let v131 : BitVec 32 := v130
  let v217 : Index := Scalar.indexCast v131
  let c256 : Index := 256#32
  ![v217.toNat, 256]
def k0_off70 (k0_t7 : Fin k0_t7_loop.trips) (k0_t9 : Fin k0_t9_loop.trips) : Fin 2 → Nat :=
  let c0_i32_18 : BitVec 32 := 0#32
  let c1_i32_20 : BitVec 32 := 1#32
  let arg20 : BitVec 32 := Scf.iv c0_i32_18 c1_i32_20 k0_t7
  let c256_i32 : BitVec 32 := 256#32
  let v32 : BitVec 32 := Scalar.muli arg20 c256_i32
  let v33 : BitVec 32 := v32
  let c0_i32_29 : BitVec 32 := 0#32
  let c1_i32_30 : BitVec 32 := 1#32
  let arg21 : BitVec 32 := Scf.iv c0_i32_29 c1_i32_30 k0_t9
  let c32_i32 : BitVec 32 := 32#32
  let v128 : BitVec 32 := Scalar.muli arg21 c32_i32
  let v129 : BitVec 32 := v128
  let v130 : BitVec 32 := Scalar.addi v33 v129
  let v131 : BitVec 32 := v130
  let v227 : Index := Scalar.indexCast v131
  let c384 : Index := 384#32
  ![v227.toNat, 384]
def k0_off71 (k0_t7 : Fin k0_t7_loop.trips) (k0_t9 : Fin k0_t9_loop.trips) : Fin 2 → Nat :=
  let c0_i32_18 : BitVec 32 := 0#32
  let c1_i32_20 : BitVec 32 := 1#32
  let arg20 : BitVec 32 := Scf.iv c0_i32_18 c1_i32_20 k0_t7
  let c256_i32 : BitVec 32 := 256#32
  let v32 : BitVec 32 := Scalar.muli arg20 c256_i32
  let v33 : BitVec 32 := v32
  let c0_i32_29 : BitVec 32 := 0#32
  let c1_i32_30 : BitVec 32 := 1#32
  let arg21 : BitVec 32 := Scf.iv c0_i32_29 c1_i32_30 k0_t9
  let c32_i32 : BitVec 32 := 32#32
  let v128 : BitVec 32 := Scalar.muli arg21 c32_i32
  let v129 : BitVec 32 := v128
  let v130 : BitVec 32 := Scalar.addi v33 v129
  let v131 : BitVec 32 := v130
  let v237 : Index := Scalar.indexCast v131
  let c512 : Index := 512#32
  ![v237.toNat, 512]
def k0_off72 (k0_t7 : Fin k0_t7_loop.trips) (k0_t9 : Fin k0_t9_loop.trips) : Fin 2 → Nat :=
  let c0_i32_18 : BitVec 32 := 0#32
  let c1_i32_20 : BitVec 32 := 1#32
  let arg20 : BitVec 32 := Scf.iv c0_i32_18 c1_i32_20 k0_t7
  let c256_i32 : BitVec 32 := 256#32
  let v32 : BitVec 32 := Scalar.muli arg20 c256_i32
  let v33 : BitVec 32 := v32
  let c0_i32_29 : BitVec 32 := 0#32
  let c1_i32_30 : BitVec 32 := 1#32
  let arg21 : BitVec 32 := Scf.iv c0_i32_29 c1_i32_30 k0_t9
  let c32_i32 : BitVec 32 := 32#32
  let v128 : BitVec 32 := Scalar.muli arg21 c32_i32
  let v129 : BitVec 32 := v128
  let v130 : BitVec 32 := Scalar.addi v33 v129
  let v131 : BitVec 32 := v130
  let v247 : Index := Scalar.indexCast v131
  let c640 : Index := 640#32
  ![v247.toNat, 640]
def k0_off73 (k0_t7 : Fin k0_t7_loop.trips) (k0_t9 : Fin k0_t9_loop.trips) : Fin 2 → Nat :=
  let c0_i32_18 : BitVec 32 := 0#32
  let c1_i32_20 : BitVec 32 := 1#32
  let arg20 : BitVec 32 := Scf.iv c0_i32_18 c1_i32_20 k0_t7
  let c256_i32 : BitVec 32 := 256#32
  let v32 : BitVec 32 := Scalar.muli arg20 c256_i32
  let v33 : BitVec 32 := v32
  let c0_i32_29 : BitVec 32 := 0#32
  let c1_i32_30 : BitVec 32 := 1#32
  let arg21 : BitVec 32 := Scf.iv c0_i32_29 c1_i32_30 k0_t9
  let c32_i32 : BitVec 32 := 32#32
  let v128 : BitVec 32 := Scalar.muli arg21 c32_i32
  let v129 : BitVec 32 := v128
  let v130 : BitVec 32 := Scalar.addi v33 v129
  let v131 : BitVec 32 := v130
  let v257 : Index := Scalar.indexCast v131
  let c768 : Index := 768#32
  ![v257.toNat, 768]
def k0_off74 (k0_t7 : Fin k0_t7_loop.trips) (k0_t9 : Fin k0_t9_loop.trips) : Fin 2 → Nat :=
  let c0_i32_18 : BitVec 32 := 0#32
  let c1_i32_20 : BitVec 32 := 1#32
  let arg20 : BitVec 32 := Scf.iv c0_i32_18 c1_i32_20 k0_t7
  let c256_i32 : BitVec 32 := 256#32
  let v32 : BitVec 32 := Scalar.muli arg20 c256_i32
  let v33 : BitVec 32 := v32
  let c0_i32_29 : BitVec 32 := 0#32
  let c1_i32_30 : BitVec 32 := 1#32
  let arg21 : BitVec 32 := Scf.iv c0_i32_29 c1_i32_30 k0_t9
  let c32_i32 : BitVec 32 := 32#32
  let v128 : BitVec 32 := Scalar.muli arg21 c32_i32
  let v129 : BitVec 32 := v128
  let v130 : BitVec 32 := Scalar.addi v33 v129
  let v131 : BitVec 32 := v130
  let v267 : Index := Scalar.indexCast v131
  let c896 : Index := 896#32
  ![v267.toNat, 896]
def k0_off75 (k0_t7 : Fin k0_t7_loop.trips) (k0_t9 : Fin k0_t9_loop.trips) : Fin 2 → Nat :=
  let c0_i32_18 : BitVec 32 := 0#32
  let c1_i32_20 : BitVec 32 := 1#32
  let arg20 : BitVec 32 := Scf.iv c0_i32_18 c1_i32_20 k0_t7
  let c256_i32 : BitVec 32 := 256#32
  let v32 : BitVec 32 := Scalar.muli arg20 c256_i32
  let v33 : BitVec 32 := v32
  let c0_i32_29 : BitVec 32 := 0#32
  let c1_i32_30 : BitVec 32 := 1#32
  let arg21 : BitVec 32 := Scf.iv c0_i32_29 c1_i32_30 k0_t9
  let c32_i32 : BitVec 32 := 32#32
  let v128 : BitVec 32 := Scalar.muli arg21 c32_i32
  let v129 : BitVec 32 := v128
  let v130 : BitVec 32 := Scalar.addi v33 v129
  let v131 : BitVec 32 := v130
  let v277 : Index := Scalar.indexCast v131
  let c1024 : Index := 1024#32
  ![v277.toNat, 1024]
def k0_off76 (k0_t7 : Fin k0_t7_loop.trips) (k0_t9 : Fin k0_t9_loop.trips) : Fin 2 → Nat :=
  let c0_i32_18 : BitVec 32 := 0#32
  let c1_i32_20 : BitVec 32 := 1#32
  let arg20 : BitVec 32 := Scf.iv c0_i32_18 c1_i32_20 k0_t7
  let c256_i32 : BitVec 32 := 256#32
  let v32 : BitVec 32 := Scalar.muli arg20 c256_i32
  let v33 : BitVec 32 := v32
  let c0_i32_29 : BitVec 32 := 0#32
  let c1_i32_30 : BitVec 32 := 1#32
  let arg21 : BitVec 32 := Scf.iv c0_i32_29 c1_i32_30 k0_t9
  let c32_i32 : BitVec 32 := 32#32
  let v128 : BitVec 32 := Scalar.muli arg21 c32_i32
  let v129 : BitVec 32 := v128
  let v130 : BitVec 32 := Scalar.addi v33 v129
  let v131 : BitVec 32 := v130
  let v287 : Index := Scalar.indexCast v131
  let c1152 : Index := 1152#32
  ![v287.toNat, 1152]
def k0_off77 (k0_t7 : Fin k0_t7_loop.trips) (k0_t9 : Fin k0_t9_loop.trips) : Fin 2 → Nat :=
  let c0_i32_18 : BitVec 32 := 0#32
  let c1_i32_20 : BitVec 32 := 1#32
  let arg20 : BitVec 32 := Scf.iv c0_i32_18 c1_i32_20 k0_t7
  let c256_i32 : BitVec 32 := 256#32
  let v32 : BitVec 32 := Scalar.muli arg20 c256_i32
  let v33 : BitVec 32 := v32
  let c0_i32_29 : BitVec 32 := 0#32
  let c1_i32_30 : BitVec 32 := 1#32
  let arg21 : BitVec 32 := Scf.iv c0_i32_29 c1_i32_30 k0_t9
  let c32_i32 : BitVec 32 := 32#32
  let v128 : BitVec 32 := Scalar.muli arg21 c32_i32
  let v129 : BitVec 32 := v128
  let v130 : BitVec 32 := Scalar.addi v33 v129
  let v131 : BitVec 32 := v130
  let v297 : Index := Scalar.indexCast v131
  let c1280 : Index := 1280#32
  ![v297.toNat, 1280]
def k0_off78 (k0_t7 : Fin k0_t7_loop.trips) (k0_t9 : Fin k0_t9_loop.trips) : Fin 2 → Nat :=
  let c0_i32_18 : BitVec 32 := 0#32
  let c1_i32_20 : BitVec 32 := 1#32
  let arg20 : BitVec 32 := Scf.iv c0_i32_18 c1_i32_20 k0_t7
  let c256_i32 : BitVec 32 := 256#32
  let v32 : BitVec 32 := Scalar.muli arg20 c256_i32
  let v33 : BitVec 32 := v32
  let c0_i32_29 : BitVec 32 := 0#32
  let c1_i32_30 : BitVec 32 := 1#32
  let arg21 : BitVec 32 := Scf.iv c0_i32_29 c1_i32_30 k0_t9
  let c32_i32 : BitVec 32 := 32#32
  let v128 : BitVec 32 := Scalar.muli arg21 c32_i32
  let v129 : BitVec 32 := v128
  let v130 : BitVec 32 := Scalar.addi v33 v129
  let v131 : BitVec 32 := v130
  let v307 : Index := Scalar.indexCast v131
  let c1408 : Index := 1408#32
  ![v307.toNat, 1408]
def k0_off79 (k0_t7 : Fin k0_t7_loop.trips) (k0_t9 : Fin k0_t9_loop.trips) : Fin 2 → Nat :=
  let c0_i32_18 : BitVec 32 := 0#32
  let c1_i32_20 : BitVec 32 := 1#32
  let arg20 : BitVec 32 := Scf.iv c0_i32_18 c1_i32_20 k0_t7
  let c256_i32 : BitVec 32 := 256#32
  let v32 : BitVec 32 := Scalar.muli arg20 c256_i32
  let v33 : BitVec 32 := v32
  let c0_i32_29 : BitVec 32 := 0#32
  let c1_i32_30 : BitVec 32 := 1#32
  let arg21 : BitVec 32 := Scf.iv c0_i32_29 c1_i32_30 k0_t9
  let c32_i32 : BitVec 32 := 32#32
  let v128 : BitVec 32 := Scalar.muli arg21 c32_i32
  let v129 : BitVec 32 := v128
  let v130 : BitVec 32 := Scalar.addi v33 v129
  let v131 : BitVec 32 := v130
  let v317 : Index := Scalar.indexCast v131
  let c1536 : Index := 1536#32
  ![v317.toNat, 1536]
def k0_off80 (k0_t7 : Fin k0_t7_loop.trips) (k0_t9 : Fin k0_t9_loop.trips) : Fin 2 → Nat :=
  let c0_i32_18 : BitVec 32 := 0#32
  let c1_i32_20 : BitVec 32 := 1#32
  let arg20 : BitVec 32 := Scf.iv c0_i32_18 c1_i32_20 k0_t7
  let c256_i32 : BitVec 32 := 256#32
  let v32 : BitVec 32 := Scalar.muli arg20 c256_i32
  let v33 : BitVec 32 := v32
  let c0_i32_29 : BitVec 32 := 0#32
  let c1_i32_30 : BitVec 32 := 1#32
  let arg21 : BitVec 32 := Scf.iv c0_i32_29 c1_i32_30 k0_t9
  let c32_i32 : BitVec 32 := 32#32
  let v128 : BitVec 32 := Scalar.muli arg21 c32_i32
  let v129 : BitVec 32 := v128
  let v130 : BitVec 32 := Scalar.addi v33 v129
  let v131 : BitVec 32 := v130
  let v327 : Index := Scalar.indexCast v131
  let c1664 : Index := 1664#32
  ![v327.toNat, 1664]
def k0_off81 (k0_t7 : Fin k0_t7_loop.trips) (k0_t9 : Fin k0_t9_loop.trips) : Fin 2 → Nat :=
  let c0_i32_18 : BitVec 32 := 0#32
  let c1_i32_20 : BitVec 32 := 1#32
  let arg20 : BitVec 32 := Scf.iv c0_i32_18 c1_i32_20 k0_t7
  let c256_i32 : BitVec 32 := 256#32
  let v32 : BitVec 32 := Scalar.muli arg20 c256_i32
  let v33 : BitVec 32 := v32
  let c0_i32_29 : BitVec 32 := 0#32
  let c1_i32_30 : BitVec 32 := 1#32
  let arg21 : BitVec 32 := Scf.iv c0_i32_29 c1_i32_30 k0_t9
  let c32_i32 : BitVec 32 := 32#32
  let v128 : BitVec 32 := Scalar.muli arg21 c32_i32
  let v129 : BitVec 32 := v128
  let v130 : BitVec 32 := Scalar.addi v33 v129
  let v131 : BitVec 32 := v130
  let v337 : Index := Scalar.indexCast v131
  let c1792 : Index := 1792#32
  ![v337.toNat, 1792]
def k0_off82 (k0_t7 : Fin k0_t7_loop.trips) (k0_t9 : Fin k0_t9_loop.trips) : Fin 2 → Nat :=
  let c0_i32_18 : BitVec 32 := 0#32
  let c1_i32_20 : BitVec 32 := 1#32
  let arg20 : BitVec 32 := Scf.iv c0_i32_18 c1_i32_20 k0_t7
  let c256_i32 : BitVec 32 := 256#32
  let v32 : BitVec 32 := Scalar.muli arg20 c256_i32
  let v33 : BitVec 32 := v32
  let c0_i32_29 : BitVec 32 := 0#32
  let c1_i32_30 : BitVec 32 := 1#32
  let arg21 : BitVec 32 := Scf.iv c0_i32_29 c1_i32_30 k0_t9
  let c32_i32 : BitVec 32 := 32#32
  let v128 : BitVec 32 := Scalar.muli arg21 c32_i32
  let v129 : BitVec 32 := v128
  let v130 : BitVec 32 := Scalar.addi v33 v129
  let v131 : BitVec 32 := v130
  let v347 : Index := Scalar.indexCast v131
  let c1920 : Index := 1920#32
  ![v347.toNat, 1920]
def k0_mult106 (k0_t7 : Fin k0_t7_loop.trips) : BitVec 32 :=
  let c0_i32_18 : BitVec 32 := 0#32
  let c1_i32_20 : BitVec 32 := 1#32
  let arg20 : BitVec 32 := Scf.iv c0_i32_18 c1_i32_20 k0_t7
  let c256_i32 : BitVec 32 := 256#32
  let v32 : BitVec 32 := Scalar.muli arg20 c256_i32
  let v33 : BitVec 32 := v32
  let c0_i32_32 : BitVec 32 := 0#32
  let v36 : BitVec 32 := Scalar.addi v33 c0_i32_32
  v36
def k0_off83 (k0_t7 : Fin k0_t7_loop.trips) (c0_i32_32 : BitVec 32) : Fin 2 → Nat :=
  let c0_i32_18 : BitVec 32 := 0#32
  let c1_i32_20 : BitVec 32 := 1#32
  let arg20 : BitVec 32 := Scf.iv c0_i32_18 c1_i32_20 k0_t7
  let c256_i32 : BitVec 32 := 256#32
  let v32 : BitVec 32 := Scalar.muli arg20 c256_i32
  let v33 : BitVec 32 := v32
  let v36 : BitVec 32 := Scalar.addi v33 c0_i32_32
  let v37 : BitVec 32 := v36
  let v38 : Index := Scalar.indexCast v37
  let c0 : Index := 0#32
  ![v38.toNat, 0]
def k0_mult107 (i : grid0.Coords) : BitVec 32 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c0_i32_34 : BitVec 32 := 0#32
  let v42 : BitVec 1 := Scalar.cmpi .sgt v16 c0_i32_34
  let v43 : BitVec 32 := Scalar.extui v42
  let c0_i32_35 : BitVec 32 := 0#32
  let v44 : BitVec 1 := Scalar.cmpi .slt v16 c0_i32_35
  let v45 : BitVec 32 := Scalar.extui v44
  let v46 : BitVec 32 := Scalar.subi v43 v45
  let c8_i32_33 : BitVec 32 := 8#32
  let c0_i32_36 : BitVec 32 := 0#32
  let v47 : BitVec 1 := Scalar.cmpi .sgt c8_i32_33 c0_i32_36
  let v48 : BitVec 32 := Scalar.extui v47
  let c0_i32_37 : BitVec 32 := 0#32
  let v49 : BitVec 1 := Scalar.cmpi .slt c8_i32_33 c0_i32_37
  let v50 : BitVec 32 := Scalar.extui v49
  let v51 : BitVec 32 := Scalar.subi v48 v50
  let v52 : BitVec 1 := Scalar.cmpi .ne v46 v51
  let v53 : BitVec 32 := Scalar.remsi v16 c8_i32_33
  let c0_i32_38 : BitVec 32 := 0#32
  let v54 : BitVec 1 := Scalar.cmpi .ne v53 c0_i32_38
  let v55 : BitVec 1 := Scalar.andi v52 v54
  let v41 : BitVec 32 := Scalar.divsi v16 c8_i32_33
  let c1_i32_39 : BitVec 32 := 1#32
  let v56 : BitVec 32 := Scalar.subi v41 c1_i32_39
  let v57 : BitVec 32 := Scalar.select v55 v56 v41
  let c8_i32_40 : BitVec 32 := 8#32
  let v58 : BitVec 32 := Scalar.muli v57 c8_i32_40
  v58
def k0_mult108 (i : grid0.Coords) (k0_t7 : Fin k0_t7_loop.trips) : BitVec 32 :=
  let arg0 : BitVec 32 := BitVec.ofNat 32 (i 0).val
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c512_i32 : BitVec 32 := 512#32
  let v27 : BitVec 32 := Scalar.muli v26 c512_i32
  let c0_i32_18 : BitVec 32 := 0#32
  let c1_i32_20 : BitVec 32 := 1#32
  let arg20 : BitVec 32 := Scf.iv c0_i32_18 c1_i32_20 k0_t7
  let c256_i32 : BitVec 32 := 256#32
  let v32 : BitVec 32 := Scalar.muli arg20 c256_i32
  let v33 : BitVec 32 := v32
  let c0_i32_32 : BitVec 32 := 0#32
  let v36 : BitVec 32 := Scalar.addi v33 c0_i32_32
  let v60 : BitVec 32 := Scalar.addi v27 v36
  v60
def k0_off84 (i : grid0.Coords) (k0_t7 : Fin k0_t7_loop.trips) (c0_i32_32 : BitVec 32) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c0_i32_34 : BitVec 32 := 0#32
  let v42 : BitVec 1 := Scalar.cmpi .sgt v16 c0_i32_34
  let v43 : BitVec 32 := Scalar.extui v42
  let c0_i32_35 : BitVec 32 := 0#32
  let v44 : BitVec 1 := Scalar.cmpi .slt v16 c0_i32_35
  let v45 : BitVec 32 := Scalar.extui v44
  let v46 : BitVec 32 := Scalar.subi v43 v45
  let c8_i32_33 : BitVec 32 := 8#32
  let c0_i32_36 : BitVec 32 := 0#32
  let v47 : BitVec 1 := Scalar.cmpi .sgt c8_i32_33 c0_i32_36
  let v48 : BitVec 32 := Scalar.extui v47
  let c0_i32_37 : BitVec 32 := 0#32
  let v49 : BitVec 1 := Scalar.cmpi .slt c8_i32_33 c0_i32_37
  let v50 : BitVec 32 := Scalar.extui v49
  let v51 : BitVec 32 := Scalar.subi v48 v50
  let v52 : BitVec 1 := Scalar.cmpi .ne v46 v51
  let v53 : BitVec 32 := Scalar.remsi v16 c8_i32_33
  let c0_i32_38 : BitVec 32 := 0#32
  let v54 : BitVec 1 := Scalar.cmpi .ne v53 c0_i32_38
  let v55 : BitVec 1 := Scalar.andi v52 v54
  let v41 : BitVec 32 := Scalar.divsi v16 c8_i32_33
  let c1_i32_39 : BitVec 32 := 1#32
  let v56 : BitVec 32 := Scalar.subi v41 c1_i32_39
  let v57 : BitVec 32 := Scalar.select v55 v56 v41
  let c8_i32_40 : BitVec 32 := 8#32
  let v58 : BitVec 32 := Scalar.muli v57 c8_i32_40
  let v59 : BitVec 32 := v58
  let v76 : Index := Scalar.indexCast v59
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c512_i32 : BitVec 32 := 512#32
  let v27 : BitVec 32 := Scalar.muli v26 c512_i32
  let c0_i32_18 : BitVec 32 := 0#32
  let c1_i32_20 : BitVec 32 := 1#32
  let arg20 : BitVec 32 := Scf.iv c0_i32_18 c1_i32_20 k0_t7
  let c256_i32 : BitVec 32 := 256#32
  let v32 : BitVec 32 := Scalar.muli arg20 c256_i32
  let v33 : BitVec 32 := v32
  let v36 : BitVec 32 := Scalar.addi v33 c0_i32_32
  let v60 : BitVec 32 := Scalar.addi v27 v36
  let v61 : BitVec 32 := v60
  let v77 : Index := Scalar.indexCast v61
  ![v76.toNat, v77.toNat]
def k0_mult109 (k0_t7 : Fin k0_t7_loop.trips) : BitVec 32 :=
  let c0_i32_18 : BitVec 32 := 0#32
  let c1_i32_20 : BitVec 32 := 1#32
  let arg20 : BitVec 32 := Scf.iv c0_i32_18 c1_i32_20 k0_t7
  let c256_i32 : BitVec 32 := 256#32
  let v32 : BitVec 32 := Scalar.muli arg20 c256_i32
  let v33 : BitVec 32 := v32
  let c128_i32 : BitVec 32 := 128#32
  let v82 : BitVec 32 := Scalar.addi v33 c128_i32
  v82
def k0_mult110 (i : grid0.Coords) : BitVec 32 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c0_i32_49 : BitVec 32 := 0#32
  let v88 : BitVec 1 := Scalar.cmpi .sgt v16 c0_i32_49
  let v89 : BitVec 32 := Scalar.extui v88
  let c0_i32_50 : BitVec 32 := 0#32
  let v90 : BitVec 1 := Scalar.cmpi .slt v16 c0_i32_50
  let v91 : BitVec 32 := Scalar.extui v90
  let v92 : BitVec 32 := Scalar.subi v89 v91
  let c8_i32_48 : BitVec 32 := 8#32
  let c0_i32_51 : BitVec 32 := 0#32
  let v93 : BitVec 1 := Scalar.cmpi .sgt c8_i32_48 c0_i32_51
  let v94 : BitVec 32 := Scalar.extui v93
  let c0_i32_52 : BitVec 32 := 0#32
  let v95 : BitVec 1 := Scalar.cmpi .slt c8_i32_48 c0_i32_52
  let v96 : BitVec 32 := Scalar.extui v95
  let v97 : BitVec 32 := Scalar.subi v94 v96
  let v98 : BitVec 1 := Scalar.cmpi .ne v92 v97
  let v99 : BitVec 32 := Scalar.remsi v16 c8_i32_48
  let c0_i32_53 : BitVec 32 := 0#32
  let v100 : BitVec 1 := Scalar.cmpi .ne v99 c0_i32_53
  let v101 : BitVec 1 := Scalar.andi v98 v100
  let v87 : BitVec 32 := Scalar.divsi v16 c8_i32_48
  let c1_i32_54 : BitVec 32 := 1#32
  let v102 : BitVec 32 := Scalar.subi v87 c1_i32_54
  let v103 : BitVec 32 := Scalar.select v101 v102 v87
  let c8_i32_55 : BitVec 32 := 8#32
  let v104 : BitVec 32 := Scalar.muli v103 c8_i32_55
  v104
def k0_mult111 (i : grid0.Coords) (k0_t7 : Fin k0_t7_loop.trips) : BitVec 32 :=
  let arg0 : BitVec 32 := BitVec.ofNat 32 (i 0).val
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c512_i32 : BitVec 32 := 512#32
  let v27 : BitVec 32 := Scalar.muli v26 c512_i32
  let c0_i32_18 : BitVec 32 := 0#32
  let c1_i32_20 : BitVec 32 := 1#32
  let arg20 : BitVec 32 := Scf.iv c0_i32_18 c1_i32_20 k0_t7
  let c256_i32 : BitVec 32 := 256#32
  let v32 : BitVec 32 := Scalar.muli arg20 c256_i32
  let v33 : BitVec 32 := v32
  let c128_i32 : BitVec 32 := 128#32
  let v82 : BitVec 32 := Scalar.addi v33 c128_i32
  let v106 : BitVec 32 := Scalar.addi v27 v82
  v106
@[reducible] def k0_t10_loop : Scf.Loop 32 :=
  let c0_i32_22 : BitVec 32 := 0#32
  let c2_i32_23 : BitVec 32 := 2#32
  let v31 : BitVec 32 := Scalar.addi c0_i32_22 c2_i32_23
  let c1_i32_24 : BitVec 32 := 1#32
  ⟨c0_i32_22, v31, c1_i32_24⟩
def k0_mult112 (k0_t10 : Fin k0_t10_loop.trips) : BitVec 32 :=
  let c0_i32_22 : BitVec 32 := 0#32
  let c1_i32_24 : BitVec 32 := 1#32
  let arg20 : BitVec 32 := Scf.iv c0_i32_22 c1_i32_24 k0_t10
  let c256_i32 : BitVec 32 := 256#32
  let v32 : BitVec 32 := Scalar.muli arg20 c256_i32
  v32
@[reducible] def k0_t11_loop : Scf.Loop 32 :=
  let c0_i32_26 : BitVec 32 := 0#32
  let c4_i32 : BitVec 32 := 4#32
  let v34 : BitVec 32 := Scalar.addi c0_i32_26 c4_i32
  let c1_i32_27 : BitVec 32 := 1#32
  ⟨c0_i32_26, v34, c1_i32_27⟩
def k0_mult113 (k0_t11 : Fin k0_t11_loop.trips) : BitVec 32 :=
  let c0_i32_26 : BitVec 32 := 0#32
  let c1_i32_27 : BitVec 32 := 1#32
  let arg21 : BitVec 32 := Scf.iv c0_i32_26 c1_i32_27 k0_t11
  let c512_i32_39 : BitVec 32 := 512#32
  let v61 : BitVec 32 := Scalar.muli arg21 c512_i32_39
  v61
def k0_off85 (k0_t10 : Fin k0_t10_loop.trips) : Fin 2 → Nat :=
  let c0_i32_22 : BitVec 32 := 0#32
  let c1_i32_24 : BitVec 32 := 1#32
  let arg20 : BitVec 32 := Scf.iv c0_i32_22 c1_i32_24 k0_t10
  let c256_i32 : BitVec 32 := 256#32
  let v32 : BitVec 32 := Scalar.muli arg20 c256_i32
  let v33 : BitVec 32 := v32
  let v63 : Index := Scalar.indexCast v33
  let c0 : Index := 0#32
  ![v63.toNat, 0]
def k0_off86 (k0_t11 : Fin k0_t11_loop.trips) : Fin 3 → Nat :=
  let c2 : Index := 2#32
  let c0_40 : Index := 0#32
  let c0_i32_26 : BitVec 32 := 0#32
  let c1_i32_27 : BitVec 32 := 1#32
  let arg21 : BitVec 32 := Scf.iv c0_i32_26 c1_i32_27 k0_t11
  let c512_i32_39 : BitVec 32 := 512#32
  let v61 : BitVec 32 := Scalar.muli arg21 c512_i32_39
  let v62 : BitVec 32 := v61
  let v66 : Index := Scalar.indexCast v62
  ![2, 0, v66.toNat]
def k0_mult114 (k0_t10 : Fin k0_t10_loop.trips) : BitVec 32 :=
  let c0_i32_22 : BitVec 32 := 0#32
  let c1_i32_24 : BitVec 32 := 1#32
  let arg20 : BitVec 32 := Scf.iv c0_i32_22 c1_i32_24 k0_t10
  let c256_i32 : BitVec 32 := 256#32
  let v32 : BitVec 32 := Scalar.muli arg20 c256_i32
  let v33 : BitVec 32 := v32
  let c0_i32_41 : BitVec 32 := 0#32
  let v70 : BitVec 32 := Scalar.addi v33 c0_i32_41
  v70
def k0_off87 (k0_t10 : Fin k0_t10_loop.trips) (c0_i32_41 : BitVec 32) : Fin 2 → Nat :=
  let c0_i32_22 : BitVec 32 := 0#32
  let c1_i32_24 : BitVec 32 := 1#32
  let arg20 : BitVec 32 := Scf.iv c0_i32_22 c1_i32_24 k0_t10
  let c256_i32 : BitVec 32 := 256#32
  let v32 : BitVec 32 := Scalar.muli arg20 c256_i32
  let v33 : BitVec 32 := v32
  let v70 : BitVec 32 := Scalar.addi v33 c0_i32_41
  let v71 : BitVec 32 := v70
  let v72 : Index := Scalar.indexCast v71
  let c0_42 : Index := 0#32
  ![v72.toNat, 0]
def k0_mult115 (k0_t11 : Fin k0_t11_loop.trips) : BitVec 32 :=
  let c0_i32_26 : BitVec 32 := 0#32
  let c1_i32_27 : BitVec 32 := 1#32
  let arg21 : BitVec 32 := Scf.iv c0_i32_26 c1_i32_27 k0_t11
  let c512_i32_39 : BitVec 32 := 512#32
  let v61 : BitVec 32 := Scalar.muli arg21 c512_i32_39
  let v62 : BitVec 32 := v61
  let c0_i32_43 : BitVec 32 := 0#32
  let v74 : BitVec 32 := Scalar.addi v62 c0_i32_43
  v74
def k0_off88 (k0_t11 : Fin k0_t11_loop.trips) (c0_i32_43 : BitVec 32) : Fin 3 → Nat :=
  let c2_44 : Index := 2#32
  let c0_45 : Index := 0#32
  let c0_i32_26 : BitVec 32 := 0#32
  let c1_i32_27 : BitVec 32 := 1#32
  let arg21 : BitVec 32 := Scf.iv c0_i32_26 c1_i32_27 k0_t11
  let c512_i32_39 : BitVec 32 := 512#32
  let v61 : BitVec 32 := Scalar.muli arg21 c512_i32_39
  let v62 : BitVec 32 := v61
  let v74 : BitVec 32 := Scalar.addi v62 c0_i32_43
  let v75 : BitVec 32 := v74
  let v78 : Index := Scalar.indexCast v75
  ![2, 0, v78.toNat]
def k0_off89 (k0_t10 : Fin k0_t10_loop.trips) (k0_t11 : Fin k0_t11_loop.trips) (c0_i32_41 : BitVec 32) (c0_i32_43 : BitVec 32) : Fin 2 → Nat :=
  let c0_i32_22 : BitVec 32 := 0#32
  let c1_i32_24 : BitVec 32 := 1#32
  let arg20 : BitVec 32 := Scf.iv c0_i32_22 c1_i32_24 k0_t10
  let c256_i32 : BitVec 32 := 256#32
  let v32 : BitVec 32 := Scalar.muli arg20 c256_i32
  let v33 : BitVec 32 := v32
  let v70 : BitVec 32 := Scalar.addi v33 c0_i32_41
  let v71 : BitVec 32 := v70
  let v88 : Index := Scalar.indexCast v71
  let c0_i32_26 : BitVec 32 := 0#32
  let c1_i32_27 : BitVec 32 := 1#32
  let arg21 : BitVec 32 := Scf.iv c0_i32_26 c1_i32_27 k0_t11
  let c512_i32_39 : BitVec 32 := 512#32
  let v61 : BitVec 32 := Scalar.muli arg21 c512_i32_39
  let v62 : BitVec 32 := v61
  let v74 : BitVec 32 := Scalar.addi v62 c0_i32_43
  let v75 : BitVec 32 := v74
  let v89 : Index := Scalar.indexCast v75
  ![v88.toNat, v89.toNat]
def k0_mult116 (k0_t11 : Fin k0_t11_loop.trips) : BitVec 32 :=
  let c0_i32_26 : BitVec 32 := 0#32
  let c1_i32_27 : BitVec 32 := 1#32
  let arg21 : BitVec 32 := Scf.iv c0_i32_26 c1_i32_27 k0_t11
  let c512_i32_39 : BitVec 32 := 512#32
  let v61 : BitVec 32 := Scalar.muli arg21 c512_i32_39
  let v62 : BitVec 32 := v61
  let c128_i32 : BitVec 32 := 128#32
  let v101 : BitVec 32 := Scalar.addi v62 c128_i32
  v101
def k0_mult117 (k0_t11 : Fin k0_t11_loop.trips) : BitVec 32 :=
  let c0_i32_26 : BitVec 32 := 0#32
  let c1_i32_27 : BitVec 32 := 1#32
  let arg21 : BitVec 32 := Scf.iv c0_i32_26 c1_i32_27 k0_t11
  let c512_i32_39 : BitVec 32 := 512#32
  let v61 : BitVec 32 := Scalar.muli arg21 c512_i32_39
  let v62 : BitVec 32 := v61
  let c256_i32_52 : BitVec 32 := 256#32
  let v128 : BitVec 32 := Scalar.addi v62 c256_i32_52
  v128
def k0_mult118 (k0_t11 : Fin k0_t11_loop.trips) : BitVec 32 :=
  let c0_i32_26 : BitVec 32 := 0#32
  let c1_i32_27 : BitVec 32 := 1#32
  let arg21 : BitVec 32 := Scf.iv c0_i32_26 c1_i32_27 k0_t11
  let c512_i32_39 : BitVec 32 := 512#32
  let v61 : BitVec 32 := Scalar.muli arg21 c512_i32_39
  let v62 : BitVec 32 := v61
  let c384_i32 : BitVec 32 := 384#32
  let v155 : BitVec 32 := Scalar.addi v62 c384_i32
  v155
def k0_mult119 (k0_t10 : Fin k0_t10_loop.trips) : BitVec 32 :=
  let c0_i32_22 : BitVec 32 := 0#32
  let c1_i32_24 : BitVec 32 := 1#32
  let arg20 : BitVec 32 := Scf.iv c0_i32_22 c1_i32_24 k0_t10
  let c256_i32 : BitVec 32 := 256#32
  let v32 : BitVec 32 := Scalar.muli arg20 c256_i32
  let v33 : BitVec 32 := v32
  let c32_i32 : BitVec 32 := 32#32
  let v182 : BitVec 32 := Scalar.addi v33 c32_i32
  v182
def k0_mult120 (k0_t11 : Fin k0_t11_loop.trips) : BitVec 32 :=
  let c0_i32_26 : BitVec 32 := 0#32
  let c1_i32_27 : BitVec 32 := 1#32
  let arg21 : BitVec 32 := Scf.iv c0_i32_26 c1_i32_27 k0_t11
  let c512_i32_39 : BitVec 32 := 512#32
  let v61 : BitVec 32 := Scalar.muli arg21 c512_i32_39
  let v62 : BitVec 32 := v61
  let c0_i32_62 : BitVec 32 := 0#32
  let v186 : BitVec 32 := Scalar.addi v62 c0_i32_62
  v186
def k0_mult121 (k0_t11 : Fin k0_t11_loop.trips) : BitVec 32 :=
  let c0_i32_26 : BitVec 32 := 0#32
  let c1_i32_27 : BitVec 32 := 1#32
  let arg21 : BitVec 32 := Scf.iv c0_i32_26 c1_i32_27 k0_t11
  let c512_i32_39 : BitVec 32 := 512#32
  let v61 : BitVec 32 := Scalar.muli arg21 c512_i32_39
  let v62 : BitVec 32 := v61
  let c128_i32_67 : BitVec 32 := 128#32
  let v213 : BitVec 32 := Scalar.addi v62 c128_i32_67
  v213
def k0_mult122 (k0_t11 : Fin k0_t11_loop.trips) : BitVec 32 :=
  let c0_i32_26 : BitVec 32 := 0#32
  let c1_i32_27 : BitVec 32 := 1#32
  let arg21 : BitVec 32 := Scf.iv c0_i32_26 c1_i32_27 k0_t11
  let c512_i32_39 : BitVec 32 := 512#32
  let v61 : BitVec 32 := Scalar.muli arg21 c512_i32_39
  let v62 : BitVec 32 := v61
  let c256_i32_72 : BitVec 32 := 256#32
  let v240 : BitVec 32 := Scalar.addi v62 c256_i32_72
  v240
def k0_mult123 (k0_t11 : Fin k0_t11_loop.trips) : BitVec 32 :=
  let c0_i32_26 : BitVec 32 := 0#32
  let c1_i32_27 : BitVec 32 := 1#32
  let arg21 : BitVec 32 := Scf.iv c0_i32_26 c1_i32_27 k0_t11
  let c512_i32_39 : BitVec 32 := 512#32
  let v61 : BitVec 32 := Scalar.muli arg21 c512_i32_39
  let v62 : BitVec 32 := v61
  let c384_i32_77 : BitVec 32 := 384#32
  let v267 : BitVec 32 := Scalar.addi v62 c384_i32_77
  v267
def k0_mult124 (k0_t10 : Fin k0_t10_loop.trips) : BitVec 32 :=
  let c0_i32_22 : BitVec 32 := 0#32
  let c1_i32_24 : BitVec 32 := 1#32
  let arg20 : BitVec 32 := Scf.iv c0_i32_22 c1_i32_24 k0_t10
  let c256_i32 : BitVec 32 := 256#32
  let v32 : BitVec 32 := Scalar.muli arg20 c256_i32
  let v33 : BitVec 32 := v32
  let c64_i32_82 : BitVec 32 := 64#32
  let v294 : BitVec 32 := Scalar.addi v33 c64_i32_82
  v294
def k0_mult125 (k0_t11 : Fin k0_t11_loop.trips) : BitVec 32 :=
  let c0_i32_26 : BitVec 32 := 0#32
  let c1_i32_27 : BitVec 32 := 1#32
  let arg21 : BitVec 32 := Scf.iv c0_i32_26 c1_i32_27 k0_t11
  let c512_i32_39 : BitVec 32 := 512#32
  let v61 : BitVec 32 := Scalar.muli arg21 c512_i32_39
  let v62 : BitVec 32 := v61
  let c0_i32_84 : BitVec 32 := 0#32
  let v298 : BitVec 32 := Scalar.addi v62 c0_i32_84
  v298
def k0_mult126 (k0_t11 : Fin k0_t11_loop.trips) : BitVec 32 :=
  let c0_i32_26 : BitVec 32 := 0#32
  let c1_i32_27 : BitVec 32 := 1#32
  let arg21 : BitVec 32 := Scf.iv c0_i32_26 c1_i32_27 k0_t11
  let c512_i32_39 : BitVec 32 := 512#32
  let v61 : BitVec 32 := Scalar.muli arg21 c512_i32_39
  let v62 : BitVec 32 := v61
  let c128_i32_89 : BitVec 32 := 128#32
  let v325 : BitVec 32 := Scalar.addi v62 c128_i32_89
  v325
def k0_mult127 (k0_t11 : Fin k0_t11_loop.trips) : BitVec 32 :=
  let c0_i32_26 : BitVec 32 := 0#32
  let c1_i32_27 : BitVec 32 := 1#32
  let arg21 : BitVec 32 := Scf.iv c0_i32_26 c1_i32_27 k0_t11
  let c512_i32_39 : BitVec 32 := 512#32
  let v61 : BitVec 32 := Scalar.muli arg21 c512_i32_39
  let v62 : BitVec 32 := v61
  let c256_i32_94 : BitVec 32 := 256#32
  let v352 : BitVec 32 := Scalar.addi v62 c256_i32_94
  v352
def k0_mult128 (k0_t11 : Fin k0_t11_loop.trips) : BitVec 32 :=
  let c0_i32_26 : BitVec 32 := 0#32
  let c1_i32_27 : BitVec 32 := 1#32
  let arg21 : BitVec 32 := Scf.iv c0_i32_26 c1_i32_27 k0_t11
  let c512_i32_39 : BitVec 32 := 512#32
  let v61 : BitVec 32 := Scalar.muli arg21 c512_i32_39
  let v62 : BitVec 32 := v61
  let c384_i32_99 : BitVec 32 := 384#32
  let v379 : BitVec 32 := Scalar.addi v62 c384_i32_99
  v379
def k0_mult129 (k0_t10 : Fin k0_t10_loop.trips) : BitVec 32 :=
  let c0_i32_22 : BitVec 32 := 0#32
  let c1_i32_24 : BitVec 32 := 1#32
  let arg20 : BitVec 32 := Scf.iv c0_i32_22 c1_i32_24 k0_t10
  let c256_i32 : BitVec 32 := 256#32
  let v32 : BitVec 32 := Scalar.muli arg20 c256_i32
  let v33 : BitVec 32 := v32
  let c96_i32 : BitVec 32 := 96#32
  let v406 : BitVec 32 := Scalar.addi v33 c96_i32
  v406
def k0_mult130 (k0_t11 : Fin k0_t11_loop.trips) : BitVec 32 :=
  let c0_i32_26 : BitVec 32 := 0#32
  let c1_i32_27 : BitVec 32 := 1#32
  let arg21 : BitVec 32 := Scf.iv c0_i32_26 c1_i32_27 k0_t11
  let c512_i32_39 : BitVec 32 := 512#32
  let v61 : BitVec 32 := Scalar.muli arg21 c512_i32_39
  let v62 : BitVec 32 := v61
  let c0_i32_105 : BitVec 32 := 0#32
  let v410 : BitVec 32 := Scalar.addi v62 c0_i32_105
  v410
def k0_mult131 (k0_t11 : Fin k0_t11_loop.trips) : BitVec 32 :=
  let c0_i32_26 : BitVec 32 := 0#32
  let c1_i32_27 : BitVec 32 := 1#32
  let arg21 : BitVec 32 := Scf.iv c0_i32_26 c1_i32_27 k0_t11
  let c512_i32_39 : BitVec 32 := 512#32
  let v61 : BitVec 32 := Scalar.muli arg21 c512_i32_39
  let v62 : BitVec 32 := v61
  let c128_i32_110 : BitVec 32 := 128#32
  let v437 : BitVec 32 := Scalar.addi v62 c128_i32_110
  v437
def k0_mult132 (k0_t11 : Fin k0_t11_loop.trips) : BitVec 32 :=
  let c0_i32_26 : BitVec 32 := 0#32
  let c1_i32_27 : BitVec 32 := 1#32
  let arg21 : BitVec 32 := Scf.iv c0_i32_26 c1_i32_27 k0_t11
  let c512_i32_39 : BitVec 32 := 512#32
  let v61 : BitVec 32 := Scalar.muli arg21 c512_i32_39
  let v62 : BitVec 32 := v61
  let c256_i32_115 : BitVec 32 := 256#32
  let v464 : BitVec 32 := Scalar.addi v62 c256_i32_115
  v464
def k0_mult133 (k0_t11 : Fin k0_t11_loop.trips) : BitVec 32 :=
  let c0_i32_26 : BitVec 32 := 0#32
  let c1_i32_27 : BitVec 32 := 1#32
  let arg21 : BitVec 32 := Scf.iv c0_i32_26 c1_i32_27 k0_t11
  let c512_i32_39 : BitVec 32 := 512#32
  let v61 : BitVec 32 := Scalar.muli arg21 c512_i32_39
  let v62 : BitVec 32 := v61
  let c384_i32_120 : BitVec 32 := 384#32
  let v491 : BitVec 32 := Scalar.addi v62 c384_i32_120
  v491
def k0_mult134 (k0_t10 : Fin k0_t10_loop.trips) : BitVec 32 :=
  let c0_i32_22 : BitVec 32 := 0#32
  let c1_i32_24 : BitVec 32 := 1#32
  let arg20 : BitVec 32 := Scf.iv c0_i32_22 c1_i32_24 k0_t10
  let c256_i32 : BitVec 32 := 256#32
  let v32 : BitVec 32 := Scalar.muli arg20 c256_i32
  let v33 : BitVec 32 := v32
  let c128_i32_125 : BitVec 32 := 128#32
  let v518 : BitVec 32 := Scalar.addi v33 c128_i32_125
  v518
def k0_mult135 (k0_t11 : Fin k0_t11_loop.trips) : BitVec 32 :=
  let c0_i32_26 : BitVec 32 := 0#32
  let c1_i32_27 : BitVec 32 := 1#32
  let arg21 : BitVec 32 := Scf.iv c0_i32_26 c1_i32_27 k0_t11
  let c512_i32_39 : BitVec 32 := 512#32
  let v61 : BitVec 32 := Scalar.muli arg21 c512_i32_39
  let v62 : BitVec 32 := v61
  let c0_i32_127 : BitVec 32 := 0#32
  let v522 : BitVec 32 := Scalar.addi v62 c0_i32_127
  v522
def k0_mult136 (k0_t11 : Fin k0_t11_loop.trips) : BitVec 32 :=
  let c0_i32_26 : BitVec 32 := 0#32
  let c1_i32_27 : BitVec 32 := 1#32
  let arg21 : BitVec 32 := Scf.iv c0_i32_26 c1_i32_27 k0_t11
  let c512_i32_39 : BitVec 32 := 512#32
  let v61 : BitVec 32 := Scalar.muli arg21 c512_i32_39
  let v62 : BitVec 32 := v61
  let c128_i32_132 : BitVec 32 := 128#32
  let v549 : BitVec 32 := Scalar.addi v62 c128_i32_132
  v549
def k0_mult137 (k0_t11 : Fin k0_t11_loop.trips) : BitVec 32 :=
  let c0_i32_26 : BitVec 32 := 0#32
  let c1_i32_27 : BitVec 32 := 1#32
  let arg21 : BitVec 32 := Scf.iv c0_i32_26 c1_i32_27 k0_t11
  let c512_i32_39 : BitVec 32 := 512#32
  let v61 : BitVec 32 := Scalar.muli arg21 c512_i32_39
  let v62 : BitVec 32 := v61
  let c256_i32_137 : BitVec 32 := 256#32
  let v576 : BitVec 32 := Scalar.addi v62 c256_i32_137
  v576
def k0_mult138 (k0_t11 : Fin k0_t11_loop.trips) : BitVec 32 :=
  let c0_i32_26 : BitVec 32 := 0#32
  let c1_i32_27 : BitVec 32 := 1#32
  let arg21 : BitVec 32 := Scf.iv c0_i32_26 c1_i32_27 k0_t11
  let c512_i32_39 : BitVec 32 := 512#32
  let v61 : BitVec 32 := Scalar.muli arg21 c512_i32_39
  let v62 : BitVec 32 := v61
  let c384_i32_142 : BitVec 32 := 384#32
  let v603 : BitVec 32 := Scalar.addi v62 c384_i32_142
  v603
def k0_mult139 (k0_t10 : Fin k0_t10_loop.trips) : BitVec 32 :=
  let c0_i32_22 : BitVec 32 := 0#32
  let c1_i32_24 : BitVec 32 := 1#32
  let arg20 : BitVec 32 := Scf.iv c0_i32_22 c1_i32_24 k0_t10
  let c256_i32 : BitVec 32 := 256#32
  let v32 : BitVec 32 := Scalar.muli arg20 c256_i32
  let v33 : BitVec 32 := v32
  let c160_i32 : BitVec 32 := 160#32
  let v630 : BitVec 32 := Scalar.addi v33 c160_i32
  v630
def k0_mult140 (k0_t11 : Fin k0_t11_loop.trips) : BitVec 32 :=
  let c0_i32_26 : BitVec 32 := 0#32
  let c1_i32_27 : BitVec 32 := 1#32
  let arg21 : BitVec 32 := Scf.iv c0_i32_26 c1_i32_27 k0_t11
  let c512_i32_39 : BitVec 32 := 512#32
  let v61 : BitVec 32 := Scalar.muli arg21 c512_i32_39
  let v62 : BitVec 32 := v61
  let c0_i32_148 : BitVec 32 := 0#32
  let v634 : BitVec 32 := Scalar.addi v62 c0_i32_148
  v634
def k0_mult141 (k0_t11 : Fin k0_t11_loop.trips) : BitVec 32 :=
  let c0_i32_26 : BitVec 32 := 0#32
  let c1_i32_27 : BitVec 32 := 1#32
  let arg21 : BitVec 32 := Scf.iv c0_i32_26 c1_i32_27 k0_t11
  let c512_i32_39 : BitVec 32 := 512#32
  let v61 : BitVec 32 := Scalar.muli arg21 c512_i32_39
  let v62 : BitVec 32 := v61
  let c128_i32_153 : BitVec 32 := 128#32
  let v661 : BitVec 32 := Scalar.addi v62 c128_i32_153
  v661
def k0_mult142 (k0_t11 : Fin k0_t11_loop.trips) : BitVec 32 :=
  let c0_i32_26 : BitVec 32 := 0#32
  let c1_i32_27 : BitVec 32 := 1#32
  let arg21 : BitVec 32 := Scf.iv c0_i32_26 c1_i32_27 k0_t11
  let c512_i32_39 : BitVec 32 := 512#32
  let v61 : BitVec 32 := Scalar.muli arg21 c512_i32_39
  let v62 : BitVec 32 := v61
  let c256_i32_158 : BitVec 32 := 256#32
  let v688 : BitVec 32 := Scalar.addi v62 c256_i32_158
  v688
def k0_mult143 (k0_t11 : Fin k0_t11_loop.trips) : BitVec 32 :=
  let c0_i32_26 : BitVec 32 := 0#32
  let c1_i32_27 : BitVec 32 := 1#32
  let arg21 : BitVec 32 := Scf.iv c0_i32_26 c1_i32_27 k0_t11
  let c512_i32_39 : BitVec 32 := 512#32
  let v61 : BitVec 32 := Scalar.muli arg21 c512_i32_39
  let v62 : BitVec 32 := v61
  let c384_i32_163 : BitVec 32 := 384#32
  let v715 : BitVec 32 := Scalar.addi v62 c384_i32_163
  v715
def k0_mult144 (k0_t10 : Fin k0_t10_loop.trips) : BitVec 32 :=
  let c0_i32_22 : BitVec 32 := 0#32
  let c1_i32_24 : BitVec 32 := 1#32
  let arg20 : BitVec 32 := Scf.iv c0_i32_22 c1_i32_24 k0_t10
  let c256_i32 : BitVec 32 := 256#32
  let v32 : BitVec 32 := Scalar.muli arg20 c256_i32
  let v33 : BitVec 32 := v32
  let c192_i32 : BitVec 32 := 192#32
  let v742 : BitVec 32 := Scalar.addi v33 c192_i32
  v742
def k0_mult145 (k0_t11 : Fin k0_t11_loop.trips) : BitVec 32 :=
  let c0_i32_26 : BitVec 32 := 0#32
  let c1_i32_27 : BitVec 32 := 1#32
  let arg21 : BitVec 32 := Scf.iv c0_i32_26 c1_i32_27 k0_t11
  let c512_i32_39 : BitVec 32 := 512#32
  let v61 : BitVec 32 := Scalar.muli arg21 c512_i32_39
  let v62 : BitVec 32 := v61
  let c0_i32_169 : BitVec 32 := 0#32
  let v746 : BitVec 32 := Scalar.addi v62 c0_i32_169
  v746
def k0_mult146 (k0_t11 : Fin k0_t11_loop.trips) : BitVec 32 :=
  let c0_i32_26 : BitVec 32 := 0#32
  let c1_i32_27 : BitVec 32 := 1#32
  let arg21 : BitVec 32 := Scf.iv c0_i32_26 c1_i32_27 k0_t11
  let c512_i32_39 : BitVec 32 := 512#32
  let v61 : BitVec 32 := Scalar.muli arg21 c512_i32_39
  let v62 : BitVec 32 := v61
  let c128_i32_174 : BitVec 32 := 128#32
  let v773 : BitVec 32 := Scalar.addi v62 c128_i32_174
  v773
def k0_mult147 (k0_t11 : Fin k0_t11_loop.trips) : BitVec 32 :=
  let c0_i32_26 : BitVec 32 := 0#32
  let c1_i32_27 : BitVec 32 := 1#32
  let arg21 : BitVec 32 := Scf.iv c0_i32_26 c1_i32_27 k0_t11
  let c512_i32_39 : BitVec 32 := 512#32
  let v61 : BitVec 32 := Scalar.muli arg21 c512_i32_39
  let v62 : BitVec 32 := v61
  let c256_i32_179 : BitVec 32 := 256#32
  let v800 : BitVec 32 := Scalar.addi v62 c256_i32_179
  v800
def k0_mult148 (k0_t11 : Fin k0_t11_loop.trips) : BitVec 32 :=
  let c0_i32_26 : BitVec 32 := 0#32
  let c1_i32_27 : BitVec 32 := 1#32
  let arg21 : BitVec 32 := Scf.iv c0_i32_26 c1_i32_27 k0_t11
  let c512_i32_39 : BitVec 32 := 512#32
  let v61 : BitVec 32 := Scalar.muli arg21 c512_i32_39
  let v62 : BitVec 32 := v61
  let c384_i32_184 : BitVec 32 := 384#32
  let v827 : BitVec 32 := Scalar.addi v62 c384_i32_184
  v827
def k0_mult149 (k0_t10 : Fin k0_t10_loop.trips) : BitVec 32 :=
  let c0_i32_22 : BitVec 32 := 0#32
  let c1_i32_24 : BitVec 32 := 1#32
  let arg20 : BitVec 32 := Scf.iv c0_i32_22 c1_i32_24 k0_t10
  let c256_i32 : BitVec 32 := 256#32
  let v32 : BitVec 32 := Scalar.muli arg20 c256_i32
  let v33 : BitVec 32 := v32
  let c224_i32 : BitVec 32 := 224#32
  let v854 : BitVec 32 := Scalar.addi v33 c224_i32
  v854
def k0_mult150 (k0_t11 : Fin k0_t11_loop.trips) : BitVec 32 :=
  let c0_i32_26 : BitVec 32 := 0#32
  let c1_i32_27 : BitVec 32 := 1#32
  let arg21 : BitVec 32 := Scf.iv c0_i32_26 c1_i32_27 k0_t11
  let c512_i32_39 : BitVec 32 := 512#32
  let v61 : BitVec 32 := Scalar.muli arg21 c512_i32_39
  let v62 : BitVec 32 := v61
  let c0_i32_190 : BitVec 32 := 0#32
  let v858 : BitVec 32 := Scalar.addi v62 c0_i32_190
  v858
def k0_mult151 (k0_t11 : Fin k0_t11_loop.trips) : BitVec 32 :=
  let c0_i32_26 : BitVec 32 := 0#32
  let c1_i32_27 : BitVec 32 := 1#32
  let arg21 : BitVec 32 := Scf.iv c0_i32_26 c1_i32_27 k0_t11
  let c512_i32_39 : BitVec 32 := 512#32
  let v61 : BitVec 32 := Scalar.muli arg21 c512_i32_39
  let v62 : BitVec 32 := v61
  let c128_i32_195 : BitVec 32 := 128#32
  let v885 : BitVec 32 := Scalar.addi v62 c128_i32_195
  v885
def k0_mult152 (k0_t11 : Fin k0_t11_loop.trips) : BitVec 32 :=
  let c0_i32_26 : BitVec 32 := 0#32
  let c1_i32_27 : BitVec 32 := 1#32
  let arg21 : BitVec 32 := Scf.iv c0_i32_26 c1_i32_27 k0_t11
  let c512_i32_39 : BitVec 32 := 512#32
  let v61 : BitVec 32 := Scalar.muli arg21 c512_i32_39
  let v62 : BitVec 32 := v61
  let c256_i32_200 : BitVec 32 := 256#32
  let v912 : BitVec 32 := Scalar.addi v62 c256_i32_200
  v912
def k0_mult153 (k0_t11 : Fin k0_t11_loop.trips) : BitVec 32 :=
  let c0_i32_26 : BitVec 32 := 0#32
  let c1_i32_27 : BitVec 32 := 1#32
  let arg21 : BitVec 32 := Scf.iv c0_i32_26 c1_i32_27 k0_t11
  let c512_i32_39 : BitVec 32 := 512#32
  let v61 : BitVec 32 := Scalar.muli arg21 c512_i32_39
  let v62 : BitVec 32 := v61
  let c384_i32_205 : BitVec 32 := 384#32
  let v939 : BitVec 32 := Scalar.addi v62 c384_i32_205
  v939
@[reducible] def k0_t12_loop : Scf.Loop 32 :=
  let c0_i32_35 : BitVec 32 := 0#32
  let c2_i32_36 : BitVec 32 := 2#32
  let v60 : BitVec 32 := Scalar.addi c0_i32_35 c2_i32_36
  let c1_i32_37 : BitVec 32 := 1#32
  ⟨c0_i32_35, v60, c1_i32_37⟩
def k0_mult154 (k0_t12 : Fin k0_t12_loop.trips) : BitVec 32 :=
  let c0_i32_35 : BitVec 32 := 0#32
  let c1_i32_37 : BitVec 32 := 1#32
  let arg21 : BitVec 32 := Scf.iv c0_i32_35 c1_i32_37 k0_t12
  let c128_i32 : BitVec 32 := 128#32
  let v61 : BitVec 32 := Scalar.muli arg21 c128_i32
  v61
def k0_mult155 (k0_t10 : Fin k0_t10_loop.trips) (k0_t12 : Fin k0_t12_loop.trips) : BitVec 32 :=
  let c0_i32_22 : BitVec 32 := 0#32
  let c1_i32_24 : BitVec 32 := 1#32
  let arg20 : BitVec 32 := Scf.iv c0_i32_22 c1_i32_24 k0_t10
  let c256_i32 : BitVec 32 := 256#32
  let v32 : BitVec 32 := Scalar.muli arg20 c256_i32
  let v33 : BitVec 32 := v32
  let c0_i32_35 : BitVec 32 := 0#32
  let c1_i32_37 : BitVec 32 := 1#32
  let arg21 : BitVec 32 := Scf.iv c0_i32_35 c1_i32_37 k0_t12
  let c128_i32 : BitVec 32 := 128#32
  let v61 : BitVec 32 := Scalar.muli arg21 c128_i32
  let v62 : BitVec 32 := v61
  let v63 : BitVec 32 := Scalar.addi v33 v62
  v63
@[reducible] def k0_t13_loop : Scf.Loop 32 :=
  let c0_i32_39 : BitVec 32 := 0#32
  let c16_i32 : BitVec 32 := 16#32
  let v65 : BitVec 32 := Scalar.addi c0_i32_39 c16_i32
  let c1_i32_40 : BitVec 32 := 1#32
  ⟨c0_i32_39, v65, c1_i32_40⟩
def k0_mult156 (k0_t13 : Fin k0_t13_loop.trips) : BitVec 32 :=
  let c0_i32_39 : BitVec 32 := 0#32
  let c1_i32_40 : BitVec 32 := 1#32
  let arg22 : BitVec 32 := Scf.iv c0_i32_39 c1_i32_40 k0_t13
  let c1_i32_59 : BitVec 32 := 1#32
  let v143 : BitVec 32 := Scalar.muli arg22 c1_i32_59
  v143
def k0_mult157 (k0_t13 : Fin k0_t13_loop.trips) : BitVec 32 :=
  let c0_i32_39 : BitVec 32 := 0#32
  let c1_i32_40 : BitVec 32 := 1#32
  let arg22 : BitVec 32 := Scf.iv c0_i32_39 c1_i32_40 k0_t13
  let c1_i32_59 : BitVec 32 := 1#32
  let v143 : BitVec 32 := Scalar.muli arg22 c1_i32_59
  let v144 : BitVec 32 := v143
  let c128_i32_60 : BitVec 32 := 128#32
  let v145 : BitVec 32 := Scalar.muli v144 c128_i32_60
  v145
def k0_off90 (k0_t10 : Fin k0_t10_loop.trips) (k0_t12 : Fin k0_t12_loop.trips) (k0_t13 : Fin k0_t13_loop.trips) : Fin 2 → Nat :=
  let c0_i32_22 : BitVec 32 := 0#32
  let c1_i32_24 : BitVec 32 := 1#32
  let arg20 : BitVec 32 := Scf.iv c0_i32_22 c1_i32_24 k0_t10
  let c256_i32 : BitVec 32 := 256#32
  let v32 : BitVec 32 := Scalar.muli arg20 c256_i32
  let v33 : BitVec 32 := v32
  let c0_i32_35 : BitVec 32 := 0#32
  let c1_i32_37 : BitVec 32 := 1#32
  let arg21 : BitVec 32 := Scf.iv c0_i32_35 c1_i32_37 k0_t12
  let c128_i32 : BitVec 32 := 128#32
  let v61 : BitVec 32 := Scalar.muli arg21 c128_i32
  let v62 : BitVec 32 := v61
  let v63 : BitVec 32 := Scalar.addi v33 v62
  let v64 : BitVec 32 := v63
  let v147 : Index := Scalar.indexCast v64
  let c0_i32_39 : BitVec 32 := 0#32
  let c1_i32_40 : BitVec 32 := 1#32
  let arg22 : BitVec 32 := Scf.iv c0_i32_39 c1_i32_40 k0_t13
  let c1_i32_59 : BitVec 32 := 1#32
  let v143 : BitVec 32 := Scalar.muli arg22 c1_i32_59
  let v144 : BitVec 32 := v143
  let c128_i32_60 : BitVec 32 := 128#32
  let v145 : BitVec 32 := Scalar.muli v144 c128_i32_60
  let v146 : BitVec 32 := v145
  let v148 : Index := Scalar.indexCast v146
  ![v147.toNat, v148.toNat]
def k0_mult158 (k0_t13 : Fin k0_t13_loop.trips) : BitVec 32 :=
  let c2_i32_61 : BitVec 32 := 2#32
  let c0_i32_39 : BitVec 32 := 0#32
  let c1_i32_40 : BitVec 32 := 1#32
  let arg22 : BitVec 32 := Scf.iv c0_i32_39 c1_i32_40 k0_t13
  let c1_i32_59 : BitVec 32 := 1#32
  let v143 : BitVec 32 := Scalar.muli arg22 c1_i32_59
  let v144 : BitVec 32 := v143
  let v167 : BitVec 32 := Scalar.muli c2_i32_61 v144
  let c0_i32_62 : BitVec 32 := 0#32
  let v168 : BitVec 32 := Scalar.addi v167 c0_i32_62
  let c8_i32 : BitVec 32 := 8#32
  let v169 : BitVec 32 := Scalar.muli v168 c8_i32
  v169
def k0_off91 (k0_t13 : Fin k0_t13_loop.trips) (c0_i32_62 : BitVec 32) : Fin 2 → Nat :=
  let c2_i32_61 : BitVec 32 := 2#32
  let c0_i32_39 : BitVec 32 := 0#32
  let c1_i32_40 : BitVec 32 := 1#32
  let arg22 : BitVec 32 := Scf.iv c0_i32_39 c1_i32_40 k0_t13
  let c1_i32_59 : BitVec 32 := 1#32
  let v143 : BitVec 32 := Scalar.muli arg22 c1_i32_59
  let v144 : BitVec 32 := v143
  let v167 : BitVec 32 := Scalar.muli c2_i32_61 v144
  let v168 : BitVec 32 := Scalar.addi v167 c0_i32_62
  let c8_i32 : BitVec 32 := 8#32
  let v169 : BitVec 32 := Scalar.muli v168 c8_i32
  let v170 : BitVec 32 := v169
  let v171 : Index := Scalar.indexCast v170
  let c0_63 : Index := 0#32
  ![v171.toNat, 0]
def k0_mult159 (k0_t13 : Fin k0_t13_loop.trips) : BitVec 32 :=
  let c2_i32_64 : BitVec 32 := 2#32
  let c0_i32_39 : BitVec 32 := 0#32
  let c1_i32_40 : BitVec 32 := 1#32
  let arg22 : BitVec 32 := Scf.iv c0_i32_39 c1_i32_40 k0_t13
  let c1_i32_59 : BitVec 32 := 1#32
  let v143 : BitVec 32 := Scalar.muli arg22 c1_i32_59
  let v144 : BitVec 32 := v143
  let v190 : BitVec 32 := Scalar.muli c2_i32_64 v144
  let c1_i32_65 : BitVec 32 := 1#32
  let v191 : BitVec 32 := Scalar.addi v190 c1_i32_65
  let c8_i32_66 : BitVec 32 := 8#32
  let v192 : BitVec 32 := Scalar.muli v191 c8_i32_66
  v192
def k0_off92 (k0_t10 : Fin k0_t10_loop.trips) (k0_t12 : Fin k0_t12_loop.trips) : Fin 2 → Nat :=
  let c0_i32_22 : BitVec 32 := 0#32
  let c1_i32_24 : BitVec 32 := 1#32
  let arg20 : BitVec 32 := Scf.iv c0_i32_22 c1_i32_24 k0_t10
  let c256_i32 : BitVec 32 := 256#32
  let v32 : BitVec 32 := Scalar.muli arg20 c256_i32
  let v33 : BitVec 32 := v32
  let c0_i32_35 : BitVec 32 := 0#32
  let c1_i32_37 : BitVec 32 := 1#32
  let arg21 : BitVec 32 := Scf.iv c0_i32_35 c1_i32_37 k0_t12
  let c128_i32 : BitVec 32 := 128#32
  let v61 : BitVec 32 := Scalar.muli arg21 c128_i32
  let v62 : BitVec 32 := v61
  let v63 : BitVec 32 := Scalar.addi v33 v62
  let v64 : BitVec 32 := v63
  let v140 : Index := Scalar.indexCast v64
  let c0_54 : Index := 0#32
  ![v140.toNat, 0]
@[reducible] def k0_t14_loop : Scf.Loop 32 :=
  let c0_i32_55 : BitVec 32 := 0#32
  let c16_i32_56 : BitVec 32 := 16#32
  let v142 : BitVec 32 := Scalar.addi c0_i32_55 c16_i32_56
  let c1_i32_57 : BitVec 32 := 1#32
  ⟨c0_i32_55, v142, c1_i32_57⟩
def k0_mult160 (k0_t14 : Fin k0_t14_loop.trips) : BitVec 32 :=
  let c0_i32_55 : BitVec 32 := 0#32
  let c1_i32_57 : BitVec 32 := 1#32
  let arg22 : BitVec 32 := Scf.iv c0_i32_55 c1_i32_57 k0_t14
  let c1_i32_59 : BitVec 32 := 1#32
  let v143 : BitVec 32 := Scalar.muli arg22 c1_i32_59
  v143
def k0_mult161 (k0_t10 : Fin k0_t10_loop.trips) (k0_t12 : Fin k0_t12_loop.trips) : BitVec 32 :=
  let c0_i32_22 : BitVec 32 := 0#32
  let c1_i32_24 : BitVec 32 := 1#32
  let arg20 : BitVec 32 := Scf.iv c0_i32_22 c1_i32_24 k0_t10
  let c256_i32 : BitVec 32 := 256#32
  let v32 : BitVec 32 := Scalar.muli arg20 c256_i32
  let v33 : BitVec 32 := v32
  let c0_i32_35 : BitVec 32 := 0#32
  let c1_i32_37 : BitVec 32 := 1#32
  let arg21 : BitVec 32 := Scf.iv c0_i32_35 c1_i32_37 k0_t12
  let c128_i32 : BitVec 32 := 128#32
  let v61 : BitVec 32 := Scalar.muli arg21 c128_i32
  let v62 : BitVec 32 := v61
  let v145 : BitVec 32 := Scalar.addi v33 v62
  let c0_i32_60 : BitVec 32 := 0#32
  let v146 : BitVec 32 := Scalar.addi v145 c0_i32_60
  v146
def k0_mult162 (k0_t14 : Fin k0_t14_loop.trips) : BitVec 32 :=
  let c0_i32_55 : BitVec 32 := 0#32
  let c1_i32_57 : BitVec 32 := 1#32
  let arg22 : BitVec 32 := Scf.iv c0_i32_55 c1_i32_57 k0_t14
  let c1_i32_59 : BitVec 32 := 1#32
  let v143 : BitVec 32 := Scalar.muli arg22 c1_i32_59
  let v144 : BitVec 32 := v143
  let c128_i32_76 : BitVec 32 := 128#32
  let v200 : BitVec 32 := Scalar.muli v144 c128_i32_76
  v200
def k0_off93 (k0_t10 : Fin k0_t10_loop.trips) (k0_t12 : Fin k0_t12_loop.trips) (k0_t14 : Fin k0_t14_loop.trips) (c0_i32_60 : BitVec 32) : Fin 2 → Nat :=
  let c0_i32_22 : BitVec 32 := 0#32
  let c1_i32_24 : BitVec 32 := 1#32
  let arg20 : BitVec 32 := Scf.iv c0_i32_22 c1_i32_24 k0_t10
  let c256_i32 : BitVec 32 := 256#32
  let v32 : BitVec 32 := Scalar.muli arg20 c256_i32
  let v33 : BitVec 32 := v32
  let c0_i32_35 : BitVec 32 := 0#32
  let c1_i32_37 : BitVec 32 := 1#32
  let arg21 : BitVec 32 := Scf.iv c0_i32_35 c1_i32_37 k0_t12
  let c128_i32 : BitVec 32 := 128#32
  let v61 : BitVec 32 := Scalar.muli arg21 c128_i32
  let v62 : BitVec 32 := v61
  let v145 : BitVec 32 := Scalar.addi v33 v62
  let v146 : BitVec 32 := Scalar.addi v145 c0_i32_60
  let v147 : BitVec 32 := v146
  let v202 : Index := Scalar.indexCast v147
  let c0_i32_55 : BitVec 32 := 0#32
  let c1_i32_57 : BitVec 32 := 1#32
  let arg22 : BitVec 32 := Scf.iv c0_i32_55 c1_i32_57 k0_t14
  let c1_i32_59 : BitVec 32 := 1#32
  let v143 : BitVec 32 := Scalar.muli arg22 c1_i32_59
  let v144 : BitVec 32 := v143
  let c128_i32_76 : BitVec 32 := 128#32
  let v200 : BitVec 32 := Scalar.muli v144 c128_i32_76
  let v201 : BitVec 32 := v200
  let v203 : Index := Scalar.indexCast v201
  ![v202.toNat, v203.toNat]
def k0_mult163 (k0_t14 : Fin k0_t14_loop.trips) : BitVec 32 :=
  let c0_i32_55 : BitVec 32 := 0#32
  let c1_i32_57 : BitVec 32 := 1#32
  let arg22 : BitVec 32 := Scf.iv c0_i32_55 c1_i32_57 k0_t14
  let c1_i32_59 : BitVec 32 := 1#32
  let v143 : BitVec 32 := Scalar.muli arg22 c1_i32_59
  let v144 : BitVec 32 := v143
  let c128_i32_79 : BitVec 32 := 128#32
  let v212 : BitVec 32 := Scalar.muli v144 c128_i32_79
  v212
def k0_mult164 (k0_t10 : Fin k0_t10_loop.trips) (k0_t12 : Fin k0_t12_loop.trips) : BitVec 32 :=
  let c0_i32_22 : BitVec 32 := 0#32
  let c1_i32_24 : BitVec 32 := 1#32
  let arg20 : BitVec 32 := Scf.iv c0_i32_22 c1_i32_24 k0_t10
  let c256_i32 : BitVec 32 := 256#32
  let v32 : BitVec 32 := Scalar.muli arg20 c256_i32
  let v33 : BitVec 32 := v32
  let c0_i32_35 : BitVec 32 := 0#32
  let c1_i32_37 : BitVec 32 := 1#32
  let arg21 : BitVec 32 := Scf.iv c0_i32_35 c1_i32_37 k0_t12
  let c128_i32 : BitVec 32 := 128#32
  let v61 : BitVec 32 := Scalar.muli arg21 c128_i32
  let v62 : BitVec 32 := v61
  let v217 : BitVec 32 := Scalar.addi v33 v62
  let c32_i32_80 : BitVec 32 := 32#32
  let v218 : BitVec 32 := Scalar.addi v217 c32_i32_80
  v218
def k0_mult165 (k0_t14 : Fin k0_t14_loop.trips) : BitVec 32 :=
  let c0_i32_55 : BitVec 32 := 0#32
  let c1_i32_57 : BitVec 32 := 1#32
  let arg22 : BitVec 32 := Scf.iv c0_i32_55 c1_i32_57 k0_t14
  let c1_i32_59 : BitVec 32 := 1#32
  let v143 : BitVec 32 := Scalar.muli arg22 c1_i32_59
  let v144 : BitVec 32 := v143
  let c128_i32_97 : BitVec 32 := 128#32
  let v272 : BitVec 32 := Scalar.muli v144 c128_i32_97
  v272
def k0_mult166 (k0_t14 : Fin k0_t14_loop.trips) : BitVec 32 :=
  let c0_i32_55 : BitVec 32 := 0#32
  let c1_i32_57 : BitVec 32 := 1#32
  let arg22 : BitVec 32 := Scf.iv c0_i32_55 c1_i32_57 k0_t14
  let c1_i32_59 : BitVec 32 := 1#32
  let v143 : BitVec 32 := Scalar.muli arg22 c1_i32_59
  let v144 : BitVec 32 := v143
  let c128_i32_100 : BitVec 32 := 128#32
  let v284 : BitVec 32 := Scalar.muli v144 c128_i32_100
  v284
def k0_mult167 (k0_t10 : Fin k0_t10_loop.trips) (k0_t12 : Fin k0_t12_loop.trips) : BitVec 32 :=
  let c0_i32_22 : BitVec 32 := 0#32
  let c1_i32_24 : BitVec 32 := 1#32
  let arg20 : BitVec 32 := Scf.iv c0_i32_22 c1_i32_24 k0_t10
  let c256_i32 : BitVec 32 := 256#32
  let v32 : BitVec 32 := Scalar.muli arg20 c256_i32
  let v33 : BitVec 32 := v32
  let c0_i32_35 : BitVec 32 := 0#32
  let c1_i32_37 : BitVec 32 := 1#32
  let arg21 : BitVec 32 := Scf.iv c0_i32_35 c1_i32_37 k0_t12
  let c128_i32 : BitVec 32 := 128#32
  let v61 : BitVec 32 := Scalar.muli arg21 c128_i32
  let v62 : BitVec 32 := v61
  let v289 : BitVec 32 := Scalar.addi v33 v62
  let c64_i32_101 : BitVec 32 := 64#32
  let v290 : BitVec 32 := Scalar.addi v289 c64_i32_101
  v290
def k0_mult168 (k0_t14 : Fin k0_t14_loop.trips) : BitVec 32 :=
  let c0_i32_55 : BitVec 32 := 0#32
  let c1_i32_57 : BitVec 32 := 1#32
  let arg22 : BitVec 32 := Scf.iv c0_i32_55 c1_i32_57 k0_t14
  let c1_i32_59 : BitVec 32 := 1#32
  let v143 : BitVec 32 := Scalar.muli arg22 c1_i32_59
  let v144 : BitVec 32 := v143
  let c128_i32_118 : BitVec 32 := 128#32
  let v344 : BitVec 32 := Scalar.muli v144 c128_i32_118
  v344
def k0_mult169 (k0_t14 : Fin k0_t14_loop.trips) : BitVec 32 :=
  let c0_i32_55 : BitVec 32 := 0#32
  let c1_i32_57 : BitVec 32 := 1#32
  let arg22 : BitVec 32 := Scf.iv c0_i32_55 c1_i32_57 k0_t14
  let c1_i32_59 : BitVec 32 := 1#32
  let v143 : BitVec 32 := Scalar.muli arg22 c1_i32_59
  let v144 : BitVec 32 := v143
  let c128_i32_121 : BitVec 32 := 128#32
  let v356 : BitVec 32 := Scalar.muli v144 c128_i32_121
  v356
def k0_mult170 (k0_t10 : Fin k0_t10_loop.trips) (k0_t12 : Fin k0_t12_loop.trips) : BitVec 32 :=
  let c0_i32_22 : BitVec 32 := 0#32
  let c1_i32_24 : BitVec 32 := 1#32
  let arg20 : BitVec 32 := Scf.iv c0_i32_22 c1_i32_24 k0_t10
  let c256_i32 : BitVec 32 := 256#32
  let v32 : BitVec 32 := Scalar.muli arg20 c256_i32
  let v33 : BitVec 32 := v32
  let c0_i32_35 : BitVec 32 := 0#32
  let c1_i32_37 : BitVec 32 := 1#32
  let arg21 : BitVec 32 := Scf.iv c0_i32_35 c1_i32_37 k0_t12
  let c128_i32 : BitVec 32 := 128#32
  let v61 : BitVec 32 := Scalar.muli arg21 c128_i32
  let v62 : BitVec 32 := v61
  let v361 : BitVec 32 := Scalar.addi v33 v62
  let c96_i32 : BitVec 32 := 96#32
  let v362 : BitVec 32 := Scalar.addi v361 c96_i32
  v362
def k0_mult171 (k0_t14 : Fin k0_t14_loop.trips) : BitVec 32 :=
  let c0_i32_55 : BitVec 32 := 0#32
  let c1_i32_57 : BitVec 32 := 1#32
  let arg22 : BitVec 32 := Scf.iv c0_i32_55 c1_i32_57 k0_t14
  let c1_i32_59 : BitVec 32 := 1#32
  let v143 : BitVec 32 := Scalar.muli arg22 c1_i32_59
  let v144 : BitVec 32 := v143
  let c128_i32_138 : BitVec 32 := 128#32
  let v416 : BitVec 32 := Scalar.muli v144 c128_i32_138
  v416
def k0_mult172 (k0_t14 : Fin k0_t14_loop.trips) : BitVec 32 :=
  let c0_i32_55 : BitVec 32 := 0#32
  let c1_i32_57 : BitVec 32 := 1#32
  let arg22 : BitVec 32 := Scf.iv c0_i32_55 c1_i32_57 k0_t14
  let c1_i32_59 : BitVec 32 := 1#32
  let v143 : BitVec 32 := Scalar.muli arg22 c1_i32_59
  let v144 : BitVec 32 := v143
  let c128_i32_141 : BitVec 32 := 128#32
  let v428 : BitVec 32 := Scalar.muli v144 c128_i32_141
  v428
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x2048x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S24x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2048 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S24x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x2048 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S24x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S24x1024x2048 : Shape := ⟨3, ![24, 1024, 2048]⟩
abbrev S3x2048x2048 : Shape := ⟨3, ![3, 2048, 2048]⟩
abbrev S3x2048 : Shape := ⟨2, ![3, 2048]⟩
abbrev S2048 : Shape := ⟨1, ![2048]⟩
abbrev S24576x2048 : Shape := ⟨2, ![24576, 2048]⟩
abbrev S3x1x2048 : Shape := ⟨3, ![3, 1, 2048]⟩
abbrev S1x2048 : Shape := ⟨2, ![1, 2048]⟩
abbrev S24576x32 : Shape := ⟨2, ![24576, 32]⟩
abbrev S24x1024 : Shape := ⟨2, ![24, 1024]⟩
abbrev S24576 : Shape := ⟨1, ![24576]⟩
abbrev S24576x1 : Shape := ⟨2, ![24576, 1]⟩
abbrev S24576x1x2048 : Shape := ⟨3, ![24576, 1, 2048]⟩
abbrev S24576x1x1 : Shape := ⟨3, ![24576, 1, 1]⟩
abbrev S1x2048x2048 : Shape := ⟨3, ![1, 2048, 2048]⟩
abbrev S2048x2048 : Shape := ⟨2, ![2048, 2048]⟩
abbrev S1x1x2048 : Shape := ⟨3, ![1, 1, 2048]⟩
abbrev S24576x32x64 : Shape := ⟨3, ![24576, 32, 64]⟩
abbrev S24576x32x1 : Shape := ⟨3, ![24576, 32, 1]⟩

abbrev nBuf : Space → Nat
  | .hbm => 19
  | .vmem => 14
  | .smem => 0
  | _ => 0

abbrev bufTy : (tb : Table) → Fin (tcTables nBuf tb) → BufTy
  | .hbm, ⟨0, _⟩ => ⟨S24x1024x2048, .bf16⟩
  | .hbm, ⟨1, _⟩ => ⟨S3x2048x2048, .fp8e4m3⟩
  | .hbm, ⟨2, _⟩ => ⟨S3x2048, .f32⟩
  | .hbm, ⟨3, _⟩ => ⟨S3x2048, .f32⟩
  | .hbm, ⟨4, _⟩ => ⟨S2048, .f32⟩
  | .hbm, ⟨5, _⟩ => ⟨S2048, .f32⟩
  | .hbm, ⟨6, _⟩ => ⟨S24576x2048, .bf16⟩
  | .hbm, ⟨7, _⟩ => ⟨S3x1x2048, .f32⟩
  | .hbm, ⟨8, _⟩ => ⟨S3x1x2048, .f32⟩
  | .hbm, ⟨9, _⟩ => ⟨S1x2048, .f32⟩
  | .hbm, ⟨10, _⟩ => ⟨S1x2048, .f32⟩
  | .hbm, ⟨11, _⟩ => ⟨S24576x2048, .fp8e4m3⟩
  | .hbm, ⟨12, _⟩ => ⟨S24576x32, .f32⟩
  | .hbm, ⟨13, _⟩ => ⟨S24576x2048, .fp8e4m3⟩
  | .hbm, ⟨14, _⟩ => ⟨S24x1024, .f32⟩
  | .hbm, ⟨15, _⟩ => ⟨S24576x2048, .fp8e4m3⟩
  | .hbm, ⟨16, _⟩ => ⟨S24x1024, .f32⟩
  | .hbm, ⟨17, _⟩ => ⟨S24576x2048, .fp8e4m3⟩
  | .hbm, ⟨18, _⟩ => ⟨S24x1024, .f32⟩
  | .local _ .vmem, ⟨0, _⟩ => ⟨S24576x2048, .bf16⟩
  | .local _ .vmem, ⟨1, _⟩ => ⟨S3x2048x2048, .fp8e4m3⟩
  | .local _ .vmem, ⟨2, _⟩ => ⟨S3x1x2048, .f32⟩
  | .local _ .vmem, ⟨3, _⟩ => ⟨S3x1x2048, .f32⟩
  | .local _ .vmem, ⟨4, _⟩ => ⟨S1x2048, .f32⟩
  | .local _ .vmem, ⟨5, _⟩ => ⟨S1x2048, .f32⟩
  | .local _ .vmem, ⟨6, _⟩ => ⟨S24576x2048, .fp8e4m3⟩
  | .local _ .vmem, ⟨7, _⟩ => ⟨S24576x32, .f32⟩
  | .local _ .vmem, ⟨8, _⟩ => ⟨S24576x2048, .fp8e4m3⟩
  | .local _ .vmem, ⟨9, _⟩ => ⟨S24x1024, .f32⟩
  | .local _ .vmem, ⟨10, _⟩ => ⟨S24576x2048, .fp8e4m3⟩
  | .local _ .vmem, ⟨11, _⟩ => ⟨S24x1024, .f32⟩
  | .local _ .vmem, ⟨12, _⟩ => ⟨S24576x2048, .fp8e4m3⟩
  | .local _ .vmem, ⟨13, _⟩ => ⟨S24x1024, .f32⟩
  | _, _ => ⟨S24x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev main_v5_5 : Ref sig .tc := ⟨.hbm, 16, rfl⟩
abbrev main_v5_6 : Ref sig .tc := ⟨.hbm, 17, rfl⟩
abbrev main_v5_7 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c252_i32 : BitVec 32 := 252#32
  let v33 : BitVec 32 := Scalar.addi c0_i32 c252_i32
  let c1_i32 : BitVec 32 := 1#32
  ⟨c0_i32, v33, c1_i32⟩
@[reducible] def k0_t2_loop : Scf.Loop 32 :=
  let c0_i32_35 : BitVec 32 := 0#32
  let c252_i32_36 : BitVec 32 := 252#32
  let v74 : BitVec 32 := Scalar.addi c0_i32_35 c252_i32_36
  let c1_i32_37 : BitVec 32 := 1#32
  ⟨c0_i32_35, v74, c1_i32_37⟩
@[reducible] def k0_t3_loop : Scf.Loop 32 :=
  let c0_i32_60 : BitVec 32 := 0#32
  let c252_i32_61 : BitVec 32 := 252#32
  let v115 : BitVec 32 := Scalar.addi c0_i32_60 c252_i32_61
  let c1_i32_62 : BitVec 32 := 1#32
  ⟨c0_i32_60, v115, c1_i32_62⟩
@[reducible] def k0_t4_loop : Scf.Loop 32 :=
  let c0_i32_85 : BitVec 32 := 0#32
  let c252_i32_86 : BitVec 32 := 252#32
  let v156 : BitVec 32 := Scalar.addi c0_i32_85 c252_i32_86
  let c1_i32_87 : BitVec 32 := 1#32
  ⟨c0_i32_85, v156, c1_i32_87⟩
abbrev stage0_0 : Fin 1 → Memref sig .tc .vmem S24576x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x2048x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24576x2048 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24576x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S24576x2048 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S24x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S24576x2048 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S24x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S24576x2048 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S24x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.KernelBody.lean ====
/-
  The kernel's body leaves every buffer it reads as it found it and runs to its end, from any contents: the five loops that hold
  another loop, each gone through once by an invariant that says only which buffers a trip needs.
-/
module

public import proofs.«01_k».proof.Proof.Gen.Kernel.Loops
public import proofs.«01_k».proof.Proof.Gen.Kernel.Frame

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The buffer behind a memref, held whole at contents `f`. -/
abbrev at_ (c : Dev nD) {s : Shape} {e : EltTy} (m : Memref sig .tc .vmem s e) (f : BufTy.Contents (Elt F) m.view.ty) : sProp 𝕄 :=
  iprop(m.view.loc (c : Thread nD τ) ↦[m.view.set]{fullShare} f)

/-- The same at some contents. -/
abbrev any_ (c : Dev nD) {s : Shape} {e : EltTy} (m : Memref sig .tc .vmem s e) : sProp 𝕄 :=
  iprop(∃ f : BufTy.Contents (Elt F) m.view.ty, m.view.loc (c : Thread nD τ) ↦[m.view.set]{fullShare} f)

variable (c : Dev nD) (i : grid0.Coords)
  (arg1 : Memref sig .tc .vmem S512x2048 .bf16) (harg1 : arg1.IsWhole)
  (arg2 : Memref sig .tc .vmem S3x2048x2048 .fp8e4m3) (harg2 : arg2.IsWhole)
  (arg3 : Memref sig .tc .vmem S3x1x2048 .f32) (harg3 : arg3.IsWhole)
  (arg4 : Memref sig .tc .vmem S3x1x2048 .f32) (harg4 : arg4.IsWhole)
  (arg5 : Memref sig .tc .vmem S1x2048 .f32) (harg5 : arg5.IsWhole)
  (arg6 : Memref sig .tc .vmem S1x2048 .f32) (harg6 : arg6.IsWhole)
  (arg7 : Memref sig .tc .vmem S512x2048 .fp8e4m3) (harg7 : arg7.IsWhole)
  (arg8 : Memref sig .tc .vmem S512x32 .f32) (harg8 : arg8.IsWhole)
  (arg9 : Memref sig .tc .vmem S512x2048 .fp8e4m3) (harg9 : arg9.IsWhole)
  (arg10 : Memref sig .tc .vmem S24x1024 .f32) (harg10 : arg10.IsWhole)
  (arg11 : Memref sig .tc .vmem S512x2048 .fp8e4m3) (harg11 : arg11.IsWhole)
  (arg12 : Memref sig .tc .vmem S24x1024 .f32) (harg12 : arg12.IsWhole)
  (arg13 : Memref sig .tc .vmem S512x2048 .fp8e4m3) (harg13 : arg13.IsWhole)
  (arg14 : Memref sig .tc .vmem S24x1024 .f32) (harg14 : arg14.IsWhole)
  (arg15 : Memref sig .tc .vmem S512x2048 .f32) (harg15 : arg15.IsWhole)
  (arg16 : Memref sig .tc .vmem S512x2048 .f32) (harg16 : arg16.IsWhole)
  (arg17 : Memref sig .tc .vmem S512x128 .f32) (harg17 : arg17.IsWhole)
  (arg18 : Memref sig .tc .vmem S512x128 .f32) (harg18 : arg18.IsWhole)
  (arg19 : Memref sig .tc .vmem S256x128 .f32) (harg19 : arg19.IsWhole)

set_option warn.classDefReducibility false in
/-- `k0_t1_loop`: it reads arguments [1, 5, 6] and leaves arguments [15, 17, 9, 18, 10] at some contents. -/
@[sl_loop] def loopInv_k0_t1 (v16 : BitVec 32) (v27 : BitVec 32) (X1 : BufTy.Contents (Elt F) arg1.view.ty) (X5 : BufTy.Contents (Elt F) arg5.view.ty) (X6 : BufTy.Contents (Elt F) arg6.view.ty) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v27 where
  inv := fun _ _ => iprop(at_ c arg1 X1 ∗ at_ c arg5 X5 ∗ at_ c arg6 X6 ∗ any_ (F := F) c arg15 ∗ any_ (F := F) c arg17 ∗ any_ (F := F) c arg9 ∗ any_ (F := F) c arg18 ∗ any_ (F := F) c arg10)
  step := fun k acc => by
    unfold k0_t1_body
    iintro ⟨H1, H5, H6, ⟨%f15, H15⟩, ⟨%f17, H17⟩, ⟨%f9, H9⟩, ⟨%f18, H18⟩, ⟨%f10, H10⟩⟩
    sl_exec
    sl_step
    isplitl [H1]; · iexact H1
    isplitl [H5]; · iexact H5
    isplitl [H6]; · iexact H6
    isplitl [H15]; · iexists _; iexact H15
    isplitl [H17]; · iexists _; iexact H17
    isplitl [H9]; · iexists _; iexact H9
    isplitl [H18]; · iexists _; iexact H18
    iexists _; iexact H10

set_option warn.classDefReducibility false in
/-- `k0_t4_loop`: it reads arguments [2, 3, 4, 15] and leaves arguments [9, 16, 17, 18, 11, 12] at some contents. -/
@[sl_loop] def loopInv_k0_t4 (v16 : BitVec 32) (v27 : BitVec 32) (X2 : BufTy.Contents (Elt F) arg2.view.ty) (X3 : BufTy.Contents (Elt F) arg3.view.ty) (X4 : BufTy.Contents (Elt F) arg4.view.ty) (X15 : BufTy.Contents (Elt F) arg15.view.ty) :
    LoopInvTy_k0_t4 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v27 where
  inv := fun _ _ => iprop(at_ c arg2 X2 ∗ at_ c arg3 X3 ∗ at_ c arg4 X4 ∗ at_ c arg15 X15 ∗ any_ (F := F) c arg9 ∗ any_ (F := F) c arg16 ∗ any_ (F := F) c arg17 ∗ any_ (F := F) c arg18 ∗ any_ (F := F) c arg11 ∗ any_ (F := F) c arg12)
  step := fun k acc => by
    unfold k0_t4_body
    iintro ⟨H2, H3, H4, H15, ⟨%f9, H9⟩, ⟨%f16, H16⟩, ⟨%f17, H17⟩, ⟨%f18, H18⟩, ⟨%f11, H11⟩, ⟨%f12, H12⟩⟩
    sl_exec
    sl_step
    isplitl [H2]; · iexact H2
    isplitl [H3]; · iexact H3
    isplitl [H4]; · iexact H4
    isplitl [H15]; · iexact H15
    isplitl [H9]; · iexists _; iexact H9
    isplitl [H16]; · iexists _; iexact H16
    isplitl [H17]; · iexists _; iexact H17
    isplitl [H18]; · iexists _; iexact H18
    isplitl [H11]; · iexists _; iexact H11
    iexists _; iexact H12

set_option warn.classDefReducibility false in
/-- `k0_t7_loop`: it reads arguments [2, 3, 4, 15] and leaves arguments [11, 16, 17, 18, 13, 14] at some contents. -/
@[sl_loop] def loopInv_k0_t7 (v16 : BitVec 32) (v27 : BitVec 32) (X2 : BufTy.Contents (Elt F) arg2.view.ty) (X3 : BufTy.Contents (Elt F) arg3.view.ty) (X4 : BufTy.Contents (Elt F) arg4.view.ty) (X15 : BufTy.Contents (Elt F) arg15.view.ty) :
    LoopInvTy_k0_t7 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v27 where
  inv := fun _ _ => iprop(at_ c arg2 X2 ∗ at_ c arg3 X3 ∗ at_ c arg4 X4 ∗ at_ c arg15 X15 ∗ any_ (F := F) c arg11 ∗ any_ (F := F) c arg16 ∗ any_ (F := F) c arg17 ∗ any_ (F := F) c arg18 ∗ any_ (F := F) c arg13 ∗ any_ (F := F) c arg14)
  step := fun k acc => by
    unfold k0_t7_body
    iintro ⟨H2, H3, H4, H15, ⟨%f11, H11⟩, ⟨%f16, H16⟩, ⟨%f17, H17⟩, ⟨%f18, H18⟩, ⟨%f13, H13⟩, ⟨%f14, H14⟩⟩
    sl_exec
    sl_step
    isplitl [H2]; · iexact H2
    isplitl [H3]; · iexact H3
    isplitl [H4]; · iexact H4
    isplitl [H15]; · iexact H15
    isplitl [H11]; · iexists _; iexact H11
    isplitl [H16]; · iexists _; iexact H16
    isplitl [H17]; · iexists _; iexact H17
    isplitl [H18]; · iexists _; iexact H18
    isplitl [H13]; · iexists _; iexact H13
    iexists _; iexact H14

set_option warn.classDefReducibility false in
/-- `k0_t12_loop`: it reads arguments [] and leaves arguments [16, 19, 8, 7] at some contents. -/
@[sl_loop] def loopInv_k0_t12 (k0_t10 : Fin k0_t10_loop.trips) (v33 : BitVec 32)  :
    LoopInvTy_k0_t12 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t10 v33 where
  inv := fun _ _ => iprop(any_ (F := F) c arg16 ∗ any_ (F := F) c arg19 ∗ any_ (F := F) c arg8 ∗ any_ (F := F) c arg7)
  step := fun k acc => by
    unfold k0_t12_body
    iintro ⟨⟨%f16, H16⟩, ⟨%f19, H19⟩, ⟨%f8, H8⟩, ⟨%f7, H7⟩⟩
    sl_exec
    sl_step
    isplitl [H16]; · iexists _; iexact H16
    isplitl [H19]; · iexists _; iexact H19
    isplitl [H8]; · iexists _; iexact H8
    iexists _; iexact H7

set_option warn.classDefReducibility false in
/-- `k0_t10_loop`: it reads arguments [2, 3, 4, 15, 13, 18] and leaves arguments [16, 19, 8, 7] at some contents. -/
@[sl_loop] def loopInv_k0_t10  (X2 : BufTy.Contents (Elt F) arg2.view.ty) (X3 : BufTy.Contents (Elt F) arg3.view.ty) (X4 : BufTy.Contents (Elt F) arg4.view.ty) (X15 : BufTy.Contents (Elt F) arg15.view.ty) (X13 : BufTy.Contents (Elt F) arg13.view.ty) (X18 : BufTy.Contents (Elt F) arg18.view.ty) :
    LoopInvTy_k0_t10 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  where
  inv := fun _ _ => iprop(at_ c arg2 X2 ∗ at_ c arg3 X3 ∗ at_ c arg4 X4 ∗ at_ c arg15 X15 ∗ at_ c arg13 X13 ∗ at_ c arg18 X18 ∗ any_ (F := F) c arg16 ∗ any_ (F := F) c arg19 ∗ any_ (F := F) c arg8 ∗ any_ (F := F) c arg7)
  step := fun k acc => by
    unfold k0_t10_body
    iintro ⟨H2, H3, H4, H15, H13, H18, ⟨%f16, H16⟩, ⟨%f19, H19⟩, ⟨%f8, H8⟩, ⟨%f7, H7⟩⟩
    sl_exec
    sl_step
    isplitl [H2]; · iexact H2
    isplitl [H3]; · iexact H3
    isplitl [H4]; · iexact H4
    isplitl [H15]; · iexact H15
    isplitl [H13]; · iexact H13
    isplitl [H18]; · iexact H18
    isplitl [H16]; · iexists _; iexact H16
    isplitl [H19]; · iexists _; iexact H19
    isplitl [H8]; · iexists _; iexact H8
    iexists _; iexact H7

/-- The body: from its operands, the read ones at named contents, the others and the scratch at any, it runs to its end and leaves
    the read ones as they were. -/
theorem body_run (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) :
    iprop(at_ c arg1 X1 ∗ at_ c arg2 X2 ∗ at_ c arg3 X3 ∗ at_ c arg4 X4 ∗ at_ c arg5 X5 ∗ at_ c arg6 X6 ∗ any_ (F := F) c arg7 ∗ any_ (F := F) c arg8 ∗ any_ (F := F) c arg9 ∗ any_ (F := F) c arg10 ∗ any_ (F := F) c arg11 ∗ any_ (F := F) c arg12 ∗ any_ (F := F) c arg13 ∗ any_ (F := F) c arg14 ∗ any_ (F := F) c arg15 ∗ any_ (F := F) c arg16 ∗ any_ (F := F) c arg17 ∗ any_ (F := F) c arg18 ∗ any_ (F := F) c arg19)
    ⊢ wp frame (wpE (defs₀ (F := F)) Variants.none (c : Thread nD τ) none) Set.univ (cc0_dcn_cross (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
      (fun _ => iprop(at_ c arg1 X1 ∗ at_ c arg2 X2 ∗ at_ c arg3 X3 ∗ at_ c arg4 X4 ∗ at_ c arg5 X5 ∗ at_ c arg6 X6 ∗ any_ (F := F) c arg7 ∗ any_ (F := F) c arg8 ∗ any_ (F := F) c arg9 ∗ any_ (F := F) c arg10 ∗ any_ (F := F) c arg11 ∗ any_ (F := F) c arg12 ∗ any_ (F := F) c arg13 ∗ any_ (F := F) c arg14 ∗ any_ (F := F) c arg15 ∗ any_ (F := F) c arg16 ∗ any_ (F := F) c arg17 ∗ any_ (F := F) c arg18 ∗ any_ (F := F) c arg19)) := by
  rw [cc0_dcn_cross_eq_skeleton]; unfold cc0_dcn_cross_skel
  iintro ⟨H1, H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  iexists _; iexact H19

/-! ## The launch -/

variable (m : (ℓ : Loc nD τ sig) → Buf (Elt F) ℓ) (ρ : Dev nD → PrngReg)

/-- What the launch is told of the body: an operand it only reads is left as found, of the others nothing. -/
def rdat (c : Dev nD) : Pipeline.RDat τ (Elt F) Unit ℕ (UR sig nD τ) ℕ cfg0 c where
  A w := V m c (Pipeline.arrRef spec0 w)
  after w _ Y X := (cfg0.win w).isOut = false → X = Y
  Φ _ := Pipeline.ΦA cfg0.spec c
  q _ := fullShare
  owed _ := 0

theorem defs₀_row (t : Fin cfg0.N) :
    defs₀ (F := F) .tc cfg0.body (cfg0.bodyArgs t (cfg0.slots t)) = bodyAt0 t := by
  unfold defs₀; rw [Defs.onTc_tc]

theorem body_obligation (c : Dev nD) : (rdat m c).BodyObligation (defs₀ (F := F)) Variants.none () Set.univ := by
  intro t Y hY
  rw [defs₀_row, bigSep_W0, bigSep_W0]
  show iprop(Pipeline.ΦA cfg0.spec c ∗ _) ⊢ wp _ _ _ _ (fun _ => iprop(Pipeline.ΦA cfg0.spec c ∗ _))
  unfold Pipeline.ΦA
  rw [show Pipeline.scopedRest (Ix := Unit) (Name := ℕ) (U := UR sig nD τ) (Lvl := ℕ) (Val := Elt F) cfg0.spec c = _ from scopedRest0_eq c]
  simp only [owns]
  iintro ⟨⟨⟨⟨%s0, S0⟩, ⟨%s1, S1⟩, ⟨%s2, S2⟩, ⟨%s3, S3⟩, ⟨%s4, S4⟩⟩, Hp⟩, Ho, ⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩⟩
  unfold bodyAt0
  iapply (wp_wand_r Idealize.ShloMosaic.frame (wpE (defs₀ (F := F)) Variants.none (c : Thread nD τ) none) Set.univ)
  isplitl [H0 H1 H2 H3 H4 H5 H6 H7 H8 H9 H10 H11 H12 H13 S0 S1 S2 S3 S4]
  · iapply (body_run c _ _ _ _ _ _ _ _ _ _ _ _ _ _ _ _ _ _ _ _ _ _ _ _ _ _ _ _ _ _ _ _ _ _ _ _ _ _ _ f0 f1 f2 f3 f4 f5)
    simp only [at_, any_, Memref.view_whole, View.set_whole]
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [S0]; · iexists _; iexact S0
    isplitl [S1]; · iexists _; iexact S1
    isplitl [S2]; · iexists _; iexact S2
    isplitl [S3]; · iexists _; iexact S3
    iexists _; iexact S4
  · simp only [at_, any_, Memref.view_whole, View.set_whole]
    iintro %_ ⟨H0, H1, H2, H3, H4, H5, ⟨%g6, H6⟩, ⟨%g7, H7⟩, ⟨%g8, H8⟩, ⟨%g9, H9⟩, ⟨%g10, H10⟩, ⟨%g11, H11⟩, ⟨%g12, H12⟩, ⟨%g13, H13⟩, ⟨%r0, S0⟩, ⟨%r1, S1⟩, ⟨%r2, S2⟩, ⟨%r3, S3⟩, ⟨%r4, S4⟩⟩
    isplitl [Hp S0 S1 S2 S3 S4]
    · isplitr [Hp]; swap; · iexact Hp
      isplitl [S0]; · iexists _; iexact S0
      isplitl [S1]; · iexists _; iexact S1
      isplitl [S2]; · iexists _; iexact S2
      isplitl [S3]; · iexists _; iexact S3
      iexists _; iexact S4
    isplitl [Ho]; · iexact Ho
    isplitl [H0]
    · iexists (Y 0); isplitr; · (ipureintro; exact (fun _ => rfl))
      iexists f0; isplitr; · ipureintro; exact h0
      iexact H0
    isplitl [H1]
    · iexists (Y 1); isplitr; · (ipureintro; exact (fun _ => rfl))
      iexists f1; isplitr; · ipureintro; exact h1
      iexact H1
    isplitl [H2]
    · iexists (Y 2); isplitr; · (ipureintro; exact (fun _ => rfl))
      iexists f2; isplitr; · ipureintro; exact h2
      iexact H2
    isplitl [H3]
    · iexists (Y 3); isplitr; · (ipureintro; exact (fun _ => rfl))
      iexists f3; isplitr; · ipureintro; exact h3
      iexact H3
    isplitl [H4]
    · iexists (Y 4); isplitr; · (ipureintro; exact (fun _ => rfl))
      iexists f4; isplitr; · ipureintro; exact h4
      iexact H4
    isplitl [H5]
    · iexists (Y 5); isplitr; · (ipureintro; exact (fun _ => rfl))
      iexists f5; isplitr; · ipureintro; exact h5
      iexact H5
    isplitl [H6]
    · iexists (((cfg0.win 6).stage (cfg0.slots t 6)).view.read (Elt F) g6); isplitr; · (ipureintro; exact (fun h => nomatch h))
      iexists g6; isplitr; · ipureintro; rfl
      iexact H6
    isplitl [H7]
    · iexists (((cfg0.win 7).stage (cfg0.slots t 7)).view.read (Elt F) g7); isplitr; · (ipureintro; exact (fun h => nomatch h))
      iexists g7; isplitr; · ipureintro; rfl
      iexact H7
    isplitl [H8]
    · iexists (((cfg0.win 8).stage (cfg0.slots t 8)).view.read (Elt F) g8); isplitr; · (ipureintro; exact (fun h => nomatch h))
      iexists g8; isplitr; · ipureintro; rfl
      iexact H8
    isplitl [H9]
    · iexists (((cfg0.win 9).stage (cfg0.slots t 9)).view.read (Elt F) g9); isplitr; · (ipureintro; exact (fun h => nomatch h))
      iexists g9; isplitr; · ipureintro; rfl
      iexact H9
    isplitl [H10]
    · iexists (((cfg0.win 10).stage (cfg0.slots t 10)).view.read (Elt F) g10); isplitr; · (ipureintro; exact (fun h => nomatch h))
      iexists g10; isplitr; · ipureintro; rfl
      iexact H10
    isplitl [H11]
    · iexists (((cfg0.win 11).stage (cfg0.slots t 11)).view.read (Elt F) g11); isplitr; · (ipureintro; exact (fun h => nomatch h))
      iexists g11; isplitr; · ipureintro; rfl
      iexact H11
    isplitl [H12]
    · iexists (((cfg0.win 12).stage (cfg0.slots t 12)).view.read (Elt F) g12); isplitr; · (ipureintro; exact (fun h => nomatch h))
      iexists g12; isplitr; · ipureintro; rfl
      iexact H12
    iexists (((cfg0.win 13).stage (cfg0.slots t 13)).view.read (Elt F) g13); isplitr; · (ipureintro; exact (fun h => nomatch h))
    iexists g13; isplitr; · ipureintro; rfl
    iexact H13

set_option backward.isDefEq.respectTransparency.types false in
/-- THE RUN: every execution ends, with every counter at zero and each argument array as it was. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  Pipeline.RDat.θ_run_frame (Q' := _) cfgs (0 : Fin 1) launch0 defs₀ Variants.none (rdat m) m ρ main
    (hbody := body_obligation m) (hshare := fun c w => by show (if _ then _ else _) = _; split <;> rfl) (howed := fun _ _ => rfl) (V := V m)
    (hmain := hmain m Variants.none) (hA := fun _ _ => rfl) (hΦ := fun _ _ => rfl)
    (hQ' := fun r h => ⟨fun c =>
     ⟨((h.1 c).2 main_arg0 (Pipeline.mem_restRefs_of main_arg0 (by decide) (by decide))).trans (V_main_arg0 m c),
      (h.1.arr_in c 1 rfl).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩)

end Cert.Proof.Kernel

end
-- ==== Proof.KernelIdealBody.lean ====
/-
  The kernel's body leaves every buffer it reads as it found it and runs to its end, from any contents: the five loops that hold
  another loop, each gone through once by an invariant that says only which buffers a trip needs.
-/
module

public import proofs.«01_k».proof.Proof.Gen.KernelIdeal.Loops
public import proofs.«01_k».proof.Proof.Gen.KernelIdeal.Frame

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The buffer behind a memref, held whole at contents `f`. -/
abbrev at_ (c : Dev nD) {s : Shape} {e : EltTy} (m : Memref sig .tc .vmem s e) (f : BufTy.Contents (Elt F) m.view.ty) : sProp 𝕄 :=
  iprop(m.view.loc (c : Thread nD τ) ↦[m.view.set]{fullShare} f)

/-- The same at some contents. -/
abbrev any_ (c : Dev nD) {s : Shape} {e : EltTy} (m : Memref sig .tc .vmem s e) : sProp 𝕄 :=
  iprop(∃ f : BufTy.Contents (Elt F) m.view.ty, m.view.loc (c : Thread nD τ) ↦[m.view.set]{fullShare} f)

variable (c : Dev nD) (i : grid0.Coords)
  (arg1 : Memref sig .tc .vmem S512x2048 .bf16) (harg1 : arg1.IsWhole)
  (arg2 : Memref sig .tc .vmem S3x2048x2048 .fp8e4m3) (harg2 : arg2.IsWhole)
  (arg3 : Memref sig .tc .vmem S3x1x2048 .f32) (harg3 : arg3.IsWhole)
  (arg4 : Memref sig .tc .vmem S3x1x2048 .f32) (harg4 : arg4.IsWhole)
  (arg5 : Memref sig .tc .vmem S1x2048 .f32) (harg5 : arg5.IsWhole)
  (arg6 : Memref sig .tc .vmem S1x2048 .f32) (harg6 : arg6.IsWhole)
  (arg7 : Memref sig .tc .vmem S512x2048 .fp8e4m3) (harg7 : arg7.IsWhole)
  (arg8 : Memref sig .tc .vmem S512x32 .f32) (harg8 : arg8.IsWhole)
  (arg9 : Memref sig .tc .vmem S512x2048 .fp8e4m3) (harg9 : arg9.IsWhole)
  (arg10 : Memref sig .tc .vmem S24x1024 .f32) (harg10 : arg10.IsWhole)
  (arg11 : Memref sig .tc .vmem S512x2048 .fp8e4m3) (harg11 : arg11.IsWhole)
  (arg12 : Memref sig .tc .vmem S24x1024 .f32) (harg12 : arg12.IsWhole)
  (arg13 : Memref sig .tc .vmem S512x2048 .fp8e4m3) (harg13 : arg13.IsWhole)
  (arg14 : Memref sig .tc .vmem S24x1024 .f32) (harg14 : arg14.IsWhole)
  (arg15 : Memref sig .tc .vmem S512x2048 .f32) (harg15 : arg15.IsWhole)
  (arg16 : Memref sig .tc .vmem S512x2048 .f32) (harg16 : arg16.IsWhole)
  (arg17 : Memref sig .tc .vmem S512x128 .f32) (harg17 : arg17.IsWhole)
  (arg18 : Memref sig .tc .vmem S512x128 .f32) (harg18 : arg18.IsWhole)
  (arg19 : Memref sig .tc .vmem S256x128 .f32) (harg19 : arg19.IsWhole)

set_option warn.classDefReducibility false in
/-- `k0_t1_loop`: it reads arguments [1, 5, 6] and leaves arguments [15, 17, 9, 18, 10] at some contents. -/
@[sl_loop] def loopInv_k0_t1 (v16 : BitVec 32) (v27 : BitVec 32) (X1 : BufTy.Contents (Elt F) arg1.view.ty) (X5 : BufTy.Contents (Elt F) arg5.view.ty) (X6 : BufTy.Contents (Elt F) arg6.view.ty) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v27 where
  inv := fun _ _ => iprop(at_ c arg1 X1 ∗ at_ c arg5 X5 ∗ at_ c arg6 X6 ∗ any_ (F := F) c arg15 ∗ any_ (F := F) c arg17 ∗ any_ (F := F) c arg9 ∗ any_ (F := F) c arg18 ∗ any_ (F := F) c arg10)
  step := fun k acc => by
    unfold k0_t1_body
    iintro ⟨H1, H5, H6, ⟨%f15, H15⟩, ⟨%f17, H17⟩, ⟨%f9, H9⟩, ⟨%f18, H18⟩, ⟨%f10, H10⟩⟩
    sl_exec
    sl_step
    isplitl [H1]; · iexact H1
    isplitl [H5]; · iexact H5
    isplitl [H6]; · iexact H6
    isplitl [H15]; · iexists _; iexact H15
    isplitl [H17]; · iexists _; iexact H17
    isplitl [H9]; · iexists _; iexact H9
    isplitl [H18]; · iexists _; iexact H18
    iexists _; iexact H10

set_option warn.classDefReducibility false in
/-- `k0_t4_loop`: it reads arguments [2, 3, 4, 15] and leaves arguments [9, 16, 17, 18, 11, 12] at some contents. -/
@[sl_loop] def loopInv_k0_t4 (v16 : BitVec 32) (v27 : BitVec 32) (X2 : BufTy.Contents (Elt F) arg2.view.ty) (X3 : BufTy.Contents (Elt F) arg3.view.ty) (X4 : BufTy.Contents (Elt F) arg4.view.ty) (X15 : BufTy.Contents (Elt F) arg15.view.ty) :
    LoopInvTy_k0_t4 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v27 where
  inv := fun _ _ => iprop(at_ c arg2 X2 ∗ at_ c arg3 X3 ∗ at_ c arg4 X4 ∗ at_ c arg15 X15 ∗ any_ (F := F) c arg9 ∗ any_ (F := F) c arg16 ∗ any_ (F := F) c arg17 ∗ any_ (F := F) c arg18 ∗ any_ (F := F) c arg11 ∗ any_ (F := F) c arg12)
  step := fun k acc => by
    unfold k0_t4_body
    iintro ⟨H2, H3, H4, H15, ⟨%f9, H9⟩, ⟨%f16, H16⟩, ⟨%f17, H17⟩, ⟨%f18, H18⟩, ⟨%f11, H11⟩, ⟨%f12, H12⟩⟩
    sl_exec
    sl_step
    isplitl [H2]; · iexact H2
    isplitl [H3]; · iexact H3
    isplitl [H4]; · iexact H4
    isplitl [H15]; · iexact H15
    isplitl [H9]; · iexists _; iexact H9
    isplitl [H16]; · iexists _; iexact H16
    isplitl [H17]; · iexists _; iexact H17
    isplitl [H18]; · iexists _; iexact H18
    isplitl [H11]; · iexists _; iexact H11
    iexists _; iexact H12

set_option warn.classDefReducibility false in
/-- `k0_t7_loop`: it reads arguments [2, 3, 4, 15] and leaves arguments [11, 16, 17, 18, 13, 14] at some contents. -/
@[sl_loop] def loopInv_k0_t7 (v16 : BitVec 32) (v27 : BitVec 32) (X2 : BufTy.Contents (Elt F) arg2.view.ty) (X3 : BufTy.Contents (Elt F) arg3.view.ty) (X4 : BufTy.Contents (Elt F) arg4.view.ty) (X15 : BufTy.Contents (Elt F) arg15.view.ty) :
    LoopInvTy_k0_t7 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v27 where
  inv := fun _ _ => iprop(at_ c arg2 X2 ∗ at_ c arg3 X3 ∗ at_ c arg4 X4 ∗ at_ c arg15 X15 ∗ any_ (F := F) c arg11 ∗ any_ (F := F) c arg16 ∗ any_ (F := F) c arg17 ∗ any_ (F := F) c arg18 ∗ any_ (F := F) c arg13 ∗ any_ (F := F) c arg14)
  step := fun k acc => by
    unfold k0_t7_body
    iintro ⟨H2, H3, H4, H15, ⟨%f11, H11⟩, ⟨%f16, H16⟩, ⟨%f17, H17⟩, ⟨%f18, H18⟩, ⟨%f13, H13⟩, ⟨%f14, H14⟩⟩
    sl_exec
    sl_step
    isplitl [H2]; · iexact H2
    isplitl [H3]; · iexact H3
    isplitl [H4]; · iexact H4
    isplitl [H15]; · iexact H15
    isplitl [H11]; · iexists _; iexact H11
    isplitl [H16]; · iexists _; iexact H16
    isplitl [H17]; · iexists _; iexact H17
    isplitl [H18]; · iexists _; iexact H18
    isplitl [H13]; · iexists _; iexact H13
    iexists _; iexact H14

set_option warn.classDefReducibility false in
/-- `k0_t12_loop`: it reads arguments [] and leaves arguments [16, 19, 8, 7] at some contents. -/
@[sl_loop] def loopInv_k0_t12 (k0_t10 : Fin k0_t10_loop.trips) (v33 : BitVec 32)  :
    LoopInvTy_k0_t12 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t10 v33 where
  inv := fun _ _ => iprop(any_ (F := F) c arg16 ∗ any_ (F := F) c arg19 ∗ any_ (F := F) c arg8 ∗ any_ (F := F) c arg7)
  step := fun k acc => by
    unfold k0_t12_body
    iintro ⟨⟨%f16, H16⟩, ⟨%f19, H19⟩, ⟨%f8, H8⟩, ⟨%f7, H7⟩⟩
    sl_exec
    sl_step
    isplitl [H16]; · iexists _; iexact H16
    isplitl [H19]; · iexists _; iexact H19
    isplitl [H8]; · iexists _; iexact H8
    iexists _; iexact H7

set_option warn.classDefReducibility false in
/-- `k0_t10_loop`: it reads arguments [2, 3, 4, 15, 13, 18] and leaves arguments [16, 19, 8, 7] at some contents. -/
@[sl_loop] def loopInv_k0_t10  (X2 : BufTy.Contents (Elt F) arg2.view.ty) (X3 : BufTy.Contents (Elt F) arg3.view.ty) (X4 : BufTy.Contents (Elt F) arg4.view.ty) (X15 : BufTy.Contents (Elt F) arg15.view.ty) (X13 : BufTy.Contents (Elt F) arg13.view.ty) (X18 : BufTy.Contents (Elt F) arg18.view.ty) :
    LoopInvTy_k0_t10 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  where
  inv := fun _ _ => iprop(at_ c arg2 X2 ∗ at_ c arg3 X3 ∗ at_ c arg4 X4 ∗ at_ c arg15 X15 ∗ at_ c arg13 X13 ∗ at_ c arg18 X18 ∗ any_ (F := F) c arg16 ∗ any_ (F := F) c arg19 ∗ any_ (F := F) c arg8 ∗ any_ (F := F) c arg7)
  step := fun k acc => by
    unfold k0_t10_body
    iintro ⟨H2, H3, H4, H15, H13, H18, ⟨%f16, H16⟩, ⟨%f19, H19⟩, ⟨%f8, H8⟩, ⟨%f7, H7⟩⟩
    sl_exec
    sl_step
    isplitl [H2]; · iexact H2
    isplitl [H3]; · iexact H3
    isplitl [H4]; · iexact H4
    isplitl [H15]; · iexact H15
    isplitl [H13]; · iexact H13
    isplitl [H18]; · iexact H18
    isplitl [H16]; · iexists _; iexact H16
    isplitl [H19]; · iexists _; iexact H19
    isplitl [H8]; · iexists _; iexact H8
    iexists _; iexact H7

/-- The body: from its operands, the read ones at named contents, the others and the scratch at any, it runs to its end and leaves
    the read ones as they were. -/
theorem body_run (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) :
    iprop(at_ c arg1 X1 ∗ at_ c arg2 X2 ∗ at_ c arg3 X3 ∗ at_ c arg4 X4 ∗ at_ c arg5 X5 ∗ at_ c arg6 X6 ∗ any_ (F := F) c arg7 ∗ any_ (F := F) c arg8 ∗ any_ (F := F) c arg9 ∗ any_ (F := F) c arg10 ∗ any_ (F := F) c arg11 ∗ any_ (F := F) c arg12 ∗ any_ (F := F) c arg13 ∗ any_ (F := F) c arg14 ∗ any_ (F := F) c arg15 ∗ any_ (F := F) c arg16 ∗ any_ (F := F) c arg17 ∗ any_ (F := F) c arg18 ∗ any_ (F := F) c arg19)
    ⊢ wp frame (wpE (defs₀ (F := F)) Variants.none (c : Thread nD τ) none) Set.univ (cc0_dcn_cross (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
      (fun _ => iprop(at_ c arg1 X1 ∗ at_ c arg2 X2 ∗ at_ c arg3 X3 ∗ at_ c arg4 X4 ∗ at_ c arg5 X5 ∗ at_ c arg6 X6 ∗ any_ (F := F) c arg7 ∗ any_ (F := F) c arg8 ∗ any_ (F := F) c arg9 ∗ any_ (F := F) c arg10 ∗ any_ (F := F) c arg11 ∗ any_ (F := F) c arg12 ∗ any_ (F := F) c arg13 ∗ any_ (F := F) c arg14 ∗ any_ (F := F) c arg15 ∗ any_ (F := F) c arg16 ∗ any_ (F := F) c arg17 ∗ any_ (F := F) c arg18 ∗ any_ (F := F) c arg19)) := by
  rw [cc0_dcn_cross_eq_skeleton]; unfold cc0_dcn_cross_skel
  iintro ⟨H1, H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  iexists _; iexact H19

/-! ## The launch -/

variable (m : (ℓ : Loc nD τ sig) → Buf (Elt F) ℓ) (ρ : Dev nD → PrngReg)

/-- What the launch is told of the body: an operand it only reads is left as found, of the others nothing. -/
def rdat (c : Dev nD) : Pipeline.RDat τ (Elt F) Unit ℕ (UR sig nD τ) ℕ cfg0 c where
  A w := V m c (Pipeline.arrRef spec0 w)
  after w _ Y X := (cfg0.win w).isOut = false → X = Y
  Φ _ := Pipeline.ΦA cfg0.spec c
  q _ := fullShare
  owed _ := 0

theorem defs₀_row (t : Fin cfg0.N) :
    defs₀ (F := F) .tc cfg0.body (cfg0.bodyArgs t (cfg0.slots t)) = bodyAt0 t := by
  unfold defs₀; rw [Defs.onTc_tc]

theorem body_obligation (c : Dev nD) : (rdat m c).BodyObligation (defs₀ (F := F)) Variants.none () Set.univ := by
  intro t Y hY
  rw [defs₀_row, bigSep_W0, bigSep_W0]
  show iprop(Pipeline.ΦA cfg0.spec c ∗ _) ⊢ wp _ _ _ _ (fun _ => iprop(Pipeline.ΦA cfg0.spec c ∗ _))
  unfold Pipeline.ΦA
  rw [show Pipeline.scopedRest (Ix := Unit) (Name := ℕ) (U := UR sig nD τ) (Lvl := ℕ) (Val := Elt F) cfg0.spec c = _ from scopedRest0_eq c]
  simp only [owns]
  iintro ⟨⟨⟨⟨%s0, S0⟩, ⟨%s1, S1⟩, ⟨%s2, S2⟩, ⟨%s3, S3⟩, ⟨%s4, S4⟩⟩, Hp⟩, Ho, ⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩⟩
  unfold bodyAt0
  iapply (wp_wand_r Idealize.ShloMosaic.frame (wpE (defs₀ (F := F)) Variants.none (c : Thread nD τ) none) Set.univ)
  isplitl [H0 H1 H2 H3 H4 H5 H6 H7 H8 H9 H10 H11 H12 H13 S0 S1 S2 S3 S4]
  · iapply (body_run c _ _ _ _ _ _ _ _ _ _ _ _ _ _ _ _ _ _ _ _ _ _ _ _ _ _ _ _ _ _ _ _ _ _ _ _ _ _ _ f0 f1 f2 f3 f4 f5)
    simp only [at_, any_, Memref.view_whole, View.set_whole]
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [S0]; · iexists _; iexact S0
    isplitl [S1]; · iexists _; iexact S1
    isplitl [S2]; · iexists _; iexact S2
    isplitl [S3]; · iexists _; iexact S3
    iexists _; iexact S4
  · simp only [at_, any_, Memref.view_whole, View.set_whole]
    iintro %_ ⟨H0, H1, H2, H3, H4, H5, ⟨%g6, H6⟩, ⟨%g7, H7⟩, ⟨%g8, H8⟩, ⟨%g9, H9⟩, ⟨%g10, H10⟩, ⟨%g11, H11⟩, ⟨%g12, H12⟩, ⟨%g13, H13⟩, ⟨%r0, S0⟩, ⟨%r1, S1⟩, ⟨%r2, S2⟩, ⟨%r3, S3⟩, ⟨%r4, S4⟩⟩
    isplitl [Hp S0 S1 S2 S3 S4]
    · isplitr [Hp]; swap; · iexact Hp
      isplitl [S0]; · iexists _; iexact S0
      isplitl [S1]; · iexists _; iexact S1
      isplitl [S2]; · iexists _; iexact S2
      isplitl [S3]; · iexists _; iexact S3
      iexists _; iexact S4
    isplitl [Ho]; · iexact Ho
    isplitl [H0]
    · iexists (Y 0); isplitr; · (ipureintro; exact (fun _ => rfl))
      iexists f0; isplitr; · ipureintro; exact h0
      iexact H0
    isplitl [H1]
    · iexists (Y 1); isplitr; · (ipureintro; exact (fun _ => rfl))
      iexists f1; isplitr; · ipureintro; exact h1
      iexact H1
    isplitl [H2]
    · iexists (Y 2); isplitr; · (ipureintro; exact (fun _ => rfl))
      iexists f2; isplitr; · ipureintro; exact h2
      iexact H2
    isplitl [H3]
    · iexists (Y 3); isplitr; · (ipureintro; exact (fun _ => rfl))
      iexists f3; isplitr; · ipureintro; exact h3
      iexact H3
    isplitl [H4]
    · iexists (Y 4); isplitr; · (ipureintro; exact (fun _ => rfl))
      iexists f4; isplitr; · ipureintro; exact h4
      iexact H4
    isplitl [H5]
    · iexists (Y 5); isplitr; · (ipureintro; exact (fun _ => rfl))
      iexists f5; isplitr; · ipureintro; exact h5
      iexact H5
    isplitl [H6]
    · iexists (((cfg0.win 6).stage (cfg0.slots t 6)).view.read (Elt F) g6); isplitr; · (ipureintro; exact (fun h => nomatch h))
      iexists g6; isplitr; · ipureintro; rfl
      iexact H6
    isplitl [H7]
    · iexists (((cfg0.win 7).stage (cfg0.slots t 7)).view.read (Elt F) g7); isplitr; · (ipureintro; exact (fun h => nomatch h))
      iexists g7; isplitr; · ipureintro; rfl
      iexact H7
    isplitl [H8]
    · iexists (((cfg0.win 8).stage (cfg0.slots t 8)).view.read (Elt F) g8); isplitr; · (ipureintro; exact (fun h => nomatch h))
      iexists g8; isplitr; · ipureintro; rfl
      iexact H8
    isplitl [H9]
    · iexists (((cfg0.win 9).stage (cfg0.slots t 9)).view.read (Elt F) g9); isplitr; · (ipureintro; exact (fun h => nomatch h))
      iexists g9; isplitr; · ipureintro; rfl
      iexact H9
    isplitl [H10]
    · iexists (((cfg0.win 10).stage (cfg0.slots t 10)).view.read (Elt F) g10); isplitr; · (ipureintro; exact (fun h => nomatch h))
      iexists g10; isplitr; · ipureintro; rfl
      iexact H10
    isplitl [H11]
    · iexists (((cfg0.win 11).stage (cfg0.slots t 11)).view.read (Elt F) g11); isplitr; · (ipureintro; exact (fun h => nomatch h))
      iexists g11; isplitr; · ipureintro; rfl
      iexact H11
    isplitl [H12]
    · iexists (((cfg0.win 12).stage (cfg0.slots t 12)).view.read (Elt F) g12); isplitr; · (ipureintro; exact (fun h => nomatch h))
      iexists g12; isplitr; · ipureintro; rfl
      iexact H12
    iexists (((cfg0.win 13).stage (cfg0.slots t 13)).view.read (Elt F) g13); isplitr; · (ipureintro; exact (fun h => nomatch h))
    iexists g13; isplitr; · ipureintro; rfl
    iexact H13

set_option backward.isDefEq.respectTransparency.types false in
/-- THE RUN: every execution ends, with every counter at zero and each argument array as it was. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  Pipeline.RDat.θ_run_frame (Q' := _) cfgs (0 : Fin 1) launch0 defs₀ Variants.none (rdat m) m ρ main
    (hbody := body_obligation m) (hshare := fun c w => by show (if _ then _ else _) = _; split <;> rfl) (howed := fun _ _ => rfl) (V := V m)
    (hmain := hmain m Variants.none) (hA := fun _ _ => rfl) (hΦ := fun _ _ => rfl)
    (hQ' := fun r h => ⟨fun c =>
     ⟨((h.1 c).2 main_arg0 (Pipeline.mem_restRefs_of main_arg0 (by decide) (by decide))).trans (V_main_arg0 m c),
      (h.1.arr_in c 1 rfl).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩)

end Cert.Proof.KernelIdeal

end
-- ==== Proof.Region.lean ====
/-
  Buffers of two axes read at natural-number coordinates, and what a run of stores of rectangular tiles leaves in one: inside the
  tiles a given function of row and column, outside them what was there before.
-/
module

public import proofs.«01_k».proof.Proof.Gen.KernelIdeal.Loops
public import Idealize.ShloMosaic.Lib.Pointwise
public import Idealize.ShloMosaic.Lib.WritesUnit

@[expose] public section

set_option maxRecDepth 16384

noncomputable section

namespace Cert.Proof.Val

open Idealize.ShloMosaic Idealize.ShloMosaic.TcCoe Idealize.ShloMosaic.Tactic
open Idealize.SL.Sem

variable {sig : RefSig} {κ : Kind} {sp : Space} {e : EltTy} {n0 n1 n2 : ℕ}

instance (e : EltTy) : Nonempty (Elt Ideal e) := inferInstance

/-- The element at row `r` and column `c` of a buffer's contents. -/
def rd (v : View sig κ sp ⟨2, ![n0, n1]⟩ e) (f : v.ty.Contents (Elt Ideal)) (r c : ℕ) : Elt Ideal e :=
  if h : r < n0 ∧ c < n1 then v.read (Elt Ideal) f (ix2 ⟨r, h.1⟩ ⟨c, h.2⟩) else Classical.arbitrary _

/-- The same for three axes. -/
def rd3 (v : View sig κ sp ⟨3, ![n0, n1, n2]⟩ e) (f : v.ty.Contents (Elt Ideal)) (a r c : ℕ) : Elt Ideal e :=
  if h : a < n0 ∧ r < n1 ∧ c < n2 then v.read (Elt Ideal) f (ix3 ⟨a, h.1⟩ ⟨r, h.2.1⟩ ⟨c, h.2.2⟩) else Classical.arbitrary _

theorem rd_idx (v : View sig κ sp ⟨2, ![n0, n1]⟩ e) (f : v.ty.Contents (Elt Ideal)) (y : (⟨2, ![n0, n1]⟩ : Shape).Idx) :
    v.read (Elt Ideal) f y = rd v f (y 0).val (y 1).val := by
  unfold rd
  rw [dif_pos ⟨(y 0).isLt, (y 1).isLt⟩]
  congr 1
  exact eq_ix2 y

theorem rd_of_lt (v : View sig κ sp ⟨2, ![n0, n1]⟩ e) (f : v.ty.Contents (Elt Ideal)) {r c : ℕ} (hr : r < n0) (hc : c < n1) :
    rd v f r c = v.read (Elt Ideal) f (ix2 ⟨r, hr⟩ ⟨c, hc⟩) := dif_pos ⟨hr, hc⟩

theorem rd3_idx (v : View sig κ sp ⟨3, ![n0, n1, n2]⟩ e) (f : v.ty.Contents (Elt Ideal)) (y : (⟨3, ![n0, n1, n2]⟩ : Shape).Idx) :
    v.read (Elt Ideal) f y = rd3 v f (y 0).val (y 1).val (y 2).val := by
  unfold rd3
  rw [dif_pos ⟨(y 0).isLt, (y 1).isLt, (y 2).isLt⟩]
  congr 1
  exact eq_ix3 y

/-- A load of a rectangle reads the buffer at the rectangle's offset plus the place inside it. -/
theorem readAt2 (v : View sig κ sp ⟨2, ![n0, n1]⟩ e) (f : v.ty.Contents (Elt Ideal)) (off sz : Fin 2 → ℕ) (inb)
    (x : (Rect.unit (s := ⟨2, ![n0, n1]⟩) off sz inb).shape.Idx) :
    v.readAt (Elt Ideal) (Rect.unit (s := ⟨2, ![n0, n1]⟩) off sz inb).toLoadRect f x
      = rd v f (off 0 + (x 0).val) (off 1 + (x 1).val) := by
  rw [View.readAt_apply, rd_idx]
  show rd v f (off 0 + 1 * (x 0).val) (off 1 + 1 * (x 1).val) = _
  rw [Nat.one_mul, Nat.one_mul]

theorem readAt3 (v : View sig κ sp ⟨3, ![n0, n1, n2]⟩ e) (f : v.ty.Contents (Elt Ideal)) (off sz : Fin 3 → ℕ) (inb)
    (x : (Rect.unit (s := ⟨3, ![n0, n1, n2]⟩) off sz inb).shape.Idx) :
    v.readAt (Elt Ideal) (Rect.unit (s := ⟨3, ![n0, n1, n2]⟩) off sz inb).toLoadRect f x
      = rd3 v f (off 0 + (x 0).val) (off 1 + (x 1).val) (off 2 + (x 2).val) := by
  rw [View.readAt_apply, rd3_idx]
  show rd3 v f (off 0 + 1 * (x 0).val) (off 1 + 1 * (x 1).val) (off 2 + 1 * (x 2).val) = _
  simp only [Nat.one_mul]

/-- The stores `L` leave `g` on the region `R` and touch nothing else. -/
structure Acts (L : List (View.Piece (Elt Ideal) ⟨2, ![n0, n1]⟩ e)) (R : ℕ → ℕ → Prop) (g : ℕ → ℕ → Elt Ideal e) : Prop where
  agree : ∀ p ∈ L, ∀ x : p.1.shape.Idx, p.2 x = g (p.1.emb x 0).val (p.1.emb x 1).val
  inside : ∀ p ∈ L, ∀ x : p.1.shape.Idx, R (p.1.emb x 0).val (p.1.emb x 1).val
  cover : ∀ y : (⟨2, ![n0, n1]⟩ : Shape).Idx, R (y 0).val (y 1).val → ∃ p ∈ L, y ∈ p.1.set

/-- One tile: rows from `o0`, columns from `o1`. -/
def tile (o0 o1 m0 m1 : ℕ) (r c : ℕ) : Prop := (o0 ≤ r ∧ r < o0 + m0) ∧ (o1 ≤ c ∧ c < o1 + m1)

theorem Acts.nil (g : ℕ → ℕ → Elt Ideal e) : Acts (n0 := n0) (n1 := n1) [] (fun _ _ => False) g :=
  ⟨fun _ h => absurd h List.not_mem_nil, fun _ h => absurd h List.not_mem_nil, fun _ h => h.elim⟩

theorem Acts.cons {L : List (View.Piece (Elt Ideal) ⟨2, ![n0, n1]⟩ e)} {R : ℕ → ℕ → Prop} {g : ℕ → ℕ → Elt Ideal e}
    {off sz : Fin 2 → ℕ} {inb} {w : (Rect.unit (s := ⟨2, ![n0, n1]⟩) off sz inb).shape.Idx → Elt Ideal e}
    (o0 o1 : ℕ) (ho : off = ![o0, o1])
    (hw : ∀ x : (⟨2, sz⟩ : Shape).Idx, w x = g (o0 + (x 0).val) (o1 + (x 1).val)) (hL : Acts L R g) :
    Acts (⟨Rect.unit (s := ⟨2, ![n0, n1]⟩) off sz inb, w⟩ :: L) (fun r c => tile o0 o1 (sz 0) (sz 1) r c ∨ R r c) g := by
  subst ho
  have h0 : ∀ x : (Rect.unit (s := ⟨2, ![n0, n1]⟩) ![o0, o1] sz inb).shape.Idx,
      ((Rect.unit (s := ⟨2, ![n0, n1]⟩) ![o0, o1] sz inb).emb x 0).val = o0 + (x 0).val := fun x => by
    show o0 + 1 * (x 0).val = _; rw [Nat.one_mul]
  have h1 : ∀ x : (Rect.unit (s := ⟨2, ![n0, n1]⟩) ![o0, o1] sz inb).shape.Idx,
      ((Rect.unit (s := ⟨2, ![n0, n1]⟩) ![o0, o1] sz inb).emb x 1).val = o1 + (x 1).val := fun x => by
    show o1 + 1 * (x 1).val = _; rw [Nat.one_mul]
  constructor
  · intro p hp x
    rcases List.mem_cons.mp hp with rfl | hp
    · rw [h0, h1]; exact hw x
    · exact hL.agree p hp x
  · intro p hp x
    rcases List.mem_cons.mp hp with rfl | hp
    · rw [h0, h1]
      have a0 : (x 0).val < sz 0 := (x 0).isLt
      have a1 : (x 1).val < sz 1 := (x 1).isLt
      exact Or.inl ⟨⟨by omega, by omega⟩, by omega, by omega⟩
    · exact Or.inr (hL.inside p hp x)
  · intro y hy
    rcases hy with ⟨⟨a, b⟩, c, d⟩ | hy
    · refine ⟨_, List.mem_cons_self, ?_⟩
      rw [← Rect.map_emb_univ, Finset.mem_map]
      refine ⟨fun a => match a with | ⟨0, _⟩ => ⟨(y 0).val - o0, by show _ < sz 0; omega⟩ | ⟨1, _⟩ => ⟨(y 1).val - o1, by show _ < sz 1; omega⟩,
        Finset.mem_univ _, ?_⟩
      refine funext fun a => Fin.ext ?_
      match a with
      | ⟨0, _⟩ => exact (h0 _).trans (by show o0 + ((y 0).val - o0) = (y 0).val; omega)
      | ⟨1, _⟩ => exact (h1 _).trans (by show o1 + ((y 1).val - o1) = (y 1).val; omega)
    · obtain ⟨p, hp, h⟩ := hL.cover y hy
      exact ⟨p, List.mem_cons_of_mem _ hp, h⟩

theorem Acts.append {L L' : List (View.Piece (Elt Ideal) ⟨2, ![n0, n1]⟩ e)} {R R' : ℕ → ℕ → Prop} {g : ℕ → ℕ → Elt Ideal e}
    (h : Acts L R g) (h' : Acts L' R' g) : Acts (L ++ L') (fun r c => R r c ∨ R' r c) g where
  agree p hp := (List.mem_append.mp hp).elim (h.agree p) (h'.agree p)
  inside p hp x := (List.mem_append.mp hp).imp (fun hp => h.inside p hp x) (fun hp => h'.inside p hp x)
  cover y hy := hy.elim (fun hy => let ⟨p, hp, q⟩ := h.cover y hy; ⟨p, List.mem_append_left _ hp, q⟩)
    (fun hy => let ⟨p, hp, q⟩ := h'.cover y hy; ⟨p, List.mem_append_right _ hp, q⟩)

/-- The same region put another way; told only for places inside the buffer. -/
theorem Acts.congr {L : List (View.Piece (Elt Ideal) ⟨2, ![n0, n1]⟩ e)} {R R' : ℕ → ℕ → Prop} {g : ℕ → ℕ → Elt Ideal e}
    (h : Acts L R g) (hR : ∀ r c, r < n0 → c < n1 → (R r c ↔ R' r c)) : Acts L R' g where
  agree := h.agree
  inside p hp x := (hR _ _ (p.1.emb x 0).isLt (p.1.emb x 1).isLt).mp (h.inside p hp x)
  cover y hy := h.cover y ((hR _ _ (y 0).isLt (y 1).isLt).mpr hy)

/-- The same values put another way, told only on the region. -/
theorem Acts.congr_val {L : List (View.Piece (Elt Ideal) ⟨2, ![n0, n1]⟩ e)} {R : ℕ → ℕ → Prop} {g g' : ℕ → ℕ → Elt Ideal e}
    (h : Acts L R g) (hg : ∀ r c, r < n0 → c < n1 → R r c → g r c = g' r c) : Acts L R g' where
  agree p hp x := (h.agree p hp x).trans (hg _ _ (p.1.emb x 0).isLt (p.1.emb x 1).isLt (h.inside p hp x))
  inside := h.inside
  cover := h.cover

theorem Acts.hit {L : List (View.Piece (Elt Ideal) ⟨2, ![n0, n1]⟩ e)} {R : ℕ → ℕ → Prop} {g : ℕ → ℕ → Elt Ideal e}
    (h : Acts L R g) (v : View sig κ sp ⟨2, ![n0, n1]⟩ e) (f : v.ty.Contents (Elt Ideal)) {r c : ℕ} (hr : r < n0) (hc : c < n1)
    (hR : R r c) : rd v (v.writes (Elt Ideal) f L) r c = g r c := by
  rw [rd_of_lt v _ hr hc]
  exact View.read_writes_apply_of_pieces v f (fun y => g (y 0).val (y 1).val) L h.agree _ (h.cover (ix2 ⟨r, hr⟩ ⟨c, hc⟩) hR)

theorem Acts.miss {L : List (View.Piece (Elt Ideal) ⟨2, ![n0, n1]⟩ e)} {R : ℕ → ℕ → Prop} {g : ℕ → ℕ → Elt Ideal e}
    (h : Acts L R g) (v : View sig κ sp ⟨2, ![n0, n1]⟩ e) (f : v.ty.Contents (Elt Ideal)) {r c : ℕ}
    (hR : ¬ R r c) : rd v (v.writes (Elt Ideal) f L) r c = rd v f r c := by
  by_cases hh : r < n0 ∧ c < n1
  · rw [rd_of_lt v _ hh.1 hh.2, rd_of_lt v _ hh.1 hh.2]
    refine View.read_writes_apply_of_forall_not_mem v f _ L fun p hp hy => hR ?_
    obtain ⟨x, hx⟩ : ∃ x, p.1.emb x = _ := p.1.exists_idx_of_mem hy
    have := h.inside p hp x
    rw [hx] at this
    exact this
  · unfold rd; rw [dif_neg hh, dif_neg hh]

/-- Eight by four cases, last first, are the cases of a grid. -/
theorem or_grid (P : ℕ → ℕ → Prop) :
    (P 7 3 ∨ P 7 2 ∨ P 7 1 ∨ P 7 0 ∨ P 6 3 ∨ P 6 2 ∨ P 6 1 ∨ P 6 0 ∨ P 5 3 ∨ P 5 2 ∨ P 5 1 ∨ P 5 0 ∨ P 4 3 ∨ P 4 2 ∨ P 4 1 ∨ P 4 0 ∨ P 3 3 ∨ P 3 2 ∨ P 3 1 ∨ P 3 0 ∨ P 2 3 ∨ P 2 2 ∨ P 2 1 ∨ P 2 0 ∨ P 1 3 ∨ P 1 2 ∨ P 1 1 ∨ P 1 0 ∨ P 0 3 ∨ P 0 2 ∨ P 0 1 ∨ P 0 0 ∨ False) ↔ ∃ a < 8, ∃ b < 4, P a b := by
  constructor
  · rintro (h | h | h | h | h | h | h | h | h | h | h | h | h | h | h | h | h | h | h | h | h | h | h | h | h | h | h | h | h | h | h | h | h)
    all_goals first | exact h.elim | exact ⟨_, by decide, _, by decide, h⟩
  · rintro ⟨a, ha, b, hb, h⟩
    interval_cases a <;> interval_cases b <;> simp [h]

/-- A 256 × 512 tile is eight by four tiles of 32 × 128. -/
theorem tile_grid (A B r c : ℕ) :
    (∃ a < 8, ∃ b < 4, tile (A + 32 * a) (B + 128 * b) 32 128 r c) ↔ tile A B 256 512 r c := by
  unfold tile
  constructor
  · rintro ⟨a, ha, b, hb, h⟩
    omega
  · intro h
    exact ⟨(r - A) / 32, by omega, (c - B) / 128, by omega, by omega⟩

end Cert.Proof.Val
-- ==== Proof.Scale.lean ====
/-
  The power-of-two scale of a row, as a number. `thr n` is the power of two whose 32-bit pattern has exponent field `n`;
  `expo p` is the largest exponent field up to 252 whose power of two is at most `p`; `scl p` is the power of two just above
  `p` (1 where `p` is 0) and `inv p` is its inverse. A search of the exponent field bit by bit finds them, and so does a
  search through all the powers of two from the top down.
-/
module

public import Idealize.ShloMosaic.Lib.Pointwise

@[expose] public section

noncomputable section

namespace Cert.Proof.Scale

open Idealize.ShloMosaic
open Classical

/-- The value whose bit pattern has exponent field `n` and nothing else. -/
def thr (n : ℕ) : EReal := Ideal.ofBits .f32 (BitVec.ofNat 32 (n * 2 ^ 23))

/-- Its fields, for the patterns below the infinite one. -/
theorem fields : ∀ n : Fin 256, (BitVec.ofNat 32 (n.val * 2 ^ 23)).extractLsb' 31 1 = 0#1
    ∧ ((BitVec.ofNat 32 (n.val * 2 ^ 23)).extractLsb' 23 8).toNat = n.val
    ∧ ((BitVec.ofNat 32 (n.val * 2 ^ 23)).extractLsb' 0 23).toNat = 0 := by decide +kernel

theorem thr_eq {n : ℕ} (h1 : 1 ≤ n) (h2 : n ≤ 254) : thr n = (((2 : ℝ) ^ ((n : ℤ) - 127) : ℝ) : EReal) := by
  obtain ⟨ha, hb, hc⟩ := fields ⟨n, by omega⟩
  simp only [] at ha hb hc
  unfold thr Ideal.ofBits Ideal.ieee
  simp only [ha, hb, hc]
  rw [if_neg (by omega), if_neg (by omega)]
  congr 1
  have h : (8388608 : ℝ) = (2 : ℝ) ^ (23 : ℤ) := by norm_num
  simp only [show (0#1 == 1#1) = false from rfl]
  rw [if_neg (by simp), one_mul, Nat.add_zero]
  push_cast
  norm_num
  rw [h, ← zpow_add₀ (by norm_num)]
  congr 1
  ring

theorem thr_top : thr 255 = ⊤ := by
  obtain ⟨ha, hb, hc⟩ := fields ⟨255, by omega⟩
  simp only [] at ha hb hc
  unfold thr Ideal.ofBits Ideal.ieee
  simp only [ha, hb, hc]
  simp

theorem thr_mono {n m : ℕ} (h1 : 1 ≤ n) (h : n ≤ m) (h2 : m ≤ 255) : thr n ≤ thr m := by
  by_cases hm : m = 255
  · subst hm; rw [thr_top]; exact le_top
  · rw [thr_eq h1 (by omega), thr_eq (by omega) (by omega)]
    exact EReal.coe_le_coe_iff.2 (zpow_le_zpow_right₀ (by norm_num) (by omega))

/-- The largest exponent field, up to `b`, whose power of two is at most `p`; 0 when there is none. -/
def top (b : ℕ) (p : EReal) : ℕ := Nat.findGreatest (fun n => 1 ≤ n ∧ thr n ≤ p) b

theorem top_le (b : ℕ) (p : EReal) : top b p ≤ b := Nat.findGreatest_le b

theorem le_top_iff {b n : ℕ} (p : EReal) (hb : b ≤ 255) (h1 : 1 ≤ n) (h2 : n ≤ b) : n ≤ top b p ↔ thr n ≤ p := by
  constructor
  · intro h
    have h0 : top b p ≠ 0 := by omega
    have := Nat.findGreatest_of_ne_zero (P := fun n => 1 ≤ n ∧ thr n ≤ p) (n := b) rfl h0
    exact (thr_mono h1 h ((top_le b p).trans hb)).trans this.2
  · intro h
    exact Nat.le_findGreatest h2 ⟨h1, h⟩

def expo (p : EReal) : ℕ := top 252 p

theorem expo_le (p : EReal) : expo p ≤ 252 := top_le 252 p

theorem min_top (p : EReal) : min (top 255 p) 252 = expo p := by
  apply le_antisymm
  · by_cases h : min (top 255 p) 252 = 0
    · omega
    · exact (le_top_iff p (by omega) (by omega) (by omega)).2 ((le_top_iff p (le_refl 255) (by omega) (by omega)).1 (by omega : min (top 255 p) 252 ≤ top 255 p))
  · have := expo_le p
    by_cases h : expo p = 0
    · omega
    · have := (le_top_iff (b := 255) p (le_refl 255) (by omega) (by omega)).2 ((le_top_iff (b := 252) (n := expo p) p (by omega) (by omega) this).1 (le_refl _))
      omega

/-- The scale of `p`. -/
def scl (p : EReal) : EReal := if p = 0 then 1 else thr (expo p + 1)

/-- The inverse of the scale of `p`. -/
def inv (p : EReal) : EReal := if p = 0 then 1 else thr (253 - expo p)

/-! ### The search of the exponent field, bit by bit -/

/-- One bit: taken when the pattern it makes is at most `p`. -/
def step (p : EReal) (c q : BitVec 32) : BitVec 32 := if Ideal.ofBits .f32 (q + c) ≤ p then q + c else q

theorem step_eq (p : EReal) (a k : ℕ) (N : ℕ) (hN : N = top 255 p) (ha : a + 2 ^ k ≤ 255) (h1 : a ≤ N) (h2 : N < a + 2 ^ (k + 1)) :
    ∃ a', step p (BitVec.ofNat 32 (2 ^ k * 2 ^ 23)) (BitVec.ofNat 32 (a * 2 ^ 23)) = BitVec.ofNat 32 (a' * 2 ^ 23)
      ∧ a' ≤ N ∧ N < a' + 2 ^ k ∧ (a' = a ∨ a' = a + 2 ^ k) := by
  have hs : BitVec.ofNat 32 (a * 2 ^ 23) + BitVec.ofNat 32 (2 ^ k * 2 ^ 23) = BitVec.ofNat 32 ((a + 2 ^ k) * 2 ^ 23) := by
    rw [← BitVec.ofNat_add, Nat.add_mul]
  have hp : 1 ≤ 2 ^ k := Nat.one_le_two_pow
  have hi := le_top_iff (b := 255) (n := a + 2 ^ k) p (le_refl _) (by omega) ha
  rw [← hN] at hi
  unfold step
  rw [hs]
  by_cases h : thr (a + 2 ^ k) ≤ p
  · refine ⟨a + 2 ^ k, ?_, hi.2 h, ?_, Or.inr rfl⟩
    · exact if_pos h
    · rw [pow_succ] at h2; omega
  · refine ⟨a, ?_, h1, ?_, Or.inl rfl⟩
    · exact if_neg h
    · have := mt hi.1 h; omega

/-- The eight bits. -/
def search (p : EReal) : BitVec 32 :=
  step p 8388608#32 (step p 16777216#32 (step p 33554432#32 (step p 67108864#32
    (step p 134217728#32 (step p 268435456#32 (step p 536870912#32 (step p 1073741824#32 0#32)))))))

theorem search_eq (p : EReal) : search p = BitVec.ofNat 32 (top 255 p * 2 ^ 23) := by
  have hN : top 255 p ≤ 255 := top_le 255 p
  obtain ⟨a7, e7, l7, u7, c7⟩ := step_eq p 0 7 _ rfl (by omega) (by omega) (by omega)
  obtain ⟨a6, e6, l6, u6, c6⟩ := step_eq p a7 6 _ rfl (by omega) (by omega) (by omega)
  obtain ⟨a5, e5, l5, u5, c5⟩ := step_eq p a6 5 _ rfl (by omega) (by omega) (by omega)
  obtain ⟨a4, e4, l4, u4, c4⟩ := step_eq p a5 4 _ rfl (by omega) (by omega) (by omega)
  obtain ⟨a3, e3, l3, u3, c3⟩ := step_eq p a4 3 _ rfl (by omega) (by omega) (by omega)
  obtain ⟨a2, e2, l2, u2, c2⟩ := step_eq p a3 2 _ rfl (by omega) (by omega) (by omega)
  obtain ⟨a1, e1, l1, u1, c1⟩ := step_eq p a2 1 _ rfl (by omega) (by omega) (by omega)
  obtain ⟨a0, e0, l0, u0, c0⟩ := step_eq p a1 0 _ rfl (by omega) (by omega) (by omega)
  have hf : top 255 p = a0 := by omega
  rw [hf, ← e0, ← e1, ← e2, ← e3, ← e4, ← e5, ← e6, ← e7]
  rfl

/-- The pattern of the scale. -/
def sbits (p : EReal) : BitVec 32 := if p = 0 then 1065353216#32 else IntOp.minsi (search p) 2113929216#32 + 8388608#32

theorem sbits_cap : ∀ n : Fin 256, IntOp.minsi (BitVec.ofNat 32 (n.val * 2 ^ 23)) 2113929216#32 + 8388608#32
    = BitVec.ofNat 32 ((min n.val 252 + 1) * 2 ^ 23) := by decide +kernel

theorem sbits_inv : ∀ n : Fin 253, 2130706432#32 - BitVec.ofNat 32 ((n.val + 1) * 2 ^ 23)
    = BitVec.ofNat 32 ((253 - n.val) * 2 ^ 23) := by decide +kernel

theorem sbits_eq {p : EReal} (h : p ≠ 0) : sbits p = BitVec.ofNat 32 ((expo p + 1) * 2 ^ 23) := by
  unfold sbits
  rw [if_neg h, search_eq, ← min_top]
  exact sbits_cap ⟨top 255 p, by have := top_le 255 p; omega⟩

theorem one_eq : Ideal.ofBits .f32 1065353216#32 = 1 := by
  have := thr_eq (n := 127) (by omega) (by omega)
  exact this.trans (by norm_num)

theorem ofBits_sbits (p : EReal) : Ideal.ofBits .f32 (sbits p) = scl p := by
  unfold scl
  by_cases h : p = 0
  · rw [if_pos h]; unfold sbits; rw [if_pos h]; exact one_eq
  · rw [if_neg h, sbits_eq h]; rfl

theorem ofBits_inv (p : EReal) : Ideal.ofBits .f32 (2130706432#32 - sbits p) = inv p := by
  unfold inv
  by_cases h : p = 0
  · rw [if_pos h]; unfold sbits; rw [if_pos h]; exact one_eq
  · rw [if_neg h, sbits_eq h, sbits_inv ⟨expo p, by have := expo_le p; omega⟩]; rfl

/-! ### The search through all the powers of two -/

/-- The smallest of the powers tried so far that is above `p`. -/
def down (p : EReal) : ℕ → EReal
  | 0 => thr 253
  | i + 1 => if p < thr (252 - i) then thr (252 - i) else down p i

theorem down_eq (p : EReal) : ∀ i, i ≤ 252 → down p i = thr (max (expo p + 1) (253 - i))
  | 0, _ => by
    have := expo_le p
    rw [down, max_eq_right (by omega)]
  | i + 1, h => by
    have hi := le_top_iff (b := 252) (n := 252 - i) p (by omega) (by omega) (by omega)
    change 252 - i ≤ expo p ↔ _ at hi
    rw [down]
    by_cases hp : p < thr (252 - i)
    · have := mt hi.1 (not_le.2 hp)
      rw [if_pos hp, max_eq_right (by omega)]; congr 1; omega
    · have := hi.2 (not_lt.1 hp)
      rw [if_neg hp, down_eq p i (by omega), max_eq_left (by omega), max_eq_left (by omega)]

theorem down_end (p : EReal) : (if p = 0 then 1 else down p 252) = scl p := by
  unfold scl
  rw [down_eq p 252 (le_refl _), max_eq_left (by omega)]

theorem div_scl (p : EReal) : Ideal.div 1 (scl p) = inv p := by
  unfold inv scl Ideal.div
  have he := expo_le p
  by_cases h : p = 0
  · rw [if_pos h, if_pos h]; norm_num
  · rw [if_neg h, if_neg h, thr_eq (by omega) (by omega), thr_eq (by omega) (by omega)]
    have hz : (2 : ℝ) ^ (((expo p + 1 : ℕ) : ℤ) - 127) ≠ 0 := zpow_ne_zero _ (by norm_num)
    rw [if_neg (by exact_mod_cast hz), one_mul, ← EReal.coe_inv, ← zpow_neg]
    congr 2
    push_cast [Nat.cast_sub (show expo p ≤ 253 by omega)]
    ring

end Cert.Proof.Scale
-- ==== Proof.Spec.lean ====
/-
  The mathematics of the cross network, one row at a time: a row is a function of the column number. Layer normalisation, the
  power-of-two scale of a row, the codes, one cross layer.
-/
module

public import proofs.«01_k».proof.Proof.Scale

@[expose] public section

noncomputable section

namespace Cert.Proof.Spec

open Idealize.ShloMosaic

/-- The largest magnitude among the first `m` lane groups at lane `l`. -/
def lanes (v : ℕ → EReal) (m l : ℕ) : EReal := (Finset.range m).sup fun q => max (v (128 * q + l)) (-v (128 * q + l))

/-- The largest magnitude among `n` neighbours from column `o` on. -/
def amax (v : ℕ → EReal) (o n : ℕ) : EReal := (Finset.range n).sup fun j => max (v (o + j)) (-v (o + j))

/-- What the scale is searched for: the largest magnitude over 448. -/
def par (a : EReal) : EReal := a * Ideal.ofBits .f32 991054117#32

/-- Rounded into the range of the codes. -/
def clip (x : EReal) : EReal := min (Ideal.ofBits .f32 1138753536#32) (max (Ideal.ofBits .f32 3286237184#32) x)

/-- The scale of a row. -/
def rowScale (v : ℕ → EReal) : EReal := Scale.scl (par (amax v 0 2048))

/-- The codes of a row. -/
def rowCode (v : ℕ → EReal) (j : ℕ) : EReal := clip (v j * Scale.inv (par (amax v 0 2048)))

/-- The scale of the group of 64 that column `j` lies in. -/
def grpScale (v : ℕ → EReal) (q : ℕ) : EReal := Scale.scl (par (amax v (64 * q) 64))

/-- The codes by groups of 64. -/
def grpCode (v : ℕ → EReal) (j : ℕ) : EReal := clip (v j * Scale.inv (par (amax v (64 * (j / 64)) 64)))

/-- The sum of a row. -/
def total (v : ℕ → EReal) : EReal := ∑ j : Fin 2048, v j.val

/-- The mean of a row. -/
def mean (v : ℕ → EReal) : EReal := total v * Ideal.ofBits .f32 973078528#32

/-- The row less its mean. -/
def centred (v : ℕ → EReal) (j : ℕ) : EReal := v j - mean v

/-- One over the deviation of a row. -/
def rstd (v : ℕ → EReal) : EReal :=
  Ideal.rsqrt (mean (fun j => centred v j * centred v j) + Ideal.ofBits .f32 925353388#32)

/-- Layer normalisation. -/
def norm (x g b : ℕ → EReal) (j : ℕ) : EReal := centred x j * rstd x * g j + b j

/-- One cross layer: `x0 * y + x`, where `y` is the matrix product of the codes of `x`, scaled back, plus the offset. -/
def cross (w : ℕ → ℕ → EReal) (ws b x0 x : ℕ → EReal) (j : ℕ) : EReal :=
  x0 j * ((∑ k : Fin 2048, rowCode x k.val * w k.val j) * rowScale x * ws j + b j) + x j

/-- The largest over the lanes of the largest over the lane groups is the largest of the row. -/
theorem sup_lanes (v : ℕ → EReal) : (Finset.univ : Finset (Fin 128)).fold max ⊥ (fun l => lanes v 16 l.val) = amax v 0 2048 := by
  refine eq_of_forall_ge_iff fun a => ?_
  rw [Finset.fold_max_le]
  simp only [lanes, amax, Finset.sup_le_iff, Finset.mem_range, Finset.mem_univ, bot_le, true_and, true_implies, Nat.zero_add]
  constructor
  · intro h j hj
    have := h ⟨j % 128, Nat.mod_lt _ (by norm_num)⟩ (j / 128) (by omega)
    rwa [show 128 * (j / 128) + j % 128 = j from Nat.div_add_mod j 128] at this
  · intro h l q hq
    exact h _ (by have := l.isLt; omega)

theorem lanes_succ (v : ℕ → EReal) (m l : ℕ) :
    lanes v (m + 1) l = max (lanes v m l) (max (v (128 * m + l)) (-v (128 * m + l))) := by
  unfold lanes
  rw [Finset.range_add_one, Finset.sup_insert, max_comm]

theorem lanes_zero (v : ℕ → EReal) (l : ℕ) : lanes v 0 l = ⊥ := rfl

end Cert.Proof.Spec
-- ==== Proof.ScaleVec.lean ====
/-
  The kernel's search for a power-of-two scale, on whole vectors: eight tries at one bit each, then the cap, the zero case and
  the step to the next power. Read at an index it is the scalar search.
-/
module

public import proofs.«01_k».proof.Proof.Scale
public import Idealize.ShloMosaic.Lib.Pointwise

@[expose] public section

set_option maxRecDepth 16384

noncomputable section

namespace Cert.Proof.Val

open Idealize.ShloMosaic Idealize.ShloMosaic.TcCoe Idealize.ShloMosaic.Tactic
open Idealize.SL.Sem

variable {s : Shape}

/-- One try: raise the bits by `c` where the number they spell is still at most `p`. -/
def vstep (p : FVec Ideal s .f32) (c : BitVec 32) (q : IVec s 32) : IVec s 32 :=
  select (cmpf .oge p (bitcastToFloat .f32 (addi q (broadcast s c)))) (addi q (broadcast s c)) q

theorem vstep_apply (p : FVec Ideal s .f32) (c : BitVec 32) (q : IVec s 32) (x : s.Idx) :
    vstep p c q x = Scale.step (p x) c (q x) := by unfold vstep Scale.step; pointwise; rfl

/-- The eight tries. -/
def vsearch (p : FVec Ideal s .f32) : IVec s 32 :=
  vstep p 8388608#32 (vstep p 16777216#32 (vstep p 33554432#32 (vstep p 67108864#32 (vstep p 134217728#32
    (vstep p 268435456#32 (vstep p 536870912#32 (vstep p 1073741824#32 (broadcast s 0#32))))))))

theorem vsearch_apply (p : FVec Ideal s .f32) (x : s.Idx) : vsearch p x = Scale.search (p x) := by
  simp only [vsearch, vstep_apply, Scale.search]; rfl

/-- The bits of the scale. -/
def vsbits (p : FVec Ideal s .f32) : IVec s 32 :=
  select (cmpf .oeq p (broadcast s (Scalar.ofBits .f32 0x00000000#32))) (broadcast s 1065353216#32)
    (addi (minsi (vsearch p) (broadcast s 2113929216#32)) (broadcast s 8388608#32))

theorem vsbits_apply (p : FVec Ideal s .f32) (x : s.Idx) : vsbits p x = Scale.sbits (p x) := by
  unfold vsbits Scale.sbits; pointwise [vsearch_apply]; rfl

/-- The scale itself. -/
def vscl (p : FVec Ideal s .f32) : FVec Ideal s .f32 := bitcastToFloat .f32 (vsbits p)

theorem vscl_apply (p : FVec Ideal s .f32) (x : s.Idx) : vscl p x = Scale.scl (p x) := by
  unfold vscl; pointwise [vsbits_apply]; exact Scale.ofBits_sbits _

/-- Its reciprocal. -/
def vinv (p : FVec Ideal s .f32) : FVec Ideal s .f32 := bitcastToFloat .f32 (subi (broadcast s 2130706432#32) (vsbits p))

theorem vinv_apply (p : FVec Ideal s .f32) (x : s.Idx) : vinv p x = Scale.inv (p x) := by
  unfold vinv; pointwise [vsbits_apply]; exact Scale.ofBits_inv _

end Cert.Proof.Val
-- ==== Proof.Quant.lean ====
/-
  The loops that quantise: thirty-two rows a trip, a scale found from the rows' lane maxima, the codes sixteen column groups at a
  time. What a trip's stores leave, then what the trips so far leave.
-/
module
public import proofs.«01_k».proof.Proof.Region
public import proofs.«01_k».proof.Proof.Spec
public import proofs.«01_k».proof.Proof.ScaleVec
public import proofs.«01_k».proof.Proof.Gen.KernelIdeal.Frame
@[expose] public section
set_option maxRecDepth 16384
noncomputable section
namespace Cert.Proof.Val
open Cert.KernelIdeal Cert.KernelIdeal.Gen
open Idealize.ShloMosaic Idealize.ShloMosaic.TcCoe Idealize.ShloMosaic.Tactic
open Idealize.SL Idealize.SL.RA Idealize.SL.BI
open Idealize.SL.Sem
variable (c : Dev nD) (i : grid0.Coords)
  (arg1 : Memref sig .tc .vmem S512x2048 .bf16) (harg1 : arg1.IsWhole)
  (arg2 : Memref sig .tc .vmem S3x2048x2048 .fp8e4m3) (harg2 : arg2.IsWhole)
  (arg3 : Memref sig .tc .vmem S3x1x2048 .f32) (harg3 : arg3.IsWhole)
  (arg4 : Memref sig .tc .vmem S3x1x2048 .f32) (harg4 : arg4.IsWhole)
  (arg5 : Memref sig .tc .vmem S1x2048 .f32) (harg5 : arg5.IsWhole)
  (arg6 : Memref sig .tc .vmem S1x2048 .f32) (harg6 : arg6.IsWhole)
  (arg7 : Memref sig .tc .vmem S512x2048 .fp8e4m3) (harg7 : arg7.IsWhole)
  (arg8 : Memref sig .tc .vmem S512x32 .f32) (harg8 : arg8.IsWhole)
  (arg9 : Memref sig .tc .vmem S512x2048 .fp8e4m3) (harg9 : arg9.IsWhole)
  (arg10 : Memref sig .tc .vmem S24x1024 .f32) (harg10 : arg10.IsWhole)
  (arg11 : Memref sig .tc .vmem S512x2048 .fp8e4m3) (harg11 : arg11.IsWhole)
  (arg12 : Memref sig .tc .vmem S24x1024 .f32) (harg12 : arg12.IsWhole)
  (arg13 : Memref sig .tc .vmem S512x2048 .fp8e4m3) (harg13 : arg13.IsWhole)
  (arg14 : Memref sig .tc .vmem S24x1024 .f32) (harg14 : arg14.IsWhole)
  (arg15 : Memref sig .tc .vmem S512x2048 .f32) (harg15 : arg15.IsWhole)
  (arg16 : Memref sig .tc .vmem S512x2048 .f32) (harg16 : arg16.IsWhole)
  (arg17 : Memref sig .tc .vmem S512x128 .f32) (harg17 : arg17.IsWhole)
  (arg18 : Memref sig .tc .vmem S512x128 .f32) (harg18 : arg18.IsWhole)
  (arg19 : Memref sig .tc .vmem S256x128 .f32) (harg19 : arg19.IsWhole)

theorem neg_inf : Ideal.ofBits .f32 4286578688#32 = ⊥ := by
  unfold Ideal.ofBits; simp [Ideal.ieee]

/-- The number the scale of a row is searched for, from the row's lane maxima. -/
theorem par_of_lanes (v : Vec Ideal S32x128 .f32) (x : S32x128.Idx) (u : ℕ → EReal)
    (h : ∀ l : Fin 128, v (ix2 (x 0) l) = Spec.lanes u 16 l.val) : k0_pay88 v x = Spec.par (Spec.amax u 0 2048) := by
  have e : k0_pay88 v x = Finset.univ.fold max (Ideal.ofBits .f32 4286578688#32) (fun k : Fin 128 => v (ix2 (x 0) k))
      * Ideal.ofBits .f32 991054117#32 := by
    unfold k0_pay88; pointwise
  rw [e, neg_inf, Spec.par, ← Spec.sup_lanes, funext h]

theorem code_piece (w : FVec Ideal S32x128 .f32) (v : Vec Ideal S32x128 .f32) (x : S32x128.Idx) :
    k0_pay115 w v x = Spec.clip (v x * w x) := by
  unfold k0_pay115 Spec.clip; pointwise

/-- The scale piece of a trip: the search, read at an index. -/
theorem scale_piece (v : Vec Ideal S32x128 .f32) (x : S32x128.Idx) :
    k0_pay94 (k0_pay88 v) (k0_pay89 (F := Ideal) v) (k0_pay90 (F := Ideal) v) (k0_pay91 (F := Ideal) v) x = Scale.scl (k0_pay88 v x) := by
  have e : k0_pay94 (k0_pay88 v) (k0_pay89 (F := Ideal) v) (k0_pay90 (F := Ideal) v) (k0_pay91 (F := Ideal) v)
      = shapeCast S32x128 (vscl (k0_pay88 v)) shapeCasts_S32x128_S32x128 := rfl
  rw [e]
  pointwise [vscl_apply]

/-- The reciprocal of a trip's scale. -/
theorem inv_piece (v : Vec Ideal S32x128 .f32) (x : S32x128.Idx) :
    k0_pay93 (k0_pay88 v) (k0_pay89 (F := Ideal) v) (k0_pay90 (F := Ideal) v) (k0_pay91 (F := Ideal) v) x = Scale.inv (k0_pay88 v x) := by
  have e : k0_pay93 (k0_pay88 v) (k0_pay89 (F := Ideal) v) (k0_pay90 (F := Ideal) v) (k0_pay91 (F := Ideal) v) = vinv (k0_pay88 v) := rfl
  rw [e, vinv_apply]

/-- The rows from `a` up to `b`. -/
def rows (a b : ℕ) (r c : ℕ) : Prop := a ≤ r ∧ r < b

theorem Acts.rows_step {e : EltTy} {n0 n1 : ℕ} {L L' : List (View.Piece (Elt Ideal) ⟨2, ![n0, n1]⟩ e)} {g : ℕ → ℕ → Elt Ideal e} {a b d : ℕ}
    (hab : a ≤ b) (hbd : b ≤ d) (h : Acts L (rows b d) g) (h' : Acts L' (rows a b) g) : Acts (L ++ L') (rows a d) g :=
  (h.append h').congr fun r c _ _ => by unfold rows; omega

/-- The scales a trip of the quantising loop `t3` stores. -/
theorem q3_scale (v16 : BitVec 32) (v27 : BitVec 32) (c0_i32_10 : BitVec 32) (c1_i32_12 : BitVec 32) (k0_t1 : Fin k0_t1_loop.trips) (v33 : BitVec 32) (X_arg15 : BufTy.Contents (Elt Ideal) arg15.view.ty) (X_arg17 : BufTy.Contents (Elt Ideal) arg17.view.ty) (k : Fin k0_t3_loop.trips) (u : ℕ → ℕ → EReal)
    (ha : ∀ r l, 256 * k0_t1.val ≤ r → r < 256 * k0_t1.val + 256 → l < 128 → rd arg17.view X_arg17 r l = Spec.lanes (u r) 16 l) :
    Acts (tripL_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v27 c0_i32_10 c1_i32_12 k0_t1 v33 X_arg15 X_arg17 k).2 (rows (256 * k0_t1.val + 32 * k.val) (256 * k0_t1.val + 32 * (k.val + 1))) (fun r _ => Spec.rowScale (u r)) := by
  have hk : k.val < 8 := k.isLt
  unfold tripL_k0_t3 trip_k0_t3; dsimp only
  refine (Acts.cons _ _ (k0_off18_eq k0_t1 k) ?_ (Acts.nil _)).congr ?_
  · intro x
    have h0 : (x 0).val < 32 := (x 0).isLt
    refine (scale_piece _ x).trans ?_
    rw [par_of_lanes _ x (u (256 * k0_t1.val + 32 * k.val + (x 0).val)) fun l => ?_]
    · rfl
    · pointwise [readAt2, k0_off18_eq]
      exact ha _ _ (by omega) (by omega) l.isLt
  · intro r c hr hc; unfold tile rows; simp; omega

/-- The codes a trip of `t3` stores. -/
theorem q3_codes (v16 : BitVec 32) (v27 : BitVec 32) (c0_i32_10 : BitVec 32) (c1_i32_12 : BitVec 32) (k0_t1 : Fin k0_t1_loop.trips) (v33 : BitVec 32) (X_arg15 : BufTy.Contents (Elt Ideal) arg15.view.ty) (X_arg17 : BufTy.Contents (Elt Ideal) arg17.view.ty) (k : Fin k0_t3_loop.trips) (u : ℕ → ℕ → EReal)
    (hx : ∀ r c, 256 * k0_t1.val ≤ r → r < 256 * k0_t1.val + 256 → c < 2048 → rd arg15.view X_arg15 r c = u r c)
    (ha : ∀ r l, 256 * k0_t1.val ≤ r → r < 256 * k0_t1.val + 256 → l < 128 → rd arg17.view X_arg17 r l = Spec.lanes (u r) 16 l) :
    Acts (tripL_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v27 c0_i32_10 c1_i32_12 k0_t1 v33 X_arg15 X_arg17 k).1 (rows (256 * k0_t1.val + 32 * k.val) (256 * k0_t1.val + 32 * (k.val + 1))) (fun r c => Spec.rowCode (u r) c) := by
  have hk : k.val < 8 := k.isLt
  have key : ∀ (v : Vec Ideal S32x128 .f32) (x : S32x128.Idx) (o : ℕ), o ≤ 1920 →
      v x = rd arg15.view X_arg15 (256 * k0_t1.val + 32 * k.val + (x 0).val) (o + (x 1).val) →
      Spec.clip (v x * trip_k0_t3.sl.r_4 arg17 k0_t1 X_arg17 k x) = Spec.rowCode (u (256 * k0_t1.val + 32 * k.val + (x 0).val)) (o + (x 1).val) := by
    intro v x o ho hv
    have h0 : (x 0).val < 32 := (x 0).isLt
    have h1 : (x 1).val < 128 := (x 1).isLt
    rw [hv, hx _ _ (by omega) (by omega) (by omega)]
    refine congrArg (fun z => Spec.clip (_ * z)) ((inv_piece _ x).trans ?_)
    rw [par_of_lanes _ x (u (256 * k0_t1.val + 32 * k.val + (x 0).val)) fun l => ?_]
    pointwise [readAt2, k0_off18_eq]
    exact ha _ _ (by omega) (by omega) l.isLt
  unfold tripL_k0_t3 trip_k0_t3; dsimp only
  refine (
    Acts.cons _ _ (k0_off34_eq k0_t1 k) ?_ <| Acts.cons _ _ (k0_off33_eq k0_t1 k) ?_ <| Acts.cons _ _ (k0_off32_eq k0_t1 k) ?_ <| Acts.cons _ _ (k0_off31_eq k0_t1 k) ?_ <| Acts.cons _ _ (k0_off30_eq k0_t1 k) ?_ <| Acts.cons _ _ (k0_off29_eq k0_t1 k) ?_ <| Acts.cons _ _ (k0_off28_eq k0_t1 k) ?_ <| Acts.cons _ _ (k0_off27_eq k0_t1 k) ?_ <| Acts.cons _ _ (k0_off26_eq k0_t1 k) ?_ <| Acts.cons _ _ (k0_off25_eq k0_t1 k) ?_ <| Acts.cons _ _ (k0_off24_eq k0_t1 k) ?_ <| Acts.cons _ _ (k0_off23_eq k0_t1 k) ?_ <| Acts.cons _ _ (k0_off22_eq k0_t1 k) ?_ <| Acts.cons _ _ (k0_off21_eq k0_t1 k) ?_ <| Acts.cons _ _ (k0_off20_eq k0_t1 k) ?_ <| Acts.cons _ _ (k0_off19_eq k0_t1 k) ?_ <| Acts.nil _).congr ?_
  on_goal 17 => intro r c hr hc; unfold tile rows; simp; omega
  all_goals
    intro x
    refine (code_piece (trip_k0_t3.sl.r_4 arg17 k0_t1 X_arg17 k) _ x).trans (key _ x _ (by norm_num) ?_)
    rw [readAt2]
    simp only [k0_off34_eq, k0_off33_eq, k0_off32_eq, k0_off31_eq, k0_off30_eq, k0_off29_eq, k0_off28_eq, k0_off27_eq, k0_off26_eq, k0_off25_eq, k0_off24_eq, k0_off23_eq, k0_off22_eq, k0_off21_eq, k0_off20_eq, k0_off19_eq, Matrix.cons_val_zero, Matrix.cons_val_one]

/-- What the trips of `t3` before trip `m` leave. -/
theorem q3_loop (v16 : BitVec 32) (v27 : BitVec 32) (c0_i32_10 : BitVec 32) (c1_i32_12 : BitVec 32) (k0_t1 : Fin k0_t1_loop.trips) (v33 : BitVec 32) (X_arg15 : BufTy.Contents (Elt Ideal) arg15.view.ty) (X_arg17 : BufTy.Contents (Elt Ideal) arg17.view.ty) (u : ℕ → ℕ → EReal)
    (hx : ∀ r c, 256 * k0_t1.val ≤ r → r < 256 * k0_t1.val + 256 → c < 2048 → rd arg15.view X_arg15 r c = u r c)
    (ha : ∀ r l, 256 * k0_t1.val ≤ r → r < 256 * k0_t1.val + 256 → l < 128 → rd arg17.view X_arg17 r l = Spec.lanes (u r) 16 l) :
    ∀ m, m ≤ 8 →
      Acts (pb_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v27 c0_i32_10 c1_i32_12 k0_t1 v33 X_arg15 X_arg17 m).1 (rows (256 * k0_t1.val) (256 * k0_t1.val + 32 * m)) (fun r c => Spec.rowCode (u r) c)
      ∧ Acts (pb_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v27 c0_i32_10 c1_i32_12 k0_t1 v33 X_arg15 X_arg17 m).2 (rows (256 * k0_t1.val) (256 * k0_t1.val + 32 * m)) (fun r _ => Spec.rowScale (u r))
  | 0, _ => by
    rw [pb_k0_t3.eq_1]
    exact ⟨(Acts.nil _).congr fun r c _ _ => ⟨False.elim, fun h => by unfold rows at h; omega⟩, (Acts.nil _).congr fun r c _ _ => ⟨False.elim, fun h => by unfold rows at h; omega⟩⟩
  | m + 1, hm => by
    have ih := q3_loop v16 v27 c0_i32_10 c1_i32_12 k0_t1 v33 X_arg15 X_arg17 u hx ha m (by omega)
    have e := pb_k0_t3_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v27 c0_i32_10 c1_i32_12 k0_t1 v33 X_arg15 X_arg17 (⟨m, hm⟩ : Fin k0_t3_loop.trips)
    dsimp only at e
    rw [e]
    exact ⟨Acts.rows_step (b := 256 * k0_t1.val + 32 * m) (by omega) (by omega) (q3_codes c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v27 c0_i32_10 c1_i32_12 k0_t1 v33 X_arg15 X_arg17 ⟨m, hm⟩ u hx ha) ih.1,
      Acts.rows_step (b := 256 * k0_t1.val + 32 * m) (by omega) (by omega) (q3_scale c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v27 c0_i32_10 c1_i32_12 k0_t1 v33 X_arg15 X_arg17 ⟨m, hm⟩ u ha) ih.2⟩

/-- The scales a trip of the quantising loop `t6` stores. -/
theorem q6_scale (v16 : BitVec 32) (v27 : BitVec 32) (c0_i32_14 : BitVec 32) (c1_i32_16 : BitVec 32) (k0_t4 : Fin k0_t4_loop.trips) (v33 : BitVec 32) (X_arg16 : BufTy.Contents (Elt Ideal) arg16.view.ty) (X_arg17 : BufTy.Contents (Elt Ideal) arg17.view.ty) (k : Fin k0_t6_loop.trips) (u : ℕ → ℕ → EReal)
    (ha : ∀ r l, 256 * k0_t4.val ≤ r → r < 256 * k0_t4.val + 256 → l < 128 → rd arg17.view X_arg17 r l = Spec.lanes (u r) 16 l) :
    Acts (tripL_k0_t6 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v27 c0_i32_14 c1_i32_16 k0_t4 v33 X_arg16 X_arg17 k).2 (rows (256 * k0_t4.val + 32 * k.val) (256 * k0_t4.val + 32 * (k.val + 1))) (fun r _ => Spec.rowScale (u r)) := by
  have hk : k.val < 8 := k.isLt
  unfold tripL_k0_t6 trip_k0_t6; dsimp only
  refine (Acts.cons _ _ (k0_off42_eq k0_t4 k) ?_ (Acts.nil _)).congr ?_
  · intro x
    have h0 : (x 0).val < 32 := (x 0).isLt
    refine (scale_piece _ x).trans ?_
    rw [par_of_lanes _ x (u (256 * k0_t4.val + 32 * k.val + (x 0).val)) fun l => ?_]
    · rfl
    · pointwise [readAt2, k0_off42_eq]
      exact ha _ _ (by omega) (by omega) l.isLt
  · intro r c hr hc; unfold tile rows; simp; omega

/-- The codes a trip of `t6` stores. -/
theorem q6_codes (v16 : BitVec 32) (v27 : BitVec 32) (c0_i32_14 : BitVec 32) (c1_i32_16 : BitVec 32) (k0_t4 : Fin k0_t4_loop.trips) (v33 : BitVec 32) (X_arg16 : BufTy.Contents (Elt Ideal) arg16.view.ty) (X_arg17 : BufTy.Contents (Elt Ideal) arg17.view.ty) (k : Fin k0_t6_loop.trips) (u : ℕ → ℕ → EReal)
    (hx : ∀ r c, 256 * k0_t4.val ≤ r → r < 256 * k0_t4.val + 256 → c < 2048 → rd arg16.view X_arg16 r c = u r c)
    (ha : ∀ r l, 256 * k0_t4.val ≤ r → r < 256 * k0_t4.val + 256 → l < 128 → rd arg17.view X_arg17 r l = Spec.lanes (u r) 16 l) :
    Acts (tripL_k0_t6 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v27 c0_i32_14 c1_i32_16 k0_t4 v33 X_arg16 X_arg17 k).1 (rows (256 * k0_t4.val + 32 * k.val) (256 * k0_t4.val + 32 * (k.val + 1))) (fun r c => Spec.rowCode (u r) c) := by
  have hk : k.val < 8 := k.isLt
  have key : ∀ (v : Vec Ideal S32x128 .f32) (x : S32x128.Idx) (o : ℕ), o ≤ 1920 →
      v x = rd arg16.view X_arg16 (256 * k0_t4.val + 32 * k.val + (x 0).val) (o + (x 1).val) →
      Spec.clip (v x * trip_k0_t6.sl.r_4 arg17 k0_t4 X_arg17 k x) = Spec.rowCode (u (256 * k0_t4.val + 32 * k.val + (x 0).val)) (o + (x 1).val) := by
    intro v x o ho hv
    have h0 : (x 0).val < 32 := (x 0).isLt
    have h1 : (x 1).val < 128 := (x 1).isLt
    rw [hv, hx _ _ (by omega) (by omega) (by omega)]
    refine congrArg (fun z => Spec.clip (_ * z)) ((inv_piece _ x).trans ?_)
    rw [par_of_lanes _ x (u (256 * k0_t4.val + 32 * k.val + (x 0).val)) fun l => ?_]
    pointwise [readAt2, k0_off42_eq]
    exact ha _ _ (by omega) (by omega) l.isLt
  unfold tripL_k0_t6 trip_k0_t6; dsimp only
  refine (
    Acts.cons _ _ (k0_off58_eq k0_t4 k) ?_ <| Acts.cons _ _ (k0_off57_eq k0_t4 k) ?_ <| Acts.cons _ _ (k0_off56_eq k0_t4 k) ?_ <| Acts.cons _ _ (k0_off55_eq k0_t4 k) ?_ <| Acts.cons _ _ (k0_off54_eq k0_t4 k) ?_ <| Acts.cons _ _ (k0_off53_eq k0_t4 k) ?_ <| Acts.cons _ _ (k0_off52_eq k0_t4 k) ?_ <| Acts.cons _ _ (k0_off51_eq k0_t4 k) ?_ <| Acts.cons _ _ (k0_off50_eq k0_t4 k) ?_ <| Acts.cons _ _ (k0_off49_eq k0_t4 k) ?_ <| Acts.cons _ _ (k0_off48_eq k0_t4 k) ?_ <| Acts.cons _ _ (k0_off47_eq k0_t4 k) ?_ <| Acts.cons _ _ (k0_off46_eq k0_t4 k) ?_ <| Acts.cons _ _ (k0_off45_eq k0_t4 k) ?_ <| Acts.cons _ _ (k0_off44_eq k0_t4 k) ?_ <| Acts.cons _ _ (k0_off43_eq k0_t4 k) ?_ <| Acts.nil _).congr ?_
  on_goal 17 => intro r c hr hc; unfold tile rows; simp; omega
  all_goals
    intro x
    refine (code_piece (trip_k0_t6.sl.r_4 arg17 k0_t4 X_arg17 k) _ x).trans (key _ x _ (by norm_num) ?_)
    rw [readAt2]
    simp only [k0_off58_eq, k0_off57_eq, k0_off56_eq, k0_off55_eq, k0_off54_eq, k0_off53_eq, k0_off52_eq, k0_off51_eq, k0_off50_eq, k0_off49_eq, k0_off48_eq, k0_off47_eq, k0_off46_eq, k0_off45_eq, k0_off44_eq, k0_off43_eq, Matrix.cons_val_zero, Matrix.cons_val_one]

/-- What the trips of `t6` before trip `m` leave. -/
theorem q6_loop (v16 : BitVec 32) (v27 : BitVec 32) (c0_i32_14 : BitVec 32) (c1_i32_16 : BitVec 32) (k0_t4 : Fin k0_t4_loop.trips) (v33 : BitVec 32) (X_arg16 : BufTy.Contents (Elt Ideal) arg16.view.ty) (X_arg17 : BufTy.Contents (Elt Ideal) arg17.view.ty) (u : ℕ → ℕ → EReal)
    (hx : ∀ r c, 256 * k0_t4.val ≤ r → r < 256 * k0_t4.val + 256 → c < 2048 → rd arg16.view X_arg16 r c = u r c)
    (ha : ∀ r l, 256 * k0_t4.val ≤ r → r < 256 * k0_t4.val + 256 → l < 128 → rd arg17.view X_arg17 r l = Spec.lanes (u r) 16 l) :
    ∀ m, m ≤ 8 →
      Acts (pb_k0_t6 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v27 c0_i32_14 c1_i32_16 k0_t4 v33 X_arg16 X_arg17 m).1 (rows (256 * k0_t4.val) (256 * k0_t4.val + 32 * m)) (fun r c => Spec.rowCode (u r) c)
      ∧ Acts (pb_k0_t6 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v27 c0_i32_14 c1_i32_16 k0_t4 v33 X_arg16 X_arg17 m).2 (rows (256 * k0_t4.val) (256 * k0_t4.val + 32 * m)) (fun r _ => Spec.rowScale (u r))
  | 0, _ => by
    rw [pb_k0_t6.eq_1]
    exact ⟨(Acts.nil _).congr fun r c _ _ => ⟨False.elim, fun h => by unfold rows at h; omega⟩, (Acts.nil _).congr fun r c _ _ => ⟨False.elim, fun h => by unfold rows at h; omega⟩⟩
  | m + 1, hm => by
    have ih := q6_loop v16 v27 c0_i32_14 c1_i32_16 k0_t4 v33 X_arg16 X_arg17 u hx ha m (by omega)
    have e := pb_k0_t6_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v27 c0_i32_14 c1_i32_16 k0_t4 v33 X_arg16 X_arg17 (⟨m, hm⟩ : Fin k0_t6_loop.trips)
    dsimp only at e
    rw [e]
    exact ⟨Acts.rows_step (b := 256 * k0_t4.val + 32 * m) (by omega) (by omega) (q6_codes c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v27 c0_i32_14 c1_i32_16 k0_t4 v33 X_arg16 X_arg17 ⟨m, hm⟩ u hx ha) ih.1,
      Acts.rows_step (b := 256 * k0_t4.val + 32 * m) (by omega) (by omega) (q6_scale c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v27 c0_i32_14 c1_i32_16 k0_t4 v33 X_arg16 X_arg17 ⟨m, hm⟩ u ha) ih.2⟩

/-- The scales a trip of the quantising loop `t9` stores. -/
theorem q9_scale (v16 : BitVec 32) (v27 : BitVec 32) (c0_i32_18 : BitVec 32) (c1_i32_20 : BitVec 32) (k0_t7 : Fin k0_t7_loop.trips) (v33 : BitVec 32) (X_arg16 : BufTy.Contents (Elt Ideal) arg16.view.ty) (X_arg17 : BufTy.Contents (Elt Ideal) arg17.view.ty) (k : Fin k0_t9_loop.trips) (u : ℕ → ℕ → EReal)
    (ha : ∀ r l, 256 * k0_t7.val ≤ r → r < 256 * k0_t7.val + 256 → l < 128 → rd arg17.view X_arg17 r l = Spec.lanes (u r) 16 l) :
    Acts (tripL_k0_t9 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v27 c0_i32_18 c1_i32_20 k0_t7 v33 X_arg16 X_arg17 k).2 (rows (256 * k0_t7.val + 32 * k.val) (256 * k0_t7.val + 32 * (k.val + 1))) (fun r _ => Spec.rowScale (u r)) := by
  have hk : k.val < 8 := k.isLt
  unfold tripL_k0_t9 trip_k0_t9; dsimp only
  refine (Acts.cons _ _ (k0_off66_eq k0_t7 k) ?_ (Acts.nil _)).congr ?_
  · intro x
    have h0 : (x 0).val < 32 := (x 0).isLt
    refine (scale_piece _ x).trans ?_
    rw [par_of_lanes _ x (u (256 * k0_t7.val + 32 * k.val + (x 0).val)) fun l => ?_]
    · rfl
    · pointwise [readAt2, k0_off66_eq]
      exact ha _ _ (by omega) (by omega) l.isLt
  · intro r c hr hc; unfold tile rows; simp; omega

/-- The codes a trip of `t9` stores. -/
theorem q9_codes (v16 : BitVec 32) (v27 : BitVec 32) (c0_i32_18 : BitVec 32) (c1_i32_20 : BitVec 32) (k0_t7 : Fin k0_t7_loop.trips) (v33 : BitVec 32) (X_arg16 : BufTy.Contents (Elt Ideal) arg16.view.ty) (X_arg17 : BufTy.Contents (Elt Ideal) arg17.view.ty) (k : Fin k0_t9_loop.trips) (u : ℕ → ℕ → EReal)
    (hx : ∀ r c, 256 * k0_t7.val ≤ r → r < 256 * k0_t7.val + 256 → c < 2048 → rd arg16.view X_arg16 r c = u r c)
    (ha : ∀ r l, 256 * k0_t7.val ≤ r → r < 256 * k0_t7.val + 256 → l < 128 → rd arg17.view X_arg17 r l = Spec.lanes (u r) 16 l) :
    Acts (tripL_k0_t9 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v27 c0_i32_18 c1_i32_20 k0_t7 v33 X_arg16 X_arg17 k).1 (rows (256 * k0_t7.val + 32 * k.val) (256 * k0_t7.val + 32 * (k.val + 1))) (fun r c => Spec.rowCode (u r) c) := by
  have hk : k.val < 8 := k.isLt
  have key : ∀ (v : Vec Ideal S32x128 .f32) (x : S32x128.Idx) (o : ℕ), o ≤ 1920 →
      v x = rd arg16.view X_arg16 (256 * k0_t7.val + 32 * k.val + (x 0).val) (o + (x 1).val) →
      Spec.clip (v x * trip_k0_t9.sl.r_4 arg17 k0_t7 X_arg17 k x) = Spec.rowCode (u (256 * k0_t7.val + 32 * k.val + (x 0).val)) (o + (x 1).val) := by
    intro v x o ho hv
    have h0 : (x 0).val < 32 := (x 0).isLt
    have h1 : (x 1).val < 128 := (x 1).isLt
    rw [hv, hx _ _ (by omega) (by omega) (by omega)]
    refine congrArg (fun z => Spec.clip (_ * z)) ((inv_piece _ x).trans ?_)
    rw [par_of_lanes _ x (u (256 * k0_t7.val + 32 * k.val + (x 0).val)) fun l => ?_]
    pointwise [readAt2, k0_off66_eq]
    exact ha _ _ (by omega) (by omega) l.isLt
  unfold tripL_k0_t9 trip_k0_t9; dsimp only
  refine (
    Acts.cons _ _ (k0_off82_eq k0_t7 k) ?_ <| Acts.cons _ _ (k0_off81_eq k0_t7 k) ?_ <| Acts.cons _ _ (k0_off80_eq k0_t7 k) ?_ <| Acts.cons _ _ (k0_off79_eq k0_t7 k) ?_ <| Acts.cons _ _ (k0_off78_eq k0_t7 k) ?_ <| Acts.cons _ _ (k0_off77_eq k0_t7 k) ?_ <| Acts.cons _ _ (k0_off76_eq k0_t7 k) ?_ <| Acts.cons _ _ (k0_off75_eq k0_t7 k) ?_ <| Acts.cons _ _ (k0_off74_eq k0_t7 k) ?_ <| Acts.cons _ _ (k0_off73_eq k0_t7 k) ?_ <| Acts.cons _ _ (k0_off72_eq k0_t7 k) ?_ <| Acts.cons _ _ (k0_off71_eq k0_t7 k) ?_ <| Acts.cons _ _ (k0_off70_eq k0_t7 k) ?_ <| Acts.cons _ _ (k0_off69_eq k0_t7 k) ?_ <| Acts.cons _ _ (k0_off68_eq k0_t7 k) ?_ <| Acts.cons _ _ (k0_off67_eq k0_t7 k) ?_ <| Acts.nil _).congr ?_
  on_goal 17 => intro r c hr hc; unfold tile rows; simp; omega
  all_goals
    intro x
    refine (code_piece (trip_k0_t9.sl.r_4 arg17 k0_t7 X_arg17 k) _ x).trans (key _ x _ (by norm_num) ?_)
    rw [readAt2]
    simp only [k0_off82_eq, k0_off81_eq, k0_off80_eq, k0_off79_eq, k0_off78_eq, k0_off77_eq, k0_off76_eq, k0_off75_eq, k0_off74_eq, k0_off73_eq, k0_off72_eq, k0_off71_eq, k0_off70_eq, k0_off69_eq, k0_off68_eq, k0_off67_eq, Matrix.cons_val_zero, Matrix.cons_val_one]

/-- What the trips of `t9` before trip `m` leave. -/
theorem q9_loop (v16 : BitVec 32) (v27 : BitVec 32) (c0_i32_18 : BitVec 32) (c1_i32_20 : BitVec 32) (k0_t7 : Fin k0_t7_loop.trips) (v33 : BitVec 32) (X_arg16 : BufTy.Contents (Elt Ideal) arg16.view.ty) (X_arg17 : BufTy.Contents (Elt Ideal) arg17.view.ty) (u : ℕ → ℕ → EReal)
    (hx : ∀ r c, 256 * k0_t7.val ≤ r → r < 256 * k0_t7.val + 256 → c < 2048 → rd arg16.view X_arg16 r c = u r c)
    (ha : ∀ r l, 256 * k0_t7.val ≤ r → r < 256 * k0_t7.val + 256 → l < 128 → rd arg17.view X_arg17 r l = Spec.lanes (u r) 16 l) :
    ∀ m, m ≤ 8 →
      Acts (pb_k0_t9 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v27 c0_i32_18 c1_i32_20 k0_t7 v33 X_arg16 X_arg17 m).1 (rows (256 * k0_t7.val) (256 * k0_t7.val + 32 * m)) (fun r c => Spec.rowCode (u r) c)
      ∧ Acts (pb_k0_t9 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v27 c0_i32_18 c1_i32_20 k0_t7 v33 X_arg16 X_arg17 m).2 (rows (256 * k0_t7.val) (256 * k0_t7.val + 32 * m)) (fun r _ => Spec.rowScale (u r))
  | 0, _ => by
    rw [pb_k0_t9.eq_1]
    exact ⟨(Acts.nil _).congr fun r c _ _ => ⟨False.elim, fun h => by unfold rows at h; omega⟩, (Acts.nil _).congr fun r c _ _ => ⟨False.elim, fun h => by unfold rows at h; omega⟩⟩
  | m + 1, hm => by
    have ih := q9_loop v16 v27 c0_i32_18 c1_i32_20 k0_t7 v33 X_arg16 X_arg17 u hx ha m (by omega)
    have e := pb_k0_t9_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v27 c0_i32_18 c1_i32_20 k0_t7 v33 X_arg16 X_arg17 (⟨m, hm⟩ : Fin k0_t9_loop.trips)
    dsimp only at e
    rw [e]
    exact ⟨Acts.rows_step (b := 256 * k0_t7.val + 32 * m) (by omega) (by omega) (q9_codes c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v27 c0_i32_18 c1_i32_20 k0_t7 v33 X_arg16 X_arg17 ⟨m, hm⟩ u hx ha) ih.1,
      Acts.rows_step (b := 256 * k0_t7.val + 32 * m) (by omega) (by omega) (q9_scale c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v27 c0_i32_18 c1_i32_20 k0_t7 v33 X_arg16 X_arg17 ⟨m, hm⟩ u ha) ih.2⟩

end Cert.Proof.Val
-- ==== Proof.Norm.lean ====
/-
  Layer normalisation of a block of 32 rows: the sums by lane groups are the sums of the row, the centred row is stored and then
  overwritten, 128 columns at a time, by the normalised one, and the largest magnitude of each lane is kept.
-/
module
public import proofs.«01_k».proof.Proof.Region
public import proofs.«01_k».proof.Proof.Quant
public import proofs.«01_k».proof.Proof.ScaleVec
public import proofs.«01_k».proof.Proof.Gen.KernelIdeal.Frame
@[expose] public section
set_option maxRecDepth 16384
noncomputable section
namespace Cert.Proof.Val
open Cert.KernelIdeal Cert.KernelIdeal.Gen
open Idealize.ShloMosaic Idealize.ShloMosaic.TcCoe Idealize.ShloMosaic.Tactic
open Idealize.SL Idealize.SL.RA Idealize.SL.BI
open Idealize.SL.Sem

section
variable {sig' : RefSig} {κ : Kind} {sp : Space} {e : EltTy} {n0 n1 : ℕ}

/-- The stores `L`, of which later ones may lie over earlier ones, leave `g` on `R` and touch nothing else. -/
structure Sets (L : List (View.Piece (Elt Ideal) ⟨2, ![n0, n1]⟩ e)) (R : ℕ → ℕ → Prop) (g : ℕ → ℕ → Elt Ideal e) : Prop where
  hit : ∀ {sig' : RefSig} {κ : Kind} {sp : Space} (v : View sig' κ sp ⟨2, ![n0, n1]⟩ e) (f : v.ty.Contents (Elt Ideal)) {r c : ℕ},
    r < n0 → c < n1 → R r c → rd v (v.writes (Elt Ideal) f L) r c = g r c
  miss : ∀ {sig' : RefSig} {κ : Kind} {sp : Space} (v : View sig' κ sp ⟨2, ![n0, n1]⟩ e) (f : v.ty.Contents (Elt Ideal)) {r c : ℕ},
    ¬ R r c → rd v (v.writes (Elt Ideal) f L) r c = rd v f r c

theorem Acts.sets {L : List (View.Piece (Elt Ideal) ⟨2, ![n0, n1]⟩ e)} {R : ℕ → ℕ → Prop} {g : ℕ → ℕ → Elt Ideal e}
    (h : Acts L R g) : Sets L R g := ⟨fun v f _ _ => h.hit v f, fun v f _ _ => h.miss v f⟩

/-- Stores made over others. -/
theorem Sets.over {L L' : List (View.Piece (Elt Ideal) ⟨2, ![n0, n1]⟩ e)} {R R' R'' : ℕ → ℕ → Prop}
    {g g' g'' : ℕ → ℕ → Elt Ideal e} (h' : Sets L' R' g') (h : Sets L R g)
    (hR : ∀ r c, R'' r c ↔ R' r c ∨ R r c) (hg' : ∀ r c, R' r c → g' r c = g'' r c)
    (hg : ∀ r c, ¬ R' r c → R r c → g r c = g'' r c) : Sets (L' ++ L) R'' g'' where
  hit := @fun _ _ _ v f r c hr hc hx => by
    rw [View.writes_append]
    by_cases hx' : R' r c
    · rw [h'.hit v _ hr hc hx', hg' _ _ hx']
    · have := ((hR r c).mp hx).resolve_left hx'
      rw [h'.miss v _ hx', h.hit v _ hr hc this, hg _ _ hx' this]
  miss := @fun _ _ _ v f r c hx => by
    rw [View.writes_append, h'.miss v _ (fun h => hx ((hR r c).mpr (.inl h))), h.miss v _ (fun h => hx ((hR r c).mpr (.inr h)))]

/-- A load of what the stores left. -/
theorem Sets.cov {sig' : RefSig} {κ : Kind} {sp : Space} {L : List (View.Piece (Elt Ideal) ⟨2, ![n0, n1]⟩ e)} {R : ℕ → ℕ → Prop} {g : ℕ → ℕ → Elt Ideal e}
    (h : Sets L R g) (v : View sig' κ sp ⟨2, ![n0, n1]⟩ e) {off sz : Fin 2 → ℕ} {inb} (o0 o1 : ℕ) (ho : off = ![o0, o1])
    (hR : ∀ a b, a < sz 0 → b < sz 1 → R (o0 + a) (o1 + b))
    (x : (Rect.unit (s := ⟨2, ![n0, n1]⟩) off sz inb).shape.Idx) :
    v.readCov (Val := Elt Ideal) L (Rect.unit (s := ⟨2, ![n0, n1]⟩) off sz inb).toLoadRect x = g (o0 + (x 0).val) (o1 + (x 1).val) := by
  subst ho
  have a0 : (x 0).val < sz 0 := (x 0).isLt
  have a1 : (x 1).val < sz 1 := (x 1).isLt
  have b0 : o0 + sz 0 ≤ n0 := inb 0
  have b1 : o1 + sz 1 ≤ n1 := inb 1
  unfold View.readCov
  rw [readAt2]
  exact h.hit v _ (by show o0 + _ < _; omega) (by show o1 + _ < _; omega) (hR _ _ a0 a1)

end

/-- The sum over the lanes of the sums by lane groups. -/
theorem sum_groups (v : ℕ → EReal) :
    ∑ l : Fin 128, (v l.val + v (128 + l.val) + v (256 + l.val) + v (384 + l.val) + v (512 + l.val) + v (640 + l.val) + v (768 + l.val) + v (896 + l.val) + v (1024 + l.val) + v (1152 + l.val) + v (1280 + l.val) + v (1408 + l.val) + v (1536 + l.val) + v (1664 + l.val) + v (1792 + l.val) + v (1920 + l.val)) = Spec.total v := by
  unfold Spec.total
  rw [Fin.sum_univ_tiles 16 128 rfl (fun j : Fin 2048 => v j.val), Finset.sum_comm]
  refine Finset.sum_congr rfl fun l _ => ?_
  simp only [Fin.sum_univ_succ, Fin.sum_univ_zero]
  simp [add_assoc]

/-- The normalised row in the columns before `m`, the centred one from there on. -/
def mix (x : ℕ → ℕ → EReal) (g b : ℕ → EReal) (m r j : ℕ) : EReal := if j < m then Spec.norm (x r) g b j else Spec.centred (x r) j

/-- The next 128 columns are normalised: what is stored may use that the columns loaded are still the centred ones. -/
theorem Sets.norm_step {x : ℕ → ℕ → EReal} {g b : ℕ → EReal} {R0 : ℕ} (m : ℕ) (hm : m + 128 ≤ 2048)
    {L : List (View.Piece (Elt Ideal) ⟨2, ![512, 2048]⟩ .f32)}
    (h : Sets L (tile R0 0 32 2048) (mix x g b m)) {off : Fin 2 → ℕ} {inb}
    {w : (Rect.unit (s := ⟨2, ![512, 2048]⟩) off ![32, 128] inb).shape.Idx → Elt Ideal .f32}
    (ho : off = ![R0, m])
    (hw : ∀ y : (⟨2, ![32, 128]⟩ : Shape).Idx, w y = Spec.norm (x (R0 + (y 0).val)) g b (m + (y 1).val)) :
    Sets (⟨Rect.unit (s := ⟨2, ![512, 2048]⟩) off ![32, 128] inb, w⟩ :: L) (tile R0 0 32 2048) (mix x g b (m + 128)) := by
  refine (Acts.cons (L := []) (R := fun _ _ => False) (g := fun r j => Spec.norm (x r) g b j) _ _ ho hw (Acts.nil _)).sets.over (L' := [_]) h ?_ ?_ ?_
  · intro r c
    show tile R0 0 32 2048 r c ↔ (tile R0 m 32 128 r c ∨ False) ∨ tile R0 0 32 2048 r c
    rw [or_false]
    unfold tile
    omega
  · rintro r c (⟨_, _, h⟩ | h)
    · exact (if_pos h).symm
    · exact h.elim
  · intro r c h1 h2
    unfold tile at h1 h2
    have h1 : ¬ (((R0 ≤ r ∧ r < R0 + 32) ∧ m ≤ c ∧ c < m + 128) ∨ False) := h1
    unfold mix
    by_cases hc : c < m
    · rw [if_pos hc, if_pos (by omega)]
    · rw [if_neg hc, if_neg (by omega)]

theorem Sets.full {x : ℕ → ℕ → EReal} {g b : ℕ → EReal} {R : ℕ → ℕ → Prop} {L : List (View.Piece (Elt Ideal) ⟨2, ![512, 2048]⟩ .f32)}
    (h : Sets L R (mix x g b (1920 + 128))) : Sets L R (fun r j => Spec.norm (x r) g b j) where
  hit := @fun _ _ _ v f r j hr hj hR => (h.hit v f hr hj hR).trans (if_pos hj)
  miss := @fun _ _ _ v f _ _ hR => h.miss v f hR

theorem center_in {R0 a b : ℕ} (m : ℕ) (ha : a < 32) (hb : b < 128) (hm : m + 128 ≤ 2048) : tile R0 0 32 2048 (R0 + a) (m + b) := by
  unfold tile
  omega

theorem mix_ge {x : ℕ → ℕ → EReal} {g b : ℕ → EReal} (m r j : ℕ) : mix x g b m r (m + j) = Spec.centred (x r) (m + j) :=
  if_neg (by omega)

/-- The sixteen lane groups one after the other. -/
theorem lanes16 (v : ℕ → EReal) (l : ℕ) : Spec.lanes v 16 l
    = max (max (max (max (max (max (max (max (max (max (max (max (max (max (max (FloatOps.absf (F := Ideal) (φ := .f32) (v l)) (FloatOps.absf (F := Ideal) (φ := .f32) (v (128 + l)))) (FloatOps.absf (F := Ideal) (φ := .f32) (v (256 + l)))) (FloatOps.absf (F := Ideal) (φ := .f32) (v (384 + l)))) (FloatOps.absf (F := Ideal) (φ := .f32) (v (512 + l)))) (FloatOps.absf (F := Ideal) (φ := .f32) (v (640 + l)))) (FloatOps.absf (F := Ideal) (φ := .f32) (v (768 + l)))) (FloatOps.absf (F := Ideal) (φ := .f32) (v (896 + l)))) (FloatOps.absf (F := Ideal) (φ := .f32) (v (1024 + l)))) (FloatOps.absf (F := Ideal) (φ := .f32) (v (1152 + l)))) (FloatOps.absf (F := Ideal) (φ := .f32) (v (1280 + l)))) (FloatOps.absf (F := Ideal) (φ := .f32) (v (1408 + l)))) (FloatOps.absf (F := Ideal) (φ := .f32) (v (1536 + l)))) (FloatOps.absf (F := Ideal) (φ := .f32) (v (1664 + l)))) (FloatOps.absf (F := Ideal) (φ := .f32) (v (1792 + l)))) (FloatOps.absf (F := Ideal) (φ := .f32) (v (1920 + l))) := by
  have habs : ∀ a : EReal, FloatOps.absf (F := Ideal) (φ := .f32) a = max a (-a) := fun _ => rfl
  simp only [habs, Spec.lanes_succ, Spec.lanes_zero]
  rw [max_eq_right bot_le]
  simp only [Nat.mul_zero, Nat.zero_add]

variable (c : Dev nD) (i : grid0.Coords)
  (arg1 : Memref sig .tc .vmem S512x2048 .bf16) (harg1 : arg1.IsWhole)
  (arg2 : Memref sig .tc .vmem S3x2048x2048 .fp8e4m3) (harg2 : arg2.IsWhole)
  (arg3 : Memref sig .tc .vmem S3x1x2048 .f32) (harg3 : arg3.IsWhole)
  (arg4 : Memref sig .tc .vmem S3x1x2048 .f32) (harg4 : arg4.IsWhole)
  (arg5 : Memref sig .tc .vmem S1x2048 .f32) (harg5 : arg5.IsWhole)
  (arg6 : Memref sig .tc .vmem S1x2048 .f32) (harg6 : arg6.IsWhole)
  (arg7 : Memref sig .tc .vmem S512x2048 .fp8e4m3) (harg7 : arg7.IsWhole)
  (arg8 : Memref sig .tc .vmem S512x32 .f32) (harg8 : arg8.IsWhole)
  (arg9 : Memref sig .tc .vmem S512x2048 .fp8e4m3) (harg9 : arg9.IsWhole)
  (arg10 : Memref sig .tc .vmem S24x1024 .f32) (harg10 : arg10.IsWhole)
  (arg11 : Memref sig .tc .vmem S512x2048 .fp8e4m3) (harg11 : arg11.IsWhole)
  (arg12 : Memref sig .tc .vmem S24x1024 .f32) (harg12 : arg12.IsWhole)
  (arg13 : Memref sig .tc .vmem S512x2048 .fp8e4m3) (harg13 : arg13.IsWhole)
  (arg14 : Memref sig .tc .vmem S24x1024 .f32) (harg14 : arg14.IsWhole)
  (arg15 : Memref sig .tc .vmem S512x2048 .f32) (harg15 : arg15.IsWhole)
  (arg16 : Memref sig .tc .vmem S512x2048 .f32) (harg16 : arg16.IsWhole)
  (arg17 : Memref sig .tc .vmem S512x128 .f32) (harg17 : arg17.IsWhole)
  (arg18 : Memref sig .tc .vmem S512x128 .f32) (harg18 : arg18.IsWhole)
  (arg19 : Memref sig .tc .vmem S256x128 .f32) (harg19 : arg19.IsWhole)

variable (k0_t1 : Fin k0_t1_loop.trips) (X_arg1 : BufTy.Contents (Elt Ideal) arg1.view.ty) (X_arg5 : BufTy.Contents (Elt Ideal) arg5.view.ty)
  (X_arg6 : BufTy.Contents (Elt Ideal) arg6.view.ty) (k : Fin k0_t2_loop.trips)

theorem mean_at (y : S32x1.Idx) : trip_k0_t2.sl.r_1 (F := Ideal) arg1 k0_t1 X_arg1 k y = Spec.mean (rd arg1.view X_arg1 ((256 * k0_t1.val + 32 * k.val) + (y 0).val)) := by
  pointwise [readAt2, k0_off1_eq, k0_off2_eq, k0_off3_eq, k0_off4_eq, k0_off5_eq, k0_off6_eq, k0_off7_eq, k0_off8_eq, k0_off9_eq, k0_off10_eq, k0_off11_eq, k0_off12_eq, k0_off13_eq, k0_off14_eq, k0_off15_eq, k0_off16_eq, k0_pay5, k0_pay6, trip_k0_t2.sl.r, trip_k0_t2.sl.r_1]
  exact congrArg (· * _) (sum_groups (rd arg1.view X_arg1 ((256 * k0_t1.val + 32 * k.val) + (y 0).val)))

theorem pay7_eq (a b c d e f g h l) : k0_pay7 (F := Ideal) a b c d e f g h l = k0_pay9 (k0_pay6 a b c d e f g h) l := rfl

theorem pay8_eq (a b c d e f g h l) : k0_pay8 (F := Ideal) a b c d e f g h l = k0_pay10 (k0_pay6 a b c d e f g h) l := rfl

theorem rstd_at (y : S32x1.Idx) : trip_k0_t2.sl.r_9 (F := Ideal) arg1 k0_t1 X_arg1 k y = Spec.rstd (rd arg1.view X_arg1 ((256 * k0_t1.val + 32 * k.val) + (y 0).val)) := by
  have m6 := mean_at (arg1 := arg1) k0_t1 X_arg1 k
  unfold trip_k0_t2.sl.r_1 at m6
  pointwise [readAt2, k0_off1_eq, k0_off2_eq, k0_off3_eq, k0_off4_eq, k0_off5_eq, k0_off6_eq, k0_off7_eq, k0_off8_eq, k0_off9_eq, k0_off10_eq, k0_off11_eq, k0_off12_eq, k0_off13_eq, k0_off14_eq, k0_off15_eq, k0_off16_eq, pay7_eq, pay8_eq, m6, mean_at, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, trip_k0_t2.sl.r_2, trip_k0_t2.sl.r_3, trip_k0_t2.sl.r_4, trip_k0_t2.sl.r_5, trip_k0_t2.sl.r_6, trip_k0_t2.sl.r_7, trip_k0_t2.sl.r_8, trip_k0_t2.sl.r_9]
  exact congrArg (fun s => Ideal.rsqrt (s * _ + _)) (sum_groups (fun j => Spec.centred (rd arg1.view X_arg1 ((256 * k0_t1.val + 32 * k.val) + (y 0).val)) j * Spec.centred (rd arg1.view X_arg1 ((256 * k0_t1.val + 32 * k.val) + (y 0).val)) j))

theorem r10_eq : trip_k0_t2.sl.r_10 (F := Ideal) arg1 k0_t1 X_arg1 k = broadcastTo S32x128 (trip_k0_t2.sl.r_9 arg1 k0_t1 X_arg1 k) broadcasts_S32x1_S32x128 := rfl

/-- The sixteen stores of the centred rows. -/
theorem t2_centred : Sets (trip_k0_t2.sl.HW_arg15_16 (F := Ideal) arg1 k0_t1 X_arg1 k) (tile (256 * k0_t1.val + 32 * k.val) 0 32 2048)
    (mix (rd arg1.view X_arg1) (rd arg5.view X_arg5 0) (rd arg6.view X_arg6 0) 0) := by
  refine Acts.sets ?_
  have m6 := mean_at (arg1 := arg1) k0_t1 X_arg1 k
  unfold trip_k0_t2.sl.r_1 at m6
  unfold trip_k0_t2.sl.HW_arg15_16
  refine (
    Acts.cons _ _ (k0_off16_eq k0_t1 k) ?_ <| Acts.cons _ _ (k0_off15_eq k0_t1 k) ?_ <| Acts.cons _ _ (k0_off14_eq k0_t1 k) ?_ <| Acts.cons _ _ (k0_off13_eq k0_t1 k) ?_ <| Acts.cons _ _ (k0_off12_eq k0_t1 k) ?_ <| Acts.cons _ _ (k0_off11_eq k0_t1 k) ?_ <| Acts.cons _ _ (k0_off10_eq k0_t1 k) ?_ <| Acts.cons _ _ (k0_off9_eq k0_t1 k) ?_ <| Acts.cons _ _ (k0_off8_eq k0_t1 k) ?_ <| Acts.cons _ _ (k0_off7_eq k0_t1 k) ?_ <| Acts.cons _ _ (k0_off6_eq k0_t1 k) ?_ <| Acts.cons _ _ (k0_off5_eq k0_t1 k) ?_ <| Acts.cons _ _ (k0_off4_eq k0_t1 k) ?_ <| Acts.cons _ _ (k0_off3_eq k0_t1 k) ?_ <| Acts.cons _ _ (k0_off2_eq k0_t1 k) ?_ <| Acts.cons _ _ (k0_off1_eq k0_t1 k) ?_ <| Acts.nil _).congr ?_
  on_goal 17 =>
    intro r c hr hc
    unfold tile
    simp
    omega
  all_goals
    intro y
    pointwise [readAt2, k0_off1_eq, k0_off2_eq, k0_off3_eq, k0_off4_eq, k0_off5_eq, k0_off6_eq, k0_off7_eq, k0_off8_eq, k0_off9_eq, k0_off10_eq, k0_off11_eq, k0_off12_eq, k0_off13_eq, k0_off14_eq, k0_off15_eq, k0_off16_eq, pay7_eq, pay8_eq, m6, mean_at, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, trip_k0_t2.sl.r_2]
    rfl

/-- After the store of one lane group the next one is loaded; in the end all of the row is normalised and the largest magnitude of
each lane is stored. -/
theorem t2_trip (f15 : BufTy.Contents (Elt Ideal) arg15.view.ty) (f17 : BufTy.Contents (Elt Ideal) arg17.view.ty) (v16 v27 c0_i32_10 c1_i32_12 v33 : BitVec 32) :
    Sets (tripL_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v27 c0_i32_10 c1_i32_12 k0_t1 v33 X_arg1 X_arg5 X_arg6 k f15 f17).1 (tile (256 * k0_t1.val + 32 * k.val) 0 32 2048) (fun r j => Spec.norm (rd arg1.view X_arg1 r) (rd arg5.view X_arg5 0) (rd arg6.view X_arg6 0) j)
      ∧ Acts (tripL_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v27 c0_i32_10 c1_i32_12 k0_t1 v33 X_arg1 X_arg5 X_arg6 k f15 f17).2 (tile (256 * k0_t1.val + 32 * k.val) 0 32 128)
          (fun r l : ℕ => Spec.lanes (Spec.norm (rd arg1.view X_arg1 r) (rd arg5.view X_arg5 0) (rd arg6.view X_arg6 0)) 16 l) := by
  have h0 := t2_centred (arg1 := arg1) (arg5 := arg5) (arg6 := arg6) k0_t1 X_arg1 X_arg5 X_arg6 k
  have v0 : ∀ y, trip_k0_t2.sl.v414 (F := Ideal) arg1 arg15 k0_t1 X_arg1 k y = Spec.centred (rd arg1.view X_arg1 ((256 * k0_t1.val + 32 * k.val) + (y 0).val)) (0 + (y 1).val) := fun y =>
    (h0.cov arg15.view _ _ (k0_off1_eq k0_t1 k) (fun a b ha hb => center_in 0 ha hb (by omega)) y).trans (mix_ge _ _ _)
  have h1 : Sets (trip_k0_t2.sl.HW_arg15_17 (F := Ideal) arg1 arg5 arg6 arg15 k0_t1 X_arg1 X_arg5 X_arg6 k) _ _ :=
    h0.norm_step 0 (by omega) (k0_off1_eq k0_t1 k) (fun y => by
      pointwise [readAt2, k0_off17_eq, r10_eq, rstd_at, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19, trip_k0_t2.sl.r_20, trip_k0_t2.sl.r_21, trip_k0_t2.sl.r_22, trip_k0_t2.sl.r_23, trip_k0_t2.sl.r_24, v0]
      rfl)
  have v1 : ∀ y, trip_k0_t2.sl.v431 (F := Ideal) arg1 arg5 arg6 arg15 k0_t1 X_arg1 X_arg5 X_arg6 k y = Spec.centred (rd arg1.view X_arg1 ((256 * k0_t1.val + 32 * k.val) + (y 0).val)) (128 + (y 1).val) := fun y =>
    (h1.cov arg15.view _ _ (k0_off2_eq k0_t1 k) (fun a b ha hb => center_in 128 ha hb (by omega)) y).trans (mix_ge _ _ _)
  have h2 : Sets (trip_k0_t2.sl.HW_arg15_18 (F := Ideal) arg1 arg5 arg6 arg15 k0_t1 X_arg1 X_arg5 X_arg6 k) _ _ :=
    h1.norm_step 128 (by omega) (k0_off2_eq k0_t1 k) (fun y => by
      pointwise [readAt2, k0_off17_eq, r10_eq, rstd_at, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19, trip_k0_t2.sl.r_20, trip_k0_t2.sl.r_21, trip_k0_t2.sl.r_22, trip_k0_t2.sl.r_23, trip_k0_t2.sl.r_24, v1]
      rfl)
  have v2 : ∀ y, trip_k0_t2.sl.v449 (F := Ideal) arg1 arg5 arg6 arg15 k0_t1 X_arg1 X_arg5 X_arg6 k y = Spec.centred (rd arg1.view X_arg1 ((256 * k0_t1.val + 32 * k.val) + (y 0).val)) (256 + (y 1).val) := fun y =>
    (h2.cov arg15.view _ _ (k0_off3_eq k0_t1 k) (fun a b ha hb => center_in 256 ha hb (by omega)) y).trans (mix_ge _ _ _)
  have h3 : Sets (trip_k0_t2.sl.HW_arg15_19 (F := Ideal) arg1 arg5 arg6 arg15 k0_t1 X_arg1 X_arg5 X_arg6 k) _ _ :=
    h2.norm_step 256 (by omega) (k0_off3_eq k0_t1 k) (fun y => by
      pointwise [readAt2, k0_off17_eq, r10_eq, rstd_at, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19, trip_k0_t2.sl.r_20, trip_k0_t2.sl.r_21, trip_k0_t2.sl.r_22, trip_k0_t2.sl.r_23, trip_k0_t2.sl.r_24, v2]
      rfl)
  have v3 : ∀ y, trip_k0_t2.sl.v467 (F := Ideal) arg1 arg5 arg6 arg15 k0_t1 X_arg1 X_arg5 X_arg6 k y = Spec.centred (rd arg1.view X_arg1 ((256 * k0_t1.val + 32 * k.val) + (y 0).val)) (384 + (y 1).val) := fun y =>
    (h3.cov arg15.view _ _ (k0_off4_eq k0_t1 k) (fun a b ha hb => center_in 384 ha hb (by omega)) y).trans (mix_ge _ _ _)
  have h4 : Sets (trip_k0_t2.sl.HW_arg15_20 (F := Ideal) arg1 arg5 arg6 arg15 k0_t1 X_arg1 X_arg5 X_arg6 k) _ _ :=
    h3.norm_step 384 (by omega) (k0_off4_eq k0_t1 k) (fun y => by
      pointwise [readAt2, k0_off17_eq, r10_eq, rstd_at, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19, trip_k0_t2.sl.r_20, trip_k0_t2.sl.r_21, trip_k0_t2.sl.r_22, trip_k0_t2.sl.r_23, trip_k0_t2.sl.r_24, v3]
      rfl)
  have v4 : ∀ y, trip_k0_t2.sl.v485 (F := Ideal) arg1 arg5 arg6 arg15 k0_t1 X_arg1 X_arg5 X_arg6 k y = Spec.centred (rd arg1.view X_arg1 ((256 * k0_t1.val + 32 * k.val) + (y 0).val)) (512 + (y 1).val) := fun y =>
    (h4.cov arg15.view _ _ (k0_off5_eq k0_t1 k) (fun a b ha hb => center_in 512 ha hb (by omega)) y).trans (mix_ge _ _ _)
  have h5 : Sets (trip_k0_t2.sl.HW_arg15_21 (F := Ideal) arg1 arg5 arg6 arg15 k0_t1 X_arg1 X_arg5 X_arg6 k) _ _ :=
    h4.norm_step 512 (by omega) (k0_off5_eq k0_t1 k) (fun y => by
      pointwise [readAt2, k0_off17_eq, r10_eq, rstd_at, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19, trip_k0_t2.sl.r_20, trip_k0_t2.sl.r_21, trip_k0_t2.sl.r_22, trip_k0_t2.sl.r_23, trip_k0_t2.sl.r_24, v4]
      rfl)
  have v5 : ∀ y, trip_k0_t2.sl.v503 (F := Ideal) arg1 arg5 arg6 arg15 k0_t1 X_arg1 X_arg5 X_arg6 k y = Spec.centred (rd arg1.view X_arg1 ((256 * k0_t1.val + 32 * k.val) + (y 0).val)) (640 + (y 1).val) := fun y =>
    (h5.cov arg15.view _ _ (k0_off6_eq k0_t1 k) (fun a b ha hb => center_in 640 ha hb (by omega)) y).trans (mix_ge _ _ _)
  have h6 : Sets (trip_k0_t2.sl.HW_arg15_22 (F := Ideal) arg1 arg5 arg6 arg15 k0_t1 X_arg1 X_arg5 X_arg6 k) _ _ :=
    h5.norm_step 640 (by omega) (k0_off6_eq k0_t1 k) (fun y => by
      pointwise [readAt2, k0_off17_eq, r10_eq, rstd_at, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19, trip_k0_t2.sl.r_20, trip_k0_t2.sl.r_21, trip_k0_t2.sl.r_22, trip_k0_t2.sl.r_23, trip_k0_t2.sl.r_24, v5]
      rfl)
  have v6 : ∀ y, trip_k0_t2.sl.v521 (F := Ideal) arg1 arg5 arg6 arg15 k0_t1 X_arg1 X_arg5 X_arg6 k y = Spec.centred (rd arg1.view X_arg1 ((256 * k0_t1.val + 32 * k.val) + (y 0).val)) (768 + (y 1).val) := fun y =>
    (h6.cov arg15.view _ _ (k0_off7_eq k0_t1 k) (fun a b ha hb => center_in 768 ha hb (by omega)) y).trans (mix_ge _ _ _)
  have h7 : Sets (trip_k0_t2.sl.HW_arg15_23 (F := Ideal) arg1 arg5 arg6 arg15 k0_t1 X_arg1 X_arg5 X_arg6 k) _ _ :=
    h6.norm_step 768 (by omega) (k0_off7_eq k0_t1 k) (fun y => by
      pointwise [readAt2, k0_off17_eq, r10_eq, rstd_at, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19, trip_k0_t2.sl.r_20, trip_k0_t2.sl.r_21, trip_k0_t2.sl.r_22, trip_k0_t2.sl.r_23, trip_k0_t2.sl.r_24, v6]
      rfl)
  have v7 : ∀ y, trip_k0_t2.sl.v539 (F := Ideal) arg1 arg5 arg6 arg15 k0_t1 X_arg1 X_arg5 X_arg6 k y = Spec.centred (rd arg1.view X_arg1 ((256 * k0_t1.val + 32 * k.val) + (y 0).val)) (896 + (y 1).val) := fun y =>
    (h7.cov arg15.view _ _ (k0_off8_eq k0_t1 k) (fun a b ha hb => center_in 896 ha hb (by omega)) y).trans (mix_ge _ _ _)
  have h8 : Sets (trip_k0_t2.sl.HW_arg15_24 (F := Ideal) arg1 arg5 arg6 arg15 k0_t1 X_arg1 X_arg5 X_arg6 k) _ _ :=
    h7.norm_step 896 (by omega) (k0_off8_eq k0_t1 k) (fun y => by
      pointwise [readAt2, k0_off17_eq, r10_eq, rstd_at, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19, trip_k0_t2.sl.r_20, trip_k0_t2.sl.r_21, trip_k0_t2.sl.r_22, trip_k0_t2.sl.r_23, trip_k0_t2.sl.r_24, v7]
      rfl)
  have v8 : ∀ y, trip_k0_t2.sl.v557 (F := Ideal) arg1 arg5 arg6 arg15 k0_t1 X_arg1 X_arg5 X_arg6 k y = Spec.centred (rd arg1.view X_arg1 ((256 * k0_t1.val + 32 * k.val) + (y 0).val)) (1024 + (y 1).val) := fun y =>
    (h8.cov arg15.view _ _ (k0_off9_eq k0_t1 k) (fun a b ha hb => center_in 1024 ha hb (by omega)) y).trans (mix_ge _ _ _)
  have h9 : Sets (trip_k0_t2.sl.HW_arg15_25 (F := Ideal) arg1 arg5 arg6 arg15 k0_t1 X_arg1 X_arg5 X_arg6 k) _ _ :=
    h8.norm_step 1024 (by omega) (k0_off9_eq k0_t1 k) (fun y => by
      pointwise [readAt2, k0_off17_eq, r10_eq, rstd_at, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19, trip_k0_t2.sl.r_20, trip_k0_t2.sl.r_21, trip_k0_t2.sl.r_22, trip_k0_t2.sl.r_23, trip_k0_t2.sl.r_24, v8]
      rfl)
  have v9 : ∀ y, trip_k0_t2.sl.v575 (F := Ideal) arg1 arg5 arg6 arg15 k0_t1 X_arg1 X_arg5 X_arg6 k y = Spec.centred (rd arg1.view X_arg1 ((256 * k0_t1.val + 32 * k.val) + (y 0).val)) (1152 + (y 1).val) := fun y =>
    (h9.cov arg15.view _ _ (k0_off10_eq k0_t1 k) (fun a b ha hb => center_in 1152 ha hb (by omega)) y).trans (mix_ge _ _ _)
  have h10 : Sets (trip_k0_t2.sl.HW_arg15_26 (F := Ideal) arg1 arg5 arg6 arg15 k0_t1 X_arg1 X_arg5 X_arg6 k) _ _ :=
    h9.norm_step 1152 (by omega) (k0_off10_eq k0_t1 k) (fun y => by
      pointwise [readAt2, k0_off17_eq, r10_eq, rstd_at, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19, trip_k0_t2.sl.r_20, trip_k0_t2.sl.r_21, trip_k0_t2.sl.r_22, trip_k0_t2.sl.r_23, trip_k0_t2.sl.r_24, v9]
      rfl)
  have v10 : ∀ y, trip_k0_t2.sl.v593 (F := Ideal) arg1 arg5 arg6 arg15 k0_t1 X_arg1 X_arg5 X_arg6 k y = Spec.centred (rd arg1.view X_arg1 ((256 * k0_t1.val + 32 * k.val) + (y 0).val)) (1280 + (y 1).val) := fun y =>
    (h10.cov arg15.view _ _ (k0_off11_eq k0_t1 k) (fun a b ha hb => center_in 1280 ha hb (by omega)) y).trans (mix_ge _ _ _)
  have h11 : Sets (trip_k0_t2.sl.HW_arg15_27 (F := Ideal) arg1 arg5 arg6 arg15 k0_t1 X_arg1 X_arg5 X_arg6 k) _ _ :=
    h10.norm_step 1280 (by omega) (k0_off11_eq k0_t1 k) (fun y => by
      pointwise [readAt2, k0_off17_eq, r10_eq, rstd_at, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19, trip_k0_t2.sl.r_20, trip_k0_t2.sl.r_21, trip_k0_t2.sl.r_22, trip_k0_t2.sl.r_23, trip_k0_t2.sl.r_24, v10]
      rfl)
  have v11 : ∀ y, trip_k0_t2.sl.v611 (F := Ideal) arg1 arg5 arg6 arg15 k0_t1 X_arg1 X_arg5 X_arg6 k y = Spec.centred (rd arg1.view X_arg1 ((256 * k0_t1.val + 32 * k.val) + (y 0).val)) (1408 + (y 1).val) := fun y =>
    (h11.cov arg15.view _ _ (k0_off12_eq k0_t1 k) (fun a b ha hb => center_in 1408 ha hb (by omega)) y).trans (mix_ge _ _ _)
  have h12 : Sets (trip_k0_t2.sl.HW_arg15_28 (F := Ideal) arg1 arg5 arg6 arg15 k0_t1 X_arg1 X_arg5 X_arg6 k) _ _ :=
    h11.norm_step 1408 (by omega) (k0_off12_eq k0_t1 k) (fun y => by
      pointwise [readAt2, k0_off17_eq, r10_eq, rstd_at, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19, trip_k0_t2.sl.r_20, trip_k0_t2.sl.r_21, trip_k0_t2.sl.r_22, trip_k0_t2.sl.r_23, trip_k0_t2.sl.r_24, v11]
      rfl)
  have v12 : ∀ y, trip_k0_t2.sl.v629 (F := Ideal) arg1 arg5 arg6 arg15 k0_t1 X_arg1 X_arg5 X_arg6 k y = Spec.centred (rd arg1.view X_arg1 ((256 * k0_t1.val + 32 * k.val) + (y 0).val)) (1536 + (y 1).val) := fun y =>
    (h12.cov arg15.view _ _ (k0_off13_eq k0_t1 k) (fun a b ha hb => center_in 1536 ha hb (by omega)) y).trans (mix_ge _ _ _)
  have h13 : Sets (trip_k0_t2.sl.HW_arg15_29 (F := Ideal) arg1 arg5 arg6 arg15 k0_t1 X_arg1 X_arg5 X_arg6 k) _ _ :=
    h12.norm_step 1536 (by omega) (k0_off13_eq k0_t1 k) (fun y => by
      pointwise [readAt2, k0_off17_eq, r10_eq, rstd_at, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19, trip_k0_t2.sl.r_20, trip_k0_t2.sl.r_21, trip_k0_t2.sl.r_22, trip_k0_t2.sl.r_23, trip_k0_t2.sl.r_24, v12]
      rfl)
  have v13 : ∀ y, trip_k0_t2.sl.v647 (F := Ideal) arg1 arg5 arg6 arg15 k0_t1 X_arg1 X_arg5 X_arg6 k y = Spec.centred (rd arg1.view X_arg1 ((256 * k0_t1.val + 32 * k.val) + (y 0).val)) (1664 + (y 1).val) := fun y =>
    (h13.cov arg15.view _ _ (k0_off14_eq k0_t1 k) (fun a b ha hb => center_in 1664 ha hb (by omega)) y).trans (mix_ge _ _ _)
  have h14 : Sets (trip_k0_t2.sl.HW_arg15_30 (F := Ideal) arg1 arg5 arg6 arg15 k0_t1 X_arg1 X_arg5 X_arg6 k) _ _ :=
    h13.norm_step 1664 (by omega) (k0_off14_eq k0_t1 k) (fun y => by
      pointwise [readAt2, k0_off17_eq, r10_eq, rstd_at, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19, trip_k0_t2.sl.r_20, trip_k0_t2.sl.r_21, trip_k0_t2.sl.r_22, trip_k0_t2.sl.r_23, trip_k0_t2.sl.r_24, v13]
      rfl)
  have v14 : ∀ y, trip_k0_t2.sl.v665 (F := Ideal) arg1 arg5 arg6 arg15 k0_t1 X_arg1 X_arg5 X_arg6 k y = Spec.centred (rd arg1.view X_arg1 ((256 * k0_t1.val + 32 * k.val) + (y 0).val)) (1792 + (y 1).val) := fun y =>
    (h14.cov arg15.view _ _ (k0_off15_eq k0_t1 k) (fun a b ha hb => center_in 1792 ha hb (by omega)) y).trans (mix_ge _ _ _)
  have h15 : Sets (trip_k0_t2.sl.HW_arg15_31 (F := Ideal) arg1 arg5 arg6 arg15 k0_t1 X_arg1 X_arg5 X_arg6 k) _ _ :=
    h14.norm_step 1792 (by omega) (k0_off15_eq k0_t1 k) (fun y => by
      pointwise [readAt2, k0_off17_eq, r10_eq, rstd_at, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19, trip_k0_t2.sl.r_20, trip_k0_t2.sl.r_21, trip_k0_t2.sl.r_22, trip_k0_t2.sl.r_23, trip_k0_t2.sl.r_24, v14]
      rfl)
  have v15 : ∀ y, trip_k0_t2.sl.v683 (F := Ideal) arg1 arg5 arg6 arg15 k0_t1 X_arg1 X_arg5 X_arg6 k y = Spec.centred (rd arg1.view X_arg1 ((256 * k0_t1.val + 32 * k.val) + (y 0).val)) (1920 + (y 1).val) := fun y =>
    (h15.cov arg15.view _ _ (k0_off16_eq k0_t1 k) (fun a b ha hb => center_in 1920 ha hb (by omega)) y).trans (mix_ge _ _ _)
  unfold tripL_k0_t2 trip_k0_t2; dsimp only
  refine ⟨?_, ?_⟩
  · refine Sets.full (h15.norm_step 1920 (by omega) (k0_off16_eq k0_t1 k) (fun y => ?_))
    pointwise [readAt2, k0_off17_eq, r10_eq, rstd_at, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19, trip_k0_t2.sl.r_20, trip_k0_t2.sl.r_21, trip_k0_t2.sl.r_22, trip_k0_t2.sl.r_23, trip_k0_t2.sl.r_24, v15]
    rfl
  · refine (Acts.cons _ _ (k0_off17_eq k0_t1 k) ?_ <| Acts.nil _).congr (fun r l _ _ => ?_)
    · intro y
      pointwise [readAt2, k0_off17_eq, r10_eq, rstd_at, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19, trip_k0_t2.sl.r_20, trip_k0_t2.sl.r_21, trip_k0_t2.sl.r_22, trip_k0_t2.sl.r_23, trip_k0_t2.sl.r_24, v0, v1, v2, v3, v4, v5, v6, v7, v8, v9, v10, v11, v12, v13, v14, v15]
      exact (lanes16 (Spec.norm (rd arg1.view X_arg1 ((256 * k0_t1.val + 32 * k.val) + (y 0).val)) (rd arg5.view X_arg5 0) (rd arg6.view X_arg6 0)) _).symm
    · show (tile (256 * k0_t1.val + 32 * k.val) 0 32 128 r l ∨ False) ↔ _
      exact Iff.of_eq (or_false _)

/-- What the blocks of 32 rows before block `m` leave. -/
theorem t2_loop (v16 : BitVec 32) (v27 : BitVec 32) (c0_i32_10 : BitVec 32) (c1_i32_12 : BitVec 32) (k0_t1 : Fin k0_t1_loop.trips) (v33 : BitVec 32) (X_arg1 : BufTy.Contents (Elt Ideal) arg1.view.ty) (X_arg5 : BufTy.Contents (Elt Ideal) arg5.view.ty) (X_arg6 : BufTy.Contents (Elt Ideal) arg6.view.ty) (G_arg15 : BufTy.Contents (Elt Ideal) arg15.view.ty) (G_arg17 : BufTy.Contents (Elt Ideal) arg17.view.ty) : ∀ m, m ≤ 8 →
    Sets (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v27 c0_i32_10 c1_i32_12 k0_t1 v33 X_arg1 X_arg5 X_arg6 G_arg15 G_arg17 m).1 (tile (256 * k0_t1.val) 0 (32 * m) 2048) (fun r j => Spec.norm (rd arg1.view X_arg1 r) (rd arg5.view X_arg5 0) (rd arg6.view X_arg6 0) j)
      ∧ Acts (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v27 c0_i32_10 c1_i32_12 k0_t1 v33 X_arg1 X_arg5 X_arg6 G_arg15 G_arg17 m).2 (tile (256 * k0_t1.val) 0 (32 * m) 128)
          (fun r l : ℕ => Spec.lanes (Spec.norm (rd arg1.view X_arg1 r) (rd arg5.view X_arg5 0) (rd arg6.view X_arg6 0)) 16 l)
  | 0, _ => by
    rw [pb_k0_t2.eq_1]
    have e : ∀ r j : ℕ, ∀ n, ¬ tile (256 * k0_t1.val) 0 (32 * 0) n r j := fun r j n h => by unfold tile at h; omega
    exact ⟨⟨@fun _ _ _ v f r j _ _ h => absurd h (e _ _ _), @fun _ _ _ v f r j _ => rfl⟩,
      (Acts.nil _).congr fun r j _ _ => ⟨False.elim, fun h => absurd h (e _ _ _)⟩⟩
  | m + 1, hm => by
    have ih := t2_loop v16 v27 c0_i32_10 c1_i32_12 k0_t1 v33 X_arg1 X_arg5 X_arg6 G_arg15 G_arg17 m (by omega)
    have e := pb_k0_t2_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v27 c0_i32_10 c1_i32_12 k0_t1 v33 X_arg1 X_arg5 X_arg6 G_arg15 G_arg17 (⟨m, hm⟩ : Fin k0_t2_loop.trips)
    dsimp only at e
    rw [e]
    have h := fun f15 f17 => t2_trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t1 X_arg1 X_arg5 X_arg6 ⟨m, hm⟩ f15 f17 v16 v27 c0_i32_10 c1_i32_12 v33
    dsimp only at h
    refine ⟨(h _ _).1.over ih.1 (fun r j => ?_) (fun _ _ _ => rfl) (fun _ _ _ _ => rfl), ((h _ _).2.append ih.2).congr (fun r j _ _ => ?_)⟩
    all_goals
      unfold tile
      omega

end Cert.Proof.Val
-- ==== Proof.Group.lean ====
/-
  The output's codes by groups of 64 columns: the largest magnitude of each group, gathered through a buffer of partial maxima, and
  the codes, each scaled by the inverse scale of its group.
-/
module
public import proofs.«01_k».proof.Proof.Region
public import proofs.«01_k».proof.Proof.Quant
public import proofs.«01_k».proof.Proof.ScaleVec
public import proofs.«01_k».proof.Proof.Gen.KernelIdeal.Frame
@[expose] public section
set_option maxRecDepth 16384
noncomputable section
namespace Cert.Proof
open Cert.KernelIdeal Cert.KernelIdeal.Gen
open Idealize.ShloMosaic Idealize.ShloMosaic.TcCoe Idealize.ShloMosaic.Tactic
open Idealize.SL Idealize.SL.RA Idealize.SL.BI
open Idealize.SL.Sem

/-- One of the eight partial maxima of a group. -/
def Spec.part (v : ℕ → EReal) (q s : ℕ) : EReal :=
  (Finset.range 8).sup fun k => max (v (64 * q + (8 * k + s))) (-v (64 * q + (8 * k + s)))

namespace Val
theorem sup_step (n : ℕ) (f : ℕ → EReal) : (Finset.range (n + 1)).sup f = max ((Finset.range n).sup f) (f n) := by
  rw [Finset.range_add_one, Finset.sup_insert, max_comm]

theorem part8 (v : ℕ → EReal) (q s : ℕ) : Spec.part v q s
    = max (max (max (max (max (max (max (FloatOps.absf (F := Ideal) (φ := .f32) (v (64 * q + s))) (FloatOps.absf (F := Ideal) (φ := .f32) (v (64 * q + (8 + s))))) (FloatOps.absf (F := Ideal) (φ := .f32) (v (64 * q + (16 + s))))) (FloatOps.absf (F := Ideal) (φ := .f32) (v (64 * q + (24 + s))))) (FloatOps.absf (F := Ideal) (φ := .f32) (v (64 * q + (32 + s))))) (FloatOps.absf (F := Ideal) (φ := .f32) (v (64 * q + (40 + s))))) (FloatOps.absf (F := Ideal) (φ := .f32) (v (64 * q + (48 + s))))) (FloatOps.absf (F := Ideal) (φ := .f32) (v (64 * q + (56 + s)))) := by
  have habs : ∀ a : EReal, FloatOps.absf (F := Ideal) (φ := .f32) a = max a (-a) := fun _ => rfl
  unfold Spec.part
  simp only [habs, sup_step, Finset.range_zero, Finset.sup_empty]
  rw [max_eq_right bot_le]
  simp only [Nat.mul_zero, Nat.zero_add]

/-- The partial maxima of all groups of a row, whole. -/
theorem amax_part (v : ℕ → EReal) (q : ℕ) :
    max (max (max (max (max (max (max (Spec.part v q 0) (Spec.part v q 1)) (Spec.part v q 2)) (Spec.part v q 3)) (Spec.part v q 4))
      (Spec.part v q 5)) (Spec.part v q 6)) (Spec.part v q 7) = Spec.amax v (64 * q) 64 := by
  unfold Spec.part Spec.amax
  apply le_antisymm
  · simp only [max_le_iff, Finset.sup_le_iff, Finset.mem_range]
    refine ⟨⟨⟨⟨⟨⟨⟨?_, ?_⟩, ?_⟩, ?_⟩, ?_⟩, ?_⟩, ?_⟩, ?_⟩
    all_goals
      intro k hk
      exact max_le_iff.mp (Finset.le_sup (f := fun j => max (v (64 * q + j)) (-v (64 * q + j))) (Finset.mem_range.mpr (by omega)))
  · refine Finset.sup_le fun j hj => ?_
    have hj := Finset.mem_range.mp hj
    have h : ∀ s, j % 8 = s → max (v (64 * q + j)) (-v (64 * q + j)) ≤ (Finset.range 8).sup fun k => max (v (64 * q + (8 * k + s))) (-v (64 * q + (8 * k + s))) := fun s hs => by
      have e : j = 8 * (j / 8) + s := by omega
      conv_lhs => rw [e]
      exact Finset.le_sup (f := fun k => max (v (64 * q + (8 * k + s))) (-v (64 * q + (8 * k + s)))) (Finset.mem_range.mpr (by omega))
    have : j % 8 = 0 ∨ j % 8 = 1 ∨ j % 8 = 2 ∨ j % 8 = 3 ∨ j % 8 = 4 ∨ j % 8 = 5 ∨ j % 8 = 6 ∨ j % 8 = 7 := by omega
    rcases this with hs | hs | hs | hs | hs | hs | hs | hs
    all_goals
      have h := h _ hs
      simp only [le_max_iff]
      tauto

variable (c : Dev nD) (i : grid0.Coords)
  (arg1 : Memref sig .tc .vmem S512x2048 .bf16) (harg1 : arg1.IsWhole)
  (arg2 : Memref sig .tc .vmem S3x2048x2048 .fp8e4m3) (harg2 : arg2.IsWhole)
  (arg3 : Memref sig .tc .vmem S3x1x2048 .f32) (harg3 : arg3.IsWhole)
  (arg4 : Memref sig .tc .vmem S3x1x2048 .f32) (harg4 : arg4.IsWhole)
  (arg5 : Memref sig .tc .vmem S1x2048 .f32) (harg5 : arg5.IsWhole)
  (arg6 : Memref sig .tc .vmem S1x2048 .f32) (harg6 : arg6.IsWhole)
  (arg7 : Memref sig .tc .vmem S512x2048 .fp8e4m3) (harg7 : arg7.IsWhole)
  (arg8 : Memref sig .tc .vmem S512x32 .f32) (harg8 : arg8.IsWhole)
  (arg9 : Memref sig .tc .vmem S512x2048 .fp8e4m3) (harg9 : arg9.IsWhole)
  (arg10 : Memref sig .tc .vmem S24x1024 .f32) (harg10 : arg10.IsWhole)
  (arg11 : Memref sig .tc .vmem S512x2048 .fp8e4m3) (harg11 : arg11.IsWhole)
  (arg12 : Memref sig .tc .vmem S24x1024 .f32) (harg12 : arg12.IsWhole)
  (arg13 : Memref sig .tc .vmem S512x2048 .fp8e4m3) (harg13 : arg13.IsWhole)
  (arg14 : Memref sig .tc .vmem S24x1024 .f32) (harg14 : arg14.IsWhole)
  (arg15 : Memref sig .tc .vmem S512x2048 .f32) (harg15 : arg15.IsWhole)
  (arg16 : Memref sig .tc .vmem S512x2048 .f32) (harg16 : arg16.IsWhole)
  (arg17 : Memref sig .tc .vmem S512x128 .f32) (harg17 : arg17.IsWhole)
  (arg18 : Memref sig .tc .vmem S512x128 .f32) (harg18 : arg18.IsWhole)
  (arg19 : Memref sig .tc .vmem S256x128 .f32) (harg19 : arg19.IsWhole)

/-- A trip takes the largest magnitudes of eight columns, eight apart, of two groups. -/
theorem t13_part (k0_t10 : Fin k0_t10_loop.trips) (v33 : BitVec 32) (c0_i32_35 : BitVec 32) (c1_i32_37 : BitVec 32) (k0_t12 : Fin k0_t12_loop.trips) (v64 : BitVec 32) (X_arg16 : BufTy.Contents (Elt Ideal) arg16.view.ty) (k : Fin k0_t13_loop.trips) (u : ℕ → ℕ → EReal)
    (hu : ∀ r j, (256 * k0_t10.val + 128 * k0_t12.val) ≤ r → r < (256 * k0_t10.val + 128 * k0_t12.val) + 128 → j < 2048 → rd arg16.view X_arg16 r j = u r j) :
    Acts (tripL_k0_t13 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t10 v33 c0_i32_35 c1_i32_37 k0_t12 v64 X_arg16 k) (tile (16 * k.val) 0 16 128) (fun ρ l => Spec.part (u ((256 * k0_t10.val + 128 * k0_t12.val) + l)) (ρ / 8) (ρ % 8)) := by
  have hk : k.val < 16 := k.isLt
  have e91 := k0_off91_eq k
  simp [Fin.forall_fin_succ] at e91
  unfold tripL_k0_t13 trip_k0_t13; dsimp only
  refine (
    Acts.cons _ _ (k0_off91_eq k 1) ?_ <| Acts.cons _ _ (k0_off91_eq k 0) ?_ <| Acts.nil _).congr ?_
  on_goal 3 =>
    intro r c hr hc
    unfold tile
    simp
    omega
  all_goals
    intro x
    have h0 : (x 0).val < 8 := (x 0).isLt
    have h1 : (x 1).val < 128 := (x 1).isLt
    pointwise [readAt2, e91, k0_off90_eq, k0_pay428, k0_pay429, k0_pay430, k0_pay453, trip_k0_t13.sl.r]
    rw [part8]
    refine (congrArg₂ max (congrArg₂ max (congrArg₂ max (congrArg₂ max (congrArg₂ max (congrArg₂ max (congrArg₂ max ?_ ?_) ?_) ?_) ?_) ?_) ?_) ?_)
    all_goals
      refine congrArg (FloatOps.absf (F := Ideal) (φ := .f32)) ?_
      rw [hu _ _ (by omega) (by omega) (by omega)]
      congr 1
      omega

/-- What the column blocks before block `m` leave. -/
theorem t13_loop (k0_t10 : Fin k0_t10_loop.trips) (v33 : BitVec 32) (c0_i32_35 : BitVec 32) (c1_i32_37 : BitVec 32) (k0_t12 : Fin k0_t12_loop.trips) (v64 : BitVec 32) (X_arg16 : BufTy.Contents (Elt Ideal) arg16.view.ty) (u : ℕ → ℕ → EReal)
    (hu : ∀ r j, (256 * k0_t10.val + 128 * k0_t12.val) ≤ r → r < (256 * k0_t10.val + 128 * k0_t12.val) + 128 → j < 2048 → rd arg16.view X_arg16 r j = u r j) : ∀ m, m ≤ 16 →
    Acts (pb_k0_t13 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t10 v33 c0_i32_35 c1_i32_37 k0_t12 v64 X_arg16 m) (tile 0 0 (16 * m) 128) (fun ρ l => Spec.part (u ((256 * k0_t10.val + 128 * k0_t12.val) + l)) (ρ / 8) (ρ % 8))
  | 0, _ => by
    rw [pb_k0_t13.eq_1]
    exact (Acts.nil _).congr fun r c _ _ => ⟨False.elim, fun h => by unfold tile at h; omega⟩
  | m + 1, hm => by
    have ih := t13_loop k0_t10 v33 c0_i32_35 c1_i32_37 k0_t12 v64 X_arg16 u hu m (by omega)
    have e := pb_k0_t13_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t10 v33 c0_i32_35 c1_i32_37 k0_t12 v64 X_arg16 (⟨m, hm⟩ : Fin k0_t13_loop.trips)
    dsimp only at e
    rw [e]
    exact ((t13_part c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t10 v33 c0_i32_35 c1_i32_37 k0_t12 v64 X_arg16 ⟨m, hm⟩ u hu).append ih).congr (fun r j _ _ => by unfold tile; dsimp only; omega)

theorem pay3_at (y : S8x128.Idx) : k0_pay3 y = BitVec.ofNat 32 ((y 1).val / 64) := by
  have h : ∀ a : Fin 8, ∀ b : Fin 128, k0_pay3 (ix2 a b) = BitVec.ofNat 32 (b.val / 64) := by decide +kernel
  rw [eq_ix2 y]
  exact h (y 0) (y 1)

/-- The lane a code's inverse scale is picked from. -/
theorem pick : ∀ (k : Fin k0_t14_loop.trips) (b : Fin 128),
    (Scalar.select
      (IntOp.cmpi CmpIPredicate.slt (IntOp.addi (BitVec.ofNat 32 (b.val / 64)) (Scalar.addi (32#32) (Scalar.muli (2#32) (Scalar.muli (trip_k0_t14.sl.arg22 k) 1#32)))) 0#32)
      (IntOp.addi (IntOp.addi (BitVec.ofNat 32 (b.val / 64)) (Scalar.addi (32#32) (Scalar.muli (2#32) (Scalar.muli (trip_k0_t14.sl.arg22 k) 1#32)))) 128#32)
      (IntOp.addi (BitVec.ofNat 32 (b.val / 64)) (Scalar.addi (32#32) (Scalar.muli (2#32) (Scalar.muli (trip_k0_t14.sl.arg22 k) 1#32))))).toNat % 128
      = 32 + 2 * k.val + b.val / 64 := by decide +kernel

/-- The codes of 128 columns, each scaled by the inverse scale of its group. -/
theorem t14_codes (k0_t10 : Fin k0_t10_loop.trips) (v33 : BitVec 32) (k0_t12 : Fin k0_t12_loop.trips) (v62 : BitVec 32) (v138 : FVec Ideal S128x128 .f32) (X_arg16 : BufTy.Contents (Elt Ideal) arg16.view.ty) (k : Fin k0_t14_loop.trips) (u : ℕ → ℕ → EReal)
    (hu : ∀ r j, (256 * k0_t10.val + 128 * k0_t12.val) ≤ r → r < (256 * k0_t10.val + 128 * k0_t12.val) + 128 → j < 2048 → rd arg16.view X_arg16 r j = u r j)
    (hv : ∀ (a b : Fin 128), 32 ≤ b.val → b.val < 64 →
      v138 (ix2 a b) = Scale.inv (Spec.par (Spec.amax (u ((256 * k0_t10.val + 128 * k0_t12.val) + a.val)) (64 * (b.val - 32)) 64))) :
    Acts (tripL_k0_t14 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t10 v33 k0_t12 v62 v138 X_arg16 k) (tile (256 * k0_t10.val + 128 * k0_t12.val) (128 * k.val) 128 128) (fun r j => Spec.grpCode (u r) j) := by
  have hk : k.val < 16 := k.isLt
  have e93 := k0_off93_eq k0_t10 k0_t12 k
  simp [Fin.forall_fin_succ] at e93
  have key : ∀ (a b : Fin 128) (r j : ℕ), (256 * k0_t10.val + 128 * k0_t12.val) + a.val = r → b.val = 32 + j / 64 → j < 2048 →
      min (Ideal.ofBits .f32 1138753536#32) (max (Ideal.ofBits .f32 3286237184#32) (rd arg16.view X_arg16 r j * v138 (ix2 a b))) = Spec.grpCode (u r) j := fun a b r j ha hb hj => by
    have := a.isLt
    rw [hv a b (by omega) (by omega), hu _ _ (by omega) (by omega) hj, ha, hb, Nat.add_sub_cancel_left]
    rfl
  unfold tripL_k0_t14 trip_k0_t14; dsimp only
  refine (
    Acts.cons _ _ (k0_off93_eq k0_t10 k0_t12 k 3) ?_ <| Acts.cons _ _ (k0_off93_eq k0_t10 k0_t12 k 2) ?_ <| Acts.cons _ _ (k0_off93_eq k0_t10 k0_t12 k 1) ?_ <| Acts.cons _ _ (k0_off93_eq k0_t10 k0_t12 k 0) ?_ <| Acts.nil _).congr ?_
  on_goal 5 =>
    intro r c hr hc
    unfold tile
    simp
    omega
  all_goals
    intro x
    have h0 : (x 0).val < 32 := (x 0).isLt
    have h1 : (x 1).val < 128 := (x 1).isLt
    have hp := pick k (x 1)
    pointwise [readAt2, e93, pay3_at, k0_pay4, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, trip_k0_t14.sl.r, trip_k0_t14.sl.r_1, trip_k0_t14.sl.r_2, trip_k0_t14.sl.r_3, trip_k0_t14.sl.r_4, trip_k0_t14.sl.r_5, trip_k0_t14.sl.r_6, trip_k0_t14.sl.r_7, trip_k0_t14.sl.v143, trip_k0_t14.sl.v145, trip_k0_t14.sl.v146, trip_k0_t14.sl.v148, trip_k0_t14.sl.v149, trip_k0_t14.sl.v150, trip_k0_t14.sl.v151, trip_k0_t14.sl.v152, trip_k0_t14.sl.v153, trip_k0_t14.sl.v154, trip_k0_t14.sl.v155, trip_k0_t14.sl.v156, trip_k0_t14.sl.v157, trip_k0_t14.sl.v158, trip_k0_t14.sl.v159, trip_k0_t14.sl.v160, trip_k0_t14.sl.v161, trip_k0_t14.sl.v173, trip_k0_t14.sl.v174, trip_k0_t14.sl.v186, trip_k0_t14.sl.v187, trip_k0_t14.sl.v218, trip_k0_t14.sl.v290, trip_k0_t14.sl.v362, trip_k0_t14.sl.v372, trip_k0_t14.sl.v373, trip_k0_t14.sl.v374, trip_k0_t14.sl.v375, trip_k0_t14.sl.v376, trip_k0_t14.sl.v377, trip_k0_t14.sl.v389, trip_k0_t14.sl.v390, trip_k0_t14.sl.v402, trip_k0_t14.sl.v403, trip_k0_t14.sl.v415, trip_k0_t14.sl.v416]
    simp only [hp]
    split_ifs
    all_goals exact key _ _ _ _ (by simp only [] <;> omega) (by simp only [] <;> omega) (by omega)

/-- What the column blocks before block `m` leave. -/
theorem t14_loop (k0_t10 : Fin k0_t10_loop.trips) (v33 : BitVec 32) (k0_t12 : Fin k0_t12_loop.trips) (v62 : BitVec 32) (v138 : FVec Ideal S128x128 .f32) (X_arg16 : BufTy.Contents (Elt Ideal) arg16.view.ty) (u : ℕ → ℕ → EReal)
    (hu : ∀ r j, (256 * k0_t10.val + 128 * k0_t12.val) ≤ r → r < (256 * k0_t10.val + 128 * k0_t12.val) + 128 → j < 2048 → rd arg16.view X_arg16 r j = u r j)
    (hv : ∀ (a b : Fin 128), 32 ≤ b.val → b.val < 64 →
      v138 (ix2 a b) = Scale.inv (Spec.par (Spec.amax (u ((256 * k0_t10.val + 128 * k0_t12.val) + a.val)) (64 * (b.val - 32)) 64))) : ∀ m, m ≤ 16 →
    Acts (pb_k0_t14 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t10 v33 k0_t12 v62 v138 X_arg16 m) (tile (256 * k0_t10.val + 128 * k0_t12.val) 0 128 (128 * m)) (fun r j => Spec.grpCode (u r) j)
  | 0, _ => by
    rw [pb_k0_t14.eq_1]
    exact (Acts.nil _).congr fun r c _ _ => ⟨False.elim, fun h => by unfold tile at h; omega⟩
  | m + 1, hm => by
    have ih := t14_loop k0_t10 v33 k0_t12 v62 v138 X_arg16 u hu hv m (by omega)
    have e := pb_k0_t14_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t10 v33 k0_t12 v62 v138 X_arg16 (⟨m, hm⟩ : Fin k0_t14_loop.trips)
    dsimp only at e
    rw [e]
    exact ((t14_codes c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t10 v33 k0_t12 v62 v138 X_arg16 ⟨m, hm⟩ u hu hv).append ih).congr (fun r j _ _ => by unfold tile; dsimp only; omega)

end Val
end Cert.Proof
-- ==== Proof.Hold.lean ====
/-
  Buffers held whole: at given contents, at some contents, or at contents of which something is known.
-/
module
public import proofs.«01_k».proof.Proof.Region
public import proofs.«01_k».proof.Proof.Gen.KernelIdeal.Loops
public import proofs.«01_k».proof.Proof.Gen.KernelIdeal.Frame
@[expose] public section
noncomputable section
namespace Cert.Proof.Val
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The buffer behind a memref, held whole at contents `f`. -/
abbrev at_ (c : Dev nD) {s : Shape} {e : EltTy} (m : Memref sig .tc .vmem s e) (f : BufTy.Contents (Elt Ideal) m.view.ty) : sProp 𝕄 :=
  iprop(m.view.loc (c : Thread nD τ) ↦[m.view.set]{fullShare} f)

/-- The same at some contents. -/
abbrev any_ (c : Dev nD) {s : Shape} {e : EltTy} (m : Memref sig .tc .vmem s e) : sProp 𝕄 :=
  iprop(∃ f : BufTy.Contents (Elt Ideal) m.view.ty, m.view.loc (c : Thread nD τ) ↦[m.view.set]{fullShare} f)

/-- The same at some contents of which `P` is true. -/
abbrev has_ (c : Dev nD) {s : Shape} {e : EltTy} (m : Memref sig .tc .vmem s e) (P : BufTy.Contents (Elt Ideal) m.view.ty → Prop) : sProp 𝕄 :=
  iprop(∃ f : BufTy.Contents (Elt Ideal) m.view.ty, ⌜P f⌝ ∗ m.view.loc (c : Thread nD τ) ↦[m.view.set]{fullShare} f)

/-- On rows `a` to `b` the buffer holds the table `u`. -/
def On {n0 n1 : ℕ} {e : EltTy} (m : Memref sig .tc .vmem ⟨2, ![n0, n1]⟩ e) (a b : ℕ) (u : ℕ → ℕ → Elt Ideal e) (f : BufTy.Contents (Elt Ideal) m.view.ty) : Prop :=
  ∀ r j, a ≤ r → r < b → j < n1 → rd m.view f r j = u r j

/-- Stores that set the rows from `b` to `b'` lengthen the rows known. -/
theorem On.step {n0 n1 : ℕ} {e : EltTy} {m : Memref sig .tc .vmem ⟨2, ![n0, n1]⟩ e} {a b b' : ℕ} {u : ℕ → ℕ → Elt Ideal e} {f : BufTy.Contents (Elt Ideal) m.view.ty}
    (h : On m a b u f) {L : List (View.Piece (Elt Ideal) ⟨2, ![n0, n1]⟩ e)} {R : ℕ → ℕ → Prop} (A : Acts L R u) (hb : b' ≤ n0)
    (hR : ∀ r j, b ≤ r → r < b' → j < n1 → R r j) : On m a b' u (m.view.writes (Elt Ideal) f L) := fun r j ha hr hj => by
  by_cases hh : R r j
  · exact A.hit m.view f (by omega) hj hh
  · rw [A.miss m.view f hh]
    exact h r j ha (by by_contra hc; exact hh (hR r j (by omega) hr hj)) hj

/-- Stores elsewhere leave what is known of the rows. -/
theorem On.keep {n0 n1 : ℕ} {e : EltTy} {m : Memref sig .tc .vmem ⟨2, ![n0, n1]⟩ e} {a b a' b' : ℕ} {u : ℕ → ℕ → Elt Ideal e} {f : BufTy.Contents (Elt Ideal) m.view.ty}
    (h : On m a b u f) {L : List (View.Piece (Elt Ideal) ⟨2, ![n0, n1]⟩ e)} {R : ℕ → ℕ → Prop} {g : ℕ → ℕ → Elt Ideal e} (A : Acts L R g)
    (ha' : a ≤ a') (hb' : b' ≤ b) (hR : ∀ r j, a' ≤ r → r < b' → ¬ R r j) : On m a' b' u (m.view.writes (Elt Ideal) f L) := fun r j ha hr hj => by
  rw [A.miss m.view f (hR r j ha hr)]
  exact h r j (by omega) (by omega) hj

theorem On.sub {n0 n1 : ℕ} {e : EltTy} {m : Memref sig .tc .vmem ⟨2, ![n0, n1]⟩ e} {a b a' b' : ℕ} {u : ℕ → ℕ → Elt Ideal e} {f : BufTy.Contents (Elt Ideal) m.view.ty}
    (h : On m a b u f) (ha : a ≤ a') (hb : b' ≤ b) : On m a' b' u f := fun r j h1 h2 hj => h r j (by omega) (by omega) hj

theorem On.nil {n0 n1 : ℕ} {e : EltTy} {m : Memref sig .tc .vmem ⟨2, ![n0, n1]⟩ e} {a : ℕ} {u : ℕ → ℕ → Elt Ideal e} {f : BufTy.Contents (Elt Ideal) m.view.ty} :
    On m a a u f := fun r j h1 h2 _ => by omega

/-- The scales of one step, `b` of them, lie in their half row of the table of scales; everything else is as in `F`. -/
def Scl (m : Memref sig .tc .vmem S24x1024 .f32) (t b : ℕ) (s : ℕ → EReal) (F f : BufTy.Contents (Elt Ideal) m.view.ty) : Prop :=
  ∀ q p, q < 24 → p < 1024 → rd m.view f q p = if q = t / 2 ∧ 512 * (t % 2) ≤ p ∧ p < 512 * (t % 2) + b then s (p - 512 * (t % 2)) else rd m.view F q p

/-- One masked store: the next 128 scales of the step's half row. -/
theorem Scl.step {m : Memref sig .tc .vmem S24x1024 .f32} {t b : ℕ} {s : ℕ → EReal} {F f : BufTy.Contents (Elt Ideal) m.view.ty} (h : Scl m t b s F f)
    (ht : t < 48) (hb : b + 128 ≤ 512) {off : Fin 2 → ℕ} (inb) (hoff : off = ![8 * (t / 16), 512 * (t % 2) + b])
    (w : S8x128.Idx → EReal) (M : Finset S8x128.Idx) (hw : ∀ x, w x = s (b + (x 1).val)) (hM : ∀ x : S8x128.Idx, x ∈ M ↔ (x 0).val = t / 2 % 8) :
    Scl m t (b + 128) s F (View.write (Elt Ideal) (m.access (Rect.unit (s := S24x1024) off S8x128.size inb)) f w M) := by
  subst hoff
  intro q p hq hp
  by_cases hh : q = t / 2 ∧ 512 * (t % 2) + b ≤ p ∧ p < 512 * (t % 2) + (b + 128)
  · obtain ⟨h1, h2, h3⟩ := hh
    rw [if_pos ⟨h1, by omega, h3⟩]
    let x : S8x128.Idx := ix2 ⟨t / 2 % 8, by omega⟩ ⟨p - (512 * (t % 2) + b), by omega⟩
    have e : (Rect.unit (s := S24x1024) ![8 * (t / 16), 512 * (t % 2) + b] S8x128.size inb).emb x = ix2 ⟨q, hq⟩ ⟨p, hp⟩ := by
      refine (eq_ix2 _).trans ?_
      congr 1
      · refine Fin.ext ?_
        show 8 * (t / 16) + 1 * (t / 2 % 8) = q
        omega
      · refine Fin.ext ?_
        show 512 * (t % 2) + b + 1 * (p - (512 * (t % 2) + b)) = p
        omega
    refine (rd_of_lt m.view _ hq hp).trans ?_
    rw [← e]
    refine (View.read_slice_write_emb (v := m.view) (Rect.unit (s := S24x1024) ![8 * (t / 16), 512 * (t % 2) + b] S8x128.size inb) f w (M := M) (x := x) ((hM x).mpr rfl)).trans ((hw x).trans ?_)
    show s (b + (p - (512 * (t % 2) + b))) = _
    congr 1
    omega
  · have e : rd m.view (View.write (Elt Ideal) (m.access (Rect.unit (s := S24x1024) ![8 * (t / 16), 512 * (t % 2) + b] S8x128.size inb)) f w M) q p = rd m.view f q p := by
      rw [rd_of_lt m.view _ hq hp, rd_of_lt m.view _ hq hp]
      refine View.read_slice_write_of_not_mem (v := m.view) (Rect.unit (s := S24x1024) ![8 * (t / 16), 512 * (t % 2) + b] S8x128.size inb) f w M fun hy => hh ?_
      obtain ⟨x, hx, ex⟩ := Finset.mem_map.mp hy
      have hx0 := (hM x).mp hx
      have e0 : 8 * (t / 16) + 1 * (x 0).val = q := congrArg (fun y : S24x1024.Idx => (y 0).val) ex
      have e1 : 512 * (t % 2) + b + 1 * (x 1).val = p := congrArg (fun y : S24x1024.Idx => (y 1).val) ex
      have := (x 1).isLt
      have h128 : (x 1).val < 128 := (x 1).isLt
      omega
    rw [e, h q p hq hp]
    by_cases h' : q = t / 2 ∧ 512 * (t % 2) ≤ p ∧ p < 512 * (t % 2) + b
    · rw [if_pos h', if_pos (by omega)]
    · rw [if_neg h', if_neg (by omega)]

theorem Scl.zero {m : Memref sig .tc .vmem S24x1024 .f32} {t : ℕ} {s : ℕ → EReal} {f : BufTy.Contents (Elt Ideal) m.view.ty} : Scl m t 0 s f f :=
  fun q p _ _ => by rw [if_neg (by omega)]

end Cert.Proof.Val
-- ==== Proof.Put.lean ====
/-
  The masked stores of a half's scales: where they go, which row of the tile they touch, and what they hold.
-/
module
public import proofs.«01_k».proof.Proof.Group
public import proofs.«01_k».proof.Proof.Hold
public import proofs.«01_k».proof.Proof.Gen.KernelIdeal.Loops
public import proofs.«01_k».proof.Proof.Gen.KernelIdeal.Frame
@[expose] public section
set_option maxRecDepth 16384
noncomputable section
namespace Cert.Proof.Val
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (c : Dev nD) (i : grid0.Coords)
  (arg1 : Memref sig .tc .vmem S512x2048 .bf16) (harg1 : arg1.IsWhole)
  (arg2 : Memref sig .tc .vmem S3x2048x2048 .fp8e4m3) (harg2 : arg2.IsWhole)
  (arg3 : Memref sig .tc .vmem S3x1x2048 .f32) (harg3 : arg3.IsWhole)
  (arg4 : Memref sig .tc .vmem S3x1x2048 .f32) (harg4 : arg4.IsWhole)
  (arg5 : Memref sig .tc .vmem S1x2048 .f32) (harg5 : arg5.IsWhole)
  (arg6 : Memref sig .tc .vmem S1x2048 .f32) (harg6 : arg6.IsWhole)
  (arg7 : Memref sig .tc .vmem S512x2048 .fp8e4m3) (harg7 : arg7.IsWhole)
  (arg8 : Memref sig .tc .vmem S512x32 .f32) (harg8 : arg8.IsWhole)
  (arg9 : Memref sig .tc .vmem S512x2048 .fp8e4m3) (harg9 : arg9.IsWhole)
  (arg10 : Memref sig .tc .vmem S24x1024 .f32) (harg10 : arg10.IsWhole)
  (arg11 : Memref sig .tc .vmem S512x2048 .fp8e4m3) (harg11 : arg11.IsWhole)
  (arg12 : Memref sig .tc .vmem S24x1024 .f32) (harg12 : arg12.IsWhole)
  (arg13 : Memref sig .tc .vmem S512x2048 .fp8e4m3) (harg13 : arg13.IsWhole)
  (arg14 : Memref sig .tc .vmem S24x1024 .f32) (harg14 : arg14.IsWhole)
  (arg15 : Memref sig .tc .vmem S512x2048 .f32) (harg15 : arg15.IsWhole)
  (arg16 : Memref sig .tc .vmem S512x2048 .f32) (harg16 : arg16.IsWhole)
  (arg17 : Memref sig .tc .vmem S512x128 .f32) (harg17 : arg17.IsWhole)
  (arg18 : Memref sig .tc .vmem S512x128 .f32) (harg18 : arg18.IsWhole)
  (arg19 : Memref sig .tc .vmem S256x128 .f32) (harg19 : arg19.IsWhole)

theorem off36 : ∀ (i : grid0.Coords) (k : Fin 2) (r : Fin 2), k0_off36 i k (BitVec.ofNat 32 (128 * r.val)) = ![8 * ((i 0).val / 16), 512 * ((i 0).val % 2) + (256 * k.val + 128 * r.val)] := by
  decide +kernel

theorem off60 : ∀ (i : grid0.Coords) (k : Fin 2) (r : Fin 2), k0_off60 i k (BitVec.ofNat 32 (128 * r.val)) = ![8 * ((i 0).val / 16), 512 * ((i 0).val % 2) + (256 * k.val + 128 * r.val)] := by
  decide +kernel

theorem off84 : ∀ (i : grid0.Coords) (k : Fin 2) (r : Fin 2), k0_off84 i k (BitVec.ofNat 32 (128 * r.val)) = ![8 * ((i 0).val / 16), 512 * ((i 0).val % 2) + (256 * k.val + 128 * r.val)] := by
  decide +kernel

theorem off35 : ∀ (k : Fin 2) (r : Fin 2), k0_off35 k (BitVec.ofNat 32 (128 * r.val)) = ![256 * k.val + 128 * r.val, 0] := by
  decide +kernel

theorem off59 : ∀ (k : Fin 2) (r : Fin 2), k0_off59 k (BitVec.ofNat 32 (128 * r.val)) = ![256 * k.val + 128 * r.val, 0] := by
  decide +kernel

theorem off83 : ∀ (k : Fin 2) (r : Fin 2), k0_off83 k (BitVec.ofNat 32 (128 * r.val)) = ![256 * k.val + 128 * r.val, 0] := by
  decide +kernel

/-- The mask of a half's first store. -/
theorem maskA (i : grid0.Coords) (x : S8x128.Idx) : x ∈ IVec.on (k0_pay249 (iota .tc S8x128 32 [0] iota_S8x128_d0_w32) 8#32 (Scalar.remsi (BitVec.ofNat 32 ((i 0).val / 2)) 8#32) 0#32) ↔ (x 0).val = (i 0).val / 2 % 8 := by
  rw [IVec.on, Finset.mem_filter]
  simp only [Finset.mem_univ, true_and]
  unfold k0_pay249
  pointwise [iota_single_apply]
  generalize x 0 = a
  revert i a
  decide +kernel

/-- The mask of its second. -/
theorem maskB (i : grid0.Coords) (x : S8x128.Idx) : x ∈ IVec.on (k0_pay461 i (iota .tc S8x128 32 [0] iota_S8x128_d0_w32) 8#32 0#1 1#32) ↔ (x 0).val = (i 0).val / 2 % 8 := by
  rw [IVec.on, Finset.mem_filter]
  simp only [Finset.mem_univ, true_and]
  unfold k0_pay461
  pointwise [iota_single_apply]
  generalize x 0 = a
  revert i a
  decide +kernel

/-- What a store holds: the scales of 128 rows, side by side. -/
theorem put_at (f : BufTy.Contents (Elt Ideal) arg18.view.ty) (R0 : ℕ) {off : Fin 2 → ℕ} (inb) (hoff : off = ![R0, 0]) (s : ℕ → EReal)
    (h : ∀ r l, R0 ≤ r → r < R0 + 128 → l < 128 → rd arg18.view f r l = s r) (x : S8x128.Idx) :
    k0_pay248 (k0_pay247 (arg18.view.readAt (Elt Ideal) (Rect.unit (s := S512x128) off S128x128.size inb).toLoadRect f)) x = s (R0 + (x 1).val) := by
  subst hoff
  have h0 : (x 0).val < 8 := (x 0).isLt
  have h1 : (x 1).val < 128 := (x 1).isLt
  unfold k0_pay248 k0_pay247
  pointwise [readAt2]
  refine h _ _ ?_ ?_ ?_
  all_goals omega

/-- The step's half, from the step's number. -/
theorem half_eq : ∀ i : grid0.Coords, Scalar.select (Scalar.andi (Scalar.cmpi .ne (Scalar.subi (Scalar.extui (Scalar.cmpi .sgt (BitVec.ofNat 32 (i 0).val) 0#32)) (Scalar.extui (Scalar.cmpi .slt (BitVec.ofNat 32 (i 0).val) 0#32)))
      (Scalar.subi (Scalar.extui (Scalar.cmpi .sgt 2#32 0#32)) (Scalar.extui (Scalar.cmpi .slt 2#32 0#32)))) (Scalar.cmpi .ne (Scalar.remsi (BitVec.ofNat 32 (i 0).val) 2#32) 0#32))
      (Scalar.subi (Scalar.divsi (BitVec.ofNat 32 (i 0).val) 2#32) 1#32) (Scalar.divsi (BitVec.ofNat 32 (i 0).val) 2#32) = BitVec.ofNat 32 ((i 0).val / 2) := by
  decide +kernel

end Cert.Proof.Val
-- ==== Proof.Out1.lean ====
/-
  The normalised rows and their codes, half a block of rows at a time.
-/
module
public import proofs.«01_k».proof.Proof.Norm
public import proofs.«01_k».proof.Proof.Put
public import proofs.«01_k».proof.Proof.Gen.KernelIdeal.Loops
public import proofs.«01_k».proof.Proof.Gen.KernelIdeal.Frame
@[expose] public section
set_option maxRecDepth 16384
noncomputable section
namespace Cert.Proof.Val
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (c : Dev nD) (i : grid0.Coords)
  (arg1 : Memref sig .tc .vmem S512x2048 .bf16) (harg1 : arg1.IsWhole)
  (arg2 : Memref sig .tc .vmem S3x2048x2048 .fp8e4m3) (harg2 : arg2.IsWhole)
  (arg3 : Memref sig .tc .vmem S3x1x2048 .f32) (harg3 : arg3.IsWhole)
  (arg4 : Memref sig .tc .vmem S3x1x2048 .f32) (harg4 : arg4.IsWhole)
  (arg5 : Memref sig .tc .vmem S1x2048 .f32) (harg5 : arg5.IsWhole)
  (arg6 : Memref sig .tc .vmem S1x2048 .f32) (harg6 : arg6.IsWhole)
  (arg7 : Memref sig .tc .vmem S512x2048 .fp8e4m3) (harg7 : arg7.IsWhole)
  (arg8 : Memref sig .tc .vmem S512x32 .f32) (harg8 : arg8.IsWhole)
  (arg9 : Memref sig .tc .vmem S512x2048 .fp8e4m3) (harg9 : arg9.IsWhole)
  (arg10 : Memref sig .tc .vmem S24x1024 .f32) (harg10 : arg10.IsWhole)
  (arg11 : Memref sig .tc .vmem S512x2048 .fp8e4m3) (harg11 : arg11.IsWhole)
  (arg12 : Memref sig .tc .vmem S24x1024 .f32) (harg12 : arg12.IsWhole)
  (arg13 : Memref sig .tc .vmem S512x2048 .fp8e4m3) (harg13 : arg13.IsWhole)
  (arg14 : Memref sig .tc .vmem S24x1024 .f32) (harg14 : arg14.IsWhole)
  (arg15 : Memref sig .tc .vmem S512x2048 .f32) (harg15 : arg15.IsWhole)
  (arg16 : Memref sig .tc .vmem S512x2048 .f32) (harg16 : arg16.IsWhole)
  (arg17 : Memref sig .tc .vmem S512x128 .f32) (harg17 : arg17.IsWhole)
  (arg18 : Memref sig .tc .vmem S512x128 .f32) (harg18 : arg18.IsWhole)
  (arg19 : Memref sig .tc .vmem S256x128 .f32) (harg19 : arg19.IsWhole)

/-- The normalised row. -/
abbrev nrm (X1 : BufTy.Contents (Elt Ideal) arg1.view.ty) (X5 : BufTy.Contents (Elt Ideal) arg5.view.ty) (X6 : BufTy.Contents (Elt Ideal) arg6.view.ty) (r j : ℕ) : EReal :=
  Spec.norm (rd arg1.view X1 r) (rd arg5.view X5 0) (rd arg6.view X6 0) j

/-- What is known before half `m`. -/
def I1 (t : ℕ) (X1 : BufTy.Contents (Elt Ideal) arg1.view.ty) (X5 : BufTy.Contents (Elt Ideal) arg5.view.ty) (X6 : BufTy.Contents (Elt Ideal) arg6.view.ty)
    (F10 : BufTy.Contents (Elt Ideal) arg10.view.ty) (m : ℕ) (_ : Unit) : sProp 𝕄 :=
  iprop(at_ c arg1 X1 ∗ at_ c arg5 X5 ∗ at_ c arg6 X6 ∗ has_ c arg15 (On arg15 0 (256 * m) (nrm arg1 arg5 arg6 X1 X5 X6)) ∗ any_ c arg17
    ∗ has_ c arg9 (On arg9 0 (256 * m) (fun r j => Spec.rowCode (nrm arg1 arg5 arg6 X1 X5 X6 r) j))
    ∗ has_ c arg18 (On arg18 0 (256 * m) (fun r _ => Spec.rowScale (nrm arg1 arg5 arg6 X1 X5 X6 r)))
    ∗ has_ c arg10 (Scl arg10 t (256 * m) (fun r => Spec.rowScale (nrm arg1 arg5 arg6 X1 X5 X6 r)) F10))

set_option warn.classDefReducibility false in
/-- The halves. -/
def L1 (v16 v27 : BitVec 32) (hv : v16 = BitVec.ofNat 32 ((i 0).val / 2)) (X1 : BufTy.Contents (Elt Ideal) arg1.view.ty) (X5 : BufTy.Contents (Elt Ideal) arg5.view.ty) (X6 : BufTy.Contents (Elt Ideal) arg6.view.ty)
    (F10 : BufTy.Contents (Elt Ideal) arg10.view.ty) : LoopInvTy_k0_t1 (F := Ideal) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v27 where
  inv := I1 c arg1 arg5 arg6 arg9 arg10 arg15 arg17 arg18 (i 0).val X1 X5 X6 F10
  step := fun k acc => by
    have hk : k.val < 2 := k.isLt
    unfold k0_t1_body
    unfold I1
    iintro ⟨H1, H5, H6, ⟨%f15, %h15, H15⟩, ⟨%f17, H17⟩, ⟨%f9, %h9, H9⟩, ⟨%f18, %h18, H18⟩, ⟨%f10, %h10, H10⟩⟩
    sl_exec
    sl_step
    have hi : (i 0).val < 48 := (i 0).isLt
    have A := t2_loop c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v27 0#32 1#32 k (Scalar.muli (Scf.iv 0#32 1#32 k) 256#32) X1 X5 X6 f15 f17 8 le_rfl
    have B := q3_loop c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v27 0#32 1#32 k (Scalar.muli (Scf.iv 0#32 1#32 k) 256#32) _ _ (nrm arg1 arg5 arg6 X1 X5 X6)
      (fun r j h1 h2 hj => A.1.hit arg15.view f15 (by omega) hj (by unfold tile; omega)) (fun r l h1 h2 hl => A.2.hit arg17.view f17 (by omega) hl (by unfold tile; omega)) 8 le_rfl
    have S := On.step (f := f18) (a := 256 * k.val) On.nil B.2 (b' := 256 * k.val + 256) (by omega) fun r j h1 h2 hj => by unfold rows; omega
    isplitl [H1]; · iexact H1
    isplitl [H5]; · iexact H5
    isplitl [H6]; · iexact H6
    isplitl [H15]
    · iexists _
      isplitr
      swap
      · iexact H15
      ipureintro
      intro r j _ hr hj
      by_cases hh : r < 256 * k.val
      · exact (A.1.miss arg15.view f15 (r := r) (c := j) (by unfold tile; omega)).trans (h15 r j (by omega) hh hj)
      · exact A.1.hit arg15.view f15 (by omega) hj (by unfold tile; omega)
    isplitl [H17]
    · iexists _; iexact H17
    isplitl [H9]
    · iexists _
      isplitr
      swap
      · iexact H9
      ipureintro
      refine h9.step B.1 (by omega) fun r j h1 h2 hj => ?_
      unfold rows; omega
    isplitl [H18]
    · iexists _
      isplitr
      swap
      · iexact H18
      ipureintro
      refine h18.step B.2 (by omega) fun r j h1 h2 hj => ?_
      unfold rows; omega
    · iexists _
      isplitr
      swap
      · iexact H10
      ipureintro
      refine (Scl.step (Scl.step h10 hi (by omega) (k0_off36_inb i k 0) (off36 i k 0) _ _ (fun x => ?_) fun x => ?_) hi (by omega) (k0_off36_inb i k 1) (off36 i k 1) _ _ (fun x => ?_) fun x => ?_)
      · exact put_at arg18 _ (256 * k.val) (k0_off35_inb k 0) (off35 k 0) _ (fun r l h1 h2 hl => S r l h1 (by omega) hl) x
      · rw [hv]
        exact maskA i x
      · exact put_at arg18 _ (256 * k.val + 128) (k0_off35_inb k 1) (off35 k 1) _ (fun r l h1 h2 hl => S r l (by omega) (by omega) hl) x
      · exact maskB i x

end Cert.Proof.Val
-- ==== Proof.Cross0.lean ====
/-
  One cross layer, layer 0: a trip takes 512 columns of the product of the codes with the weights, scales them back, adds the
  offset, multiplies by the normalised input and adds the layer's own input, keeping the largest magnitude of each lane.
-/
module
public import proofs.«01_k».proof.Proof.Region
public import proofs.«01_k».proof.Proof.Quant
public import proofs.«01_k».proof.Proof.ScaleVec
public import proofs.«01_k».proof.Proof.Gen.KernelIdeal.Frame
@[expose] public section
set_option maxRecDepth 16384
noncomputable section
namespace Cert.Proof.Val
open Cert.KernelIdeal Cert.KernelIdeal.Gen
open Idealize.ShloMosaic Idealize.ShloMosaic.TcCoe Idealize.ShloMosaic.Tactic
open Idealize.SL Idealize.SL.RA Idealize.SL.BI
open Idealize.SL.Sem
variable (c : Dev nD) (i : grid0.Coords)
  (arg1 : Memref sig .tc .vmem S512x2048 .bf16) (harg1 : arg1.IsWhole)
  (arg2 : Memref sig .tc .vmem S3x2048x2048 .fp8e4m3) (harg2 : arg2.IsWhole)
  (arg3 : Memref sig .tc .vmem S3x1x2048 .f32) (harg3 : arg3.IsWhole)
  (arg4 : Memref sig .tc .vmem S3x1x2048 .f32) (harg4 : arg4.IsWhole)
  (arg5 : Memref sig .tc .vmem S1x2048 .f32) (harg5 : arg5.IsWhole)
  (arg6 : Memref sig .tc .vmem S1x2048 .f32) (harg6 : arg6.IsWhole)
  (arg7 : Memref sig .tc .vmem S512x2048 .fp8e4m3) (harg7 : arg7.IsWhole)
  (arg8 : Memref sig .tc .vmem S512x32 .f32) (harg8 : arg8.IsWhole)
  (arg9 : Memref sig .tc .vmem S512x2048 .fp8e4m3) (harg9 : arg9.IsWhole)
  (arg10 : Memref sig .tc .vmem S24x1024 .f32) (harg10 : arg10.IsWhole)
  (arg11 : Memref sig .tc .vmem S512x2048 .fp8e4m3) (harg11 : arg11.IsWhole)
  (arg12 : Memref sig .tc .vmem S24x1024 .f32) (harg12 : arg12.IsWhole)
  (arg13 : Memref sig .tc .vmem S512x2048 .fp8e4m3) (harg13 : arg13.IsWhole)
  (arg14 : Memref sig .tc .vmem S24x1024 .f32) (harg14 : arg14.IsWhole)
  (arg15 : Memref sig .tc .vmem S512x2048 .f32) (harg15 : arg15.IsWhole)
  (arg16 : Memref sig .tc .vmem S512x2048 .f32) (harg16 : arg16.IsWhole)
  (arg17 : Memref sig .tc .vmem S512x128 .f32) (harg17 : arg17.IsWhole)
  (arg18 : Memref sig .tc .vmem S512x128 .f32) (harg18 : arg18.IsWhole)
  (arg19 : Memref sig .tc .vmem S256x128 .f32) (harg19 : arg19.IsWhole)

/-- Four more lane groups taken into the largest so far; the first trip starts afresh. -/
theorem am_step (cond : BitVec 1) (k : ℕ) (hcond : cond = if k = 0 then 1#1 else 0#1) (v : ℕ → EReal) (p : EReal) (l : ℕ)
    (hp : k ≠ 0 → p = Spec.lanes v (4 * k) l) :
    Scalar.select cond
      (max (max (max (FloatOps.absf (F := Ideal) (φ := .f32) (v (512 * k + l))) (FloatOps.absf (F := Ideal) (φ := .f32) (v (512 * k + (128 + l)))))
        (FloatOps.absf (F := Ideal) (φ := .f32) (v (512 * k + (256 + l))))) (FloatOps.absf (F := Ideal) (φ := .f32) (v (512 * k + (384 + l)))))
      (max p (max (max (max (FloatOps.absf (F := Ideal) (φ := .f32) (v (512 * k + l))) (FloatOps.absf (F := Ideal) (φ := .f32) (v (512 * k + (128 + l)))))
        (FloatOps.absf (F := Ideal) (φ := .f32) (v (512 * k + (256 + l))))) (FloatOps.absf (F := Ideal) (φ := .f32) (v (512 * k + (384 + l))))))
      = Spec.lanes v (4 * (k + 1)) l := by
  have e : 4 * (k + 1) = 4 * k + 1 + 1 + 1 + 1 := by omega
  have e0 : 512 * k + l = 128 * (4 * k) + l := by omega
  have e1 : 512 * k + (128 + l) = 128 * (4 * k + 1) + l := by omega
  have e2 : 512 * k + (256 + l) = 128 * (4 * k + 1 + 1) + l := by omega
  have e3 : 512 * k + (384 + l) = 128 * (4 * k + 1 + 1 + 1) + l := by omega
  have habs : ∀ a : EReal, FloatOps.absf (F := Ideal) (φ := .f32) a = max a (-a) := fun _ => rfl
  have s1 : ∀ a b : EReal, Scalar.select 1#1 a b = a := fun _ _ => rfl
  have s0 : ∀ a b : EReal, Scalar.select 0#1 a b = b := fun _ _ => rfl
  rw [e, e0, e1, e2, e3, Spec.lanes_succ, Spec.lanes_succ, Spec.lanes_succ, Spec.lanes_succ, hcond]
  simp only [habs]
  by_cases h : k = 0
  · subst h
    rw [if_pos rfl, s1, Nat.mul_zero, Spec.lanes_zero, max_eq_right bot_le]
  · rw [if_neg h, ← hp h, s0]
    simp only [max_assoc]

set_option maxHeartbeats 2000000 in
/-- The columns a trip of `t5` stores. -/
theorem t5_x (v16 : BitVec 32) (v27 : BitVec 32) (c0_i32_14 : BitVec 32) (c1_i32_16 : BitVec 32) (k0_t4 : Fin k0_t4_loop.trips) (v33 : BitVec 32) (X_arg2 : BufTy.Contents (Elt Ideal) arg2.view.ty) (X_arg3 : BufTy.Contents (Elt Ideal) arg3.view.ty) (X_arg4 : BufTy.Contents (Elt Ideal) arg4.view.ty) (X_arg9 : BufTy.Contents (Elt Ideal) arg9.view.ty) (X_arg15 : BufTy.Contents (Elt Ideal) arg15.view.ty) (X_arg18 : BufTy.Contents (Elt Ideal) arg18.view.ty) (k : Fin k0_t5_loop.trips) (f16 : BufTy.Contents (Elt Ideal) arg16.view.ty) (f17 : BufTy.Contents (Elt Ideal) arg17.view.ty) (u : ℕ → ℕ → EReal)
    (hx : ∀ r c, 256 * k0_t4.val ≤ r → r < 256 * k0_t4.val + 256 → c < 2048 → rd arg15.view X_arg15 r c = u r c)
    (hc : ∀ r c, 256 * k0_t4.val ≤ r → r < 256 * k0_t4.val + 256 → c < 2048 → rd arg9.view X_arg9 r c = Spec.rowCode (u r) c)
    (hs : ∀ r l, 256 * k0_t4.val ≤ r → r < 256 * k0_t4.val + 256 → l < 128 → rd arg18.view X_arg18 r l = Spec.rowScale (u r)) :
    Acts (tripL_k0_t5 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v27 c0_i32_14 c1_i32_16 k0_t4 v33 X_arg2 X_arg3 X_arg4 X_arg9 X_arg15 X_arg18 k f16 f17).1 (tile (256 * k0_t4.val) (512 * k.val) 256 512) (fun r c => Spec.cross (rd3 arg2.view X_arg2 0) (rd3 arg3.view X_arg3 0 0) (rd3 arg4.view X_arg4 0 0) (u r) (u r) c) := by
  have hk : k.val < 4 := k.isLt
  have key : ∀ R C l, 256 * k0_t4.val ≤ R ∧ R < 256 * k0_t4.val + 256 → C < 2048 → l < 128 →
      rd arg15.view X_arg15 R C * ((∑ j : Fin 2048, rd arg9.view X_arg9 R j.val * rd3 arg2.view X_arg2 0 j.val C) * rd arg18.view X_arg18 R l
          * rd3 arg3.view X_arg3 0 0 C + rd3 arg4.view X_arg4 0 0 C) + rd arg15.view X_arg15 R C
        = (fun r c => Spec.cross (rd3 arg2.view X_arg2 0) (rd3 arg3.view X_arg3 0 0) (rd3 arg4.view X_arg4 0 0) (u r) (u r) c) R C := fun R C l hR hC hl => by
    unfold Spec.cross
    rw [hx _ _ hR.1 hR.2 hC, hs _ _ hR.1 hR.2 hl]
    simp only [hc _ _ hR.1 hR.2 (Fin.isLt _)]
  have e41 := k0_off41_eq k0_t4 k
  have e40 := k0_off40_eq k
  have e39 := k0_off39_eq k0_t4
  simp [Fin.forall_fin_succ] at e41 e40 e39
  unfold tripL_k0_t5 trip_k0_t5; dsimp only
  refine (
    Acts.cons _ _ (k0_off41_eq k0_t4 k 7 3) ?_ <| Acts.cons _ _ (k0_off41_eq k0_t4 k 7 2) ?_ <| Acts.cons _ _ (k0_off41_eq k0_t4 k 7 1) ?_ <| Acts.cons _ _ (k0_off41_eq k0_t4 k 7 0) ?_ <| Acts.cons _ _ (k0_off41_eq k0_t4 k 6 3) ?_ <| Acts.cons _ _ (k0_off41_eq k0_t4 k 6 2) ?_ <| Acts.cons _ _ (k0_off41_eq k0_t4 k 6 1) ?_ <| Acts.cons _ _ (k0_off41_eq k0_t4 k 6 0) ?_ <| Acts.cons _ _ (k0_off41_eq k0_t4 k 5 3) ?_ <| Acts.cons _ _ (k0_off41_eq k0_t4 k 5 2) ?_ <| Acts.cons _ _ (k0_off41_eq k0_t4 k 5 1) ?_ <| Acts.cons _ _ (k0_off41_eq k0_t4 k 5 0) ?_ <| Acts.cons _ _ (k0_off41_eq k0_t4 k 4 3) ?_ <| Acts.cons _ _ (k0_off41_eq k0_t4 k 4 2) ?_ <| Acts.cons _ _ (k0_off41_eq k0_t4 k 4 1) ?_ <| Acts.cons _ _ (k0_off41_eq k0_t4 k 4 0) ?_ <| Acts.cons _ _ (k0_off41_eq k0_t4 k 3 3) ?_ <| Acts.cons _ _ (k0_off41_eq k0_t4 k 3 2) ?_ <| Acts.cons _ _ (k0_off41_eq k0_t4 k 3 1) ?_ <| Acts.cons _ _ (k0_off41_eq k0_t4 k 3 0) ?_ <| Acts.cons _ _ (k0_off41_eq k0_t4 k 2 3) ?_ <| Acts.cons _ _ (k0_off41_eq k0_t4 k 2 2) ?_ <| Acts.cons _ _ (k0_off41_eq k0_t4 k 2 1) ?_ <| Acts.cons _ _ (k0_off41_eq k0_t4 k 2 0) ?_ <| Acts.cons _ _ (k0_off41_eq k0_t4 k 1 3) ?_ <| Acts.cons _ _ (k0_off41_eq k0_t4 k 1 2) ?_ <| Acts.cons _ _ (k0_off41_eq k0_t4 k 1 1) ?_ <| Acts.cons _ _ (k0_off41_eq k0_t4 k 1 0) ?_ <| Acts.cons _ _ (k0_off41_eq k0_t4 k 0 3) ?_ <| Acts.cons _ _ (k0_off41_eq k0_t4 k 0 2) ?_ <| Acts.cons _ _ (k0_off41_eq k0_t4 k 0 1) ?_ <| Acts.cons _ _ (k0_off41_eq k0_t4 k 0 0) ?_ <| Acts.nil _).congr ?_
  on_goal 33 =>
    intro r c hr hc
    exact (or_grid (fun a b => tile (256 * k0_t4.val + 32 * a) (512 * k.val + 128 * b) 32 128 r c)).trans (tile_grid _ _ r c)
  all_goals
    intro x
    pointwise [readAt2, readAt3, k0_off37_eq, k0_off38_eq, e41, e40, e39, k0_pay1, k0_pay2, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay243, k0_pay244, trip_k0_t5.sl.r, trip_k0_t5.sl.r_1, trip_k0_t5.sl.r_10, trip_k0_t5.sl.r_11, trip_k0_t5.sl.r_12, trip_k0_t5.sl.r_13, trip_k0_t5.sl.r_14, trip_k0_t5.sl.r_15, trip_k0_t5.sl.r_16, trip_k0_t5.sl.r_17, trip_k0_t5.sl.r_18, trip_k0_t5.sl.r_19, trip_k0_t5.sl.r_2, trip_k0_t5.sl.r_20, trip_k0_t5.sl.r_21, trip_k0_t5.sl.r_22, trip_k0_t5.sl.r_23, trip_k0_t5.sl.r_24, trip_k0_t5.sl.r_25, trip_k0_t5.sl.r_26, trip_k0_t5.sl.r_27, trip_k0_t5.sl.r_28, trip_k0_t5.sl.r_29, trip_k0_t5.sl.r_3, trip_k0_t5.sl.r_30, trip_k0_t5.sl.r_31, trip_k0_t5.sl.r_32, trip_k0_t5.sl.r_33, trip_k0_t5.sl.r_34, trip_k0_t5.sl.r_35, trip_k0_t5.sl.r_36, trip_k0_t5.sl.r_37, trip_k0_t5.sl.r_38, trip_k0_t5.sl.r_39, trip_k0_t5.sl.r_4, trip_k0_t5.sl.r_40, trip_k0_t5.sl.r_41, trip_k0_t5.sl.r_42, trip_k0_t5.sl.r_43, trip_k0_t5.sl.r_44, trip_k0_t5.sl.r_5, trip_k0_t5.sl.r_6, trip_k0_t5.sl.r_7, trip_k0_t5.sl.r_8, trip_k0_t5.sl.r_9, trip_k0_t5.sl.v1026, trip_k0_t5.sl.v1033, trip_k0_t5.sl.v1154, trip_k0_t5.sl.v128, trip_k0_t5.sl.v137, trip_k0_t5.sl.v169, trip_k0_t5.sl.v222, trip_k0_t5.sl.v265, trip_k0_t5.sl.v355, trip_k0_t5.sl.v386, trip_k0_t5.sl.v393, trip_k0_t5.sl.v397, trip_k0_t5.sl.v454, trip_k0_t5.sl.v512, trip_k0_t5.sl.v514, trip_k0_t5.sl.v521, trip_k0_t5.sl.v642, trip_k0_t5.sl.v649, trip_k0_t5.sl.v770, trip_k0_t5.sl.v777, trip_k0_t5.sl.v898, trip_k0_t5.sl.v905]
    have h0 : (x 0).val < 32 := (x 0).isLt
    have h1 : (x 1).val < 128 := (x 1).isLt
    try simp only [Nat.add_assoc]
    exact key _ _ _ (by omega) (by omega) h1

theorem t5_flag : ∀ k : Fin k0_t5_loop.trips,
    Scalar.cmpi .eq (Scalar.muli (trip_k0_t5.sl.arg21 k) 512#32) 0#32 = if k.val = 0 then 1#1 else 0#1 := by decide +kernel

set_option maxHeartbeats 2000000 in
/-- The lane maxima a trip of `t5` stores. -/
theorem t5_am (v16 : BitVec 32) (v27 : BitVec 32) (c0_i32_14 : BitVec 32) (c1_i32_16 : BitVec 32) (k0_t4 : Fin k0_t4_loop.trips) (v33 : BitVec 32) (X_arg2 : BufTy.Contents (Elt Ideal) arg2.view.ty) (X_arg3 : BufTy.Contents (Elt Ideal) arg3.view.ty) (X_arg4 : BufTy.Contents (Elt Ideal) arg4.view.ty) (X_arg9 : BufTy.Contents (Elt Ideal) arg9.view.ty) (X_arg15 : BufTy.Contents (Elt Ideal) arg15.view.ty) (X_arg18 : BufTy.Contents (Elt Ideal) arg18.view.ty) (k : Fin k0_t5_loop.trips) (f16 : BufTy.Contents (Elt Ideal) arg16.view.ty) (f17 : BufTy.Contents (Elt Ideal) arg17.view.ty) (u : ℕ → ℕ → EReal)
    (hx : ∀ r c, 256 * k0_t4.val ≤ r → r < 256 * k0_t4.val + 256 → c < 2048 → rd arg15.view X_arg15 r c = u r c)
    (hc : ∀ r c, 256 * k0_t4.val ≤ r → r < 256 * k0_t4.val + 256 → c < 2048 → rd arg9.view X_arg9 r c = Spec.rowCode (u r) c)
    (hs : ∀ r l, 256 * k0_t4.val ≤ r → r < 256 * k0_t4.val + 256 → l < 128 → rd arg18.view X_arg18 r l = Spec.rowScale (u r))
    (hp : k.val ≠ 0 → ∀ r l, 256 * k0_t4.val ≤ r → r < 256 * k0_t4.val + 256 → l < 128 →
      rd arg17.view f17 r l = Spec.lanes (Spec.cross (rd3 arg2.view X_arg2 0) (rd3 arg3.view X_arg3 0 0) (rd3 arg4.view X_arg4 0 0) (u r) (u r)) (4 * k.val) l) :
    Acts (tripL_k0_t5 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v27 c0_i32_14 c1_i32_16 k0_t4 v33 X_arg2 X_arg3 X_arg4 X_arg9 X_arg15 X_arg18 k f16 f17).2 (rows (256 * k0_t4.val) (256 * k0_t4.val + 256)) (fun r l => Spec.lanes (Spec.cross (rd3 arg2.view X_arg2 0) (rd3 arg3.view X_arg3 0 0) (rd3 arg4.view X_arg4 0 0) (u r) (u r)) (4 * (k.val + 1)) l) := by
  have hk : k.val < 4 := k.isLt
  have key : ∀ R C l, 256 * k0_t4.val ≤ R ∧ R < 256 * k0_t4.val + 256 → C < 2048 → l < 128 →
      rd arg15.view X_arg15 R C * ((∑ j : Fin 2048, rd arg9.view X_arg9 R j.val * rd3 arg2.view X_arg2 0 j.val C) * rd arg18.view X_arg18 R l
          * rd3 arg3.view X_arg3 0 0 C + rd3 arg4.view X_arg4 0 0 C) + rd arg15.view X_arg15 R C
        = (fun r c => Spec.cross (rd3 arg2.view X_arg2 0) (rd3 arg3.view X_arg3 0 0) (rd3 arg4.view X_arg4 0 0) (u r) (u r) c) R C := fun R C l hR hC hl => by
    unfold Spec.cross
    rw [hx _ _ hR.1 hR.2 hC, hs _ _ hR.1 hR.2 hl]
    simp only [hc _ _ hR.1 hR.2 (Fin.isLt _)]
  have e41 := k0_off41_eq k0_t4 k
  have e40 := k0_off40_eq k
  have e39 := k0_off39_eq k0_t4
  simp [Fin.forall_fin_succ] at e41 e40 e39
  unfold tripL_k0_t5 trip_k0_t5; dsimp only
  refine (
    Acts.cons _ _ (k0_off39_eq k0_t4 7) ?_ <| Acts.cons _ _ (k0_off39_eq k0_t4 6) ?_ <| Acts.cons _ _ (k0_off39_eq k0_t4 5) ?_ <| Acts.cons _ _ (k0_off39_eq k0_t4 4) ?_ <| Acts.cons _ _ (k0_off39_eq k0_t4 3) ?_ <| Acts.cons _ _ (k0_off39_eq k0_t4 2) ?_ <| Acts.cons _ _ (k0_off39_eq k0_t4 1) ?_ <| Acts.cons _ _ (k0_off39_eq k0_t4 0) ?_ <| Acts.nil _).congr ?_
  on_goal 9 =>
    intro r c hr hc
    unfold tile rows
    simp
    omega
  all_goals
    intro x
    pointwise [readAt2, readAt3, k0_off37_eq, k0_off38_eq, e41, e40, e39, k0_pay1, k0_pay2, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay243, k0_pay244, trip_k0_t5.sl.r, trip_k0_t5.sl.r_1, trip_k0_t5.sl.r_10, trip_k0_t5.sl.r_11, trip_k0_t5.sl.r_12, trip_k0_t5.sl.r_13, trip_k0_t5.sl.r_14, trip_k0_t5.sl.r_15, trip_k0_t5.sl.r_16, trip_k0_t5.sl.r_17, trip_k0_t5.sl.r_18, trip_k0_t5.sl.r_19, trip_k0_t5.sl.r_2, trip_k0_t5.sl.r_20, trip_k0_t5.sl.r_21, trip_k0_t5.sl.r_22, trip_k0_t5.sl.r_23, trip_k0_t5.sl.r_24, trip_k0_t5.sl.r_25, trip_k0_t5.sl.r_26, trip_k0_t5.sl.r_27, trip_k0_t5.sl.r_28, trip_k0_t5.sl.r_29, trip_k0_t5.sl.r_3, trip_k0_t5.sl.r_30, trip_k0_t5.sl.r_31, trip_k0_t5.sl.r_32, trip_k0_t5.sl.r_33, trip_k0_t5.sl.r_34, trip_k0_t5.sl.r_35, trip_k0_t5.sl.r_36, trip_k0_t5.sl.r_37, trip_k0_t5.sl.r_38, trip_k0_t5.sl.r_39, trip_k0_t5.sl.r_4, trip_k0_t5.sl.r_40, trip_k0_t5.sl.r_41, trip_k0_t5.sl.r_42, trip_k0_t5.sl.r_43, trip_k0_t5.sl.r_44, trip_k0_t5.sl.r_5, trip_k0_t5.sl.r_6, trip_k0_t5.sl.r_7, trip_k0_t5.sl.r_8, trip_k0_t5.sl.r_9, trip_k0_t5.sl.v1026, trip_k0_t5.sl.v1033, trip_k0_t5.sl.v1154, trip_k0_t5.sl.v128, trip_k0_t5.sl.v137, trip_k0_t5.sl.v169, trip_k0_t5.sl.v222, trip_k0_t5.sl.v265, trip_k0_t5.sl.v355, trip_k0_t5.sl.v386, trip_k0_t5.sl.v393, trip_k0_t5.sl.v397, trip_k0_t5.sl.v454, trip_k0_t5.sl.v512, trip_k0_t5.sl.v514, trip_k0_t5.sl.v521, trip_k0_t5.sl.v642, trip_k0_t5.sl.v649, trip_k0_t5.sl.v770, trip_k0_t5.sl.v777, trip_k0_t5.sl.v898, trip_k0_t5.sl.v905]
    have h0 : (x 0).val < 32 := (x 0).isLt
    have h1 : (x 1).val < 128 := (x 1).isLt
    try simp only [Nat.add_assoc]
    try simp only [← Nat.add_assoc (256 * k0_t4.val)]
    rw [key _ (512 * k.val + (x 1).val) _ (by omega) (by omega) h1, key _ (512 * k.val + (128 + (x 1).val)) _ (by omega) (by omega) h1,
      key _ (512 * k.val + (256 + (x 1).val)) _ (by omega) (by omega) h1, key _ (512 * k.val + (384 + (x 1).val)) _ (by omega) (by omega) h1]
    exact am_step _ k.val (t5_flag k) _ _ _ (fun h => hp h _ _ (by omega) (by omega) h1)

/-- What the trips of `t5` before trip `m` leave. -/
theorem t5_loop (v16 : BitVec 32) (v27 : BitVec 32) (c0_i32_14 : BitVec 32) (c1_i32_16 : BitVec 32) (k0_t4 : Fin k0_t4_loop.trips) (v33 : BitVec 32) (X_arg2 : BufTy.Contents (Elt Ideal) arg2.view.ty) (X_arg3 : BufTy.Contents (Elt Ideal) arg3.view.ty) (X_arg4 : BufTy.Contents (Elt Ideal) arg4.view.ty) (X_arg9 : BufTy.Contents (Elt Ideal) arg9.view.ty) (X_arg15 : BufTy.Contents (Elt Ideal) arg15.view.ty) (X_arg18 : BufTy.Contents (Elt Ideal) arg18.view.ty) (G_arg16 : BufTy.Contents (Elt Ideal) arg16.view.ty) (G_arg17 : BufTy.Contents (Elt Ideal) arg17.view.ty) (u : ℕ → ℕ → EReal)
    (hx : ∀ r c, 256 * k0_t4.val ≤ r → r < 256 * k0_t4.val + 256 → c < 2048 → rd arg15.view X_arg15 r c = u r c)
    (hc : ∀ r c, 256 * k0_t4.val ≤ r → r < 256 * k0_t4.val + 256 → c < 2048 → rd arg9.view X_arg9 r c = Spec.rowCode (u r) c)
    (hs : ∀ r l, 256 * k0_t4.val ≤ r → r < 256 * k0_t4.val + 256 → l < 128 → rd arg18.view X_arg18 r l = Spec.rowScale (u r)) :
    ∀ m, m ≤ 4 →
      Acts (pb_k0_t5 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v27 c0_i32_14 c1_i32_16 k0_t4 v33 X_arg2 X_arg3 X_arg4 X_arg9 X_arg15 X_arg18 G_arg16 G_arg17 m).1 (tile (256 * k0_t4.val) 0 256 (512 * m)) (fun r c => Spec.cross (rd3 arg2.view X_arg2 0) (rd3 arg3.view X_arg3 0 0) (rd3 arg4.view X_arg4 0 0) (u r) (u r) c)
      ∧ (m ≠ 0 → ∀ r l, 256 * k0_t4.val ≤ r → r < 256 * k0_t4.val + 256 → l < 128 →
          rd arg17.view (arg17.view.writes (Elt Ideal) G_arg17 (pb_k0_t5 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v27 c0_i32_14 c1_i32_16 k0_t4 v33 X_arg2 X_arg3 X_arg4 X_arg9 X_arg15 X_arg18 G_arg16 G_arg17 m).2) r l = Spec.lanes (Spec.cross (rd3 arg2.view X_arg2 0) (rd3 arg3.view X_arg3 0 0) (rd3 arg4.view X_arg4 0 0) (u r) (u r)) (4 * m) l)
  | 0, _ => by
    rw [pb_k0_t5.eq_1]
    exact ⟨(Acts.nil _).congr fun r c _ _ => ⟨False.elim, fun h => by unfold tile at h; omega⟩, fun h => absurd rfl h⟩
  | m + 1, hm => by
    have ih := t5_loop v16 v27 c0_i32_14 c1_i32_16 k0_t4 v33 X_arg2 X_arg3 X_arg4 X_arg9 X_arg15 X_arg18 G_arg16 G_arg17 u hx hc hs m (by omega)
    have e := pb_k0_t5_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v27 c0_i32_14 c1_i32_16 k0_t4 v33 X_arg2 X_arg3 X_arg4 X_arg9 X_arg15 X_arg18 G_arg16 G_arg17 (⟨m, hm⟩ : Fin k0_t5_loop.trips)
    dsimp only at e
    rw [e]
    refine ⟨Acts.congr ((t5_x c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v27 c0_i32_14 c1_i32_16 k0_t4 v33 X_arg2 X_arg3 X_arg4 X_arg9 X_arg15 X_arg18 ⟨m, hm⟩ _ _ u hx hc hs).append ih.1) (fun r c _ _ => by
      unfold tile; dsimp only; omega), fun _ r l h1 h2 hl => ?_⟩
    dsimp only
    rw [View.writes_append]
    exact (t5_am c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v27 c0_i32_14 c1_i32_16 k0_t4 v33 X_arg2 X_arg3 X_arg4 X_arg9 X_arg15 X_arg18 ⟨m, hm⟩ _ _ u hx hc hs ih.2).hit arg17.view _
      (by have := k0_t4.isLt; have : k0_t4_loop.trips = 2 := rfl; omega) hl ⟨h1, h2⟩

end Cert.Proof.Val
-- ==== Proof.Out4.lean ====
/-
  The first layer, half a block of rows at a time.
-/
module
public import proofs.«01_k».proof.Proof.Cross0
public import proofs.«01_k».proof.Proof.Put
public import proofs.«01_k».proof.Proof.Gen.KernelIdeal.Loops
public import proofs.«01_k».proof.Proof.Gen.KernelIdeal.Frame
@[expose] public section
set_option maxRecDepth 16384
noncomputable section
namespace Cert.Proof.Val
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (c : Dev nD) (i : grid0.Coords)
  (arg1 : Memref sig .tc .vmem S512x2048 .bf16) (harg1 : arg1.IsWhole)
  (arg2 : Memref sig .tc .vmem S3x2048x2048 .fp8e4m3) (harg2 : arg2.IsWhole)
  (arg3 : Memref sig .tc .vmem S3x1x2048 .f32) (harg3 : arg3.IsWhole)
  (arg4 : Memref sig .tc .vmem S3x1x2048 .f32) (harg4 : arg4.IsWhole)
  (arg5 : Memref sig .tc .vmem S1x2048 .f32) (harg5 : arg5.IsWhole)
  (arg6 : Memref sig .tc .vmem S1x2048 .f32) (harg6 : arg6.IsWhole)
  (arg7 : Memref sig .tc .vmem S512x2048 .fp8e4m3) (harg7 : arg7.IsWhole)
  (arg8 : Memref sig .tc .vmem S512x32 .f32) (harg8 : arg8.IsWhole)
  (arg9 : Memref sig .tc .vmem S512x2048 .fp8e4m3) (harg9 : arg9.IsWhole)
  (arg10 : Memref sig .tc .vmem S24x1024 .f32) (harg10 : arg10.IsWhole)
  (arg11 : Memref sig .tc .vmem S512x2048 .fp8e4m3) (harg11 : arg11.IsWhole)
  (arg12 : Memref sig .tc .vmem S24x1024 .f32) (harg12 : arg12.IsWhole)
  (arg13 : Memref sig .tc .vmem S512x2048 .fp8e4m3) (harg13 : arg13.IsWhole)
  (arg14 : Memref sig .tc .vmem S24x1024 .f32) (harg14 : arg14.IsWhole)
  (arg15 : Memref sig .tc .vmem S512x2048 .f32) (harg15 : arg15.IsWhole)
  (arg16 : Memref sig .tc .vmem S512x2048 .f32) (harg16 : arg16.IsWhole)
  (arg17 : Memref sig .tc .vmem S512x128 .f32) (harg17 : arg17.IsWhole)
  (arg18 : Memref sig .tc .vmem S512x128 .f32) (harg18 : arg18.IsWhole)
  (arg19 : Memref sig .tc .vmem S256x128 .f32) (harg19 : arg19.IsWhole)

/-- The first layer's row. -/
abbrev lay0 (X2 : BufTy.Contents (Elt Ideal) arg2.view.ty) (X3 : BufTy.Contents (Elt Ideal) arg3.view.ty) (X4 : BufTy.Contents (Elt Ideal) arg4.view.ty) (u : ℕ → ℕ → EReal) (r j : ℕ) : EReal :=
  Spec.cross (rd3 arg2.view X2 0) (rd3 arg3.view X3 0 0) (rd3 arg4.view X4 0 0) (u r) (u r) j

/-- What is known before half `m`. -/
def I4 (t : ℕ) (X2 : BufTy.Contents (Elt Ideal) arg2.view.ty) (X3 : BufTy.Contents (Elt Ideal) arg3.view.ty) (X4 : BufTy.Contents (Elt Ideal) arg4.view.ty) (u : ℕ → ℕ → EReal)
    (F12 : BufTy.Contents (Elt Ideal) arg12.view.ty) (m : ℕ) (_ : Unit) : sProp 𝕄 :=
  iprop(at_ c arg2 X2 ∗ at_ c arg3 X3 ∗ at_ c arg4 X4 ∗ has_ c arg15 (On arg15 0 512 u) ∗ has_ c arg9 (On arg9 0 512 (fun r j => Spec.rowCode (u r) j))
    ∗ has_ c arg18 (fun f => On arg18 0 (256 * m) (fun r _ => Spec.rowScale (lay0 arg2 arg3 arg4 X2 X3 X4 u r)) f ∧ On arg18 (256 * m) 512 (fun r _ => Spec.rowScale (u r)) f)
    ∗ has_ c arg16 (On arg16 0 (256 * m) (lay0 arg2 arg3 arg4 X2 X3 X4 u)) ∗ any_ c arg17
    ∗ has_ c arg11 (On arg11 0 (256 * m) (fun r j => Spec.rowCode (lay0 arg2 arg3 arg4 X2 X3 X4 u r) j))
    ∗ has_ c arg12 (Scl arg12 t (256 * m) (fun r => Spec.rowScale (lay0 arg2 arg3 arg4 X2 X3 X4 u r)) F12))

set_option warn.classDefReducibility false in
/-- The halves. -/
def L4 (v16 v27 : BitVec 32) (hv : v16 = BitVec.ofNat 32 ((i 0).val / 2)) (X2 : BufTy.Contents (Elt Ideal) arg2.view.ty) (X3 : BufTy.Contents (Elt Ideal) arg3.view.ty) (X4 : BufTy.Contents (Elt Ideal) arg4.view.ty) (u : ℕ → ℕ → EReal)
    (F12 : BufTy.Contents (Elt Ideal) arg12.view.ty) : LoopInvTy_k0_t4 (F := Ideal) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v27 where
  inv := I4 c arg2 arg3 arg4 arg9 arg11 arg12 arg15 arg16 arg17 arg18 (i 0).val X2 X3 X4 u F12
  step := fun k acc => by
    have hk : k.val < 2 := k.isLt
    unfold k0_t4_body
    unfold I4
    iintro ⟨H2, H3, H4, ⟨%f15, %h15, H15⟩, ⟨%f9, %h9, H9⟩, ⟨%f18, %h18, H18⟩, ⟨%f16, %h16, H16⟩, ⟨%f17, H17⟩, ⟨%f11, %h11, H11⟩, ⟨%f12, %h12, H12⟩⟩
    sl_exec
    sl_step
    have hi : (i 0).val < 48 := (i 0).isLt
    have A := t5_loop c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v27 0#32 1#32 k (Scalar.muli (Scf.iv 0#32 1#32 k) 256#32) X2 X3 X4 f9 f15 f18 f16 f17 u
      (fun r j _ h hj => h15 r j (by omega) (by omega) hj) (fun r j _ h hj => h9 r j (by omega) (by omega) hj)
      (fun r l h1 h2 hl => h18.2 r l h1 (by omega) hl) 4 le_rfl
    have B := q6_loop c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v27 0#32 1#32 k (Scalar.muli (Scf.iv 0#32 1#32 k) 256#32) _ _ (lay0 arg2 arg3 arg4 X2 X3 X4 u)
      (fun r j h1 h2 hj => A.1.hit arg16.view f16 (by omega) hj (by unfold tile; omega)) (fun r l h1 h2 hl => A.2 (by decide) r l h1 h2 hl) 8 le_rfl
    have S := On.step (f := f18) (a := 256 * k.val) On.nil B.2 (b' := 256 * k.val + 256) (by omega) fun r j h1 h2 hj => by unfold rows; omega
    isplitl [H2]; · iexact H2
    isplitl [H3]; · iexact H3
    isplitl [H4]; · iexact H4
    isplitl [H15]
    · iexists _
      isplitr
      swap
      · iexact H15
      ipureintro
      exact h15
    isplitl [H9]
    · iexists _
      isplitr
      swap
      · iexact H9
      ipureintro
      exact h9
    isplitl [H18]
    · iexists _
      isplitr
      swap
      · iexact H18
      ipureintro
      refine ⟨h18.1.step B.2 (by omega) fun r j h1 h2 hj => ?_, h18.2.keep B.2 (by omega) le_rfl fun r j h1 h2 hh => ?_⟩
      · unfold rows; omega
      · unfold rows at hh; omega
    isplitl [H16]
    · iexists _
      isplitr
      swap
      · iexact H16
      ipureintro
      refine h16.step A.1 (by omega) fun r j h1 h2 hj => ?_
      unfold tile; omega
    isplitl [H17]
    · iexists _; iexact H17
    isplitl [H11]
    · iexists _
      isplitr
      swap
      · iexact H11
      ipureintro
      refine h11.step B.1 (by omega) fun r j h1 h2 hj => ?_
      unfold rows; omega
    · iexists _
      isplitr
      swap
      · iexact H12
      ipureintro
      refine (Scl.step (Scl.step h12 hi (by omega) (k0_off60_inb i k 0) (off60 i k 0) _ _ (fun x => ?_) fun x => ?_) hi (by omega) (k0_off60_inb i k 1) (off60 i k 1) _ _ (fun x => ?_) fun x => ?_)
      · exact put_at arg18 _ (256 * k.val) (k0_off59_inb k 0) (off59 k 0) _ (fun r l h1 h2 hl => S r l h1 (by omega) hl) x
      · rw [hv]
        exact maskA i x
      · exact put_at arg18 _ (256 * k.val + 128) (k0_off59_inb k 1) (off59 k 1) _ (fun r l h1 h2 hl => S r l (by omega) (by omega) hl) x
      · exact maskB i x

end Cert.Proof.Val
-- ==== Proof.Cross1.lean ====
/-
  One cross layer, layer 1: a trip takes 512 columns of the product of the codes with the weights, scales them back, adds the
  offset, multiplies by the normalised input and adds the layer's own input, keeping the largest magnitude of each lane.
-/
module
public import proofs.«01_k».proof.Proof.Region
public import proofs.«01_k».proof.Proof.Cross0
public import proofs.«01_k».proof.Proof.ScaleVec
public import proofs.«01_k».proof.Proof.Gen.KernelIdeal.Frame
@[expose] public section
set_option maxRecDepth 16384
noncomputable section
namespace Cert.Proof.Val
open Cert.KernelIdeal Cert.KernelIdeal.Gen
open Idealize.ShloMosaic Idealize.ShloMosaic.TcCoe Idealize.ShloMosaic.Tactic
open Idealize.SL Idealize.SL.RA Idealize.SL.BI
open Idealize.SL.Sem
variable (c : Dev nD) (i : grid0.Coords)
  (arg1 : Memref sig .tc .vmem S512x2048 .bf16) (harg1 : arg1.IsWhole)
  (arg2 : Memref sig .tc .vmem S3x2048x2048 .fp8e4m3) (harg2 : arg2.IsWhole)
  (arg3 : Memref sig .tc .vmem S3x1x2048 .f32) (harg3 : arg3.IsWhole)
  (arg4 : Memref sig .tc .vmem S3x1x2048 .f32) (harg4 : arg4.IsWhole)
  (arg5 : Memref sig .tc .vmem S1x2048 .f32) (harg5 : arg5.IsWhole)
  (arg6 : Memref sig .tc .vmem S1x2048 .f32) (harg6 : arg6.IsWhole)
  (arg7 : Memref sig .tc .vmem S512x2048 .fp8e4m3) (harg7 : arg7.IsWhole)
  (arg8 : Memref sig .tc .vmem S512x32 .f32) (harg8 : arg8.IsWhole)
  (arg9 : Memref sig .tc .vmem S512x2048 .fp8e4m3) (harg9 : arg9.IsWhole)
  (arg10 : Memref sig .tc .vmem S24x1024 .f32) (harg10 : arg10.IsWhole)
  (arg11 : Memref sig .tc .vmem S512x2048 .fp8e4m3) (harg11 : arg11.IsWhole)
  (arg12 : Memref sig .tc .vmem S24x1024 .f32) (harg12 : arg12.IsWhole)
  (arg13 : Memref sig .tc .vmem S512x2048 .fp8e4m3) (harg13 : arg13.IsWhole)
  (arg14 : Memref sig .tc .vmem S24x1024 .f32) (harg14 : arg14.IsWhole)
  (arg15 : Memref sig .tc .vmem S512x2048 .f32) (harg15 : arg15.IsWhole)
  (arg16 : Memref sig .tc .vmem S512x2048 .f32) (harg16 : arg16.IsWhole)
  (arg17 : Memref sig .tc .vmem S512x128 .f32) (harg17 : arg17.IsWhole)
  (arg18 : Memref sig .tc .vmem S512x128 .f32) (harg18 : arg18.IsWhole)
  (arg19 : Memref sig .tc .vmem S256x128 .f32) (harg19 : arg19.IsWhole)

set_option maxHeartbeats 2000000 in
/-- The columns a trip of `t8` stores. -/
theorem t8_x (v16 : BitVec 32) (v27 : BitVec 32) (c0_i32_18 : BitVec 32) (c1_i32_20 : BitVec 32) (k0_t7 : Fin k0_t7_loop.trips) (v33 : BitVec 32) (X_arg2 : BufTy.Contents (Elt Ideal) arg2.view.ty) (X_arg3 : BufTy.Contents (Elt Ideal) arg3.view.ty) (X_arg4 : BufTy.Contents (Elt Ideal) arg4.view.ty) (X_arg11 : BufTy.Contents (Elt Ideal) arg11.view.ty) (X_arg15 : BufTy.Contents (Elt Ideal) arg15.view.ty) (X_arg18 : BufTy.Contents (Elt Ideal) arg18.view.ty) (k : Fin k0_t8_loop.trips) (f16 : BufTy.Contents (Elt Ideal) arg16.view.ty) (f17 : BufTy.Contents (Elt Ideal) arg17.view.ty) (u0 u : ℕ → ℕ → EReal)
    (hx : ∀ r c, 256 * k0_t7.val ≤ r → r < 256 * k0_t7.val + 256 → c < 2048 → rd arg15.view X_arg15 r c = u0 r c)
    (hc : ∀ r c, 256 * k0_t7.val ≤ r → r < 256 * k0_t7.val + 256 → c < 2048 → rd arg11.view X_arg11 r c = Spec.rowCode (u r) c)
    (hs : ∀ r l, 256 * k0_t7.val ≤ r → r < 256 * k0_t7.val + 256 → l < 128 → rd arg18.view X_arg18 r l = Spec.rowScale (u r))
    (hu : ∀ r c, 256 * k0_t7.val ≤ r → r < 256 * k0_t7.val + 256 → 512 * k.val ≤ c → c < 2048 → rd arg16.view f16 r c = u r c) :
    Acts (tripL_k0_t8 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v27 c0_i32_18 c1_i32_20 k0_t7 v33 X_arg2 X_arg3 X_arg4 X_arg11 X_arg15 X_arg18 k f16 f17).1 (tile (256 * k0_t7.val) (512 * k.val) 256 512) (fun r c => Spec.cross (rd3 arg2.view X_arg2 1) (rd3 arg3.view X_arg3 1 0) (rd3 arg4.view X_arg4 1 0) (u0 r) (u r) c) := by
  have hk : k.val < 4 := k.isLt
  have key : ∀ R C l, 256 * k0_t7.val ≤ R ∧ R < 256 * k0_t7.val + 256 → 512 * k.val ≤ C ∧ C < 2048 → l < 128 →
      rd arg15.view X_arg15 R C * ((∑ j : Fin 2048, rd arg11.view X_arg11 R j.val * rd3 arg2.view X_arg2 1 j.val C) * rd arg18.view X_arg18 R l
          * rd3 arg3.view X_arg3 1 0 C + rd3 arg4.view X_arg4 1 0 C) + rd arg16.view f16 R C
        = (fun r c => Spec.cross (rd3 arg2.view X_arg2 1) (rd3 arg3.view X_arg3 1 0) (rd3 arg4.view X_arg4 1 0) (u0 r) (u r) c) R C := fun R C l hR hC hl => by
    unfold Spec.cross
    rw [hx _ _ hR.1 hR.2 hC.2, hs _ _ hR.1 hR.2 hl, hu _ _ hR.1 hR.2 hC.1 hC.2]
    simp only [hc _ _ hR.1 hR.2 (Fin.isLt _)]
  have e41 := k0_off65_eq k0_t7 k
  have e40 := k0_off64_eq k
  have e39 := k0_off63_eq k0_t7
  simp [Fin.forall_fin_succ] at e41 e40 e39
  unfold tripL_k0_t8 trip_k0_t8; dsimp only
  refine (
    Acts.cons _ _ (k0_off65_eq k0_t7 k 7 3) ?_ <| Acts.cons _ _ (k0_off65_eq k0_t7 k 7 2) ?_ <| Acts.cons _ _ (k0_off65_eq k0_t7 k 7 1) ?_ <| Acts.cons _ _ (k0_off65_eq k0_t7 k 7 0) ?_ <| Acts.cons _ _ (k0_off65_eq k0_t7 k 6 3) ?_ <| Acts.cons _ _ (k0_off65_eq k0_t7 k 6 2) ?_ <| Acts.cons _ _ (k0_off65_eq k0_t7 k 6 1) ?_ <| Acts.cons _ _ (k0_off65_eq k0_t7 k 6 0) ?_ <| Acts.cons _ _ (k0_off65_eq k0_t7 k 5 3) ?_ <| Acts.cons _ _ (k0_off65_eq k0_t7 k 5 2) ?_ <| Acts.cons _ _ (k0_off65_eq k0_t7 k 5 1) ?_ <| Acts.cons _ _ (k0_off65_eq k0_t7 k 5 0) ?_ <| Acts.cons _ _ (k0_off65_eq k0_t7 k 4 3) ?_ <| Acts.cons _ _ (k0_off65_eq k0_t7 k 4 2) ?_ <| Acts.cons _ _ (k0_off65_eq k0_t7 k 4 1) ?_ <| Acts.cons _ _ (k0_off65_eq k0_t7 k 4 0) ?_ <| Acts.cons _ _ (k0_off65_eq k0_t7 k 3 3) ?_ <| Acts.cons _ _ (k0_off65_eq k0_t7 k 3 2) ?_ <| Acts.cons _ _ (k0_off65_eq k0_t7 k 3 1) ?_ <| Acts.cons _ _ (k0_off65_eq k0_t7 k 3 0) ?_ <| Acts.cons _ _ (k0_off65_eq k0_t7 k 2 3) ?_ <| Acts.cons _ _ (k0_off65_eq k0_t7 k 2 2) ?_ <| Acts.cons _ _ (k0_off65_eq k0_t7 k 2 1) ?_ <| Acts.cons _ _ (k0_off65_eq k0_t7 k 2 0) ?_ <| Acts.cons _ _ (k0_off65_eq k0_t7 k 1 3) ?_ <| Acts.cons _ _ (k0_off65_eq k0_t7 k 1 2) ?_ <| Acts.cons _ _ (k0_off65_eq k0_t7 k 1 1) ?_ <| Acts.cons _ _ (k0_off65_eq k0_t7 k 1 0) ?_ <| Acts.cons _ _ (k0_off65_eq k0_t7 k 0 3) ?_ <| Acts.cons _ _ (k0_off65_eq k0_t7 k 0 2) ?_ <| Acts.cons _ _ (k0_off65_eq k0_t7 k 0 1) ?_ <| Acts.cons _ _ (k0_off65_eq k0_t7 k 0 0) ?_ <| Acts.nil _).congr ?_
  on_goal 33 =>
    intro r c hr hc
    exact (or_grid (fun a b => tile (256 * k0_t7.val + 32 * a) (512 * k.val + 128 * b) 32 128 r c)).trans (tile_grid _ _ r c)
  all_goals
    intro x
    pointwise [readAt2, readAt3, k0_off61_eq, k0_off62_eq, e41, e40, e39, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay374, k0_pay375, trip_k0_t8.sl.r, trip_k0_t8.sl.r_1, trip_k0_t8.sl.r_10, trip_k0_t8.sl.r_11, trip_k0_t8.sl.r_12, trip_k0_t8.sl.r_13, trip_k0_t8.sl.r_14, trip_k0_t8.sl.r_15, trip_k0_t8.sl.r_16, trip_k0_t8.sl.r_17, trip_k0_t8.sl.r_18, trip_k0_t8.sl.r_19, trip_k0_t8.sl.r_2, trip_k0_t8.sl.r_20, trip_k0_t8.sl.r_21, trip_k0_t8.sl.r_22, trip_k0_t8.sl.r_23, trip_k0_t8.sl.r_24, trip_k0_t8.sl.r_25, trip_k0_t8.sl.r_26, trip_k0_t8.sl.r_27, trip_k0_t8.sl.r_28, trip_k0_t8.sl.r_29, trip_k0_t8.sl.r_3, trip_k0_t8.sl.r_30, trip_k0_t8.sl.r_31, trip_k0_t8.sl.r_32, trip_k0_t8.sl.r_33, trip_k0_t8.sl.r_34, trip_k0_t8.sl.r_35, trip_k0_t8.sl.r_36, trip_k0_t8.sl.r_37, trip_k0_t8.sl.r_38, trip_k0_t8.sl.r_39, trip_k0_t8.sl.r_4, trip_k0_t8.sl.r_40, trip_k0_t8.sl.r_41, trip_k0_t8.sl.r_42, trip_k0_t8.sl.r_43, trip_k0_t8.sl.r_44, trip_k0_t8.sl.r_5, trip_k0_t8.sl.r_6, trip_k0_t8.sl.r_7, trip_k0_t8.sl.r_8, trip_k0_t8.sl.r_9, trip_k0_t8.sl.v1015, trip_k0_t8.sl.v1026, trip_k0_t8.sl.v1033, trip_k0_t8.sl.v1057, trip_k0_t8.sl.v1085, trip_k0_t8.sl.v1114, trip_k0_t8.sl.v1143, trip_k0_t8.sl.v1154, trip_k0_t8.sl.v128, trip_k0_t8.sl.v137, trip_k0_t8.sl.v169, trip_k0_t8.sl.v189, trip_k0_t8.sl.v218, trip_k0_t8.sl.v247, trip_k0_t8.sl.v265, trip_k0_t8.sl.v289, trip_k0_t8.sl.v317, trip_k0_t8.sl.v346, trip_k0_t8.sl.v355, trip_k0_t8.sl.v375, trip_k0_t8.sl.v386, trip_k0_t8.sl.v393, trip_k0_t8.sl.v397, trip_k0_t8.sl.v417, trip_k0_t8.sl.v445, trip_k0_t8.sl.v454, trip_k0_t8.sl.v474, trip_k0_t8.sl.v503, trip_k0_t8.sl.v512, trip_k0_t8.sl.v514, trip_k0_t8.sl.v521, trip_k0_t8.sl.v545, trip_k0_t8.sl.v573, trip_k0_t8.sl.v602, trip_k0_t8.sl.v631, trip_k0_t8.sl.v642, trip_k0_t8.sl.v649, trip_k0_t8.sl.v673, trip_k0_t8.sl.v701, trip_k0_t8.sl.v730, trip_k0_t8.sl.v759, trip_k0_t8.sl.v770, trip_k0_t8.sl.v777, trip_k0_t8.sl.v801, trip_k0_t8.sl.v829, trip_k0_t8.sl.v858, trip_k0_t8.sl.v887, trip_k0_t8.sl.v898, trip_k0_t8.sl.v905, trip_k0_t8.sl.v929, trip_k0_t8.sl.v957, trip_k0_t8.sl.v986]
    have h0 : (x 0).val < 32 := (x 0).isLt
    have h1 : (x 1).val < 128 := (x 1).isLt
    try simp only [Nat.add_assoc]
    exact key _ _ _ (by omega) (by omega) h1

theorem t8_flag : ∀ k : Fin k0_t8_loop.trips,
    Scalar.cmpi .eq (Scalar.muli (trip_k0_t8.sl.arg21 k) 512#32) 0#32 = if k.val = 0 then 1#1 else 0#1 := by decide +kernel

set_option maxHeartbeats 2000000 in
/-- The lane maxima a trip of `t8` stores. -/
theorem t8_am (v16 : BitVec 32) (v27 : BitVec 32) (c0_i32_18 : BitVec 32) (c1_i32_20 : BitVec 32) (k0_t7 : Fin k0_t7_loop.trips) (v33 : BitVec 32) (X_arg2 : BufTy.Contents (Elt Ideal) arg2.view.ty) (X_arg3 : BufTy.Contents (Elt Ideal) arg3.view.ty) (X_arg4 : BufTy.Contents (Elt Ideal) arg4.view.ty) (X_arg11 : BufTy.Contents (Elt Ideal) arg11.view.ty) (X_arg15 : BufTy.Contents (Elt Ideal) arg15.view.ty) (X_arg18 : BufTy.Contents (Elt Ideal) arg18.view.ty) (k : Fin k0_t8_loop.trips) (f16 : BufTy.Contents (Elt Ideal) arg16.view.ty) (f17 : BufTy.Contents (Elt Ideal) arg17.view.ty) (u0 u : ℕ → ℕ → EReal)
    (hx : ∀ r c, 256 * k0_t7.val ≤ r → r < 256 * k0_t7.val + 256 → c < 2048 → rd arg15.view X_arg15 r c = u0 r c)
    (hc : ∀ r c, 256 * k0_t7.val ≤ r → r < 256 * k0_t7.val + 256 → c < 2048 → rd arg11.view X_arg11 r c = Spec.rowCode (u r) c)
    (hs : ∀ r l, 256 * k0_t7.val ≤ r → r < 256 * k0_t7.val + 256 → l < 128 → rd arg18.view X_arg18 r l = Spec.rowScale (u r))
    (hu : ∀ r c, 256 * k0_t7.val ≤ r → r < 256 * k0_t7.val + 256 → 512 * k.val ≤ c → c < 2048 → rd arg16.view f16 r c = u r c)
    (hp : k.val ≠ 0 → ∀ r l, 256 * k0_t7.val ≤ r → r < 256 * k0_t7.val + 256 → l < 128 →
      rd arg17.view f17 r l = Spec.lanes (Spec.cross (rd3 arg2.view X_arg2 1) (rd3 arg3.view X_arg3 1 0) (rd3 arg4.view X_arg4 1 0) (u0 r) (u r)) (4 * k.val) l) :
    Acts (tripL_k0_t8 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v27 c0_i32_18 c1_i32_20 k0_t7 v33 X_arg2 X_arg3 X_arg4 X_arg11 X_arg15 X_arg18 k f16 f17).2 (rows (256 * k0_t7.val) (256 * k0_t7.val + 256)) (fun r l => Spec.lanes (Spec.cross (rd3 arg2.view X_arg2 1) (rd3 arg3.view X_arg3 1 0) (rd3 arg4.view X_arg4 1 0) (u0 r) (u r)) (4 * (k.val + 1)) l) := by
  have hk : k.val < 4 := k.isLt
  have key : ∀ R C l, 256 * k0_t7.val ≤ R ∧ R < 256 * k0_t7.val + 256 → 512 * k.val ≤ C ∧ C < 2048 → l < 128 →
      rd arg15.view X_arg15 R C * ((∑ j : Fin 2048, rd arg11.view X_arg11 R j.val * rd3 arg2.view X_arg2 1 j.val C) * rd arg18.view X_arg18 R l
          * rd3 arg3.view X_arg3 1 0 C + rd3 arg4.view X_arg4 1 0 C) + rd arg16.view f16 R C
        = (fun r c => Spec.cross (rd3 arg2.view X_arg2 1) (rd3 arg3.view X_arg3 1 0) (rd3 arg4.view X_arg4 1 0) (u0 r) (u r) c) R C := fun R C l hR hC hl => by
    unfold Spec.cross
    rw [hx _ _ hR.1 hR.2 hC.2, hs _ _ hR.1 hR.2 hl, hu _ _ hR.1 hR.2 hC.1 hC.2]
    simp only [hc _ _ hR.1 hR.2 (Fin.isLt _)]
  have e41 := k0_off65_eq k0_t7 k
  have e40 := k0_off64_eq k
  have e39 := k0_off63_eq k0_t7
  simp [Fin.forall_fin_succ] at e41 e40 e39
  unfold tripL_k0_t8 trip_k0_t8; dsimp only
  refine (
    Acts.cons _ _ (k0_off63_eq k0_t7 7) ?_ <| Acts.cons _ _ (k0_off63_eq k0_t7 6) ?_ <| Acts.cons _ _ (k0_off63_eq k0_t7 5) ?_ <| Acts.cons _ _ (k0_off63_eq k0_t7 4) ?_ <| Acts.cons _ _ (k0_off63_eq k0_t7 3) ?_ <| Acts.cons _ _ (k0_off63_eq k0_t7 2) ?_ <| Acts.cons _ _ (k0_off63_eq k0_t7 1) ?_ <| Acts.cons _ _ (k0_off63_eq k0_t7 0) ?_ <| Acts.nil _).congr ?_
  on_goal 9 =>
    intro r c hr hc
    unfold tile rows
    simp
    omega
  all_goals
    intro x
    pointwise [readAt2, readAt3, k0_off61_eq, k0_off62_eq, e41, e40, e39, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay374, k0_pay375, trip_k0_t8.sl.r, trip_k0_t8.sl.r_1, trip_k0_t8.sl.r_10, trip_k0_t8.sl.r_11, trip_k0_t8.sl.r_12, trip_k0_t8.sl.r_13, trip_k0_t8.sl.r_14, trip_k0_t8.sl.r_15, trip_k0_t8.sl.r_16, trip_k0_t8.sl.r_17, trip_k0_t8.sl.r_18, trip_k0_t8.sl.r_19, trip_k0_t8.sl.r_2, trip_k0_t8.sl.r_20, trip_k0_t8.sl.r_21, trip_k0_t8.sl.r_22, trip_k0_t8.sl.r_23, trip_k0_t8.sl.r_24, trip_k0_t8.sl.r_25, trip_k0_t8.sl.r_26, trip_k0_t8.sl.r_27, trip_k0_t8.sl.r_28, trip_k0_t8.sl.r_29, trip_k0_t8.sl.r_3, trip_k0_t8.sl.r_30, trip_k0_t8.sl.r_31, trip_k0_t8.sl.r_32, trip_k0_t8.sl.r_33, trip_k0_t8.sl.r_34, trip_k0_t8.sl.r_35, trip_k0_t8.sl.r_36, trip_k0_t8.sl.r_37, trip_k0_t8.sl.r_38, trip_k0_t8.sl.r_39, trip_k0_t8.sl.r_4, trip_k0_t8.sl.r_40, trip_k0_t8.sl.r_41, trip_k0_t8.sl.r_42, trip_k0_t8.sl.r_43, trip_k0_t8.sl.r_44, trip_k0_t8.sl.r_5, trip_k0_t8.sl.r_6, trip_k0_t8.sl.r_7, trip_k0_t8.sl.r_8, trip_k0_t8.sl.r_9, trip_k0_t8.sl.v1015, trip_k0_t8.sl.v1026, trip_k0_t8.sl.v1033, trip_k0_t8.sl.v1057, trip_k0_t8.sl.v1085, trip_k0_t8.sl.v1114, trip_k0_t8.sl.v1143, trip_k0_t8.sl.v1154, trip_k0_t8.sl.v128, trip_k0_t8.sl.v137, trip_k0_t8.sl.v169, trip_k0_t8.sl.v189, trip_k0_t8.sl.v218, trip_k0_t8.sl.v247, trip_k0_t8.sl.v265, trip_k0_t8.sl.v289, trip_k0_t8.sl.v317, trip_k0_t8.sl.v346, trip_k0_t8.sl.v355, trip_k0_t8.sl.v375, trip_k0_t8.sl.v386, trip_k0_t8.sl.v393, trip_k0_t8.sl.v397, trip_k0_t8.sl.v417, trip_k0_t8.sl.v445, trip_k0_t8.sl.v454, trip_k0_t8.sl.v474, trip_k0_t8.sl.v503, trip_k0_t8.sl.v512, trip_k0_t8.sl.v514, trip_k0_t8.sl.v521, trip_k0_t8.sl.v545, trip_k0_t8.sl.v573, trip_k0_t8.sl.v602, trip_k0_t8.sl.v631, trip_k0_t8.sl.v642, trip_k0_t8.sl.v649, trip_k0_t8.sl.v673, trip_k0_t8.sl.v701, trip_k0_t8.sl.v730, trip_k0_t8.sl.v759, trip_k0_t8.sl.v770, trip_k0_t8.sl.v777, trip_k0_t8.sl.v801, trip_k0_t8.sl.v829, trip_k0_t8.sl.v858, trip_k0_t8.sl.v887, trip_k0_t8.sl.v898, trip_k0_t8.sl.v905, trip_k0_t8.sl.v929, trip_k0_t8.sl.v957, trip_k0_t8.sl.v986]
    have h0 : (x 0).val < 32 := (x 0).isLt
    have h1 : (x 1).val < 128 := (x 1).isLt
    try simp only [Nat.add_assoc]
    try simp only [← Nat.add_assoc (256 * k0_t7.val)]
    rw [key _ (512 * k.val + (x 1).val) _ (by omega) (by omega) h1, key _ (512 * k.val + (128 + (x 1).val)) _ (by omega) (by omega) h1,
      key _ (512 * k.val + (256 + (x 1).val)) _ (by omega) (by omega) h1, key _ (512 * k.val + (384 + (x 1).val)) _ (by omega) (by omega) h1]
    exact am_step _ k.val (t8_flag k) _ _ _ (fun h => hp h _ _ (by omega) (by omega) h1)

/-- What the trips of `t8` before trip `m` leave. -/
theorem t8_loop (v16 : BitVec 32) (v27 : BitVec 32) (c0_i32_18 : BitVec 32) (c1_i32_20 : BitVec 32) (k0_t7 : Fin k0_t7_loop.trips) (v33 : BitVec 32) (X_arg2 : BufTy.Contents (Elt Ideal) arg2.view.ty) (X_arg3 : BufTy.Contents (Elt Ideal) arg3.view.ty) (X_arg4 : BufTy.Contents (Elt Ideal) arg4.view.ty) (X_arg11 : BufTy.Contents (Elt Ideal) arg11.view.ty) (X_arg15 : BufTy.Contents (Elt Ideal) arg15.view.ty) (X_arg18 : BufTy.Contents (Elt Ideal) arg18.view.ty) (G_arg16 : BufTy.Contents (Elt Ideal) arg16.view.ty) (G_arg17 : BufTy.Contents (Elt Ideal) arg17.view.ty) (u0 u : ℕ → ℕ → EReal)
    (hx : ∀ r c, 256 * k0_t7.val ≤ r → r < 256 * k0_t7.val + 256 → c < 2048 → rd arg15.view X_arg15 r c = u0 r c)
    (hc : ∀ r c, 256 * k0_t7.val ≤ r → r < 256 * k0_t7.val + 256 → c < 2048 → rd arg11.view X_arg11 r c = Spec.rowCode (u r) c)
    (hs : ∀ r l, 256 * k0_t7.val ≤ r → r < 256 * k0_t7.val + 256 → l < 128 → rd arg18.view X_arg18 r l = Spec.rowScale (u r))
    (hu : ∀ r c, 256 * k0_t7.val ≤ r → r < 256 * k0_t7.val + 256 → c < 2048 → rd arg16.view G_arg16 r c = u r c) :
    ∀ m, m ≤ 4 →
      Acts (pb_k0_t8 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v27 c0_i32_18 c1_i32_20 k0_t7 v33 X_arg2 X_arg3 X_arg4 X_arg11 X_arg15 X_arg18 G_arg16 G_arg17 m).1 (tile (256 * k0_t7.val) 0 256 (512 * m)) (fun r c => Spec.cross (rd3 arg2.view X_arg2 1) (rd3 arg3.view X_arg3 1 0) (rd3 arg4.view X_arg4 1 0) (u0 r) (u r) c)
      ∧ (m ≠ 0 → ∀ r l, 256 * k0_t7.val ≤ r → r < 256 * k0_t7.val + 256 → l < 128 →
          rd arg17.view (arg17.view.writes (Elt Ideal) G_arg17 (pb_k0_t8 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v27 c0_i32_18 c1_i32_20 k0_t7 v33 X_arg2 X_arg3 X_arg4 X_arg11 X_arg15 X_arg18 G_arg16 G_arg17 m).2) r l = Spec.lanes (Spec.cross (rd3 arg2.view X_arg2 1) (rd3 arg3.view X_arg3 1 0) (rd3 arg4.view X_arg4 1 0) (u0 r) (u r)) (4 * m) l)
  | 0, _ => by
    rw [pb_k0_t8.eq_1]
    exact ⟨(Acts.nil _).congr fun r c _ _ => ⟨False.elim, fun h => by unfold tile at h; omega⟩, fun h => absurd rfl h⟩
  | m + 1, hm => by
    have ih := t8_loop v16 v27 c0_i32_18 c1_i32_20 k0_t7 v33 X_arg2 X_arg3 X_arg4 X_arg11 X_arg15 X_arg18 G_arg16 G_arg17 u0 u hx hc hs hu m (by omega)
    have e := pb_k0_t8_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v27 c0_i32_18 c1_i32_20 k0_t7 v33 X_arg2 X_arg3 X_arg4 X_arg11 X_arg15 X_arg18 G_arg16 G_arg17 (⟨m, hm⟩ : Fin k0_t8_loop.trips)
    dsimp only at e
    have hu' : ∀ r j, 256 * k0_t7.val ≤ r → r < 256 * k0_t7.val + 256 → 512 * m ≤ j → j < 2048 →
        rd arg16.view (arg16.view.writes (Elt Ideal) G_arg16 (pb_k0_t8 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v27 c0_i32_18 c1_i32_20 k0_t7 v33 X_arg2 X_arg3 X_arg4 X_arg11 X_arg15 X_arg18 G_arg16 G_arg17 m).1) r j = u r j := fun r j h1 h2 h3 h4 =>
      (ih.1.miss arg16.view G_arg16 (fun h => by unfold tile at h; omega)).trans (hu r j h1 h2 h4)
    rw [e]
    refine ⟨Acts.congr ((t8_x c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v27 c0_i32_18 c1_i32_20 k0_t7 v33 X_arg2 X_arg3 X_arg4 X_arg11 X_arg15 X_arg18 ⟨m, hm⟩ _ _ u0 u hx hc hs hu').append ih.1) (fun r c _ _ => by
      unfold tile; dsimp only; omega), fun _ r l h1 h2 hl => ?_⟩
    dsimp only
    rw [View.writes_append]
    exact (t8_am c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v27 c0_i32_18 c1_i32_20 k0_t7 v33 X_arg2 X_arg3 X_arg4 X_arg11 X_arg15 X_arg18 ⟨m, hm⟩ _ _ u0 u hx hc hs hu' ih.2).hit arg17.view _
      (by have := k0_t7.isLt; have : k0_t7_loop.trips = 2 := rfl; omega) hl ⟨h1, h2⟩

end Cert.Proof.Val
-- ==== Proof.Out7.lean ====
/-
  The second layer, half a block of rows at a time.
-/
module
public import proofs.«01_k».proof.Proof.Cross1
public import proofs.«01_k».proof.Proof.Put
public import proofs.«01_k».proof.Proof.Gen.KernelIdeal.Loops
public import proofs.«01_k».proof.Proof.Gen.KernelIdeal.Frame
@[expose] public section
set_option maxRecDepth 16384
noncomputable section
namespace Cert.Proof.Val
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (c : Dev nD) (i : grid0.Coords)
  (arg1 : Memref sig .tc .vmem S512x2048 .bf16) (harg1 : arg1.IsWhole)
  (arg2 : Memref sig .tc .vmem S3x2048x2048 .fp8e4m3) (harg2 : arg2.IsWhole)
  (arg3 : Memref sig .tc .vmem S3x1x2048 .f32) (harg3 : arg3.IsWhole)
  (arg4 : Memref sig .tc .vmem S3x1x2048 .f32) (harg4 : arg4.IsWhole)
  (arg5 : Memref sig .tc .vmem S1x2048 .f32) (harg5 : arg5.IsWhole)
  (arg6 : Memref sig .tc .vmem S1x2048 .f32) (harg6 : arg6.IsWhole)
  (arg7 : Memref sig .tc .vmem S512x2048 .fp8e4m3) (harg7 : arg7.IsWhole)
  (arg8 : Memref sig .tc .vmem S512x32 .f32) (harg8 : arg8.IsWhole)
  (arg9 : Memref sig .tc .vmem S512x2048 .fp8e4m3) (harg9 : arg9.IsWhole)
  (arg10 : Memref sig .tc .vmem S24x1024 .f32) (harg10 : arg10.IsWhole)
  (arg11 : Memref sig .tc .vmem S512x2048 .fp8e4m3) (harg11 : arg11.IsWhole)
  (arg12 : Memref sig .tc .vmem S24x1024 .f32) (harg12 : arg12.IsWhole)
  (arg13 : Memref sig .tc .vmem S512x2048 .fp8e4m3) (harg13 : arg13.IsWhole)
  (arg14 : Memref sig .tc .vmem S24x1024 .f32) (harg14 : arg14.IsWhole)
  (arg15 : Memref sig .tc .vmem S512x2048 .f32) (harg15 : arg15.IsWhole)
  (arg16 : Memref sig .tc .vmem S512x2048 .f32) (harg16 : arg16.IsWhole)
  (arg17 : Memref sig .tc .vmem S512x128 .f32) (harg17 : arg17.IsWhole)
  (arg18 : Memref sig .tc .vmem S512x128 .f32) (harg18 : arg18.IsWhole)
  (arg19 : Memref sig .tc .vmem S256x128 .f32) (harg19 : arg19.IsWhole)

/-- The second layer's row. -/
abbrev lay1 (X2 : BufTy.Contents (Elt Ideal) arg2.view.ty) (X3 : BufTy.Contents (Elt Ideal) arg3.view.ty) (X4 : BufTy.Contents (Elt Ideal) arg4.view.ty) (u0 u : ℕ → ℕ → EReal) (r j : ℕ) : EReal :=
  Spec.cross (rd3 arg2.view X2 1) (rd3 arg3.view X3 1 0) (rd3 arg4.view X4 1 0) (u0 r) (u r) j

/-- What is known before half `m`. -/
def I7 (t : ℕ) (X2 : BufTy.Contents (Elt Ideal) arg2.view.ty) (X3 : BufTy.Contents (Elt Ideal) arg3.view.ty) (X4 : BufTy.Contents (Elt Ideal) arg4.view.ty) (u0 u : ℕ → ℕ → EReal)
    (F14 : BufTy.Contents (Elt Ideal) arg14.view.ty) (m : ℕ) (_ : Unit) : sProp 𝕄 :=
  iprop(at_ c arg2 X2 ∗ at_ c arg3 X3 ∗ at_ c arg4 X4 ∗ has_ c arg15 (On arg15 0 512 u0) ∗ has_ c arg11 (On arg11 0 512 (fun r j => Spec.rowCode (u r) j))
    ∗ has_ c arg18 (fun f => On arg18 0 (256 * m) (fun r _ => Spec.rowScale (lay1 arg2 arg3 arg4 X2 X3 X4 u0 u r)) f ∧ On arg18 (256 * m) 512 (fun r _ => Spec.rowScale (u r)) f)
    ∗ has_ c arg16 (fun f => On arg16 0 (256 * m) (lay1 arg2 arg3 arg4 X2 X3 X4 u0 u) f ∧ On arg16 (256 * m) 512 u f) ∗ any_ c arg17
    ∗ has_ c arg13 (On arg13 0 (256 * m) (fun r j => Spec.rowCode (lay1 arg2 arg3 arg4 X2 X3 X4 u0 u r) j))
    ∗ has_ c arg14 (Scl arg14 t (256 * m) (fun r => Spec.rowScale (lay1 arg2 arg3 arg4 X2 X3 X4 u0 u r)) F14))

set_option warn.classDefReducibility false in
/-- The halves. -/
def L7 (v16 v27 : BitVec 32) (hv : v16 = BitVec.ofNat 32 ((i 0).val / 2)) (X2 : BufTy.Contents (Elt Ideal) arg2.view.ty) (X3 : BufTy.Contents (Elt Ideal) arg3.view.ty) (X4 : BufTy.Contents (Elt Ideal) arg4.view.ty) (u0 u : ℕ → ℕ → EReal)
    (F14 : BufTy.Contents (Elt Ideal) arg14.view.ty) : LoopInvTy_k0_t7 (F := Ideal) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v27 where
  inv := I7 c arg2 arg3 arg4 arg11 arg13 arg14 arg15 arg16 arg17 arg18 (i 0).val X2 X3 X4 u0 u F14
  step := fun k acc => by
    have hk : k.val < 2 := k.isLt
    unfold k0_t7_body
    unfold I7
    iintro ⟨H2, H3, H4, ⟨%f15, %h15, H15⟩, ⟨%f11, %h11, H11⟩, ⟨%f18, %h18, H18⟩, ⟨%f16, %h16, H16⟩, ⟨%f17, H17⟩, ⟨%f13, %h13, H13⟩, ⟨%f14, %h14, H14⟩⟩
    sl_exec
    sl_step
    have hi : (i 0).val < 48 := (i 0).isLt
    have A := t8_loop c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v27 0#32 1#32 k (Scalar.muli (Scf.iv 0#32 1#32 k) 256#32) X2 X3 X4 f11 f15 f18 f16 f17 u0 u
      (fun r j _ h hj => h15 r j (by omega) (by omega) hj) (fun r j _ h hj => h11 r j (by omega) (by omega) hj)
      (fun r l h1 h2 hl => h18.2 r l h1 (by omega) hl) (fun r j h1 h2 hj => h16.2 r j h1 (by omega) hj) 4 le_rfl
    have B := q9_loop c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v27 0#32 1#32 k (Scalar.muli (Scf.iv 0#32 1#32 k) 256#32) _ _ (lay1 arg2 arg3 arg4 X2 X3 X4 u0 u)
      (fun r j h1 h2 hj => A.1.hit arg16.view f16 (by omega) hj (by unfold tile; omega)) (fun r l h1 h2 hl => A.2 (by decide) r l h1 h2 hl) 8 le_rfl
    have S := On.step (f := f18) (a := 256 * k.val) On.nil B.2 (b' := 256 * k.val + 256) (by omega) fun r j h1 h2 hj => by unfold rows; omega
    isplitl [H2]; · iexact H2
    isplitl [H3]; · iexact H3
    isplitl [H4]; · iexact H4
    isplitl [H15]
    · iexists _
      isplitr
      swap
      · iexact H15
      ipureintro
      exact h15
    isplitl [H11]
    · iexists _
      isplitr
      swap
      · iexact H11
      ipureintro
      exact h11
    isplitl [H18]
    · iexists _
      isplitr
      swap
      · iexact H18
      ipureintro
      refine ⟨h18.1.step B.2 (by omega) fun r j h1 h2 hj => ?_, h18.2.keep B.2 (by omega) le_rfl fun r j h1 h2 hh => ?_⟩
      · unfold rows; omega
      · unfold rows at hh; omega
    isplitl [H16]
    · iexists _
      isplitr
      swap
      · iexact H16
      ipureintro
      refine ⟨h16.1.step A.1 (by omega) fun r j h1 h2 hj => ?_, h16.2.keep A.1 (by omega) le_rfl fun r j h1 h2 hh => ?_⟩
      · unfold tile; omega
      · unfold tile at hh; omega
    isplitl [H17]
    · iexists _; iexact H17
    isplitl [H13]
    · iexists _
      isplitr
      swap
      · iexact H13
      ipureintro
      refine h13.step B.1 (by omega) fun r j h1 h2 hj => ?_
      unfold rows; omega
    · iexists _
      isplitr
      swap
      · iexact H14
      ipureintro
      refine (Scl.step (Scl.step h14 hi (by omega) (k0_off84_inb i k 0) (off84 i k 0) _ _ (fun x => ?_) fun x => ?_) hi (by omega) (k0_off84_inb i k 1) (off84 i k 1) _ _ (fun x => ?_) fun x => ?_)
      · exact put_at arg18 _ (256 * k.val) (k0_off83_inb k 0) (off83 k 0) _ (fun r l h1 h2 hl => S r l h1 (by omega) hl) x
      · rw [hv]
        exact maskA i x
      · exact put_at arg18 _ (256 * k.val + 128) (k0_off83_inb k 1) (off83 k 1) _ (fun r l h1 h2 hl => S r l (by omega) (by omega) hl) x
      · exact maskB i x

end Cert.Proof.Val
-- ==== Proof.Cross2.lean ====
/-
  One cross layer, layer 2: a trip takes 512 columns of the product of the codes with the weights, scales them back, adds the
  offset, multiplies by the normalised input and adds the layer's own input.
-/
module
public import proofs.«01_k».proof.Proof.Region
public import proofs.«01_k».proof.Proof.Cross0
public import proofs.«01_k».proof.Proof.ScaleVec
public import proofs.«01_k».proof.Proof.Gen.KernelIdeal.Frame
@[expose] public section
set_option maxRecDepth 16384
noncomputable section
namespace Cert.Proof.Val
open Cert.KernelIdeal Cert.KernelIdeal.Gen
open Idealize.ShloMosaic Idealize.ShloMosaic.TcCoe Idealize.ShloMosaic.Tactic
open Idealize.SL Idealize.SL.RA Idealize.SL.BI
open Idealize.SL.Sem
variable (c : Dev nD) (i : grid0.Coords)
  (arg1 : Memref sig .tc .vmem S512x2048 .bf16) (harg1 : arg1.IsWhole)
  (arg2 : Memref sig .tc .vmem S3x2048x2048 .fp8e4m3) (harg2 : arg2.IsWhole)
  (arg3 : Memref sig .tc .vmem S3x1x2048 .f32) (harg3 : arg3.IsWhole)
  (arg4 : Memref sig .tc .vmem S3x1x2048 .f32) (harg4 : arg4.IsWhole)
  (arg5 : Memref sig .tc .vmem S1x2048 .f32) (harg5 : arg5.IsWhole)
  (arg6 : Memref sig .tc .vmem S1x2048 .f32) (harg6 : arg6.IsWhole)
  (arg7 : Memref sig .tc .vmem S512x2048 .fp8e4m3) (harg7 : arg7.IsWhole)
  (arg8 : Memref sig .tc .vmem S512x32 .f32) (harg8 : arg8.IsWhole)
  (arg9 : Memref sig .tc .vmem S512x2048 .fp8e4m3) (harg9 : arg9.IsWhole)
  (arg10 : Memref sig .tc .vmem S24x1024 .f32) (harg10 : arg10.IsWhole)
  (arg11 : Memref sig .tc .vmem S512x2048 .fp8e4m3) (harg11 : arg11.IsWhole)
  (arg12 : Memref sig .tc .vmem S24x1024 .f32) (harg12 : arg12.IsWhole)
  (arg13 : Memref sig .tc .vmem S512x2048 .fp8e4m3) (harg13 : arg13.IsWhole)
  (arg14 : Memref sig .tc .vmem S24x1024 .f32) (harg14 : arg14.IsWhole)
  (arg15 : Memref sig .tc .vmem S512x2048 .f32) (harg15 : arg15.IsWhole)
  (arg16 : Memref sig .tc .vmem S512x2048 .f32) (harg16 : arg16.IsWhole)
  (arg17 : Memref sig .tc .vmem S512x128 .f32) (harg17 : arg17.IsWhole)
  (arg18 : Memref sig .tc .vmem S512x128 .f32) (harg18 : arg18.IsWhole)
  (arg19 : Memref sig .tc .vmem S256x128 .f32) (harg19 : arg19.IsWhole)

set_option maxHeartbeats 2000000 in
/-- The columns a trip of `t11` stores. -/
theorem t11_x (k0_t10 : Fin k0_t10_loop.trips) (v33 : BitVec 32) (X_arg2 : BufTy.Contents (Elt Ideal) arg2.view.ty) (X_arg3 : BufTy.Contents (Elt Ideal) arg3.view.ty) (X_arg4 : BufTy.Contents (Elt Ideal) arg4.view.ty) (X_arg13 : BufTy.Contents (Elt Ideal) arg13.view.ty) (X_arg15 : BufTy.Contents (Elt Ideal) arg15.view.ty) (X_arg18 : BufTy.Contents (Elt Ideal) arg18.view.ty) (k : Fin k0_t11_loop.trips) (f16 : BufTy.Contents (Elt Ideal) arg16.view.ty) (u0 u : ℕ → ℕ → EReal)
    (hx : ∀ r c, 256 * k0_t10.val ≤ r → r < 256 * k0_t10.val + 256 → c < 2048 → rd arg15.view X_arg15 r c = u0 r c)
    (hc : ∀ r c, 256 * k0_t10.val ≤ r → r < 256 * k0_t10.val + 256 → c < 2048 → rd arg13.view X_arg13 r c = Spec.rowCode (u r) c)
    (hs : ∀ r l, 256 * k0_t10.val ≤ r → r < 256 * k0_t10.val + 256 → l < 128 → rd arg18.view X_arg18 r l = Spec.rowScale (u r))
    (hu : ∀ r c, 256 * k0_t10.val ≤ r → r < 256 * k0_t10.val + 256 → 512 * k.val ≤ c → c < 2048 → rd arg16.view f16 r c = u r c) :
    Acts (tripL_k0_t11 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t10 v33 X_arg2 X_arg3 X_arg4 X_arg13 X_arg15 X_arg18 k f16) (tile (256 * k0_t10.val) (512 * k.val) 256 512) (fun r c => Spec.cross (rd3 arg2.view X_arg2 2) (rd3 arg3.view X_arg3 2 0) (rd3 arg4.view X_arg4 2 0) (u0 r) (u r) c) := by
  have hk : k.val < 4 := k.isLt
  have key : ∀ R C l, 256 * k0_t10.val ≤ R ∧ R < 256 * k0_t10.val + 256 → 512 * k.val ≤ C ∧ C < 2048 → l < 128 →
      rd arg15.view X_arg15 R C * ((∑ j : Fin 2048, rd arg13.view X_arg13 R j.val * rd3 arg2.view X_arg2 2 j.val C) * rd arg18.view X_arg18 R l
          * rd3 arg3.view X_arg3 2 0 C + rd3 arg4.view X_arg4 2 0 C) + rd arg16.view f16 R C
        = (fun r c => Spec.cross (rd3 arg2.view X_arg2 2) (rd3 arg3.view X_arg3 2 0) (rd3 arg4.view X_arg4 2 0) (u0 r) (u r) c) R C := fun R C l hR hC hl => by
    unfold Spec.cross
    rw [hx _ _ hR.1 hR.2 hC.2, hs _ _ hR.1 hR.2 hl, hu _ _ hR.1 hR.2 hC.1 hC.2]
    simp only [hc _ _ hR.1 hR.2 (Fin.isLt _)]
  have e41 := k0_off89_eq k0_t10 k
  have e40 := k0_off88_eq k
  have e39 := k0_off87_eq k0_t10
  simp [Fin.forall_fin_succ] at e41 e40 e39
  unfold tripL_k0_t11 trip_k0_t11; dsimp only
  refine (
    Acts.cons _ _ (k0_off89_eq k0_t10 k 7 3) ?_ <| Acts.cons _ _ (k0_off89_eq k0_t10 k 7 2) ?_ <| Acts.cons _ _ (k0_off89_eq k0_t10 k 7 1) ?_ <| Acts.cons _ _ (k0_off89_eq k0_t10 k 7 0) ?_ <| Acts.cons _ _ (k0_off89_eq k0_t10 k 6 3) ?_ <| Acts.cons _ _ (k0_off89_eq k0_t10 k 6 2) ?_ <| Acts.cons _ _ (k0_off89_eq k0_t10 k 6 1) ?_ <| Acts.cons _ _ (k0_off89_eq k0_t10 k 6 0) ?_ <| Acts.cons _ _ (k0_off89_eq k0_t10 k 5 3) ?_ <| Acts.cons _ _ (k0_off89_eq k0_t10 k 5 2) ?_ <| Acts.cons _ _ (k0_off89_eq k0_t10 k 5 1) ?_ <| Acts.cons _ _ (k0_off89_eq k0_t10 k 5 0) ?_ <| Acts.cons _ _ (k0_off89_eq k0_t10 k 4 3) ?_ <| Acts.cons _ _ (k0_off89_eq k0_t10 k 4 2) ?_ <| Acts.cons _ _ (k0_off89_eq k0_t10 k 4 1) ?_ <| Acts.cons _ _ (k0_off89_eq k0_t10 k 4 0) ?_ <| Acts.cons _ _ (k0_off89_eq k0_t10 k 3 3) ?_ <| Acts.cons _ _ (k0_off89_eq k0_t10 k 3 2) ?_ <| Acts.cons _ _ (k0_off89_eq k0_t10 k 3 1) ?_ <| Acts.cons _ _ (k0_off89_eq k0_t10 k 3 0) ?_ <| Acts.cons _ _ (k0_off89_eq k0_t10 k 2 3) ?_ <| Acts.cons _ _ (k0_off89_eq k0_t10 k 2 2) ?_ <| Acts.cons _ _ (k0_off89_eq k0_t10 k 2 1) ?_ <| Acts.cons _ _ (k0_off89_eq k0_t10 k 2 0) ?_ <| Acts.cons _ _ (k0_off89_eq k0_t10 k 1 3) ?_ <| Acts.cons _ _ (k0_off89_eq k0_t10 k 1 2) ?_ <| Acts.cons _ _ (k0_off89_eq k0_t10 k 1 1) ?_ <| Acts.cons _ _ (k0_off89_eq k0_t10 k 1 0) ?_ <| Acts.cons _ _ (k0_off89_eq k0_t10 k 0 3) ?_ <| Acts.cons _ _ (k0_off89_eq k0_t10 k 0 2) ?_ <| Acts.cons _ _ (k0_off89_eq k0_t10 k 0 1) ?_ <| Acts.cons _ _ (k0_off89_eq k0_t10 k 0 0) ?_ <| Acts.nil _).congr ?_
  on_goal 33 =>
    intro r c hr hc
    exact (or_grid (fun a b => tile (256 * k0_t10.val + 32 * a) (512 * k.val + 128 * b) 32 128 r c)).trans (tile_grid _ _ r c)
  all_goals
    intro x
    pointwise [readAt2, readAt3, k0_off85_eq, k0_off86_eq, e41, e40, e39, k0_pay1, k0_pay2, k0_pay3, k0_pay4, k0_pay5, k0_pay6, k0_pay7, k0_pay8, k0_pay9, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, trip_k0_t11.sl.r, trip_k0_t11.sl.r_1, trip_k0_t11.sl.r_10, trip_k0_t11.sl.r_11, trip_k0_t11.sl.r_12, trip_k0_t11.sl.r_13, trip_k0_t11.sl.r_14, trip_k0_t11.sl.r_15, trip_k0_t11.sl.r_16, trip_k0_t11.sl.r_17, trip_k0_t11.sl.r_18, trip_k0_t11.sl.r_19, trip_k0_t11.sl.r_2, trip_k0_t11.sl.r_20, trip_k0_t11.sl.r_21, trip_k0_t11.sl.r_22, trip_k0_t11.sl.r_23, trip_k0_t11.sl.r_24, trip_k0_t11.sl.r_3, trip_k0_t11.sl.r_4, trip_k0_t11.sl.r_5, trip_k0_t11.sl.r_6, trip_k0_t11.sl.r_7, trip_k0_t11.sl.r_8, trip_k0_t11.sl.r_9, trip_k0_t11.sl.v101, trip_k0_t11.sl.v121, trip_k0_t11.sl.v148, trip_k0_t11.sl.v175, trip_k0_t11.sl.v182, trip_k0_t11.sl.v186, trip_k0_t11.sl.v206, trip_k0_t11.sl.v233, trip_k0_t11.sl.v240, trip_k0_t11.sl.v260, trip_k0_t11.sl.v287, trip_k0_t11.sl.v294, trip_k0_t11.sl.v318, trip_k0_t11.sl.v345, trip_k0_t11.sl.v372, trip_k0_t11.sl.v379, trip_k0_t11.sl.v399, trip_k0_t11.sl.v406, trip_k0_t11.sl.v430, trip_k0_t11.sl.v457, trip_k0_t11.sl.v484, trip_k0_t11.sl.v511, trip_k0_t11.sl.v518, trip_k0_t11.sl.v542, trip_k0_t11.sl.v569, trip_k0_t11.sl.v596, trip_k0_t11.sl.v61, trip_k0_t11.sl.v623, trip_k0_t11.sl.v630, trip_k0_t11.sl.v654, trip_k0_t11.sl.v681, trip_k0_t11.sl.v70, trip_k0_t11.sl.v708, trip_k0_t11.sl.v735, trip_k0_t11.sl.v742, trip_k0_t11.sl.v766, trip_k0_t11.sl.v793, trip_k0_t11.sl.v820, trip_k0_t11.sl.v847, trip_k0_t11.sl.v854, trip_k0_t11.sl.v878, trip_k0_t11.sl.v905, trip_k0_t11.sl.v932, trip_k0_t11.sl.v959]
    have h0 : (x 0).val < 32 := (x 0).isLt
    have h1 : (x 1).val < 128 := (x 1).isLt
    try simp only [Nat.add_assoc]
    exact key _ _ _ (by omega) (by omega) h1

/-- What the trips of `t11` before trip `m` leave. -/
theorem t11_loop (k0_t10 : Fin k0_t10_loop.trips) (v33 : BitVec 32) (X_arg2 : BufTy.Contents (Elt Ideal) arg2.view.ty) (X_arg3 : BufTy.Contents (Elt Ideal) arg3.view.ty) (X_arg4 : BufTy.Contents (Elt Ideal) arg4.view.ty) (X_arg13 : BufTy.Contents (Elt Ideal) arg13.view.ty) (X_arg15 : BufTy.Contents (Elt Ideal) arg15.view.ty) (X_arg18 : BufTy.Contents (Elt Ideal) arg18.view.ty) (G_arg16 : BufTy.Contents (Elt Ideal) arg16.view.ty) (u0 u : ℕ → ℕ → EReal)
    (hx : ∀ r c, 256 * k0_t10.val ≤ r → r < 256 * k0_t10.val + 256 → c < 2048 → rd arg15.view X_arg15 r c = u0 r c)
    (hc : ∀ r c, 256 * k0_t10.val ≤ r → r < 256 * k0_t10.val + 256 → c < 2048 → rd arg13.view X_arg13 r c = Spec.rowCode (u r) c)
    (hs : ∀ r l, 256 * k0_t10.val ≤ r → r < 256 * k0_t10.val + 256 → l < 128 → rd arg18.view X_arg18 r l = Spec.rowScale (u r))
    (hu : ∀ r c, 256 * k0_t10.val ≤ r → r < 256 * k0_t10.val + 256 → c < 2048 → rd arg16.view G_arg16 r c = u r c) :
    ∀ m, m ≤ 4 →
      Acts (pb_k0_t11 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t10 v33 X_arg2 X_arg3 X_arg4 X_arg13 X_arg15 X_arg18 G_arg16 m) (tile (256 * k0_t10.val) 0 256 (512 * m)) (fun r c => Spec.cross (rd3 arg2.view X_arg2 2) (rd3 arg3.view X_arg3 2 0) (rd3 arg4.view X_arg4 2 0) (u0 r) (u r) c)
  | 0, _ => by
    rw [pb_k0_t11.eq_1]
    exact (Acts.nil _).congr fun r c _ _ => ⟨False.elim, fun h => by unfold tile at h; omega⟩
  | m + 1, hm => by
    have ih := t11_loop k0_t10 v33 X_arg2 X_arg3 X_arg4 X_arg13 X_arg15 X_arg18 G_arg16 u0 u hx hc hs hu m (by omega)
    have e := pb_k0_t11_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t10 v33 X_arg2 X_arg3 X_arg4 X_arg13 X_arg15 X_arg18 G_arg16 (⟨m, hm⟩ : Fin k0_t11_loop.trips)
    dsimp only at e
    have hu' : ∀ r j, 256 * k0_t10.val ≤ r → r < 256 * k0_t10.val + 256 → 512 * m ≤ j → j < 2048 →
        rd arg16.view (arg16.view.writes (Elt Ideal) G_arg16 (pb_k0_t11 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t10 v33 X_arg2 X_arg3 X_arg4 X_arg13 X_arg15 X_arg18 G_arg16 m)) r j = u r j := fun r j h1 h2 h3 h4 =>
      (ih.miss arg16.view G_arg16 (fun h => by unfold tile at h; omega)).trans (hu r j h1 h2 h4)
    rw [e]
    exact Acts.congr ((t11_x c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t10 v33 X_arg2 X_arg3 X_arg4 X_arg13 X_arg15 X_arg18 ⟨m, hm⟩ _ u0 u hx hc hs hu').append ih) (fun r c _ _ => by
      unfold tile; dsimp only; omega)

end Cert.Proof.Val
-- ==== Proof.Out12.lean ====
/-
  One block of 128 rows of the output: its largest magnitudes by groups, its scales and its codes.
-/
module
public import proofs.«01_k».proof.Proof.Group
public import proofs.«01_k».proof.Proof.Hold
public import proofs.«01_k».proof.Proof.Gen.KernelIdeal.Loops
public import proofs.«01_k».proof.Proof.Gen.KernelIdeal.Frame
@[expose] public section
set_option maxRecDepth 16384
noncomputable section
namespace Cert.Proof.Val
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (c : Dev nD) (i : grid0.Coords)
  (arg1 : Memref sig .tc .vmem S512x2048 .bf16) (harg1 : arg1.IsWhole)
  (arg2 : Memref sig .tc .vmem S3x2048x2048 .fp8e4m3) (harg2 : arg2.IsWhole)
  (arg3 : Memref sig .tc .vmem S3x1x2048 .f32) (harg3 : arg3.IsWhole)
  (arg4 : Memref sig .tc .vmem S3x1x2048 .f32) (harg4 : arg4.IsWhole)
  (arg5 : Memref sig .tc .vmem S1x2048 .f32) (harg5 : arg5.IsWhole)
  (arg6 : Memref sig .tc .vmem S1x2048 .f32) (harg6 : arg6.IsWhole)
  (arg7 : Memref sig .tc .vmem S512x2048 .fp8e4m3) (harg7 : arg7.IsWhole)
  (arg8 : Memref sig .tc .vmem S512x32 .f32) (harg8 : arg8.IsWhole)
  (arg9 : Memref sig .tc .vmem S512x2048 .fp8e4m3) (harg9 : arg9.IsWhole)
  (arg10 : Memref sig .tc .vmem S24x1024 .f32) (harg10 : arg10.IsWhole)
  (arg11 : Memref sig .tc .vmem S512x2048 .fp8e4m3) (harg11 : arg11.IsWhole)
  (arg12 : Memref sig .tc .vmem S24x1024 .f32) (harg12 : arg12.IsWhole)
  (arg13 : Memref sig .tc .vmem S512x2048 .fp8e4m3) (harg13 : arg13.IsWhole)
  (arg14 : Memref sig .tc .vmem S24x1024 .f32) (harg14 : arg14.IsWhole)
  (arg15 : Memref sig .tc .vmem S512x2048 .f32) (harg15 : arg15.IsWhole)
  (arg16 : Memref sig .tc .vmem S512x2048 .f32) (harg16 : arg16.IsWhole)
  (arg17 : Memref sig .tc .vmem S512x128 .f32) (harg17 : arg17.IsWhole)
  (arg18 : Memref sig .tc .vmem S512x128 .f32) (harg18 : arg18.IsWhole)
  (arg19 : Memref sig .tc .vmem S256x128 .f32) (harg19 : arg19.IsWhole)

/-- Reading every eighth row. -/
theorem readAt8 {κ : Kind} {sp : Space} {n0 n1 : ℕ} {e : EltTy} (v : View sig κ sp ⟨2, ![n0, n1]⟩ e) (f : v.ty.Contents (Elt Ideal)) (o m0 m1 : ℕ)
    (inb) (x : (⟨2, ![m0, m1]⟩ : Shape).Idx) :
    v.readAt (Elt Ideal) { off := ![o, 0], size := ![m0, m1], stride := ![8, 1], inb := inb } f x = rd v f (8 * (x 0).val + o) (x 1).val := by
  rw [View.readAt_apply, rd_idx]
  show rd v f (o + 8 * (x 0).val) (0 + 1 * (x 1).val) = _
  rw [Nat.one_mul, Nat.zero_add, Nat.add_comm]

/-- The 128 × 128 block of a row block's scales and inverse scales. -/
def grpBlock (p : FVec Ideal S32x128 .f32) : FVec Ideal S128x128 .f32 :=
  transpose S128x128 [1, 0] (concatenate S128x128 0 [⟨S32x128, vscl p⟩, ⟨S32x128, vinv p⟩, ⟨S64x128, broadcast S64x128 (Scalar.ofBits .f32 0x00000000#32)⟩] concatenates_S32x128_S32x128_S64x128_S128x128_d0) transposes_S128x128_p1_0_S128x128

theorem grpBlock_scl (p : FVec Ideal S32x128 .f32) (a b : Fin 128) (h : b.val < 32) :
    grpBlock p (ix2 a b) = Scale.scl (p (ix2 ⟨b.val, h⟩ a)) := by
  unfold grpBlock
  pointwise [vscl_apply, vinv_apply]
  rw [dif_pos h]

theorem grpBlock_inv (p : FVec Ideal S32x128 .f32) (a b : Fin 128) (h : 32 ≤ b.val) (h' : b.val < 64) :
    grpBlock p (ix2 a b) = Scale.inv (p (ix2 ⟨b.val - 32, by omega⟩ a)) := by
  unfold grpBlock
  pointwise [vscl_apply, vinv_apply]
  rw [dif_neg (by omega), dif_pos (by omega)]

theorem grpBlock_eq (v66 v67 v69 v71 v73 v75 v77 v79 : Vec Ideal S32x128 .f32) :
    k0_pay456 (k0_pay454 v66 v67 v69 v71 v73 v75 v77 v79) (k0_pay455 v66 v67 v69 v71 v73 v75 v77 v79) = grpBlock (k0_pay454 v66 v67 v69 v71 v73 v75 v77 v79) := rfl

theorem grp_par (w : ℕ → Vec Ideal S32x128 .f32) (u : ℕ → EReal) (q : Fin 32) (a : Fin 128)
    (h : ∀ s, s < 8 → w s (ix2 q a) = Spec.part u q.val s) :
    k0_pay454 (w 0) (w 1) (w 2) (w 3) (w 4) (w 5) (w 6) (w 7) (ix2 q a) = Spec.par (Spec.amax u (64 * q.val) 64) := by
  unfold k0_pay454
  pointwise
  rw [h 0 (by decide), h 1 (by decide), h 2 (by decide), h 3 (by decide), h 4 (by decide), h 5 (by decide), h 6 (by decide), h 7 (by decide),
    Spec.par, ← amax_part]

theorem scale_slice (v66 v67 v69 v71 v73 v75 v77 v79 : Vec Ideal S32x128 .f32) (y : S128x32.Idx) :
    k0_pay457 (k0_pay454 v66 v67 v69 v71 v73 v75 v77 v79) (k0_pay455 v66 v67 v69 v71 v73 v75 v77 v79) y
      = grpBlock (k0_pay454 v66 v67 v69 v71 v73 v75 v77 v79) (ix2 (y 0) ⟨(y 1).val, Nat.lt_trans (y 1).isLt (by decide)⟩) := by
  unfold k0_pay457
  rw [grpBlock_eq]
  pointwise

/-- What the eight loads of a row block's partial maxima give. -/
theorem blk_par (k0_t10 : Fin k0_t10_loop.trips) (v33 : BitVec 32) (c0 c1 : BitVec 32) (k : Fin k0_t12_loop.trips) (v64 : BitVec 32)
    (f16 : BufTy.Contents (Elt Ideal) arg16.view.ty) (f19 : BufTy.Contents (Elt Ideal) arg19.view.ty) (u : ℕ → ℕ → EReal)
    (h16 : On arg16 (256 * k0_t10.val) (256 * k0_t10.val + 256) u f16) (q : Fin 32) (a : Fin 128) (b0 b1 b2 b3 b4 b5 b6 b7) :
    k0_pay454 (F := Ideal)
      (fun x => arg19.view.readAt (Elt Ideal) { off := ![0, 0], size := S32x128.size, stride := ![8, 1], inb := b0 } (arg19.view.writes (Elt Ideal) f19 (pb_k0_t13 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t10 v33 c0 c1 k v64 f16 16)) x)
      (fun x => arg19.view.readAt (Elt Ideal) { off := ![1, 0], size := S32x128.size, stride := ![8, 1], inb := b1 } (arg19.view.writes (Elt Ideal) f19 (pb_k0_t13 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t10 v33 c0 c1 k v64 f16 16)) x)
      (fun x => arg19.view.readAt (Elt Ideal) { off := ![2, 0], size := S32x128.size, stride := ![8, 1], inb := b2 } (arg19.view.writes (Elt Ideal) f19 (pb_k0_t13 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t10 v33 c0 c1 k v64 f16 16)) x)
      (fun x => arg19.view.readAt (Elt Ideal) { off := ![3, 0], size := S32x128.size, stride := ![8, 1], inb := b3 } (arg19.view.writes (Elt Ideal) f19 (pb_k0_t13 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t10 v33 c0 c1 k v64 f16 16)) x)
      (fun x => arg19.view.readAt (Elt Ideal) { off := ![4, 0], size := S32x128.size, stride := ![8, 1], inb := b4 } (arg19.view.writes (Elt Ideal) f19 (pb_k0_t13 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t10 v33 c0 c1 k v64 f16 16)) x)
      (fun x => arg19.view.readAt (Elt Ideal) { off := ![5, 0], size := S32x128.size, stride := ![8, 1], inb := b5 } (arg19.view.writes (Elt Ideal) f19 (pb_k0_t13 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t10 v33 c0 c1 k v64 f16 16)) x)
      (fun x => arg19.view.readAt (Elt Ideal) { off := ![6, 0], size := S32x128.size, stride := ![8, 1], inb := b6 } (arg19.view.writes (Elt Ideal) f19 (pb_k0_t13 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t10 v33 c0 c1 k v64 f16 16)) x)
      (fun x => arg19.view.readAt (Elt Ideal) { off := ![7, 0], size := S32x128.size, stride := ![8, 1], inb := b7 } (arg19.view.writes (Elt Ideal) f19 (pb_k0_t13 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t10 v33 c0 c1 k v64 f16 16)) x)
      (ix2 q a) = Spec.par (Spec.amax (u (256 * k0_t10.val + 128 * k.val + a.val)) (64 * q.val) 64) := by
  refine Eq.trans ?_ (grp_par (fun s x => rd arg19.view (arg19.view.writes (Elt Ideal) f19 (pb_k0_t13 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t10 v33 c0 c1 k v64 f16 16)) (8 * (x 0).val + s) (x 1).val) _ q a fun s hs => ?_)
  · dsimp only
    congr 1 <;> exact funext fun x => readAt8 _ _ _ _ _ _ x
  · have hq := q.isLt
    have : k.val < 2 := k.isLt
    refine ((t13_loop c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t10 v33 c0 c1 k v64 f16 u (fun r j h1 h2 hj => h16 r j (by omega) (by omega) hj) 16 le_rfl).hit arg19.view f19 (by dsimp only [ix2]; omega) a.isLt (by unfold tile; dsimp only [ix2]; omega)).trans ?_
    dsimp only
    congr 1 <;> dsimp only [ix2] <;> omega

/-- What is known before trip `m` of a row block's loop: the rows of the half, the later rows, and the scales and codes of the rows gone through. -/
def I12 (T : ℕ) (u w : ℕ → ℕ → EReal) (m : ℕ) (_ : Unit) : sProp 𝕄 :=
  iprop(has_ c arg16 (fun f => On arg16 (256 * T) (256 * T + 256) u f ∧ On arg16 (256 * T + 256) 512 w f) ∗ any_ c arg19 ∗ has_ c arg8 (On arg8 0 (256 * T + 128 * m) (fun r q => Spec.grpScale (u r) q)) ∗ has_ c arg7 (On arg7 0 (256 * T + 128 * m) (fun r q => Spec.grpCode (u r) q)))

set_option warn.classDefReducibility false in
/-- Its trips. -/
def L12 (k0_t10 : Fin k0_t10_loop.trips) (v33 : BitVec 32) (u w : ℕ → ℕ → EReal) : LoopInvTy_k0_t12 (F := Ideal) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t10 v33 where
  inv := I12 c arg7 arg8 arg16 arg19 k0_t10.val u w
  step := fun k acc => by
    unfold k0_t12_body
    unfold I12
    iintro ⟨⟨%f16, %hh, H16⟩, ⟨%f19, H19⟩, ⟨%f8, %h8, H8⟩, ⟨%f7, %h7, H7⟩⟩
    have h16 := hh.1
    sl_exec
    sl_step
    isplitl [H16]
    · iexists _
      isplitr
      · ipureintro
        exact hh
      iexact H16
    isplitl [H19]
    · iexists _; iexact H19
    isplitl [H8]
    · iexists _
      isplitr
      swap
      · iexact H8
      ipureintro
      refine h8.step ((Acts.nil _).cons _ _ (k0_off92_eq k0_t10 k) fun x => ?_) ?_ ?_
      · refine (scale_slice _ _ _ _ _ _ _ _ x).trans ((grpBlock_scl _ _ _ (x 1).isLt).trans ?_)
        rw [Nat.zero_add]
        exact congrArg Scale.scl (blk_par c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t10 v33 0#32 1#32 k (L12.sl.v63 v33 k) f16 f19 u h16 ⟨(x 1).val, (x 1).isLt⟩ (x 0) inb_S256x128_S32x128_0_0_s_8_1 inb_S256x128_S32x128_1_0_s_8_1 inb_S256x128_S32x128_2_0_s_8_1 inb_S256x128_S32x128_3_0_s_8_1 inb_S256x128_S32x128_4_0_s_8_1 inb_S256x128_S32x128_5_0_s_8_1 inb_S256x128_S32x128_6_0_s_8_1 inb_S256x128_S32x128_7_0_s_8_1)
      · have : k0_t10.val < 2 := k0_t10.isLt; have : k.val < 2 := k.isLt; omega
      · intro r j h1 h2 h3
        left
        show (256 * k0_t10.val + 128 * k.val ≤ r ∧ r < 256 * k0_t10.val + 128 * k.val + 128) ∧ (0 ≤ j ∧ j < 0 + 32)
        omega
    iexists _
    isplitr
    swap
    · iexact H7
    ipureintro
    refine h7.step (t14_loop c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t10 v33 k _ _ f16 u (fun r j h1 h2 hj => h16 r j (by omega) (by have : k.val < 2 := k.isLt; omega) hj) (fun a b h1 h2 => ?_) 16 le_rfl) ?_ ?_
    · refine (congrFun (grpBlock_eq _ _ _ _ _ _ _ _) _).trans ((grpBlock_inv _ _ _ h1 h2).trans ?_)
      exact congrArg Scale.inv (blk_par c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t10 v33 0#32 1#32 k (L12.sl.v63 v33 k) f16 f19 u h16 ⟨b.val - 32, by omega⟩ a inb_S256x128_S32x128_0_0_s_8_1 inb_S256x128_S32x128_1_0_s_8_1 inb_S256x128_S32x128_2_0_s_8_1 inb_S256x128_S32x128_3_0_s_8_1 inb_S256x128_S32x128_4_0_s_8_1 inb_S256x128_S32x128_5_0_s_8_1 inb_S256x128_S32x128_6_0_s_8_1 inb_S256x128_S32x128_7_0_s_8_1)
    · have : k0_t10.val < 2 := k0_t10.isLt; have : k.val < 2 := k.isLt; omega
    · intro r j h1 h2 h3
      unfold tile
      omega

end Cert.Proof.Val
-- ==== Proof.Out10.lean ====
/-
  The last layer and the output's groups, half a block of rows at a time.
-/
module
public import proofs.«01_k».proof.Proof.Cross2
public import proofs.«01_k».proof.Proof.Out12
public import proofs.«01_k».proof.Proof.Gen.KernelIdeal.Loops
public import proofs.«01_k».proof.Proof.Gen.KernelIdeal.Frame
@[expose] public section
set_option maxRecDepth 16384
noncomputable section
namespace Cert.Proof.Val
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (c : Dev nD) (i : grid0.Coords)
  (arg1 : Memref sig .tc .vmem S512x2048 .bf16) (harg1 : arg1.IsWhole)
  (arg2 : Memref sig .tc .vmem S3x2048x2048 .fp8e4m3) (harg2 : arg2.IsWhole)
  (arg3 : Memref sig .tc .vmem S3x1x2048 .f32) (harg3 : arg3.IsWhole)
  (arg4 : Memref sig .tc .vmem S3x1x2048 .f32) (harg4 : arg4.IsWhole)
  (arg5 : Memref sig .tc .vmem S1x2048 .f32) (harg5 : arg5.IsWhole)
  (arg6 : Memref sig .tc .vmem S1x2048 .f32) (harg6 : arg6.IsWhole)
  (arg7 : Memref sig .tc .vmem S512x2048 .fp8e4m3) (harg7 : arg7.IsWhole)
  (arg8 : Memref sig .tc .vmem S512x32 .f32) (harg8 : arg8.IsWhole)
  (arg9 : Memref sig .tc .vmem S512x2048 .fp8e4m3) (harg9 : arg9.IsWhole)
  (arg10 : Memref sig .tc .vmem S24x1024 .f32) (harg10 : arg10.IsWhole)
  (arg11 : Memref sig .tc .vmem S512x2048 .fp8e4m3) (harg11 : arg11.IsWhole)
  (arg12 : Memref sig .tc .vmem S24x1024 .f32) (harg12 : arg12.IsWhole)
  (arg13 : Memref sig .tc .vmem S512x2048 .fp8e4m3) (harg13 : arg13.IsWhole)
  (arg14 : Memref sig .tc .vmem S24x1024 .f32) (harg14 : arg14.IsWhole)
  (arg15 : Memref sig .tc .vmem S512x2048 .f32) (harg15 : arg15.IsWhole)
  (arg16 : Memref sig .tc .vmem S512x2048 .f32) (harg16 : arg16.IsWhole)
  (arg17 : Memref sig .tc .vmem S512x128 .f32) (harg17 : arg17.IsWhole)
  (arg18 : Memref sig .tc .vmem S512x128 .f32) (harg18 : arg18.IsWhole)
  (arg19 : Memref sig .tc .vmem S256x128 .f32) (harg19 : arg19.IsWhole)

/-- The last layer's row. -/
abbrev lay2 (X2 : BufTy.Contents (Elt Ideal) arg2.view.ty) (X3 : BufTy.Contents (Elt Ideal) arg3.view.ty) (X4 : BufTy.Contents (Elt Ideal) arg4.view.ty) (u0 u : ℕ → ℕ → EReal) (r j : ℕ) : EReal :=
  Spec.cross (rd3 arg2.view X2 2) (rd3 arg3.view X3 2 0) (rd3 arg4.view X4 2 0) (u0 r) (u r) j

/-- What is known before half `m`. -/
def I10 (X2 : BufTy.Contents (Elt Ideal) arg2.view.ty) (X3 : BufTy.Contents (Elt Ideal) arg3.view.ty) (X4 : BufTy.Contents (Elt Ideal) arg4.view.ty) (u0 u : ℕ → ℕ → EReal) (m : ℕ) (_ : Unit) : sProp 𝕄 :=
  iprop(at_ c arg2 X2 ∗ at_ c arg3 X3 ∗ at_ c arg4 X4 ∗ has_ c arg15 (On arg15 0 512 u0) ∗ has_ c arg13 (On arg13 0 512 (fun r j => Spec.rowCode (u r) j))
    ∗ has_ c arg18 (On arg18 0 512 (fun r _ => Spec.rowScale (u r))) ∗ has_ c arg16 (On arg16 (256 * m) 512 u) ∗ any_ c arg19
    ∗ has_ c arg8 (On arg8 0 (256 * m) (fun r q => Spec.grpScale (lay2 arg2 arg3 arg4 X2 X3 X4 u0 u r) q))
    ∗ has_ c arg7 (On arg7 0 (256 * m) (fun r q => Spec.grpCode (lay2 arg2 arg3 arg4 X2 X3 X4 u0 u r) q)))

set_option warn.classDefReducibility false in
/-- The halves. -/
def L10 (X2 : BufTy.Contents (Elt Ideal) arg2.view.ty) (X3 : BufTy.Contents (Elt Ideal) arg3.view.ty) (X4 : BufTy.Contents (Elt Ideal) arg4.view.ty) (u0 u : ℕ → ℕ → EReal) : LoopInvTy_k0_t10 (F := Ideal) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  where
  inv := I10 c arg2 arg3 arg4 arg7 arg8 arg13 arg15 arg16 arg18 arg19 X2 X3 X4 u0 u
  step := fun k acc => by
    have hk : k.val < 2 := k.isLt
    unfold k0_t10_body
    unfold I10
    iintro ⟨H2, H3, H4, ⟨%f15, %h15, H15⟩, ⟨%f13, %h13, H13⟩, ⟨%f18, %h18, H18⟩, ⟨%f16, %h16, H16⟩, ⟨%f19, H19⟩, ⟨%f8, %h8, H8⟩, ⟨%f7, %h7, H7⟩⟩
    sl_exec
    sl_for (I12 c arg7 arg8 arg16 arg19 k.val (lay2 arg2 arg3 arg4 X2 X3 X4 u0 u) u) $$ [H16 H19 H8 H7]
    case region =>
      intro k' a
      exact (L12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k (Scalar.muli (Scf.iv 0#32 1#32 k) 256#32) (lay2 arg2 arg3 arg4 X2 X3 X4 u0 u) u).step k' a
    · unfold I12
      have A := t11_loop c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k (Scalar.muli (Scf.iv 0#32 1#32 k) 256#32) X2 X3 X4 f13 f15 f18 f16 u0 u (fun r j _ h hj => h15 r j (by omega) (by omega) hj) (fun r j _ h hj => h13 r j (by omega) (by omega) hj)
        (fun r j _ h hj => h18 r j (by omega) (by omega) hj) (fun r j h1 h hj => h16 r j h1 (by omega) hj) 4 le_rfl
      isplitl [H16]
      · iexists _
        isplitr
        swap
        · iexact H16
        ipureintro
        refine ⟨On.nil.step A (by omega) fun r j h1 h2 hj => ?_, h16.keep A (by omega) le_rfl fun r j h1 h2 hh => ?_⟩
        · unfold tile; omega
        · unfold tile at hh; omega
      isplitl [H19]
      · iexists _; iexact H19
      isplitl [H8]
      · iexists _
        isplitr
        swap
        · iexact H8
        ipureintro
        exact h8
      · iexists _
        isplitr
        swap
        · iexact H7
        ipureintro
        exact h7
    iintro %a HI
    unfold I12
    icases HI with ⟨⟨%g16, %i16, H16⟩, ⟨%g19, H19⟩, ⟨%g8, %i8, H8⟩, ⟨%g7, %i7, H7⟩⟩
    sl_exec
    sl_step
    isplitl [H2]; · iexact H2
    isplitl [H3]; · iexact H3
    isplitl [H4]; · iexact H4
    isplitl [H15]
    · iexists _
      isplitr
      swap
      · iexact H15
      ipureintro
      exact h15
    isplitl [H13]
    · iexists _
      isplitr
      swap
      · iexact H13
      ipureintro
      exact h13
    isplitl [H18]
    · iexists _
      isplitr
      swap
      · iexact H18
      ipureintro
      exact h18
    isplitl [H16]
    · iexists _
      isplitr
      swap
      · iexact H16
      ipureintro
      exact i16.2
    isplitl [H19]
    · iexists _; iexact H19
    isplitl [H8]
    · iexists _
      isplitr
      swap
      · iexact H8
      ipureintro
      exact i8
    · iexists _
      isplitr
      swap
      · iexact H7
      ipureintro
      exact i7

end Cert.Proof.Val
-- ==== Proof.Body.lean ====
/-
  One step of the kernel: from the step's block of rows and the operands every step reads, what the eight results' blocks hold afterwards.
-/
module
public import proofs.«01_k».proof.Proof.Out1
public import proofs.«01_k».proof.Proof.Out4
public import proofs.«01_k».proof.Proof.Out7
public import proofs.«01_k».proof.Proof.Out10
public import proofs.«01_k».proof.Proof.Gen.KernelIdeal.Loops
public import proofs.«01_k».proof.Proof.Gen.KernelIdeal.Frame
@[expose] public section
set_option maxRecDepth 16384
noncomputable section
namespace Cert.Proof.Val
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (c : Dev nD) (i : grid0.Coords)
  (arg1 : Memref sig .tc .vmem S512x2048 .bf16) (harg1 : arg1.IsWhole)
  (arg2 : Memref sig .tc .vmem S3x2048x2048 .fp8e4m3) (harg2 : arg2.IsWhole)
  (arg3 : Memref sig .tc .vmem S3x1x2048 .f32) (harg3 : arg3.IsWhole)
  (arg4 : Memref sig .tc .vmem S3x1x2048 .f32) (harg4 : arg4.IsWhole)
  (arg5 : Memref sig .tc .vmem S1x2048 .f32) (harg5 : arg5.IsWhole)
  (arg6 : Memref sig .tc .vmem S1x2048 .f32) (harg6 : arg6.IsWhole)
  (arg7 : Memref sig .tc .vmem S512x2048 .fp8e4m3) (harg7 : arg7.IsWhole)
  (arg8 : Memref sig .tc .vmem S512x32 .f32) (harg8 : arg8.IsWhole)
  (arg9 : Memref sig .tc .vmem S512x2048 .fp8e4m3) (harg9 : arg9.IsWhole)
  (arg10 : Memref sig .tc .vmem S24x1024 .f32) (harg10 : arg10.IsWhole)
  (arg11 : Memref sig .tc .vmem S512x2048 .fp8e4m3) (harg11 : arg11.IsWhole)
  (arg12 : Memref sig .tc .vmem S24x1024 .f32) (harg12 : arg12.IsWhole)
  (arg13 : Memref sig .tc .vmem S512x2048 .fp8e4m3) (harg13 : arg13.IsWhole)
  (arg14 : Memref sig .tc .vmem S24x1024 .f32) (harg14 : arg14.IsWhole)
  (arg15 : Memref sig .tc .vmem S512x2048 .f32) (harg15 : arg15.IsWhole)
  (arg16 : Memref sig .tc .vmem S512x2048 .f32) (harg16 : arg16.IsWhole)
  (arg17 : Memref sig .tc .vmem S512x128 .f32) (harg17 : arg17.IsWhole)
  (arg18 : Memref sig .tc .vmem S512x128 .f32) (harg18 : arg18.IsWhole)
  (arg19 : Memref sig .tc .vmem S256x128 .f32) (harg19 : arg19.IsWhole)

/-- The first layer's row of a step. -/
abbrev row1 (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) : ℕ → ℕ → EReal :=
  lay0 arg2 arg3 arg4 X2 X3 X4 (nrm arg1 arg5 arg6 X1 X5 X6)
/-- The second layer's. -/
abbrev row2 (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) : ℕ → ℕ → EReal :=
  lay1 arg2 arg3 arg4 X2 X3 X4 (nrm arg1 arg5 arg6 X1 X5 X6) (row1 arg1 arg2 arg3 arg4 arg5 arg6 X1 X2 X3 X4 X5 X6)
/-- The last layer's. -/
abbrev row3 (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) : ℕ → ℕ → EReal :=
  lay2 arg2 arg3 arg4 X2 X3 X4 (nrm arg1 arg5 arg6 X1 X5 X6) (row2 arg1 arg2 arg3 arg4 arg5 arg6 X1 X2 X3 X4 X5 X6)

theorem body_run (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty)
    (F10 : BufTy.Contents (Elt Ideal) arg10.view.ty) (F12 : BufTy.Contents (Elt Ideal) arg12.view.ty) (F14 : BufTy.Contents (Elt Ideal) arg14.view.ty) :
    iprop(at_ c arg1 X1 ∗ at_ c arg2 X2 ∗ at_ c arg3 X3 ∗ at_ c arg4 X4 ∗ at_ c arg5 X5 ∗ at_ c arg6 X6 ∗ any_ c arg7 ∗ any_ c arg8 ∗ any_ c arg9 ∗ at_ c arg10 F10 ∗ any_ c arg11 ∗ at_ c arg12 F12 ∗ any_ c arg13 ∗ at_ c arg14 F14 ∗ any_ c arg15 ∗ any_ c arg16 ∗ any_ c arg17 ∗ any_ c arg18 ∗ any_ c arg19)
    ⊢ wp frame (wpE (defs₀ (F := Ideal)) Variants.none (c : Thread nD τ) none) Set.univ (cc0_dcn_cross (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
      (fun _ => iprop(at_ c arg1 X1 ∗ at_ c arg2 X2 ∗ at_ c arg3 X3 ∗ at_ c arg4 X4 ∗ at_ c arg5 X5 ∗ at_ c arg6 X6
        ∗ has_ c arg7 (On arg7 0 512 fun r q => Spec.grpCode (row3 arg1 arg2 arg3 arg4 arg5 arg6 X1 X2 X3 X4 X5 X6 r) q)
        ∗ has_ c arg8 (On arg8 0 512 fun r q => Spec.grpScale (row3 arg1 arg2 arg3 arg4 arg5 arg6 X1 X2 X3 X4 X5 X6 r) q)
        ∗ has_ c arg9 (On arg9 0 512 fun r j => Spec.rowCode (nrm arg1 arg5 arg6 X1 X5 X6 r) j)
        ∗ has_ c arg10 (Scl arg10 (i 0).val 512 (fun r => Spec.rowScale (nrm arg1 arg5 arg6 X1 X5 X6 r)) F10)
        ∗ has_ c arg11 (On arg11 0 512 fun r j => Spec.rowCode (row1 arg1 arg2 arg3 arg4 arg5 arg6 X1 X2 X3 X4 X5 X6 r) j)
        ∗ has_ c arg12 (Scl arg12 (i 0).val 512 (fun r => Spec.rowScale (row1 arg1 arg2 arg3 arg4 arg5 arg6 X1 X2 X3 X4 X5 X6 r)) F12)
        ∗ has_ c arg13 (On arg13 0 512 fun r j => Spec.rowCode (row2 arg1 arg2 arg3 arg4 arg5 arg6 X1 X2 X3 X4 X5 X6 r) j)
        ∗ has_ c arg14 (Scl arg14 (i 0).val 512 (fun r => Spec.rowScale (row2 arg1 arg2 arg3 arg4 arg5 arg6 X1 X2 X3 X4 X5 X6 r)) F14)
        ∗ any_ c arg15 ∗ any_ c arg16 ∗ any_ c arg17 ∗ any_ c arg18 ∗ any_ c arg19)) := by
  rw [cc0_dcn_cross_eq_skeleton]; unfold cc0_dcn_cross_skel
  iintro ⟨H1, H2, H3, H4, H5, H6, ⟨%f7, H7⟩, ⟨%f8, H8⟩, ⟨%f9, H9⟩, H10, ⟨%f11, H11⟩, H12, ⟨%f13, H13⟩, H14, ⟨%f15, H15⟩, ⟨%f16, H16⟩, ⟨%f17, H17⟩, ⟨%f18, H18⟩, ⟨%f19, H19⟩⟩
  sl_exec
  -- the normalised rows
  sl_for (I1 c arg1 arg5 arg6 arg9 arg10 arg15 arg17 arg18 (i 0).val X1 X5 X6 F10) $$ [H1 H5 H6 H15 H17 H9 H18 H10]
  case region =>
    intro k a
    exact (L1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ (half_eq i) X1 X5 X6 F10).step k a
  · unfold I1
    isplitl [H1]; · iexact H1
    isplitl [H5]; · iexact H5
    isplitl [H6]; · iexact H6
    isplitl [H15]
    · iexists _
      isplitr
      swap
      · iexact H15
      ipureintro
      exact On.nil
    isplitl [H17]
    · iexists _; iexact H17
    isplitl [H9]
    · iexists _
      isplitr
      swap
      · iexact H9
      ipureintro
      exact On.nil
    isplitl [H18]
    · iexists _
      isplitr
      swap
      · iexact H18
      ipureintro
      exact On.nil
    · iexists _
      isplitr
      swap
      · iexact H10
      ipureintro
      exact Scl.zero
  iintro %a HI
  unfold I1
  icases HI with ⟨H1, H5, H6, ⟨%g15, %i15, H15⟩, ⟨%g17, H17⟩, ⟨%g9, %i9, H9⟩, ⟨%g18, %i18, H18⟩, ⟨%g10, %i10, H10⟩⟩
  sl_exec
  -- the first layer
  sl_for (I4 c arg2 arg3 arg4 arg9 arg11 arg12 arg15 arg16 arg17 arg18 (i 0).val X2 X3 X4 (nrm arg1 arg5 arg6 X1 X5 X6) F12) $$ [H2 H3 H4 H15 H9 H18 H16 H17 H11 H12]
  case region =>
    intro k a
    exact (L4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ (half_eq i) X2 X3 X4 (nrm arg1 arg5 arg6 X1 X5 X6) F12).step k a
  · unfold I4
    isplitl [H2]; · iexact H2
    isplitl [H3]; · iexact H3
    isplitl [H4]; · iexact H4
    isplitl [H15]
    · iexists _
      isplitr
      swap
      · iexact H15
      ipureintro
      exact i15
    isplitl [H9]
    · iexists _
      isplitr
      swap
      · iexact H9
      ipureintro
      exact i9
    isplitl [H18]
    · iexists _
      isplitr
      swap
      · iexact H18
      ipureintro
      exact ⟨On.nil, i18⟩
    isplitl [H16]
    · iexists _
      isplitr
      swap
      · iexact H16
      ipureintro
      exact On.nil
    isplitl [H17]
    · iexists _; iexact H17
    isplitl [H11]
    · iexists _
      isplitr
      swap
      · iexact H11
      ipureintro
      exact On.nil
    · iexists _
      isplitr
      swap
      · iexact H12
      ipureintro
      exact Scl.zero
  iintro %a HI
  unfold I4
  icases HI with ⟨H2, H3, H4, ⟨%h15, %j15, H15⟩, ⟨%h9, %j9, H9⟩, ⟨%h18, %j18, H18⟩, ⟨%h16, %j16, H16⟩, ⟨%h17, H17⟩, ⟨%h11, %j11, H11⟩, ⟨%h12, %j12, H12⟩⟩
  sl_exec
  -- the second
  sl_for (I7 c arg2 arg3 arg4 arg11 arg13 arg14 arg15 arg16 arg17 arg18 (i 0).val X2 X3 X4 (nrm arg1 arg5 arg6 X1 X5 X6) (row1 arg1 arg2 arg3 arg4 arg5 arg6 X1 X2 X3 X4 X5 X6) F14) $$ [H2 H3 H4 H15 H11 H18 H16 H17 H13 H14]
  case region =>
    intro k a
    exact (L7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ (half_eq i) X2 X3 X4 (nrm arg1 arg5 arg6 X1 X5 X6) (row1 arg1 arg2 arg3 arg4 arg5 arg6 X1 X2 X3 X4 X5 X6) F14).step k a
  · unfold I7
    isplitl [H2]; · iexact H2
    isplitl [H3]; · iexact H3
    isplitl [H4]; · iexact H4
    isplitl [H15]
    · iexists _
      isplitr
      swap
      · iexact H15
      ipureintro
      exact j15
    isplitl [H11]
    · iexists _
      isplitr
      swap
      · iexact H11
      ipureintro
      exact j11
    isplitl [H18]
    · iexists _
      isplitr
      swap
      · iexact H18
      ipureintro
      exact ⟨On.nil, j18.1⟩
    isplitl [H16]
    · iexists _
      isplitr
      swap
      · iexact H16
      ipureintro
      exact ⟨On.nil, j16⟩
    isplitl [H17]
    · iexists _; iexact H17
    isplitl [H13]
    · iexists _
      isplitr
      swap
      · iexact H13
      ipureintro
      exact On.nil
    · iexists _
      isplitr
      swap
      · iexact H14
      ipureintro
      exact Scl.zero
  iintro %a HI
  unfold I7
  icases HI with ⟨H2, H3, H4, ⟨%k15, %l15, H15⟩, ⟨%k11, %l11, H11⟩, ⟨%k18, %l18, H18⟩, ⟨%k16, %l16, H16⟩, ⟨%k17, H17⟩, ⟨%k13, %l13, H13⟩, ⟨%k14, %l14, H14⟩⟩
  sl_exec
  -- the last, and the output's groups
  sl_for (I10 c arg2 arg3 arg4 arg7 arg8 arg13 arg15 arg16 arg18 arg19 X2 X3 X4 (nrm arg1 arg5 arg6 X1 X5 X6) (row2 arg1 arg2 arg3 arg4 arg5 arg6 X1 X2 X3 X4 X5 X6)) $$ [H2 H3 H4 H15 H13 H18 H16 H19 H8 H7]
  case region =>
    intro k a
    exact (L10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X2 X3 X4 (nrm arg1 arg5 arg6 X1 X5 X6) (row2 arg1 arg2 arg3 arg4 arg5 arg6 X1 X2 X3 X4 X5 X6)).step k a
  · unfold I10
    isplitl [H2]; · iexact H2
    isplitl [H3]; · iexact H3
    isplitl [H4]; · iexact H4
    isplitl [H15]
    · iexists _
      isplitr
      swap
      · iexact H15
      ipureintro
      exact l15
    isplitl [H13]
    · iexists _
      isplitr
      swap
      · iexact H13
      ipureintro
      exact l13
    isplitl [H18]
    · iexists _
      isplitr
      swap
      · iexact H18
      ipureintro
      exact l18.1
    isplitl [H16]
    · iexists _
      isplitr
      swap
      · iexact H16
      ipureintro
      exact l16.1
    isplitl [H19]
    · iexists _; iexact H19
    isplitl [H8]
    · iexists _
      isplitr
      swap
      · iexact H8
      ipureintro
      exact On.nil
    · iexists _
      isplitr
      swap
      · iexact H7
      ipureintro
      exact On.nil
  iintro %a HI
  unfold I10
  icases HI with ⟨H2, H3, H4, ⟨%m15, %n15, H15⟩, ⟨%m13, %n13, H13⟩, ⟨%m18, %n18, H18⟩, ⟨%m16, %n16, H16⟩, ⟨%m19, H19⟩, ⟨%m8, %n8, H8⟩, ⟨%m7, %n7, H7⟩⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]
  · iexists _
    isplitr
    swap
    · iexact H7
    ipureintro
    exact n7
  isplitl [H8]
  · iexists _
    isplitr
    swap
    · iexact H8
    ipureintro
    exact n8
  isplitl [H9]
  · iexists _
    isplitr
    swap
    · iexact H9
    ipureintro
    exact j9
  isplitl [H10]
  · iexists _
    isplitr
    swap
    · iexact H10
    ipureintro
    exact i10
  isplitl [H11]
  · iexists _
    isplitr
    swap
    · iexact H11
    ipureintro
    exact l11
  isplitl [H12]
  · iexists _
    isplitr
    swap
    · iexact H12
    ipureintro
    exact j12
  isplitl [H13]
  · iexists _
    isplitr
    swap
    · iexact H13
    ipureintro
    exact n13
  isplitl [H14]
  · iexists _
    isplitr
    swap
    · iexact H14
    ipureintro
    exact l14
  isplitl [H15]; · iexists _; iexact H15
  isplitl [H16]; · iexists _; iexact H16
  isplitl [H17]; · iexists _; iexact H17
  isplitl [H18]; · iexists _; iexact H18
  iexists _; iexact H19

end Cert.Proof.Val
-- ==== Proof.Net.lean ====
/-
  The whole network row by row: of the six operands as arrays, the normalised row and the three layers' rows, and the eight results
  as arrays of the row quantities of Spec.lean.
-/
module

public import proofs.«01_k».proof.Proof.Region
public import proofs.«01_k».proof.Proof.Spec

@[expose] public section

noncomputable section

namespace Cert.Proof.Val

open Idealize.ShloMosaic Idealize.ShloMosaic.TcCoe Idealize.ShloMosaic.Tactic

variable {e : EltTy} {n0 n1 n2 : ℕ}

/-- An array of two axes at natural-number coordinates. -/
def at2 (A : (⟨2, ![n0, n1]⟩ : Shape).Idx → Elt Ideal e) (r j : ℕ) : Elt Ideal e :=
  if h : r < n0 ∧ j < n1 then A (ix2 ⟨r, h.1⟩ ⟨j, h.2⟩) else Classical.arbitrary _

/-- An array of three. -/
def at3 (A : (⟨3, ![n0, n1, n2]⟩ : Shape).Idx → Elt Ideal e) (a r j : ℕ) : Elt Ideal e :=
  if h : a < n0 ∧ r < n1 ∧ j < n2 then A (ix3 ⟨a, h.1⟩ ⟨r, h.2.1⟩ ⟨j, h.2.2⟩) else Classical.arbitrary _

theorem at2_of_lt (A : (⟨2, ![n0, n1]⟩ : Shape).Idx → Elt Ideal e) {r j : ℕ} (hr : r < n0) (hj : j < n1) :
    at2 A r j = A (ix2 ⟨r, hr⟩ ⟨j, hj⟩) := dif_pos ⟨hr, hj⟩

theorem at2_idx (A : (⟨2, ![n0, n1]⟩ : Shape).Idx → Elt Ideal e) (y : (⟨2, ![n0, n1]⟩ : Shape).Idx) :
    A y = at2 A (y 0).val (y 1).val := by
  rw [at2_of_lt A (y 0).isLt (y 1).isLt]
  exact congrArg A (eq_ix2 y)

theorem at3_idx (A : (⟨3, ![n0, n1, n2]⟩ : Shape).Idx → Elt Ideal e) (y : (⟨3, ![n0, n1, n2]⟩ : Shape).Idx) :
    A y = at3 A (y 0).val (y 1).val (y 2).val := by
  unfold at3
  rw [dif_pos ⟨(y 0).isLt, (y 1).isLt, (y 2).isLt⟩]
  exact congrArg A (eq_ix3 y)

/-- A row of a block of rows is that row of the array. -/
theorem at2_block {m0 : ℕ} (A : (⟨2, ![n0, n1]⟩ : Shape).Idx → Elt Ideal e) (B : (⟨2, ![m0, n1]⟩ : Shape).Idx → Elt Ideal e) (o r : ℕ)
    (hr : r < m0) (ho : o + r < n0) (h : ∀ y : (⟨2, ![m0, n1]⟩ : Shape).Idx, B y = at2 A (o + (y 0).val) (y 1).val) :
    at2 B r = at2 A (o + r) := by
  funext j
  by_cases hj : j < n1
  · rw [at2_of_lt B hr hj]; exact h _
  · unfold at2
    rw [dif_neg (fun q => hj q.2), dif_neg (fun q => hj q.2)]

/-- The operands. -/
structure Operands where
  x : (⟨2, ![24576, 2048]⟩ : Shape).Idx → Elt Ideal .bf16
  w : (⟨3, ![3, 2048, 2048]⟩ : Shape).Idx → Elt Ideal .fp8e4m3
  s : (⟨3, ![3, 1, 2048]⟩ : Shape).Idx → Elt Ideal .f32
  b : (⟨3, ![3, 1, 2048]⟩ : Shape).Idx → Elt Ideal .f32
  g : (⟨2, ![1, 2048]⟩ : Shape).Idx → Elt Ideal .f32
  o : (⟨2, ![1, 2048]⟩ : Shape).Idx → Elt Ideal .f32

variable (O : Operands)

/-- Row `R` normalised. -/
def Z0 (R : ℕ) : ℕ → EReal := Spec.norm (at2 O.x R) (at2 O.g 0) (at2 O.o 0)
/-- After the first layer. -/
def Z1 (R : ℕ) : ℕ → EReal := Spec.cross (at3 O.w 0) (at3 O.s 0 0) (at3 O.b 0 0) (Z0 O R) (Z0 O R)
/-- After the second. -/
def Z2 (R : ℕ) : ℕ → EReal := Spec.cross (at3 O.w 1) (at3 O.s 1 0) (at3 O.b 1 0) (Z0 O R) (Z1 O R)
/-- After the last. -/
def Z3 (R : ℕ) : ℕ → EReal := Spec.cross (at3 O.w 2) (at3 O.s 2 0) (at3 O.b 2 0) (Z0 O R) (Z2 O R)

/-- A result that holds the codes of every row. -/
def codes (Z : ℕ → ℕ → EReal) (i : (⟨2, ![24576, 2048]⟩ : Shape).Idx) : EReal := Spec.rowCode (Z (i 0).val) (i 1).val
/-- A result that holds the scale of every row, 1024 rows to a line. -/
def scales (Z : ℕ → ℕ → EReal) (i : (⟨2, ![24, 1024]⟩ : Shape).Idx) : EReal := Spec.rowScale (Z (1024 * (i 0).val + (i 1).val))
/-- The codes of the output's groups. -/
def outCodes (Z : ℕ → ℕ → EReal) (i : (⟨2, ![24576, 2048]⟩ : Shape).Idx) : EReal := Spec.grpCode (Z (i 0).val) (i 1).val
/-- The scales of the output's groups. -/
def outScales (Z : ℕ → ℕ → EReal) (i : (⟨2, ![24576, 32]⟩ : Shape).Idx) : EReal := Spec.grpScale (Z (i 0).val) (i 1).val

end Cert.Proof.Val
-- ==== Proof.Finds.lean ====
/-
  What the pipeline hands the kernel's body at a step: of an operand, a block of the operand's array; and what is left, at the end, of
  the results written a half line at a time.
-/
module

public import proofs.«01_k».proof.Proof.Body
public import proofs.«01_k».proof.Proof.Net
public import proofs.«01_k».proof.Proof.Gen.KernelIdeal.Points
public import Idealize.ShloMosaic.Lib.Pipeline.ArrRel

@[expose] public section

set_option maxRecDepth 16384

noncomputable section

namespace Cert.Proof.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable (m : (ℓ : Loc nD τ sig) → Buf (Elt Ideal) ℓ) (c : Dev nD)

/-- The operands as the launch finds them. -/
def ops : Operands where
  x := V m c main_v0
  w := V m c main_arg1
  s := V m c main_v1
  b := V m c main_v2
  g := V m c main_v3
  o := V m c main_v4

/-- One step sets its half line of a result to scales of the rows `Z`. -/
def half (Z : ℕ → ℕ → EReal) (t : ℕ) (Y X : S24x1024.Idx → EReal) : Prop :=
  ∀ y : S24x1024.Idx, X y = if (y 0).val = t / 2 ∧ 512 * (t % 2) ≤ (y 1).val ∧ (y 1).val < 512 * (t % 2) + 512
    then Spec.rowScale (Z (1024 * (y 0).val + (y 1).val)) else Y y

/-- What the body leaves in each window at step `t`: an operand as it was; of the results written block by block, the block; of the
    others the step's half line and the rest as it was. -/
def leavesAt (O : Operands) : (w : Fin 14) → Fin cfg0.N → (Y X : (cfg0.win w).block.Idx → Elt Ideal (cfg0.win w).elt) → Prop
  | 0 => fun _ Y X => X = Y
  | 1 => fun _ Y X => X = Y
  | 2 => fun _ Y X => X = Y
  | 3 => fun _ Y X => X = Y
  | 4 => fun _ Y X => X = Y
  | 5 => fun _ Y X => X = Y
  | 6 => fun t _ (X : S512x2048.Idx → EReal) => ∀ y : S512x2048.Idx, X y = Spec.grpCode (Z3 O (512 * t.val + (y 0).val)) (y 1).val
  | 7 => fun t _ (X : S512x32.Idx → EReal) => ∀ y : S512x32.Idx, X y = Spec.grpScale (Z3 O (512 * t.val + (y 0).val)) (y 1).val
  | 8 => fun t _ (X : S512x2048.Idx → EReal) => ∀ y : S512x2048.Idx, X y = Spec.rowCode (Z0 O (512 * t.val + (y 0).val)) (y 1).val
  | 9 => fun t Y X => half (Z0 O) t.val Y X
  | 10 => fun t _ (X : S512x2048.Idx → EReal) => ∀ y : S512x2048.Idx, X y = Spec.rowCode (Z1 O (512 * t.val + (y 0).val)) (y 1).val
  | 11 => fun t Y X => half (Z1 O) t.val Y X
  | 12 => fun t _ (X : S512x2048.Idx → EReal) => ∀ y : S512x2048.Idx, X y = Spec.rowCode (Z2 O (512 * t.val + (y 0).val)) (y 1).val
  | 13 => fun t Y X => half (Z2 O) t.val Y X
  | ⟨_ + 14, h⟩ => absurd h (by omega)

/-- What the launch is told of the body. -/
def vdat : Pipeline.RDat τ (Elt Ideal) Unit ℕ (UR sig nD τ) ℕ cfg0 c where
  A w := V m c (Pipeline.arrRef spec0 w)
  after := leavesAt (ops m c)
  Φ _ := Pipeline.ΦA cfg0.spec c
  q _ := fullShare
  owed _ := 0

section
variable {cfg : Pipeline.Cfg sig Λ₀} {c' : Dev nD} (d : Pipeline.RDat τ (Elt Ideal) Unit ℕ (UR sig nD τ) ℕ cfg c')

/-- A window the body leaves as it found it, fetched at the first step and never written back, holds what some fetch brought. -/
theorem finds_kept (w : Fin cfg.W) (hk : ∀ t Y X, d.after w t Y X → X = Y) (hf : ∀ t, (cfg.win w).flush t = false)
    (h0 : ∀ t : Fin cfg.N, t.val = 0 → (cfg.win w).fetch t = true) :
    ∀ (n : ℕ) (t : Fin cfg.N), t.val = n → ∀ X, d.Finds w t X → ∃ t₀ D, X = d.fetched w t₀ D := by
  intro n
  induction n with
  | zero => exact fun t ht X hX => ⟨t, (d.finds_of_fetch (h0 t ht) X).mp hX⟩
  | succ n ih =>
    intro t ht X hX
    by_cases h : (cfg.win w).fetch t = true
    · exact ⟨t, (d.finds_of_fetch h X).mp hX⟩
    · rw [d.finds_of_pos (by simpa using h) (by omega), hf] at hX
      obtain ⟨Y, hY, hX⟩ := hX.resolve_left Bool.false_ne_true
      obtain rfl := hk _ _ _ hX
      exact ih _ (by show t.val - 1 = n; omega) _ hY

end

theorem coord0 : ∀ t : Fin grid0.N, (grid0.coords t 0).val = t.val := by decide +kernel

theorem flush0_in (w : Fin 14) (h : (cfg0.win w).isOut = false) (t : Fin cfg0.N) : (cfg0.win w).flush t = false := by
  unfold Pipeline.Window.flush; rw [h]; rfl

theorem kept (w : Fin 14) (h : w.val < 6) (t Y X) : (vdat m c).after w t Y X → X = Y := by
  intro H
  match w, h with
  | 0, _ => exact H
  | 1, _ => exact H
  | 2, _ => exact H
  | 3, _ => exact H
  | 4, _ => exact H
  | 5, _ => exact H

/-- The rows the body is handed. -/
theorem finds0 (t : Fin cfg0.N) (X : S512x2048.Idx → EReal) (h : (vdat m c).Finds 0 t X) (y : S512x2048.Idx) :
    X y = at2 (ops m c).x (512 * t.val + (y 0).val) (y 1).val := by
  obtain ⟨D, rfl⟩ := ((vdat m c).finds_of_fetch (fetch0_0 t) X).mp h
  have e : (vdat m c).fetched 0 t D y = V m c main_v0 (((cfg0.win 0).blk t).view.emb y) := rfl
  rw [e]
  refine (at2_idx (n0 := 24576) (n1 := 2048) (e := .bf16) _ _).trans ?_
  have h0 : ((((cfg0.win 0).blk t).view.emb y) 0).val = 512 * t.val + (y 0).val := by
    have := coord0 t
    show (BitVec.ofNat 32 (grid0.coords t 0).val).toNat * 512 + 1 * (y 0).val = _
    rw [this, BitVec.toNat_ofNat, Nat.mod_eq_of_lt (by have := t.isLt; have e := N_0; omega)]
    omega
  have h1 : ((((cfg0.win 0).blk t).view.emb y) 1).val = (y 1).val := by
    show (0#32).toNat * 2048 + 1 * (y 1).val = _
    simp
  exact congrArg₂ (at2 (ops m c).x) h0 h1

theorem finds1 (t : Fin cfg0.N) (X : S3x2048x2048.Idx → EReal) (h : (vdat m c).Finds 1 t X) : X = (ops m c).w := by
  obtain ⟨t₀, D, rfl⟩ := finds_kept (vdat m c) 1 (kept m c 1 (by decide)) (flush0_in 1 rfl) (fun t h => (fetch0_1 t).mpr (by omega)) _ t rfl X h
  funext y
  refine (show (vdat m c).fetched 1 t₀ D y = V m c main_arg1 (((cfg0.win 1).blk t₀).view.emb y) from rfl).trans (congrArg _ ?_)
  funext a
  apply Fin.ext
  match a with
  | 0 => show (0#32).toNat * _ + 1 * (y 0).val = _; simp
  | 1 => show (0#32).toNat * _ + 1 * (y 1).val = _; simp
  | 2 => show (0#32).toNat * _ + 1 * (y 2).val = _; simp

/-- The three axes of an operand taken whole. -/
theorem finds2 (t : Fin cfg0.N) (X : S3x1x2048.Idx → EReal) (h : (vdat m c).Finds 2 t X) : X = (ops m c).s := by
  obtain ⟨t₀, D, rfl⟩ := finds_kept (vdat m c) 2 (kept m c 2 (by decide)) (flush0_in 2 rfl) (fun t h => (fetch0_2 t).mpr (by omega)) _ t rfl X h
  funext y
  refine (show (vdat m c).fetched 2 t₀ D y = V m c main_v1 (((cfg0.win 2).blk t₀).view.emb y) from rfl).trans (congrArg _ ?_)
  funext a
  apply Fin.ext
  match a with
  | 0 => show (0#32).toNat * _ + 1 * (y 0).val = _; simp
  | 1 => show (0#32).toNat * _ + 1 * (y 1).val = _; simp
  | 2 => show (0#32).toNat * _ + 1 * (y 2).val = _; simp

theorem finds3 (t : Fin cfg0.N) (X : S3x1x2048.Idx → EReal) (h : (vdat m c).Finds 3 t X) : X = (ops m c).b := by
  obtain ⟨t₀, D, rfl⟩ := finds_kept (vdat m c) 3 (kept m c 3 (by decide)) (flush0_in 3 rfl) (fun t h => (fetch0_3 t).mpr (by omega)) _ t rfl X h
  funext y
  refine (show (vdat m c).fetched 3 t₀ D y = V m c main_v2 (((cfg0.win 3).blk t₀).view.emb y) from rfl).trans (congrArg _ ?_)
  funext a
  apply Fin.ext
  match a with
  | 0 => show (0#32).toNat * _ + 1 * (y 0).val = _; simp
  | 1 => show (0#32).toNat * _ + 1 * (y 1).val = _; simp
  | 2 => show (0#32).toNat * _ + 1 * (y 2).val = _; simp

theorem finds4 (t : Fin cfg0.N) (X : S1x2048.Idx → EReal) (h : (vdat m c).Finds 4 t X) : X = (ops m c).g := by
  obtain ⟨t₀, D, rfl⟩ := finds_kept (vdat m c) 4 (kept m c 4 (by decide)) (flush0_in 4 rfl) (fun t h => (fetch0_4 t).mpr (by omega)) _ t rfl X h
  funext y
  refine (show (vdat m c).fetched 4 t₀ D y = V m c main_v3 (((cfg0.win 4).blk t₀).view.emb y) from rfl).trans (congrArg _ ?_)
  funext a
  apply Fin.ext
  match a with
  | 0 => show (0#32).toNat * _ + 1 * (y 0).val = _; simp
  | 1 => show (0#32).toNat * _ + 1 * (y 1).val = _; simp

theorem finds5 (t : Fin cfg0.N) (X : S1x2048.Idx → EReal) (h : (vdat m c).Finds 5 t X) : X = (ops m c).o := by
  obtain ⟨t₀, D, rfl⟩ := finds_kept (vdat m c) 5 (kept m c 5 (by decide)) (flush0_in 5 rfl) (fun t h => (fetch0_5 t).mpr (by omega)) _ t rfl X h
  funext y
  refine (show (vdat m c).fetched 5 t₀ D y = V m c main_v4 (((cfg0.win 5).blk t₀).view.emb y) from rfl).trans (congrArg _ ?_)
  funext a
  apply Fin.ext
  match a with
  | 0 => show (0#32).toNat * _ + 1 * (y 0).val = _; simp
  | 1 => show (0#32).toNat * _ + 1 * (y 1).val = _; simp

section
variable {cfg : Pipeline.Cfg sig Λ₀} {c' : Dev nD} (d : Pipeline.RDat τ (Elt Ideal) Unit ℕ (UR sig nD τ) ℕ cfg c')

/-- A result never fetched and written back at the last step only: what every step adds to what it found, the last one leaves. -/
theorem leaves_fill (w : Fin cfg.W) (P : ℕ → ((cfg.win w).block.Idx → Elt Ideal (cfg.win w).elt) → Prop)
    (hs : ∀ t Y X, d.after w t Y X → (t.val = 0 ∨ P t.val Y) → P (t.val + 1) X)
    (hf : ∀ t, (cfg.win w).fetch t = false) (hl : ∀ t : Fin cfg.N, (cfg.win w).flush t = true → t.val + 1 = cfg.N) :
    ∀ (n : ℕ) (t : Fin cfg.N), t.val = n → ∀ X, d.Leaves w t X → P (t.val + 1) X := by
  intro n
  induction n with
  | zero => exact fun t ht X ⟨Y, _, hX⟩ => hs t Y X hX (.inl ht)
  | succ n ih =>
    intro t ht X ⟨Y, hY, hX⟩
    refine hs t Y X hX (.inr ?_)
    rw [d.finds_of_pos (hf t) (by omega)] at hY
    have hY := hY.resolve_left fun h => by have := hl _ h; have := t.isLt; dsimp only at *; omega
    have := ih ⟨t.val - 1, by have := t.isLt; omega⟩ (by show t.val - 1 = n; omega) Y hY
    rwa [show t.val - 1 + 1 = t.val by omega] at this

end

/-- The scales known after `n` steps. -/
def known (Z : ℕ → ℕ → EReal) (n : ℕ) (X : S24x1024.Idx → EReal) : Prop :=
  ∀ y : S24x1024.Idx, 1024 * (y 0).val + (y 1).val < 512 * n → X y = Spec.rowScale (Z (1024 * (y 0).val + (y 1).val))

theorem half_known {Z : ℕ → ℕ → EReal} {t : ℕ} {Y X : S24x1024.Idx → EReal} (h : half Z t Y X) (h' : t = 0 ∨ known Z t Y) : known Z (t + 1) X := by
  intro y hy
  rw [h y]
  split
  · rfl
  · next hn =>
    have h1 : (y 1).val < 1024 := (y 1).isLt
    have : t ≠ 0 ∧ 1024 * (y 0).val + (y 1).val < 512 * t := by
      by_contra hc
      apply hn
      omega
    exact (h'.resolve_left this.1) y this.2

theorem fetch0_out (w : Fin 14) (h : (cfg0.win w).isOut = true) (t : Fin cfg0.N) : (cfg0.win w).fetch t = false := by
  unfold Pipeline.Window.fetch; rw [h]; rfl

theorem full9 (t : Fin cfg0.N) (X : S24x1024.Idx → EReal) (h : (vdat m c).Leaves 9 t X) : known (Z0 (ops m c)) (t.val + 1) X :=
  leaves_fill (vdat m c) 9 (known (Z0 (ops m c))) (fun _ _ _ H H' => half_known H H') (fetch0_out 9 rfl)
    (fun t h => by have := (flush0_9 t).mp h; have := t.isLt; have e : cfg0.N = 48 := N_0; omega) _ t rfl X h

theorem full11 (t : Fin cfg0.N) (X : S24x1024.Idx → EReal) (h : (vdat m c).Leaves 11 t X) : known (Z1 (ops m c)) (t.val + 1) X :=
  leaves_fill (vdat m c) 11 (known (Z1 (ops m c))) (fun _ _ _ H H' => half_known H H') (fetch0_out 11 rfl)
    (fun t h => by have := (flush0_11 t).mp h; have := t.isLt; have e : cfg0.N = 48 := N_0; omega) _ t rfl X h

theorem full13 (t : Fin cfg0.N) (X : S24x1024.Idx → EReal) (h : (vdat m c).Leaves 13 t X) : known (Z2 (ops m c)) (t.val + 1) X :=
  leaves_fill (vdat m c) 13 (known (Z2 (ops m c))) (fun _ _ _ H H' => half_known H H') (fetch0_out 13 rfl)
    (fun t h => by have := (flush0_13 t).mp h; have := t.isLt; have e : cfg0.N = 48 := N_0; omega) _ t rfl X h

end Cert.Proof.Val
-- ==== Proof.Launch.lean ====
/-
  The launch of the whole kernel: every step meets what the launch is told of it, and what the eight results hold at the end.
-/
module

public import proofs.«01_k».proof.Proof.Finds
public import Idealize.ShloMosaic.Lib.Pipeline.Frame

@[expose] public section

set_option maxRecDepth 16384

noncomputable section

namespace Cert.Proof.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

section
variable {arg1 : Memref sig .tc .vmem S512x2048 .bf16} {arg2 : Memref sig .tc .vmem S3x2048x2048 .fp8e4m3} {arg3 arg4 : Memref sig .tc .vmem S3x1x2048 .f32}
  {arg5 arg6 : Memref sig .tc .vmem S1x2048 .f32}
  {X1 : BufTy.Contents (Elt Ideal) arg1.view.ty} {X2 : BufTy.Contents (Elt Ideal) arg2.view.ty} {X3 : BufTy.Contents (Elt Ideal) arg3.view.ty} {X4 : BufTy.Contents (Elt Ideal) arg4.view.ty}
  {X5 : BufTy.Contents (Elt Ideal) arg5.view.ty} {X6 : BufTy.Contents (Elt Ideal) arg6.view.ty} {O : Operands} {o : ℕ}

/-- Row `r` of a step whose block starts at row `o` is row `o + r` of the network: normalised, -/
theorem row0_eq (h1 : ∀ y, arg1.view.read (Elt Ideal) X1 y = at2 O.x (o + (y 0).val) (y 1).val) (h5 : arg5.view.read (Elt Ideal) X5 = O.g)
    (h6 : arg6.view.read (Elt Ideal) X6 = O.o) {r : ℕ} (hr : r < 512) (ho : o + r < 24576) : nrm arg1 arg5 arg6 X1 X5 X6 r = Z0 O (o + r) := by
  show (fun j => Spec.norm (at2 (e := .bf16) (arg1.view.read (Elt Ideal) X1) r) (at2 (e := .f32) (arg5.view.read (Elt Ideal) X5) 0) (at2 (e := .f32) (arg6.view.read (Elt Ideal) X6) 0) j) = _
  rw [h5, h6, at2_block O.x (arg1.view.read (Elt Ideal) X1) o r hr ho h1]
  rfl

/-- after the first layer, -/
theorem row1_eq (h2 : arg2.view.read (Elt Ideal) X2 = O.w) (h3 : arg3.view.read (Elt Ideal) X3 = O.s) (h4 : arg4.view.read (Elt Ideal) X4 = O.b)
    {r : ℕ} (h0 : nrm arg1 arg5 arg6 X1 X5 X6 r = Z0 O (o + r)) : row1 arg1 arg2 arg3 arg4 arg5 arg6 X1 X2 X3 X4 X5 X6 r = Z1 O (o + r) := by
  show (fun j => Spec.cross (at3 (e := .fp8e4m3) (arg2.view.read (Elt Ideal) X2) 0) (at3 (e := .f32) (arg3.view.read (Elt Ideal) X3) 0 0) (at3 (e := .f32) (arg4.view.read (Elt Ideal) X4) 0 0)
    (nrm arg1 arg5 arg6 X1 X5 X6 r) (nrm arg1 arg5 arg6 X1 X5 X6 r) j) = _
  rw [h2, h3, h4, h0]
  rfl

/-- after the second, -/
theorem row2_eq (h2 : arg2.view.read (Elt Ideal) X2 = O.w) (h3 : arg3.view.read (Elt Ideal) X3 = O.s) (h4 : arg4.view.read (Elt Ideal) X4 = O.b)
    {r : ℕ} (h0 : nrm arg1 arg5 arg6 X1 X5 X6 r = Z0 O (o + r)) : row2 arg1 arg2 arg3 arg4 arg5 arg6 X1 X2 X3 X4 X5 X6 r = Z2 O (o + r) := by
  show (fun j => Spec.cross (at3 (e := .fp8e4m3) (arg2.view.read (Elt Ideal) X2) 1) (at3 (e := .f32) (arg3.view.read (Elt Ideal) X3) 1 0) (at3 (e := .f32) (arg4.view.read (Elt Ideal) X4) 1 0)
    (nrm arg1 arg5 arg6 X1 X5 X6 r) (row1 arg1 arg2 arg3 arg4 arg5 arg6 X1 X2 X3 X4 X5 X6 r) j) = _
  rw [row1_eq h2 h3 h4 h0, h2, h3, h4, h0]
  rfl

/-- after the last. -/
theorem row3_eq (h2 : arg2.view.read (Elt Ideal) X2 = O.w) (h3 : arg3.view.read (Elt Ideal) X3 = O.s) (h4 : arg4.view.read (Elt Ideal) X4 = O.b)
    {r : ℕ} (h0 : nrm arg1 arg5 arg6 X1 X5 X6 r = Z0 O (o + r)) : row3 arg1 arg2 arg3 arg4 arg5 arg6 X1 X2 X3 X4 X5 X6 r = Z3 O (o + r) := by
  show (fun j => Spec.cross (at3 (e := .fp8e4m3) (arg2.view.read (Elt Ideal) X2) 2) (at3 (e := .f32) (arg3.view.read (Elt Ideal) X3) 2 0) (at3 (e := .f32) (arg4.view.read (Elt Ideal) X4) 2 0)
    (nrm arg1 arg5 arg6 X1 X5 X6 r) (row2 arg1 arg2 arg3 arg4 arg5 arg6 X1 X2 X3 X4 X5 X6 r) j) = _
  rw [row2_eq h2 h3 h4 h0, h2, h3, h4, h0]
  rfl

end

/-- A block known row by row, as the function the launch is told. -/
theorem On.block {n1 : ℕ} {e : EltTy} {m : Memref sig .tc .vmem ⟨2, ![512, n1]⟩ e} {u v : ℕ → ℕ → Elt Ideal e} {f : BufTy.Contents (Elt Ideal) m.view.ty} {o : ℕ}
    (h : On m 0 512 u f) (hu : ∀ r, r < 512 → u r = v (o + r)) (y : (⟨2, ![512, n1]⟩ : Shape).Idx) :
    m.view.read (Elt Ideal) f y = v (o + (y 0).val) (y 1).val :=
  (rd_idx m.view f y).trans ((h _ _ (Nat.zero_le _) (y 0).isLt (y 1).isLt).trans (congrFun (hu _ (y 0).isLt) _))

/-- A half line known place by place, likewise. -/
theorem Scl.half {m : Memref sig .tc .vmem S24x1024 .f32} {t : ℕ} {u Z : ℕ → ℕ → EReal} {F f : BufTy.Contents (Elt Ideal) m.view.ty} {Y : S24x1024.Idx → EReal} {t' : ℕ}
    (h : Scl m t' 512 (fun r => Spec.rowScale (u r)) F f) (ht : t' = t) (hF : m.view.read (Elt Ideal) F = Y) (hu : ∀ r, r < 512 → u r = Z (512 * t + r)) :
    half Z t Y (m.view.read (Elt Ideal) f) := by
  subst ht
  intro y
  refine (rd_idx m.view f y).trans ((h _ _ (y 0).isLt (y 1).isLt).trans ?_)
  split
  · next hc =>
    show Spec.rowScale (u _) = _
    rw [hu _ (by omega)]
    congr 2
    omega
  · next hc =>
    rw [← hF]
    exact (rd_idx m.view F y).symm

variable (m : (ℓ : Loc nD τ sig) → Buf (Elt Ideal) ℓ) (ρ : Dev nD → PrngReg)

theorem defs₀_row (t : Fin cfg0.N) :
    defs₀ (F := Ideal) .tc cfg0.body (cfg0.bodyArgs t (cfg0.slots t)) = bodyAt0 t := by
  unfold defs₀; rw [Defs.onTc_tc]

set_option maxHeartbeats 1000000 in
theorem body_obligation (c : Dev nD) : (vdat m c).BodyObligation (defs₀ (F := Ideal)) Variants.none () Set.univ := by
  intro t Y hY
  have ht : t.val < 48 := t.isLt
  rw [defs₀_row, bigSep_W0, bigSep_W0]
  show iprop(Pipeline.ΦA cfg0.spec c ∗ _) ⊢ wp _ _ _ _ (fun _ => iprop(Pipeline.ΦA cfg0.spec c ∗ _))
  unfold Pipeline.ΦA
  rw [show Pipeline.scopedRest (Ix := Unit) (Name := ℕ) (U := UR sig nD τ) (Lvl := ℕ) (Val := Elt Ideal) cfg0.spec c = _ from scopedRest0_eq c]
  simp only [owns]
  iintro ⟨⟨⟨⟨%s0, S0⟩, ⟨%s1, S1⟩, ⟨%s2, S2⟩, ⟨%s3, S3⟩, ⟨%s4, S4⟩⟩, Hp⟩, Ho, ⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩⟩
  have e0 := fun y => (congrFun h0 y).trans (finds0 m c t (Y 0) (hY 0) y)
  have e1 := h1.trans (finds1 m c t (Y 1) (hY 1))
  have e2 := h2.trans (finds2 m c t (Y 2) (hY 2))
  have e3 := h3.trans (finds3 m c t (Y 3) (hY 3))
  have e4 := h4.trans (finds4 m c t (Y 4) (hY 4))
  have e5 := h5.trans (finds5 m c t (Y 5) (hY 5))
  have u0 : ∀ r, r < 512 → nrm _ _ _ f0 f4 f5 r = Z0 (ops m c) (512 * t.val + r) := fun r hr => row0_eq e0 e4 e5 hr (by omega)
  have u1 := fun r (hr : r < 512) => row1_eq e1 e2 e3 (u0 r hr)
  have u2 := fun r (hr : r < 512) => row2_eq e1 e2 e3 (u0 r hr)
  have u3 := fun r (hr : r < 512) => row3_eq e1 e2 e3 (u0 r hr)
  unfold bodyAt0
  iapply (wp_wand_r Idealize.ShloMosaic.frame (wpE (defs₀ (F := Ideal)) Variants.none (c : Thread nD τ) none) Set.univ)
  isplitl [H0 H1 H2 H3 H4 H5 H6 H7 H8 H9 H10 H11 H12 H13 S0 S1 S2 S3 S4]
  · iapply (body_run c _ _ _ _ _ _ _ _ _ _ _ _ _ _ _ _ _ _ _ _ _ _ _ _ _ _ _ _ _ _ _ _ _ _ _ _ _ _ _ f0 f1 f2 f3 f4 f5 f9 f11 f13)
    simp only [at_, any_, Memref.view_whole, View.set_whole]
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexact H9
    isplitl [H10]; · iexists _; iexact H10
    isplitl [H11]; · iexact H11
    isplitl [H12]; · iexists _; iexact H12
    isplitl [H13]; · iexact H13
    isplitl [S0]; · iexists _; iexact S0
    isplitl [S1]; · iexists _; iexact S1
    isplitl [S2]; · iexists _; iexact S2
    isplitl [S3]; · iexists _; iexact S3
    iexists _; iexact S4
  · simp only [at_, any_, has_, Memref.view_whole, View.set_whole]
    iintro %_ ⟨H0, H1, H2, H3, H4, H5, ⟨%g6, %p6, H6⟩, ⟨%g7, %p7, H7⟩, ⟨%g8, %p8, H8⟩, ⟨%g9, %p9, H9⟩, ⟨%g10, %p10, H10⟩, ⟨%g11, %p11, H11⟩, ⟨%g12, %p12, H12⟩, ⟨%g13, %p13, H13⟩, ⟨%r0, S0⟩, ⟨%r1, S1⟩, ⟨%r2, S2⟩, ⟨%r3, S3⟩, ⟨%r4, S4⟩⟩
    isplitl [Hp S0 S1 S2 S3 S4]
    · isplitr [Hp]; swap; · iexact Hp
      isplitl [S0]; · iexists _; iexact S0
      isplitl [S1]; · iexists _; iexact S1
      isplitl [S2]; · iexists _; iexact S2
      isplitl [S3]; · iexists _; iexact S3
      iexists _; iexact S4
    isplitl [Ho]; · iexact Ho
    isplitl [H0]
    · iexists (Y 0); isplitr; · (ipureintro; exact rfl)
      iexists f0; isplitr; · ipureintro; exact h0
      iexact H0
    isplitl [H1]
    · iexists (Y 1); isplitr; · (ipureintro; exact rfl)
      iexists f1; isplitr; · ipureintro; exact h1
      iexact H1
    isplitl [H2]
    · iexists (Y 2); isplitr; · (ipureintro; exact rfl)
      iexists f2; isplitr; · ipureintro; exact h2
      iexact H2
    isplitl [H3]
    · iexists (Y 3); isplitr; · (ipureintro; exact rfl)
      iexists f3; isplitr; · ipureintro; exact h3
      iexact H3
    isplitl [H4]
    · iexists (Y 4); isplitr; · (ipureintro; exact rfl)
      iexists f4; isplitr; · ipureintro; exact h4
      iexact H4
    isplitl [H5]
    · iexists (Y 5); isplitr; · (ipureintro; exact rfl)
      iexists f5; isplitr; · ipureintro; exact h5
      iexact H5
    isplitl [H6]
    · iexists (((cfg0.win 6).stage (cfg0.slots t 6)).view.read (Elt Ideal) g6); isplitr; · (ipureintro; exact On.block (v := fun R q => Spec.grpCode (Z3 (ops m c) R) q) p6 fun r hr => by funext q; rw [u3 r hr])
      iexists g6; isplitr; · ipureintro; rfl
      iexact H6
    isplitl [H7]
    · iexists (((cfg0.win 7).stage (cfg0.slots t 7)).view.read (Elt Ideal) g7); isplitr; · (ipureintro; exact On.block (v := fun R q => Spec.grpScale (Z3 (ops m c) R) q) p7 fun r hr => by funext q; rw [u3 r hr])
      iexists g7; isplitr; · ipureintro; rfl
      iexact H7
    isplitl [H8]
    · iexists (((cfg0.win 8).stage (cfg0.slots t 8)).view.read (Elt Ideal) g8); isplitr; · (ipureintro; exact On.block (v := fun R q => Spec.rowCode (Z0 (ops m c) R) q) p8 fun r hr => by funext q; rw [u0 r hr])
      iexists g8; isplitr; · ipureintro; rfl
      iexact H8
    isplitl [H9]
    · iexists (((cfg0.win 9).stage (cfg0.slots t 9)).view.read (Elt Ideal) g9); isplitr; · (ipureintro; exact Scl.half p9 (coord0 t) h9 u0)
      iexists g9; isplitr; · ipureintro; rfl
      iexact H9
    isplitl [H10]
    · iexists (((cfg0.win 10).stage (cfg0.slots t 10)).view.read (Elt Ideal) g10); isplitr; · (ipureintro; exact On.block (v := fun R q => Spec.rowCode (Z1 (ops m c) R) q) p10 fun r hr => by funext q; rw [u1 r hr])
      iexists g10; isplitr; · ipureintro; rfl
      iexact H10
    isplitl [H11]
    · iexists (((cfg0.win 11).stage (cfg0.slots t 11)).view.read (Elt Ideal) g11); isplitr; · (ipureintro; exact Scl.half p11 (coord0 t) h11 u1)
      iexists g11; isplitr; · ipureintro; rfl
      iexact H11
    isplitl [H12]
    · iexists (((cfg0.win 12).stage (cfg0.slots t 12)).view.read (Elt Ideal) g12); isplitr; · (ipureintro; exact On.block (v := fun R q => Spec.rowCode (Z2 (ops m c) R) q) p12 fun r hr => by funext q; rw [u2 r hr])
      iexists g12; isplitr; · ipureintro; rfl
      iexact H12
    iexists (((cfg0.win 13).stage (cfg0.slots t 13)).view.read (Elt Ideal) g13); isplitr; · (ipureintro; exact Scl.half p13 (coord0 t) h13 u2)
    iexists g13; isplitr; · ipureintro; rfl
    iexact H13

end Cert.Proof.Val
-- ==== Proof.Final.lean ====
/-
  What the whole kernel's eight results hold at the end of every run: each the array of a row quantity of the network.
-/
module

public import proofs.«01_k».proof.Proof.Launch

@[expose] public section

set_option maxRecDepth 16384

noncomputable section

namespace Cert.Proof.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable (m : (ℓ : Loc nD τ sig) → Buf (Elt Ideal) ℓ) (ρ : Dev nD → PrngReg) (c : Dev nD)
  (after : (w : Fin cfg0.W) → Fin cfg0.N → (cfg0.win w).block.Idx → Elt Ideal (cfg0.win w).elt)

/-- A block of rows at step `t` is block `t`. -/
theorem blk_row (t : Fin cfg0.N) : (BitVec.ofNat 32 (grid0.coords t 0).val).toNat = t.val := by
  have e : cfg0.N = 48 := N_0
  rw [coord0 t, BitVec.toNat_ofNat, Nat.mod_eq_of_lt (by have := t.isLt; omega)]

/-- Row `r` of block `t` of 512 rows is row `512 t + r`; -/
theorem row_at (t : Fin cfg0.N) (r : ℕ) : 512 * t.val + r = (BitVec.ofNat 32 (grid0.coords t 0).val).toNat * 512 + 1 * r := by
  rw [blk_row]; omega

/-- the columns are all of the array's. -/
theorem col_at (n j : ℕ) : j = (0#32).toNat * n + 1 * j := by simp

theorem out6 (h : ∀ t, (cfg0.win 6).flush t = true → (vdat m c).Leaves 6 t (after 6 t)) :
    ((vdat m c).withAfter after).arrAt 6 cfg0.N = outCodes (Z3 (ops m c)) := by
  refine Pipeline.Dat.arrAt_eq_of_covers ((vdat m c).withAfter after) 6 (outCodes (Z3 (ops m c))) (by decide +kernel) fun t ht y => ?_
  obtain ⟨Y, _, hX⟩ := h t ht
  exact (hX y).trans (congrArg₂ (fun r q => Spec.grpCode (Z3 (ops m c) r) q) (row_at t _) (col_at _ _))

theorem out7 (h : ∀ t, (cfg0.win 7).flush t = true → (vdat m c).Leaves 7 t (after 7 t)) :
    ((vdat m c).withAfter after).arrAt 7 cfg0.N = outScales (Z3 (ops m c)) := by
  refine Pipeline.Dat.arrAt_eq_of_covers ((vdat m c).withAfter after) 7 (outScales (Z3 (ops m c))) (by decide +kernel) fun t ht y => ?_
  obtain ⟨Y, _, hX⟩ := h t ht
  exact (hX y).trans (congrArg₂ (fun r q => Spec.grpScale (Z3 (ops m c) r) q) (row_at t _) (col_at _ _))

theorem out8 (h : ∀ t, (cfg0.win 8).flush t = true → (vdat m c).Leaves 8 t (after 8 t)) :
    ((vdat m c).withAfter after).arrAt 8 cfg0.N = codes (Z0 (ops m c)) := by
  refine Pipeline.Dat.arrAt_eq_of_covers ((vdat m c).withAfter after) 8 (codes (Z0 (ops m c))) (by decide +kernel) fun t ht y => ?_
  obtain ⟨Y, _, hX⟩ := h t ht
  exact (hX y).trans (congrArg₂ (fun r q => Spec.rowCode (Z0 (ops m c) r) q) (row_at t _) (col_at _ _))

theorem out9 (h : ∀ t, (cfg0.win 9).flush t = true → (vdat m c).Leaves 9 t (after 9 t)) :
    ((vdat m c).withAfter after).arrAt 9 cfg0.N = scales (Z0 (ops m c)) := by
  have hw : (cfg0.win 9).WholeAt ⟨47, by decide⟩ := by decide +kernel
  refine Pipeline.Dat.arrAt_eq_of_after_last ((vdat m c).withAfter after) 9 ⟨47, by decide⟩ hw (scales (Z0 (ops m c))) fun j => ?_
  have K := full9 m c _ _ (h _ hw.1)
  have h0 : (j 0).val < 24 := (j 0).isLt
  have h1 : (j 1).val < 1024 := (j 1).isLt
  exact K _ (by show 1024 * (j 0).val + (j 1).val < 512 * (47 + 1); omega)

theorem out10 (h : ∀ t, (cfg0.win 10).flush t = true → (vdat m c).Leaves 10 t (after 10 t)) :
    ((vdat m c).withAfter after).arrAt 10 cfg0.N = codes (Z1 (ops m c)) := by
  refine Pipeline.Dat.arrAt_eq_of_covers ((vdat m c).withAfter after) 10 (codes (Z1 (ops m c))) (by decide +kernel) fun t ht y => ?_
  obtain ⟨Y, _, hX⟩ := h t ht
  exact (hX y).trans (congrArg₂ (fun r q => Spec.rowCode (Z1 (ops m c) r) q) (row_at t _) (col_at _ _))

theorem out11 (h : ∀ t, (cfg0.win 11).flush t = true → (vdat m c).Leaves 11 t (after 11 t)) :
    ((vdat m c).withAfter after).arrAt 11 cfg0.N = scales (Z1 (ops m c)) := by
  have hw : (cfg0.win 11).WholeAt ⟨47, by decide⟩ := by decide +kernel
  refine Pipeline.Dat.arrAt_eq_of_after_last ((vdat m c).withAfter after) 11 ⟨47, by decide⟩ hw (scales (Z1 (ops m c))) fun j => ?_
  have K := full11 m c _ _ (h _ hw.1)
  have h0 : (j 0).val < 24 := (j 0).isLt
  have h1 : (j 1).val < 1024 := (j 1).isLt
  exact K _ (by show 1024 * (j 0).val + (j 1).val < 512 * (47 + 1); omega)

theorem out12 (h : ∀ t, (cfg0.win 12).flush t = true → (vdat m c).Leaves 12 t (after 12 t)) :
    ((vdat m c).withAfter after).arrAt 12 cfg0.N = codes (Z2 (ops m c)) := by
  refine Pipeline.Dat.arrAt_eq_of_covers ((vdat m c).withAfter after) 12 (codes (Z2 (ops m c))) (by decide +kernel) fun t ht y => ?_
  obtain ⟨Y, _, hX⟩ := h t ht
  exact (hX y).trans (congrArg₂ (fun r q => Spec.rowCode (Z2 (ops m c) r) q) (row_at t _) (col_at _ _))

theorem out13 (h : ∀ t, (cfg0.win 13).flush t = true → (vdat m c).Leaves 13 t (after 13 t)) :
    ((vdat m c).withAfter after).arrAt 13 cfg0.N = scales (Z2 (ops m c)) := by
  have hw : (cfg0.win 13).WholeAt ⟨47, by decide⟩ := by decide +kernel
  refine Pipeline.Dat.arrAt_eq_of_after_last ((vdat m c).withAfter after) 13 ⟨47, by decide⟩ hw (scales (Z2 (ops m c))) fun j => ?_
  have K := full13 m c _ _ (h _ hw.1)
  have h0 : (j 0).val < 24 := (j 0).isLt
  have h1 : (j 1).val < 1024 := (j 1).isLt
  exact K _ (by show 1024 * (j 0).val + (j 1).val < 512 * (47 + 1); omega)

set_option backward.isDefEq.respectTransparency.types false in
/-- Every run ends with the eight results these arrays and the arguments as they were. -/
theorem run : θ_run defs (onTc (τ := τ) (main (F := Ideal))) ⟨m, fun _ => 0, ρ⟩ (fun r => ∀ c : Dev nD,
      r.2.mem ((c.tc : Thread nD τ).loc main_v5_0) = outCodes (Z3 (ops m c))
      ∧ r.2.mem ((c.tc : Thread nD τ).loc main_v5_1) = outScales (Z3 (ops m c))
      ∧ r.2.mem ((c.tc : Thread nD τ).loc main_v5_2) = codes (Z0 (ops m c))
      ∧ r.2.mem ((c.tc : Thread nD τ).loc main_v5_3) = scales (Z0 (ops m c))
      ∧ r.2.mem ((c.tc : Thread nD τ).loc main_v5_4) = codes (Z1 (ops m c))
      ∧ r.2.mem ((c.tc : Thread nD τ).loc main_v5_5) = scales (Z1 (ops m c))
      ∧ r.2.mem ((c.tc : Thread nD τ).loc main_v5_6) = codes (Z2 (ops m c))
      ∧ r.2.mem ((c.tc : Thread nD τ).loc main_v5_7) = scales (Z2 (ops m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.RDat.θ_run_frame (Q' := _) cfgs (0 : Fin 1) launch0 defs₀ Variants.none (vdat m) m ρ main
    (hbody := body_obligation m) (hshare := fun c w => by show (if _ then _ else _) = _; split <;> rfl) (howed := fun _ _ => rfl) (V := V m)
    (hmain := hmain m Variants.none) (hA := fun _ _ => rfl) (hΦ := fun _ _ => rfl)
    (hQ' := fun r h c => by
      obtain ⟨after, hL, hG⟩ := Pipeline.RDat.FramePost.exists_exact h.1 c
      exact ⟨(hG 6).trans (out6 m c after (hL 6)), (hG 7).trans (out7 m c after (hL 7)), (hG 8).trans (out8 m c after (hL 8)), (hG 9).trans (out9 m c after (hL 9)), (hG 10).trans (out10 m c after (hL 10)), (hG 11).trans (out11 m c after (hL 11)), (hG 12).trans (out12 m c after (hL 12)), (hG 13).trans (out13 m c after (hL 13)),
        ((h.1 c).2 main_arg0 (Pipeline.mem_restRefs_of main_arg0 (by decide) (by decide))).trans (V_main_arg0 m c),
        (h.1.arr_in c 1 rfl).trans (V_main_arg1 m c),
        ((h.1 c).2 main_arg2 (Pipeline.mem_restRefs_of main_arg2 (by decide) (by decide))).trans (V_main_arg2 m c),
        ((h.1 c).2 main_arg3 (Pipeline.mem_restRefs_of main_arg3 (by decide) (by decide))).trans (V_main_arg3 m c),
        ((h.1 c).2 main_arg4 (Pipeline.mem_restRefs_of main_arg4 (by decide) (by decide))).trans (V_main_arg4 m c),
        ((h.1 c).2 main_arg5 (Pipeline.mem_restRefs_of main_arg5 (by decide) (by decide))).trans (V_main_arg5 m c)⟩)

end Cert.Proof.Val
-- ==== Proof.RefVec.lean ====
/-
  The plain computation on whole arrays: the steps it is made of, each as a function of whole arrays, and each read at an index.
-/
module

public import proofs.«01_k».proof.Proof.Net
public import proofs.«01_k».proof.Proof.Gen.ReferenceIdeal.Skeleton
public import Idealize.ShloMosaic.Lib.Exec.Context
public import Idealize.ShloMosaic.Lib.Pointwise

@[expose] public section

set_option maxRecDepth 16384

noncomputable section

namespace Cert.Proof.Ref

open Cert.ReferenceIdeal Cert.ReferenceIdeal.Gen
open Idealize.ShloMosaic Idealize.ShloMosaic.TcCoe Idealize.ShloMosaic.Tactic
open Idealize.SL.Sem
open Cert.Proof Cert.Proof.Val

/-! ### The search for the scale, from the largest power of two down -/

section
variable {s : Shape}

/-- The power of two of one try. -/
def vpow (k : ℕ) : FVec Ideal s .f32 :=
  exp2 (addf (broadcast s (Scalar.sitofp .f32 (Scalar.subi 125#32 (Scf.iv 0#32 1#32 k)))) (broadcast s (Scalar.ofBits .f32 0x00000000#32)))

/-- One try. -/
def vtry (p : FVec Ideal s .f32) (k : ℕ) (acc : FVec Ideal s .f32) : FVec Ideal s .f32 :=
  select (cmpf .olt p (vpow k)) (vpow k) acc

/-- All of them. -/
def vdown (p : FVec Ideal s .f32) : FVec Ideal s .f32 :=
  Scf.fold (n := k0_t1_loop.trips) (fun k acc => vtry p k.val acc) (broadcast s (Scalar.ofBits .f32 0x7E800000#32))

/-- The scale. -/
def vpick (p acc : FVec Ideal s .f32) : FVec Ideal s .f32 :=
  select (cmpf .oeq p (broadcast s (Scalar.ofBits .f32 0x00000000#32))) (broadcast s (Scalar.ofBits .f32 0x3F800000#32)) acc

/-- The integers tried. -/
theorem tries : ∀ k : Fin 252, (Scalar.subi 125#32 (Scf.iv 0#32 1#32 k.val)).toInt = 125 - (k.val : ℤ) := by decide +kernel

theorem pow_eq {k : ℕ} (h : k < 252) :
    Ideal.exp2 ((((Scalar.subi 125#32 (Scf.iv 0#32 1#32 k)).toInt : ℝ) : EReal)) = Scale.thr (252 - k) := by
  rw [tries ⟨k, h⟩, Ideal.exp2_coe, Scale.thr_eq (by omega) (by omega)]
  congr 1
  show (2 : ℝ) ^ (((125 - (k : ℤ) : ℤ) : ℝ)) = _
  rw [Real.rpow_intCast]
  congr 1
  push_cast [Nat.cast_sub (show k ≤ 252 by omega)]
  ring

theorem vpow_at {k : ℕ} (h : k < 252) (y : s.Idx) : vpow (s := s) k y = Scale.thr (252 - k) := by
  rw [← pow_eq h]
  unfold vpow
  pointwise
  rfl

theorem vtry_at (p : FVec Ideal s .f32) {k : ℕ} (h : k < 252) (acc : FVec Ideal s .f32) (y : s.Idx) :
    vtry p k acc y = if p y < Scale.thr (252 - k) then Scale.thr (252 - k) else acc y := by
  unfold vtry
  pointwise [vpow_at h]

theorem trips_eq : k0_t1_loop.trips = 252 := by decide +kernel

theorem fold_range {α : Type} (f : ℕ → α → α) (a : α) : ∀ n : ℕ, (List.finRange n).foldl (fun acc k => f k.val acc) a
    = (List.range n).foldl (fun acc k => f k acc) a := fun n => by
  rw [← List.map_coe_finRange_eq_range, List.foldl_map]

theorem vdown_at (p : FVec Ideal s .f32) (y : s.Idx) : vdown p y = Scale.down (p y) 252 := by
  have h : ∀ n, n ≤ 252 → ((List.range n).foldl (fun acc k => vtry p k acc)
      (broadcast s (Scalar.ofBits (F := Ideal) .f32 0x7E800000#32))) y = Scale.down (p y) n := by
    intro n
    induction n with
    | zero => intro _; rfl
    | succ n ih =>
      intro hn
      rw [List.range_succ, List.foldl_append, List.foldl_cons, List.foldl_nil, vtry_at p (by omega), ih (by omega)]
      rfl
  unfold vdown
  rw [Scf.fold_eq, fold_range (fun k acc => vtry p k acc), trips_eq]
  exact h 252 (le_refl _)

theorem vpick_at (p : FVec Ideal s .f32) (y : s.Idx) : vpick p (vdown p) y = Scale.scl (p y) := by
  rw [← Scale.down_end]
  unfold vpick
  pointwise [vdown_at]

end

/-! ### The largest magnitude -/

theorem bot_eq : Ideal.ofBits .f32 0xFF800000#32 = ⊥ := by
  unfold Ideal.ofBits Ideal.ieee
  simp

/-- The largest along the last axis of three. -/
theorem max_last {n a b : ℕ} (src : FVec Ideal ⟨3, ![n, a, b]⟩ .f32) (h : Shape.Reduces ⟨3, ![n, a, b]⟩ [2] ⟨2, ![n, a]⟩)
    (hφ : FKind.Formats .f32) (hacc : (0xFF800000#32 : BitVec 32) = FKind.maximumf.neutral .f32 hφ) (j : (⟨2, ![n, a]⟩ : Shape).Idx)
    (v : ℕ → EReal) (o : ℕ) (hv : ∀ k : Fin b, src (ix3 (j 0) (j 1) k) = max (v (o + k.val)) (-v (o + k.val))) :
    multiReduction .maximumf [2] ⟨2, ![n, a]⟩ src 0xFF800000#32 h hφ hacc j = Spec.amax v o b := by
  rw [Ideal.multiReduction_maximumf_single]
  have e : (src ∘ h.lift j) = fun k : Fin b => max (v (o + k.val)) (-v (o + k.val)) := by
    funext k
    rw [← hv k]
    refine congrArg src (funext fun x => ?_)
    fin_cases x <;> rfl
  rw [e]
  show (Finset.univ : Finset (Fin b)).fold max (Ideal.ofBits .f32 0xFF800000#32) (fun k => max (v (o + k.val)) (-v (o + k.val))) = _
  rw [bot_eq]
  refine eq_of_forall_ge_iff fun t => ?_
  rw [Finset.fold_max_le]
  simp only [Spec.amax, Finset.sup_le_iff, Finset.mem_range, Finset.mem_univ, bot_le, true_and, true_implies]
  exact ⟨fun q j hj => q ⟨j, hj⟩, fun q k => q k.val k.isLt⟩

end Cert.Proof.Ref
-- ==== Proof.RefRows.lean ====
/-
  The plain computation's quantities, read row by row: layer normalisation, a row's scale and codes, one cross layer, the groups'
  scales and codes.
-/
module

public import proofs.«01_k».proof.Proof.RefVec

@[expose] public section

set_option maxRecDepth 16384

noncomputable section

namespace Cert.Proof.Ref

open Cert.ReferenceIdeal Cert.ReferenceIdeal.Gen
open Idealize.ShloMosaic Idealize.ShloMosaic.TcCoe Idealize.ShloMosaic.Tactic
open Idealize.SL.Sem
open Cert.Proof Cert.Proof.Val

/-- The rows of an array are `z`. -/
def Rows (Z : FVec Ideal S24576x2048 .f32) (z : ℕ → ℕ → EReal) : Prop := ∀ y, Z y = z (y 0).val (y 1).val

/-! ### A row's scale and codes -/

/-- A row as one group. -/
def vflat (Z : FVec Ideal S24576x2048 .f32) : FVec Ideal S24576x1x2048 .f32 :=
  shapeCast S24576x1x2048 Z shapeCasts_S24576x2048_S24576x1x2048

theorem vflat_at {Z : FVec Ideal S24576x2048 .f32} {z : ℕ → ℕ → EReal} (h : Rows Z z) (y : S24576x1x2048.Idx) :
    vflat Z y = z (y 0).val (y 2).val := by
  have e : vflat Z y = Z (ix2 (y 0) (y 2)) := by unfold vflat; pointwise
  rw [e, h]
  rfl

/-- The largest magnitude. -/
def vmax (G : FVec Ideal S24576x1x2048 .f32) : FVec Ideal S24576x1 .f32 :=
  multiReduction .maximumf [2] S24576x1 (absf G) 0xFF800000#32 reduces_S24576x1x2048_S24576x1 (.inl rfl) rfl

theorem vmax_at {G : FVec Ideal S24576x1x2048 .f32} {z : ℕ → ℕ → EReal} (hG : ∀ y, G y = z (y 0).val (y 2).val)
    (y : S24576x1.Idx) : vmax G y = Spec.amax (z (y 0).val) 0 2048 := by
  have hv : ∀ k : Fin 2048, absf G (ix3 (y 0) (y 1) k) = max (z (y 0).val (0 + k.val)) (-z (y 0).val (0 + k.val)) := by
    intro k
    have e := hG (ix3 (y 0) (y 1) k)
    rw [Nat.zero_add, absf_apply, e]
    rfl
  exact max_last (n := 24576) (a := 1) (b := 2048) (absf G) reduces_S24576x1x2048_S24576x1 (.inl rfl) rfl y (z (y 0).val) (0) hv

/-- The largest magnitude over 448. -/
def vpar (G : FVec Ideal S24576x1x2048 .f32) : FVec Ideal S24576x1 .f32 :=
  mulf (vmax G) (broadcast S24576x1 (Scalar.ofBits .f32 0x3B124925#32))

theorem vpar_of {G : FVec Ideal S24576x1x2048 .f32} {z : ℕ → ℕ → EReal} (hG : ∀ y, G y = z (y 0).val (y 2).val)
    (y : S24576x1.Idx) : vpar G y = Spec.par (Spec.amax (z (y 0).val) 0 2048) := by
  unfold vpar
  rw [mulf_apply, vmax_at hG]
  rfl

theorem vpar_at {Z : FVec Ideal S24576x2048 .f32} {z : ℕ → ℕ → EReal} (h : Rows Z z) (y : S24576x1.Idx) :
    vpar (vflat Z) y = Spec.par (Spec.amax (z (y 0).val) 0 2048) := vpar_of (vflat_at h) y

/-- The scale. -/
def vscale (Z : FVec Ideal S24576x2048 .f32) : FVec Ideal S24576x1 .f32 := vpick (vpar (vflat Z)) (vdown (vpar (vflat Z)))

theorem vscale_at {Z : FVec Ideal S24576x2048 .f32} {z : ℕ → ℕ → EReal} (h : Rows Z z) (y : S24576x1.Idx) :
    vscale Z y = Spec.rowScale (z (y 0).val) := by
  unfold vscale Spec.rowScale
  rw [vpick_at, vpar_at h]

/-- The codes from a scale. -/
def vcodes (Z' : FVec Ideal S24576x1x2048 .f32) (s : FVec Ideal S24576x1 .f32) : FVec Ideal S24576x2048 .fp8e4m3 :=
  shapeCast S24576x2048 (truncf .fp8e4m3 (minimumf (broadcast S24576x1x2048 (Scalar.ofBits .f32 0x43E00000#32))
    (maximumf (broadcast S24576x1x2048 (Scalar.ofBits .f32 0xC3E00000#32)) (mulf Z' (broadcastTo S24576x1x2048
      (shapeCast S24576x1x1 (divf (broadcast S24576x1 (Scalar.ofBits .f32 0x3F800000#32)) s) shapeCasts_S24576x1_S24576x1x1)
      broadcasts_S24576x1x1_S24576x1x2048)))) bitsLt_fp8e4m3_f32) shapeCasts_S24576x1x2048_S24576x2048

theorem vcodes_eq (Z' : FVec Ideal S24576x1x2048 .f32) (s : FVec Ideal S24576x1 .f32) (y : S24576x2048.Idx) :
    vcodes Z' s y = Spec.clip (Z' (ix3 (y 0) 0 (y 1)) * Ideal.div 1 (s (ix2 (y 0) 0))) := by
  unfold vcodes Spec.clip
  pointwise

theorem vcodes_at {Z : FVec Ideal S24576x2048 .f32} {z : ℕ → ℕ → EReal} (h : Rows Z z) (y : S24576x2048.Idx) :
    vcodes (vflat Z) (vscale Z) y = Spec.rowCode (z (y 0).val) (y 1).val := by
  rw [vcodes_eq, vflat_at h, vscale_at h]
  unfold Spec.rowScale
  rw [Scale.div_scl]
  rfl

/-! ### One cross layer -/

def vcross (Z0 Z : FVec Ideal S24576x2048 .f32) (q : FVec Ideal S24576x2048 .fp8e4m3) (s : FVec Ideal S24576x1 .f32)
    (W : Vec Ideal S1x2048x2048 .fp8e4m3) (ws b : Vec Ideal S1x1x2048 .f32) : FVec Ideal S24576x2048 .f32 :=
  addf (mulf Z0 (addf (mulf (mulf (matmul dot_S24576x2048_S2048x2048_S24576x2048_1_0_0_1_n_n none q
      (shapeCast S2048x2048 W shapeCasts_S1x2048x2048_S2048x2048 : FVec Ideal S2048x2048 .fp8e4m3) (constant S24576x2048 .f32 0x00000000#32))
    (broadcastTo S24576x2048 s broadcasts_S24576x1_S24576x2048))
    (broadcastTo S24576x2048 (shapeCast S1x2048 ws shapeCasts_S1x1x2048_S1x2048) broadcasts_S1x2048_S24576x2048))
    (broadcastTo S24576x2048 (shapeCast S1x2048 b shapeCasts_S1x1x2048_S1x2048) broadcasts_S1x2048_S24576x2048))) Z

theorem vcross_eq (Z0 Z : FVec Ideal S24576x2048 .f32) (q : FVec Ideal S24576x2048 .fp8e4m3) (s : FVec Ideal S24576x1 .f32)
    (W : Vec Ideal S1x2048x2048 .fp8e4m3) (ws b : Vec Ideal S1x1x2048 .f32) (y : S24576x2048.Idx) : vcross Z0 Z q s W ws b y
      = Z0 y * ((∑ x : Fin 2048, q (ix2 (y 0) x) * W (ix3 0 x (y 1))) * s (ix2 (y 0) 0) * ws (ix3 0 0 (y 1)) + b (ix3 0 0 (y 1)))
        + Z y := by
  unfold vcross
  pointwise

/-- The layer from the row before it. -/
def vlayer (Z0 Z : FVec Ideal S24576x2048 .f32) (W : Vec Ideal S1x2048x2048 .fp8e4m3) (ws b : Vec Ideal S1x1x2048 .f32) :
    FVec Ideal S24576x2048 .f32 := vcross Z0 Z (vcodes (vflat Z) (vscale Z)) (vscale Z) W ws b

theorem vlayer_at {Z0 Z : FVec Ideal S24576x2048 .f32} {z0 z : ℕ → ℕ → EReal} (h0 : Rows Z0 z0) (h : Rows Z z)
    (W : Vec Ideal S1x2048x2048 .fp8e4m3) (ws b : Vec Ideal S1x1x2048 .f32) (w : ℕ → ℕ → EReal) (s o : ℕ → EReal)
    (hW : ∀ y, W y = w (y 1).val (y 2).val) (hs : ∀ y, ws y = s (y 2).val) (ho : ∀ y, b y = o (y 2).val) :
    Rows (vlayer Z0 Z W ws b) (fun r => Spec.cross w s o (z0 r) (z r)) := by
  intro y
  unfold vlayer Spec.cross
  rw [vcross_eq, h0, h, vscale_at h, hs, ho]
  simp only [vcodes_at h, hW]
  rfl

/-! ### The output's groups -/

/-- A row as 32 groups of 64. -/
def gflat (Z : FVec Ideal S24576x2048 .f32) : FVec Ideal S24576x32x64 .f32 :=
  shapeCast S24576x32x64 Z shapeCasts_S24576x2048_S24576x32x64

theorem gflat_at {Z : FVec Ideal S24576x2048 .f32} {z : ℕ → ℕ → EReal} (h : Rows Z z) (y : S24576x32x64.Idx) :
    gflat Z y = z (y 0).val (64 * (y 1).val + (y 2).val) := by
  have h1 : (y 1).val < 32 := (y 1).isLt
  have h2 : (y 2).val < 64 := (y 2).isLt
  have e : gflat Z y = Z (ix2 (y 0) ⟨(y 1).val * 64 + (y 2).val, by omega⟩) := by unfold gflat; pointwise
  rw [e, h]
  show z (y 0).val ((y 1).val * 64 + (y 2).val) = _
  rw [Nat.mul_comm]

/-- The largest magnitude. -/
def gmax (G : FVec Ideal S24576x32x64 .f32) : FVec Ideal S24576x32 .f32 :=
  multiReduction .maximumf [2] S24576x32 (absf G) 0xFF800000#32 reduces_S24576x32x64_S24576x32 (.inl rfl) rfl

theorem gmax_at {G : FVec Ideal S24576x32x64 .f32} {z : ℕ → ℕ → EReal} (hG : ∀ y, G y = z (y 0).val (64 * (y 1).val + (y 2).val))
    (y : S24576x32.Idx) : gmax G y = Spec.amax (z (y 0).val) (64 * (y 1).val) 64 := by
  have hv : ∀ k : Fin 64, absf G (ix3 (y 0) (y 1) k) = max (z (y 0).val ((64 * (y 1).val) + k.val)) (-z (y 0).val ((64 * (y 1).val) + k.val)) := by
    intro k
    have e := hG (ix3 (y 0) (y 1) k)
    rw [absf_apply, e]
    rfl
  exact max_last (n := 24576) (a := 32) (b := 64) (absf G) reduces_S24576x32x64_S24576x32 (.inl rfl) rfl y (z (y 0).val) ((64 * (y 1).val)) hv

/-- The largest magnitude over 448. -/
def gpar (G : FVec Ideal S24576x32x64 .f32) : FVec Ideal S24576x32 .f32 :=
  mulf (gmax G) (broadcast S24576x32 (Scalar.ofBits .f32 0x3B124925#32))

theorem gpar_of {G : FVec Ideal S24576x32x64 .f32} {z : ℕ → ℕ → EReal} (hG : ∀ y, G y = z (y 0).val (64 * (y 1).val + (y 2).val))
    (y : S24576x32.Idx) : gpar G y = Spec.par (Spec.amax (z (y 0).val) (64 * (y 1).val) 64) := by
  unfold gpar
  rw [mulf_apply, gmax_at hG]
  rfl

theorem gpar_at {Z : FVec Ideal S24576x2048 .f32} {z : ℕ → ℕ → EReal} (h : Rows Z z) (y : S24576x32.Idx) :
    gpar (gflat Z) y = Spec.par (Spec.amax (z (y 0).val) (64 * (y 1).val) 64) := gpar_of (gflat_at h) y

def gscale (Z : FVec Ideal S24576x2048 .f32) : FVec Ideal S24576x32 .f32 := vpick (gpar (gflat Z)) (vdown (gpar (gflat Z)))

theorem gscale_at {Z : FVec Ideal S24576x2048 .f32} {z : ℕ → ℕ → EReal} (h : Rows Z z) (y : S24576x32.Idx) :
    gscale Z y = Spec.grpScale (z (y 0).val) (y 1).val := by
  unfold gscale Spec.grpScale
  rw [vpick_at, gpar_at h]

def gcodes (G : FVec Ideal S24576x32x64 .f32) (s : FVec Ideal S24576x32 .f32) : FVec Ideal S24576x2048 .fp8e4m3 :=
  shapeCast S24576x2048 (truncf .fp8e4m3 (minimumf (broadcast S24576x32x64 (Scalar.ofBits .f32 0x43E00000#32))
    (maximumf (broadcast S24576x32x64 (Scalar.ofBits .f32 0xC3E00000#32)) (mulf G (broadcastTo S24576x32x64
      (shapeCast S24576x32x1 (divf (broadcast S24576x32 (Scalar.ofBits .f32 0x3F800000#32)) s) shapeCasts_S24576x32_S24576x32x1)
      broadcasts_S24576x32x1_S24576x32x64)))) bitsLt_fp8e4m3_f32) shapeCasts_S24576x32x64_S24576x2048

theorem gcodes_eq (G : FVec Ideal S24576x32x64 .f32) (s : FVec Ideal S24576x32 .f32) (y : S24576x2048.Idx)
    (h1 : (y 1).val / 64 < 32) (h2 : (y 1).val % 64 < 64) : gcodes G s y
      = Spec.clip (G (ix3 (y 0) ⟨(y 1).val / 64, h1⟩ ⟨(y 1).val % 64, h2⟩) * Ideal.div 1 (s (ix2 (y 0) ⟨(y 1).val / 64, h1⟩))) := by
  unfold gcodes Spec.clip
  pointwise

theorem gcodes_at {Z : FVec Ideal S24576x2048 .f32} {z : ℕ → ℕ → EReal} (h : Rows Z z) (y : S24576x2048.Idx) :
    gcodes (gflat Z) (gscale Z) y = Spec.grpCode (z (y 0).val) (y 1).val := by
  have hy : (y 1).val < 2048 := (y 1).isLt
  rw [gcodes_eq _ _ y (by omega) (by omega), gflat_at h, gscale_at h]
  unfold Spec.grpScale Spec.grpCode
  rw [Scale.div_scl]
  show Spec.clip (z (y 0).val (64 * ((y 1).val / 64) + (y 1).val % 64) * _) = _
  rw [Nat.div_add_mod]
  rfl

/-! ### Layer normalisation -/

/-- Division by 2048. -/
theorem div_2048 (a : EReal) : Ideal.div a (Ideal.ofBits .f32 1157627904#32) = a * Ideal.ofBits .f32 973078528#32 := by
  have h1 : Ideal.ofBits .f32 1157627904#32 = _ := Scale.thr_eq (n := 138) (by omega) (by omega)
  have h2 : Ideal.ofBits .f32 973078528#32 = _ := Scale.thr_eq (n := 116) (by omega) (by omega)
  have hz : (2 : ℝ) ^ (((138 : ℕ) : ℤ) - 127) ≠ 0 := zpow_ne_zero _ (by norm_num)
  rw [h1, h2]
  unfold Ideal.div
  rw [if_neg (by exact_mod_cast hz), ← EReal.coe_inv, ← zpow_neg]
  norm_num

theorem norm_at (x : Vec Ideal S24576x2048 .bf16) (g o : Vec Ideal S1x2048 .f32) :
    Rows (k0_pay7 (F := Ideal) x g o) (fun r => Spec.norm (at2 x r) (at2 g 0) (at2 o 0)) := by
  intro y
  have hs : ∑ k : Fin 2048, x (ix2 (y 0) k) = Spec.total (at2 x (y 0).val) := by
    unfold Spec.total
    refine Finset.sum_congr rfl fun k _ => ?_
    rw [at2_idx x]
    rfl
  pointwise [k0_pay7]
  simp only [div_2048, hs]
  rw [at2_idx x y, at2_idx g, at2_idx o]
  simp only [at2_idx x (ix2 (y 0) _)]
  rfl

end Cert.Proof.Ref
-- ==== Proof.RefOut.lean ====
/-
  What the plain computation leaves in each of its eight results, as the steps of RefRows.lean.
-/
module

public import proofs.«01_k».proof.Proof.RefRows
public import Idealize.ShloMosaic.Lib.Pipeline.ValueKit
public import proofs.«01_k».proof.Proof.Gen.ReferenceIdeal.Value

@[expose] public section

set_option maxRecDepth 16384

noncomputable section

namespace Cert.Proof.Ref

open Cert.ReferenceIdeal Cert.ReferenceIdeal.Gen
open Idealize.ShloMosaic Idealize.ShloMosaic.TcCoe Idealize.ShloMosaic.Tactic
open Idealize.SL.Sem
open Cert.Proof Cert.Proof.Val

section
variable (x0 : Vec Ideal S24576x2048 .bf16) (x1 : Vec Ideal S3x2048x2048 .fp8e4m3) (x2 x3 : Vec Ideal S3x1x2048 .f32)
  (x4 x5 : Vec Ideal S1x2048 .f32)

/-- The normalised rows. -/
def r0 : FVec Ideal S24576x2048 .f32 := k0_pay7 x0 x4 x5
/-- After the first layer. -/
def r1 : FVec Ideal S24576x2048 .f32 := vlayer (r0 x0 x4 x5) (r0 x0 x4 x5)
  (View.ld x1 (Rect.unit ![0, 0, 0] ![1, 2048, 2048] inb_S3x2048x2048_S1x2048x2048_0_0_0))
  (View.ld x2 (Rect.unit ![0, 0, 0] ![1, 1, 2048] inb_S3x1x2048_S1x1x2048_0_0_0))
  (View.ld x3 (Rect.unit ![0, 0, 0] ![1, 1, 2048] inb_S3x1x2048_S1x1x2048_0_0_0))
/-- After the second. -/
def r2 : FVec Ideal S24576x2048 .f32 := vlayer (r0 x0 x4 x5) (r1 x0 x1 x2 x3 x4 x5)
  (View.ld x1 (Rect.unit ![1, 0, 0] ![1, 2048, 2048] inb_S3x2048x2048_S1x2048x2048_1_0_0))
  (View.ld x2 (Rect.unit ![1, 0, 0] ![1, 1, 2048] inb_S3x1x2048_S1x1x2048_1_0_0))
  (View.ld x3 (Rect.unit ![1, 0, 0] ![1, 1, 2048] inb_S3x1x2048_S1x1x2048_1_0_0))
/-- After the last. -/
def r3 : FVec Ideal S24576x2048 .f32 := vlayer (r0 x0 x4 x5) (r2 x0 x1 x2 x3 x4 x5)
  (View.ld x1 (Rect.unit ![2, 0, 0] ![1, 2048, 2048] inb_S3x2048x2048_S1x2048x2048_2_0_0))
  (View.ld x2 (Rect.unit ![2, 0, 0] ![1, 1, 2048] inb_S3x1x2048_S1x1x2048_2_0_0))
  (View.ld x3 (Rect.unit ![2, 0, 0] ![1, 1, 2048] inb_S3x1x2048_S1x1x2048_2_0_0))

end

/-! ### The printed pieces are those steps -/

section
variable (v0 : Vec Ideal S24576x2048 .bf16) (v19 v23 : Vec Ideal S1x2048 .f32) (Z Z0 v143 : FVec Ideal S24576x2048 .f32)
  (G : FVec Ideal S24576x1x2048 .f32) (p s : FVec Ideal S24576x1 .f32) (P S : FVec Ideal S24576x32 .f32)
  (W : Vec Ideal S1x2048x2048 .fp8e4m3) (ws b : Vec Ideal S1x1x2048 .f32)

theorem e8 : k0_pay8 (F := Ideal) v0 v19 v23 = vflat (k0_pay7 v0 v19 v23) := rfl
theorem e9 : k0_pay9 (F := Ideal) v0 v19 v23 = vpar (k0_pay8 v0 v19 v23) := rfl
theorem e11 : Scf.fold (fun k acc => k0_pay11 (F := Ideal) v0 v19 v23 k acc) k0_pay10 = vdown (k0_pay9 v0 v19 v23) := rfl
theorem e12 : k0_pay12 (F := Ideal) v0 v19 v23 s = vpick (k0_pay9 v0 v19 v23) s := rfl
theorem e13 : k0_pay13 (F := Ideal) G s (FloatOps.ofBits .f32 1065353216#32) = vcodes G s := rfl
theorem e14 : k0_pay14 (F := Ideal) s = shapeCast S24x1024 s shapeCasts_S24576x1_S24x1024 := rfl
theorem e15 : k0_pay15 (F := Ideal) Z G s (FloatOps.ofBits .f32 1065353216#32) W ws b = vcross Z Z (vcodes G s) s W ws b := rfl
theorem e16 : k0_pay16 (F := Ideal) Z G s (FloatOps.ofBits .f32 1065353216#32) W ws b = vflat (vcross Z Z (vcodes G s) s W ws b) := rfl
theorem e17 : k0_pay17 (F := Ideal) Z G s (FloatOps.ofBits .f32 1065353216#32) W ws b = vpar (vflat (vcross Z Z (vcodes G s) s W ws b)) := rfl
theorem e19 : Scf.fold (fun k acc => k0_pay19 (F := Ideal) p 0#32 1#32 k acc) k0_pay18 = vdown p := rfl
theorem e20 : k0_pay20 (F := Ideal) p s = vpick p s := rfl
theorem e21 : k0_pay21 (F := Ideal) G p s = vcodes G (vpick p s) := rfl
theorem e22 : k0_pay22 (F := Ideal) p s = shapeCast S24x1024 (vpick p s) shapeCasts_S24576x1_S24x1024 := rfl
theorem e23 : k0_pay23 (F := Ideal) Z0 Z G p s W ws b = vcross Z0 Z (vcodes G (vpick p s)) (vpick p s) W ws b := rfl
theorem e24 : k0_pay24 (F := Ideal) Z0 Z G p s W ws b = vflat (vcross Z0 Z (vcodes G (vpick p s)) (vpick p s) W ws b) := rfl
theorem e25 : k0_pay25 (F := Ideal) Z0 Z G p s W ws b = vmax (vflat (vcross Z0 Z (vcodes G (vpick p s)) (vpick p s) W ws b)) := rfl
theorem e28 : Scf.fold (fun k acc => k0_pay28 (F := Ideal) (vmax G) k acc) k0_pay27 = vdown (vpar G) := rfl
theorem e29 : k0_pay29 (F := Ideal) (vmax G) s = vpick (vpar G) s := rfl
theorem e30 : k0_pay30 (F := Ideal) G (vmax G) s = vcodes G (vpick (vpar G) s) := rfl
theorem e31 : k0_pay31 (F := Ideal) (vmax G) s = shapeCast S24x1024 (vpick (vpar G) s) shapeCasts_S24576x1_S24x1024 := rfl
theorem e1 : k0_pay1 (F := Ideal) Z0 Z (k0_pay32 G (vmax G) s W ws) b
    = gflat (vcross Z0 Z (vcodes G (vpick (vpar G) s)) (vpick (vpar G) s) W ws b) := rfl
theorem e2 : k0_pay2 (F := Ideal) Z0 Z v143 b = gpar (k0_pay1 Z0 Z v143 b) := rfl
theorem e4 : Scf.fold (fun k acc => k0_pay4 (F := Ideal) Z0 Z v143 b k acc) k0_pay3 = vdown (k0_pay2 Z0 Z v143 b) := rfl
theorem e5 : k0_pay5 (F := Ideal) Z0 Z v143 b S = vpick (k0_pay2 Z0 Z v143 b) S := rfl
theorem e6 : k0_pay6 (F := Ideal) Z0 Z v143 b S = gcodes (k0_pay1 Z0 Z v143 b) (k0_pay5 Z0 Z v143 b S) := rfl

end

end Cert.Proof.Ref
-- ==== Proof.RefNet.lean ====
/-
  The plain computation's eight results, read at an index: they are the row quantities of the network.
-/
module

public import proofs.«01_k».proof.Proof.RefOut

@[expose] public section

set_option maxRecDepth 16384

noncomputable section

namespace Cert.Proof.Ref

open Cert.ReferenceIdeal Cert.ReferenceIdeal.Gen
open Idealize.ShloMosaic Idealize.ShloMosaic.TcCoe Idealize.ShloMosaic.Tactic
open Idealize.SL.Sem
open Cert.Proof Cert.Proof.Val

variable (x0 : Vec Ideal S24576x2048 .bf16) (x1 : Vec Ideal S3x2048x2048 .fp8e4m3) (x2 x3 : Vec Ideal S3x1x2048 .f32)
  (x4 x5 : Vec Ideal S1x2048 .f32)

/-! ### The rows -/

theorem ld_slab {e : EltTy} {n1 n2 : ℕ} (X : (⟨3, ![3, n1, n2]⟩ : Shape).Idx → Elt Ideal e) (i : ℕ) (inb)
    (y : (⟨3, ![1, n1, n2]⟩ : Shape).Idx) :
    View.ld X (Rect.unit (s := ⟨3, ![3, n1, n2]⟩) ![i, 0, 0] ![1, n1, n2] inb) y = at3 X i (y 1).val (y 2).val := by
  have h0 : (y 0).val = 0 := Nat.lt_one_iff.mp (y 0).isLt
  unfold View.ld
  rw [at3_idx X]
  have e0 : i + (y 0).val = i := by omega
  show at3 X (i + 1 * (y 0).val) (0 + 1 * (y 1).val) (0 + 1 * (y 2).val) = _
  rw [Nat.one_mul, Nat.one_mul, Nat.one_mul, e0, Nat.zero_add, Nat.zero_add]

/-- The same for a single line. -/
theorem ld_row {e : EltTy} {n2 : ℕ} (X : (⟨3, ![3, 1, n2]⟩ : Shape).Idx → Elt Ideal e) (i : ℕ) (inb)
    (y : (⟨3, ![1, 1, n2]⟩ : Shape).Idx) :
    View.ld X (Rect.unit (s := ⟨3, ![3, 1, n2]⟩) ![i, 0, 0] ![1, 1, n2] inb) y = at3 X i 0 (y 2).val := by
  have h1 : (y 1).val = 0 := Nat.lt_one_iff.mp (y 1).isLt
  rw [ld_slab, h1]

theorem r0_rows : Rows (r0 x0 x4 x5) (Z0 ⟨x0, x1, x2, x3, x4, x5⟩) := norm_at x0 x4 x5

theorem r1_rows : Rows (r1 x0 x1 x2 x3 x4 x5) (Z1 ⟨x0, x1, x2, x3, x4, x5⟩) :=
  vlayer_at (r0_rows x0 x1 x2 x3 x4 x5) (r0_rows x0 x1 x2 x3 x4 x5) _ _ _ (at3 x1 0) (at3 x2 0 0) (at3 x3 0 0)
    (fun y => ld_slab x1 0 _ y) (fun y => ld_row x2 0 _ y) (fun y => ld_row x3 0 _ y)

theorem r2_rows : Rows (r2 x0 x1 x2 x3 x4 x5) (Z2 ⟨x0, x1, x2, x3, x4, x5⟩) :=
  vlayer_at (r0_rows x0 x1 x2 x3 x4 x5) (r1_rows x0 x1 x2 x3 x4 x5) _ _ _ (at3 x1 1) (at3 x2 1 0) (at3 x3 1 0)
    (fun y => ld_slab x1 1 _ y) (fun y => ld_row x2 1 _ y) (fun y => ld_row x3 1 _ y)

theorem r3_rows : Rows (r3 x0 x1 x2 x3 x4 x5) (Z3 ⟨x0, x1, x2, x3, x4, x5⟩) :=
  vlayer_at (r0_rows x0 x1 x2 x3 x4 x5) (r2_rows x0 x1 x2 x3 x4 x5) _ _ _ (at3 x1 2) (at3 x2 2 0) (at3 x3 2 0)
    (fun y => ld_slab x1 2 _ y) (fun y => ld_row x2 2 _ y) (fun y => ld_row x3 2 _ y)

/-- The scales, 1024 to a line. -/
theorem lines_at {Z : FVec Ideal S24576x2048 .f32} {z : ℕ → ℕ → EReal} (h : Rows Z z) (y : S24x1024.Idx) :
    shapeCast S24x1024 (vscale Z) shapeCasts_S24576x1_S24x1024 y = scales z y := by
  have e : ∀ s : FVec Ideal S24576x1 .f32, ∃ q : S24576x1.Idx, (q 0).val = 1024 * (y 0).val + (y 1).val
      ∧ shapeCast S24x1024 s shapeCasts_S24576x1_S24x1024 y = s q := by
    intro s
    have h0 : (y 0).val < 24 := (y 0).isLt
    have h1 : (y 1).val < 1024 := (y 1).isLt
    refine ⟨ix2 ⟨(y 0).val * 1024 + (y 1).val, by omega⟩ 0, by rw [Nat.mul_comm 1024]; rfl, ?_⟩
    pointwise
  obtain ⟨q, hq, e⟩ := e (vscale Z)
  rw [e, vscale_at h, hq]
  rfl

/-! ### The results -/

section
variable (c : Dev nD) (arg0 : Memref sig .tc .vmem S24576x2048 .bf16) (harg0 : arg0.IsWhole) (arg1 : Memref sig .tc .vmem S3x2048x2048 .fp8e4m3) (harg1 : arg1.IsWhole) (arg2 : Memref sig .tc .vmem S3x1x2048 .f32) (harg2 : arg2.IsWhole) (arg3 : Memref sig .tc .vmem S3x1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S24576x2048 .fp8e4m3) (harg6 : arg6.IsWhole) (arg7 : Memref sig .tc .vmem S24576x32 .f32) (harg7 : arg7.IsWhole) (arg8 : Memref sig .tc .vmem S24576x2048 .fp8e4m3) (harg8 : arg8.IsWhole) (arg9 : Memref sig .tc .vmem S24x1024 .f32) (harg9 : arg9.IsWhole) (arg10 : Memref sig .tc .vmem S24576x2048 .fp8e4m3) (harg10 : arg10.IsWhole) (arg11 : Memref sig .tc .vmem S24x1024 .f32) (harg11 : arg11.IsWhole) (arg12 : Memref sig .tc .vmem S24576x2048 .fp8e4m3) (harg12 : arg12.IsWhole) (arg13 : Memref sig .tc .vmem S24x1024 .f32) (harg13 : arg13.IsWhole)

theorem out8_at (y : S24576x2048.Idx) : out0_A_8 (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 y
    = codes (Z0 ⟨x0, x1, x2, x3, x4, x5⟩) y := by
  have e : out0_A_8 (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 y
      = vcodes (vflat (r0 x0 x4 x5)) (vscale (r0 x0 x4 x5)) y := by
    frame_out
    simp only [e8, e9, e11, e12, e13, e14, e15, e16, e17, e19, e20, e21, e22, e23, e24, e25, e28, e29, e30, e31, e1, e2, e4, e5, e6]
    rfl
  rw [e]
  exact vcodes_at (r0_rows x0 x1 x2 x3 x4 x5) y

theorem out9_at (y : S24x1024.Idx) : out0_A_9 (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 y
    = scales (Z0 ⟨x0, x1, x2, x3, x4, x5⟩) y := by
  have e : out0_A_9 (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 y
      = shapeCast S24x1024 (vscale (r0 x0 x4 x5)) shapeCasts_S24576x1_S24x1024 y := by
    frame_out
    simp only [e8, e9, e11, e12, e13, e14, e15, e16, e17, e19, e20, e21, e22, e23, e24, e25, e28, e29, e30, e31, e1, e2, e4, e5, e6]
    rfl
  rw [e]
  exact lines_at (r0_rows x0 x1 x2 x3 x4 x5) y

theorem out10_at (y : S24576x2048.Idx) : out0_A_10 (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 y
    = codes (Z1 ⟨x0, x1, x2, x3, x4, x5⟩) y := by
  have e : out0_A_10 (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 y
      = vcodes (vflat (r1 x0 x1 x2 x3 x4 x5)) (vscale (r1 x0 x1 x2 x3 x4 x5)) y := by
    frame_out
    simp only [e8, e9, e11, e12, e13, e14, e15, e16, e17, e19, e20, e21, e22, e23, e24, e25, e28, e29, e30, e31, e1, e2, e4, e5, e6]
    rfl
  rw [e]
  exact vcodes_at (r1_rows x0 x1 x2 x3 x4 x5) y

theorem out11_at (y : S24x1024.Idx) : out0_A_11 (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 y
    = scales (Z1 ⟨x0, x1, x2, x3, x4, x5⟩) y := by
  have e : out0_A_11 (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 y
      = shapeCast S24x1024 (vscale (r1 x0 x1 x2 x3 x4 x5)) shapeCasts_S24576x1_S24x1024 y := by
    frame_out
    simp only [e8, e9, e11, e12, e13, e14, e15, e16, e17, e19, e20, e21, e22, e23, e24, e25, e28, e29, e30, e31, e1, e2, e4, e5, e6]
    rfl
  rw [e]
  exact lines_at (r1_rows x0 x1 x2 x3 x4 x5) y

theorem out12_at (y : S24576x2048.Idx) : out0_A_12 (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 y
    = codes (Z2 ⟨x0, x1, x2, x3, x4, x5⟩) y := by
  have e : out0_A_12 (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 y
      = vcodes (vflat (r2 x0 x1 x2 x3 x4 x5)) (vscale (r2 x0 x1 x2 x3 x4 x5)) y := by
    frame_out
    simp only [e8, e9, e11, e12, e13, e14, e15, e16, e17, e19, e20, e21, e22, e23, e24, e25, e28, e29, e30, e31, e1, e2, e4, e5, e6]
    rfl
  rw [e]
  exact vcodes_at (r2_rows x0 x1 x2 x3 x4 x5) y

theorem out13_at (y : S24x1024.Idx) : out0_A_13 (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 y
    = scales (Z2 ⟨x0, x1, x2, x3, x4, x5⟩) y := by
  have e : out0_A_13 (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 y
      = shapeCast S24x1024 (vscale (r2 x0 x1 x2 x3 x4 x5)) shapeCasts_S24576x1_S24x1024 y := by
    frame_out
    simp only [e8, e9, e11, e12, e13, e14, e15, e16, e17, e19, e20, e21, e22, e23, e24, e25, e28, e29, e30, e31, e1, e2, e4, e5, e6]
    rfl
  rw [e]
  exact lines_at (r2_rows x0 x1 x2 x3 x4 x5) y

theorem out6_at (y : S24576x2048.Idx) : out0_A_6 (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 y
    = outCodes (Z3 ⟨x0, x1, x2, x3, x4, x5⟩) y := by
  have e : out0_A_6 (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 y
      = gcodes (gflat (r3 x0 x1 x2 x3 x4 x5)) (gscale (r3 x0 x1 x2 x3 x4 x5)) y := by
    frame_out
    simp only [e8, e9, e11, e12, e13, e14, e15, e16, e17, e19, e20, e21, e22, e23, e24, e25, e28, e29, e30, e31, e1, e2, e4, e5, e6]
    rfl
  rw [e]
  exact gcodes_at (r3_rows x0 x1 x2 x3 x4 x5) y

theorem out7_at (y : S24576x32.Idx) : out0_A_7 (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 y
    = outScales (Z3 ⟨x0, x1, x2, x3, x4, x5⟩) y := by
  have e : out0_A_7 (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 y
      = gscale (r3 x0 x1 x2 x3 x4 x5) y := by
    frame_out
    simp only [e8, e9, e11, e12, e13, e14, e15, e16, e17, e19, e20, e21, e22, e23, e24, e25, e28, e29, e30, e31, e1, e2, e4, e5, e6]
    rfl
  rw [e]
  exact gscale_at (r3_rows x0 x1 x2 x3 x4 x5) y

end

end Cert.Proof.Ref
-- ==== Proof.RefFinal.lean ====
/-
  What the plain program's eight results hold at the end of every run: each the array of a row quantity of the network.
-/
module

public import proofs.«01_k».proof.Proof.RefNet

@[expose] public section

set_option maxRecDepth 16384

noncomputable section

namespace Cert.Proof.Ref

open Cert.ReferenceIdeal Cert.ReferenceIdeal.Gen
open Idealize.ShloMosaic Idealize.ShloMosaic.TcCoe Idealize.ShloMosaic.Tactic
open Idealize.SL.Sem
open Cert.Proof Cert.Proof.Val

variable (m : (ℓ : Loc nD τ sig) → Buf (Elt Ideal) ℓ) (ρ : Dev nD → PrngReg) (c : Dev nD)

/-- The operands as the region finds them. -/
def ops : Operands where
  x := V m c main_v0
  w := V m c main_arg1
  s := V m c main_v1
  b := V m c main_v2
  g := V m c main_v3
  o := V m c main_v4

/-! ### Every block is the whole array -/

theorem blk0 (t : Fin cfg0.N) : iblk m c 0 t = (ops m c).x := by
  funext y
  refine (show iblk m c 0 t y = V m c main_v0 (((cfg0.win 0).blk t).view.emb y) from rfl).trans (congrArg (V m c main_v0) ?_)
  funext a
  apply Fin.ext
  match a with
  | 0 => show (0#32).toNat * _ + 1 * (y 0).val = (y 0).val; simp
  | 1 => show (0#32).toNat * _ + 1 * (y 1).val = (y 1).val; simp

theorem blk1 (t : Fin cfg0.N) : iblk m c 1 t = (ops m c).w := by
  funext y
  refine (show iblk m c 1 t y = V m c main_arg1 (((cfg0.win 1).blk t).view.emb y) from rfl).trans (congrArg (V m c main_arg1) ?_)
  funext a
  apply Fin.ext
  match a with
  | 0 => show (0#32).toNat * _ + 1 * (y 0).val = (y 0).val; simp
  | 1 => show (0#32).toNat * _ + 1 * (y 1).val = (y 1).val; simp
  | 2 => show (0#32).toNat * _ + 1 * (y 2).val = (y 2).val; simp

theorem blk2 (t : Fin cfg0.N) : iblk m c 2 t = (ops m c).s := by
  funext y
  refine (show iblk m c 2 t y = V m c main_v1 (((cfg0.win 2).blk t).view.emb y) from rfl).trans (congrArg (V m c main_v1) ?_)
  funext a
  apply Fin.ext
  match a with
  | 0 => show (0#32).toNat * _ + 1 * (y 0).val = (y 0).val; simp
  | 1 => show (0#32).toNat * _ + 1 * (y 1).val = (y 1).val; simp
  | 2 => show (0#32).toNat * _ + 1 * (y 2).val = (y 2).val; simp

theorem blk3 (t : Fin cfg0.N) : iblk m c 3 t = (ops m c).b := by
  funext y
  refine (show iblk m c 3 t y = V m c main_v2 (((cfg0.win 3).blk t).view.emb y) from rfl).trans (congrArg (V m c main_v2) ?_)
  funext a
  apply Fin.ext
  match a with
  | 0 => show (0#32).toNat * _ + 1 * (y 0).val = (y 0).val; simp
  | 1 => show (0#32).toNat * _ + 1 * (y 1).val = (y 1).val; simp
  | 2 => show (0#32).toNat * _ + 1 * (y 2).val = (y 2).val; simp

theorem blk4 (t : Fin cfg0.N) : iblk m c 4 t = (ops m c).g := by
  funext y
  refine (show iblk m c 4 t y = V m c main_v3 (((cfg0.win 4).blk t).view.emb y) from rfl).trans (congrArg (V m c main_v3) ?_)
  funext a
  apply Fin.ext
  match a with
  | 0 => show (0#32).toNat * _ + 1 * (y 0).val = (y 0).val; simp
  | 1 => show (0#32).toNat * _ + 1 * (y 1).val = (y 1).val; simp

theorem blk5 (t : Fin cfg0.N) : iblk m c 5 t = (ops m c).o := by
  funext y
  refine (show iblk m c 5 t y = V m c main_v4 (((cfg0.win 5).blk t).view.emb y) from rfl).trans (congrArg (V m c main_v4) ?_)
  funext a
  apply Fin.ext
  match a with
  | 0 => show (0#32).toNat * _ + 1 * (y 0).val = (y 0).val; simp
  | 1 => show (0#32).toNat * _ + 1 * (y 1).val = (y 1).val; simp

/-! ### The results' arrays -/

theorem left6 (y : S24576x2048.Idx) : (outsAt0 m c t0_0).1 y = outCodes (Z3 (ops m c)) y := by
  unfold outsAt0
  dsimp only
  rw [out6_at, blk0, blk1, blk2, blk3, blk4, blk5]

theorem arr6 : (dats m 0 c).arrAt 6 cfg0.N = outCodes (Z3 (ops m c)) := by
  refine Pipeline.Dat.arrAt_eq_of_after_last (dats m 0 c) 6 t0_0 (by decide +kernel) (outCodes (Z3 (ops m c))) fun j => ?_
  blk_simp
  rw [after0_6]
  exact left6 m c j

theorem left7 (y : S24576x32.Idx) : (outsAt0 m c t0_0).2.1 y = outScales (Z3 (ops m c)) y := by
  unfold outsAt0
  dsimp only
  rw [out7_at, blk0, blk1, blk2, blk3, blk4, blk5]

theorem arr7 : (dats m 0 c).arrAt 7 cfg0.N = outScales (Z3 (ops m c)) := by
  refine Pipeline.Dat.arrAt_eq_of_after_last (dats m 0 c) 7 t0_0 (by decide +kernel) (outScales (Z3 (ops m c))) fun j => ?_
  blk_simp
  rw [after0_7]
  exact left7 m c j

theorem left8 (y : S24576x2048.Idx) : (outsAt0 m c t0_0).2.2.1 y = codes (Z0 (ops m c)) y := by
  unfold outsAt0
  dsimp only
  rw [out8_at, blk0, blk1, blk2, blk3, blk4, blk5]

theorem arr8 : (dats m 0 c).arrAt 8 cfg0.N = codes (Z0 (ops m c)) := by
  refine Pipeline.Dat.arrAt_eq_of_after_last (dats m 0 c) 8 t0_0 (by decide +kernel) (codes (Z0 (ops m c))) fun j => ?_
  blk_simp
  rw [after0_8]
  exact left8 m c j

theorem left9 (y : S24x1024.Idx) : (outsAt0 m c t0_0).2.2.2.1 y = scales (Z0 (ops m c)) y := by
  unfold outsAt0
  dsimp only
  rw [out9_at, blk0, blk1, blk2, blk3, blk4, blk5]

theorem arr9 : (dats m 0 c).arrAt 9 cfg0.N = scales (Z0 (ops m c)) := by
  refine Pipeline.Dat.arrAt_eq_of_after_last (dats m 0 c) 9 t0_0 (by decide +kernel) (scales (Z0 (ops m c))) fun j => ?_
  blk_simp
  rw [after0_9]
  exact left9 m c j

theorem left10 (y : S24576x2048.Idx) : (outsAt0 m c t0_0).2.2.2.2.1 y = codes (Z1 (ops m c)) y := by
  unfold outsAt0
  dsimp only
  rw [out10_at, blk0, blk1, blk2, blk3, blk4, blk5]

theorem arr10 : (dats m 0 c).arrAt 10 cfg0.N = codes (Z1 (ops m c)) := by
  refine Pipeline.Dat.arrAt_eq_of_after_last (dats m 0 c) 10 t0_0 (by decide +kernel) (codes (Z1 (ops m c))) fun j => ?_
  blk_simp
  rw [after0_10]
  exact left10 m c j

theorem left11 (y : S24x1024.Idx) : (outsAt0 m c t0_0).2.2.2.2.2.1 y = scales (Z1 (ops m c)) y := by
  unfold outsAt0
  dsimp only
  rw [out11_at, blk0, blk1, blk2, blk3, blk4, blk5]

theorem arr11 : (dats m 0 c).arrAt 11 cfg0.N = scales (Z1 (ops m c)) := by
  refine Pipeline.Dat.arrAt_eq_of_after_last (dats m 0 c) 11 t0_0 (by decide +kernel) (scales (Z1 (ops m c))) fun j => ?_
  blk_simp
  rw [after0_11]
  exact left11 m c j

theorem left12 (y : S24576x2048.Idx) : (outsAt0 m c t0_0).2.2.2.2.2.2.1 y = codes (Z2 (ops m c)) y := by
  unfold outsAt0
  dsimp only
  rw [out12_at, blk0, blk1, blk2, blk3, blk4, blk5]

theorem arr12 : (dats m 0 c).arrAt 12 cfg0.N = codes (Z2 (ops m c)) := by
  refine Pipeline.Dat.arrAt_eq_of_after_last (dats m 0 c) 12 t0_0 (by decide +kernel) (codes (Z2 (ops m c))) fun j => ?_
  blk_simp
  rw [after0_12]
  exact left12 m c j

theorem left13 (y : S24x1024.Idx) : (outsAt0 m c t0_0).2.2.2.2.2.2.2 y = scales (Z2 (ops m c)) y := by
  unfold outsAt0
  dsimp only
  rw [out13_at, blk0, blk1, blk2, blk3, blk4, blk5]

theorem arr13 : (dats m 0 c).arrAt 13 cfg0.N = scales (Z2 (ops m c)) := by
  refine Pipeline.Dat.arrAt_eq_of_after_last (dats m 0 c) 13 t0_0 (by decide +kernel) (scales (Z2 (ops m c))) fun j => ?_
  blk_simp
  rw [after0_13]
  exact left13 m c j

/-- What every run leaves. -/
theorem run : θ_run defs (onTc (τ := τ) (main (F := Ideal))) ⟨m, fun _ => 0, ρ⟩ fun r => ∀ c : Dev nD,
    r.2.mem ((c : Thread nD τ).loc main_v5_0) = outCodes (Z3 (ops m c))
    ∧ r.2.mem ((c : Thread nD τ).loc main_v5_1) = outScales (Z3 (ops m c))
    ∧ r.2.mem ((c : Thread nD τ).loc main_v5_2) = codes (Z0 (ops m c))
    ∧ r.2.mem ((c : Thread nD τ).loc main_v5_3) = scales (Z0 (ops m c))
    ∧ r.2.mem ((c : Thread nD τ).loc main_v5_4) = codes (Z1 (ops m c))
    ∧ r.2.mem ((c : Thread nD τ).loc main_v5_5) = scales (Z1 (ops m c))
    ∧ r.2.mem ((c : Thread nD τ).loc main_v5_6) = codes (Z2 (ops m c))
    ∧ r.2.mem ((c : Thread nD τ).loc main_v5_7) = scales (Z2 (ops m c))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5) := by
  refine (θ_run defs _ _).mono (fun r h c => ?_) (Value.run_blocks m ρ)
  obtain ⟨h6, h7, h8, h9, h10, h11, h12, h13, h⟩ := h c
  exact ⟨h6.trans (arr6 m c), h7.trans (arr7 m c), h8.trans (arr8 m c), h9.trans (arr9 m c), h10.trans (arr10 m c), h11.trans (arr11 m c), h12.trans (arr12 m c), h13.trans (arr13 m c), h⟩

end Cert.Proof.Ref
-- ==== Proof.Same.lean ====
/-
  From equal arguments the two programs hand their launches equal operands: either host code only reshapes, and in the same way.
-/
module

public import proofs.«01_k».proof.Proof.Final
public import proofs.«01_k».proof.Proof.RefFinal
public import Idealize.ShloMosaic.Lib.Claim

@[expose] public section

set_option maxRecDepth 16384

noncomputable section

namespace Cert.Proof

open Cert.Proof.Val
open Idealize.ShloMosaic Idealize.ShloMosaic.TcCoe Idealize.ShloMosaic.Tactic

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

theorem same_x (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    (Ref.ops m' c).x = (Val.ops m c).x := by
  show Cert.ReferenceIdeal.Gen.V m' c Cert.ReferenceIdeal.main_v0 = Cert.KernelIdeal.Gen.V m c Cert.KernelIdeal.main_v0
  entry_read
  exact congrArg (fun a => shapeCast Cert.KernelIdeal.main_v0.ty.shape a _) h

theorem same_s (h : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    (Ref.ops m' c).s = (Val.ops m c).s := by
  show Cert.ReferenceIdeal.Gen.V m' c Cert.ReferenceIdeal.main_v1 = Cert.KernelIdeal.Gen.V m c Cert.KernelIdeal.main_v1
  entry_read
  exact congrArg (fun a => shapeCast Cert.KernelIdeal.main_v1.ty.shape a _) h

theorem same_b (h : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    (Ref.ops m' c).b = (Val.ops m c).b := by
  show Cert.ReferenceIdeal.Gen.V m' c Cert.ReferenceIdeal.main_v2 = Cert.KernelIdeal.Gen.V m c Cert.KernelIdeal.main_v2
  entry_read
  exact congrArg (fun a => shapeCast Cert.KernelIdeal.main_v2.ty.shape a _) h

theorem same_g (h : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    (Ref.ops m' c).g = (Val.ops m c).g := by
  show Cert.ReferenceIdeal.Gen.V m' c Cert.ReferenceIdeal.main_v3 = Cert.KernelIdeal.Gen.V m c Cert.KernelIdeal.main_v3
  entry_read
  exact congrArg (fun a => shapeCast Cert.KernelIdeal.main_v3.ty.shape a _) h

theorem same_o (h : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    (Ref.ops m' c).o = (Val.ops m c).o := by
  show Cert.ReferenceIdeal.Gen.V m' c Cert.ReferenceIdeal.main_v4 = Cert.KernelIdeal.Gen.V m c Cert.KernelIdeal.main_v4
  entry_read
  exact congrArg (fun a => shapeCast Cert.KernelIdeal.main_v4.ty.shape a _) h

theorem same_w (h : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    (Ref.ops m' c).w = (Val.ops m c).w :=
  (Cert.ReferenceIdeal.Gen.V_main_arg1 m' c).trans (h.trans (Cert.KernelIdeal.Gen.V_main_arg1 m c).symm)

/-- Equal arguments, equal operands. -/
theorem same_ops (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Ref.ops m' c = Val.ops m c := by
  have E : ∀ A B : Operands, A.x = B.x → A.w = B.w → A.s = B.s → A.b = B.b → A.g = B.g → A.o = B.o → A = B := by
    rintro ⟨⟩ ⟨⟩ rfl rfl rfl rfl rfl rfl
    rfl
  exact E _ _ (same_x m m' c h0) (same_w m m' c h1) (same_s m m' c h2) (same_b m m' c h3) (same_g m m' c h4) (same_o m m' c h5)

end Cert.Proof
-- ==== Proof.lean ====
/-
  The proof of `Cert.Claim`: `Proof/KernelBody.lean` and `Proof/KernelIdealBody.lean` run the kernel, the generated frame runs the
  reference; `Proof/Final.lean` and `Proof/RefFinal.lean` say what the runs leave in the eight results, and it is the same.
-/
module

public import proofs.«01_k».proof.Defs
public import proofs.«01_k».proof.Proof.KernelBody
public import proofs.«01_k».proof.Proof.KernelIdealBody
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.Same

@[expose] public section

noncomputable section

namespace Cert.Proof

open Cert.Proof.Val Idealize.ShloMosaic Idealize.SL Idealize.SL.Sem in
/-- The kernel and the reference leave the same eight results. -/
theorem algebraic : Cert.algebraic_KernelIdeal_ReferenceIdeal (hKernelIdeal := Cert.KernelIdeal.Gen.facts)
    (hReferenceIdeal := Cert.ReferenceIdeal.Gen.facts) := by
  intro m g m' g' _ h
  refine ⟨fun c => outCodes (Z3 (ops m c)), fun c => outScales (Z3 (ops m c)), fun c => codes (Z0 (ops m c)),
    fun c => scales (Z0 (ops m c)), fun c => codes (Z1 (ops m c)), fun c => scales (Z1 (ops m c)),
    fun c => codes (Z2 (ops m c)), fun c => scales (Z2 (ops m c)), Val.run m g, ?_⟩
  have e : ∀ c, Ref.ops m' c = ops m c := fun c => by
    obtain ⟨h0, h1, h2, h3, h4, h5⟩ := h c
    exact same_ops m m' c h0 h1 h2 h3 h4 h5
  refine (θ_run _ _ _).mono (fun r k c => ?_) (Ref.run m' g')
  have K := k c
  rw [e c] at K
  exact K

theorem claim : Cert.Claim :=
  ⟨Cert.Kernel.Gen.facts, Cert.KernelIdeal.Gen.facts, Cert.ReferenceIdeal.Gen.facts,
    fun m ρ _ => Kernel.run m ρ, fun m ρ _ => KernelIdeal.run m ρ, fun m ρ _ => Cert.ReferenceIdeal.Gen.frame m ρ, trivial,
    algebraic⟩

end Cert.Proof

end
